-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v18) = v2 c
          ∧ r.2.mem ((c.tc : Thread Cert.Reference6Ideal.nD Cert.Reference6Ideal.τ).loc Cert.Reference6Ideal.main_v19) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)) (v1 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_v4) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v30)) (v1 : (c : Dev Cert.Kernel8Ideal.nD) → Buf (Elt Ideal) ((c.tc : Thread Cert.Kernel8Ideal.nD Cert.Kernel8Ideal.τ).loc Cert.Kernel8Ideal.main_v32)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30) = v0 c
          ∧ r.2.mem ((c.tc : Thread Cert.Kernel8Ideal.nD Cert.Kernel8Ideal.τ).loc Cert.Kernel8Ideal.main_v32) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v22) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S32768x2048 : Shape := ⟨2, ![32768, 2048]⟩
abbrev S1x2048 : Shape := ⟨2, ![1, 2048]⟩
abbrev S9984x2048 : Shape := ⟨2, ![9984, 2048]⟩
abbrev S32768x9984 : Shape := ⟨2, ![32768, 9984]⟩
abbrev S1024x2048 : Shape := ⟨2, ![1024, 2048]⟩
abbrev S2x1024x2048 : Shape := ⟨3, ![2, 1024, 2048]⟩
abbrev S2 : Shape := ⟨1, ![2]⟩
abbrev S2x768x2048 : Shape := ⟨3, ![2, 768, 2048]⟩
abbrev S2x1024x768 : Shape := ⟨3, ![2, 1024, 768]⟩
abbrev S_ : Shape := ⟨0, ![]⟩
abbrev S1 : Shape := ⟨1, ![1]⟩
abbrev S1x1024x2048 : Shape := ⟨3, ![1, 1024, 2048]⟩
abbrev S1x768x2048 : Shape := ⟨3, ![1, 768, 2048]⟩
abbrev S768x2048 : Shape := ⟨2, ![768, 2048]⟩
abbrev S1024 : Shape := ⟨1, ![1024]⟩
abbrev S1024x1 : Shape := ⟨2, ![1024, 1]⟩
abbrev S1024x768 : Shape := ⟨2, ![1024, 768]⟩
abbrev S1x1024x768 : Shape := ⟨3, ![1, 1024, 768]⟩
abbrev S16x2048x9984 : Shape := ⟨3, ![16, 2048, 9984]⟩
abbrev S16x3x3072 : Shape := ⟨3, ![16, 3, 3072]⟩
abbrev S16x128x256 : Shape := ⟨3, ![16, 128, 256]⟩
abbrev S16x128x4x64 : Shape := ⟨4, ![16, 128, 4, 64]⟩

abbrev nBuf : Space → Nat
  | .hbm => 8
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S9984x2048, .bf16⟩
  | .hbm, ⟨3, _⟩ => ⟨S32768x9984, .f32⟩
  | .hbm, ⟨4, _⟩ => ⟨S16x2048x9984, .f32⟩
  | .hbm, ⟨5, _⟩ => ⟨S16x3x3072, .f32⟩
  | .hbm, ⟨6, _⟩ => ⟨S16x128x256, .f32⟩
  | .hbm, ⟨7, _⟩ => ⟨S16x128x4x64, .f32⟩
  | .local _ .vmem, ⟨0, _⟩ => ⟨S1024x2048, .bf16⟩
  | .local _ .vmem, ⟨1, _⟩ => ⟨S2x1024x2048, .f32⟩
  | .local _ .vmem, ⟨2, _⟩ => ⟨S1x2048, .f32⟩
  | .local _ .vmem, ⟨3, _⟩ => ⟨S2x768x2048, .bf16⟩
  | .local _ .vmem, ⟨4, _⟩ => ⟨S2x1024x768, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped3 : Ref sig .tc := ⟨.vmem, 3, rfl⟩
abbrev cc0_scoped5 : Ref sig .tc := ⟨.vmem, 4, rfl⟩

abbrev nD : Nat := 1
abbrev τ : Topo := Topo.v7x

variable {F : FTy → Type} [FloatOps F]

abbrev grid0 : Pipeline.Grid := .none

def k0_off1 : Fin 1 → Nat :=
  let c0_i32_30_r0 : BitVec 32 := 0#32
  let c2_i32_r0 : BitVec 32 := 2#32
  let v31_r0 : BitVec 32 := Scalar.remui c0_i32_30_r0 c2_i32_r0
  ![v31_r0.toNat]
def k0_off2 : Fin 3 → Nat :=
  let c0_i32_30_r0 : BitVec 32 := 0#32
  let c2_i32_r0 : BitVec 32 := 2#32
  let v31_r0 : BitVec 32 := Scalar.remui c0_i32_30_r0 c2_i32_r0
  let c0_i32_31_r0 : BitVec 32 := 0#32
  let c0_i32_32_r0 : BitVec 32 := 0#32
  ![v31_r0.toNat, 0, 0]
def k0_off3 : Fin 2 → Nat :=
  let c1024_i32_r0 : BitVec 32 := 1024#32
  let c0_i32_26_r0 : BitVec 32 := 0#32
  let c0_i32_27_r0 : BitVec 32 := 0#32
  let v29_r0 : BitVec 32 := Scalar.addi c0_i32_26_r0 c0_i32_27_r0
  let v32_r0 : BitVec 32 := Scalar.muli c1024_i32_r0 v29_r0
  let c0_i32_33_r0 : BitVec 32 := 0#32
  ![v32_r0.toNat, 0]
def k0_off4 : Fin 3 → Nat :=
  let c0_i32_36_r0 : BitVec 32 := 0#32
  let c2_i32_37_r0 : BitVec 32 := 2#32
  let v39_r0 : BitVec 32 := Scalar.remui c0_i32_36_r0 c2_i32_37_r0
  let c0_i32_38_r0 : BitVec 32 := 0#32
  let c0_i32_39_r0 : BitVec 32 := 0#32
  ![v39_r0.toNat, 0, 0]
@[reducible] def k0_t1_loop : Scf.Loop 32 :=
  let c0_i32_54_r0 : BitVec 32 := 0#32
  let c416_i32_r0 : BitVec 32 := 416#32
  let v46_r0 : BitVec 32 := Scalar.addi c0_i32_54_r0 c416_i32_r0
  let c1_i32_55_r0 : BitVec 32 := 1#32
  ⟨c0_i32_54_r0, v46_r0, c1_i32_55_r0⟩
def k0_off5 (arg21_r0 : BitVec 32) : Fin 1 → Nat :=
  let c2_i32_200_r0 : BitVec 32 := 2#32
  let v270_r0 : BitVec 32 := Scalar.remui arg21_r0 c2_i32_200_r0
  ![v270_r0.toNat]
def k0_cond1 (arg17_r0 : BitVec 32) (arg19_r0 : BitVec 32) : BitVec 1 :=
  let c0_i32_188_r0 : BitVec 32 := 0#32
  let v254_r0 : BitVec 32 := Scalar.addi arg17_r0 c0_i32_188_r0
  let c0_i32_190_r0 : BitVec 32 := 0#32
  let v256_r0 : BitVec 32 := Scalar.addi arg19_r0 c0_i32_190_r0
  let v258_r0 : BitVec 1 := Scalar.cmpi .ne v254_r0 v256_r0
  let v259_r0 : BitVec 32 := Scalar.extui v258_r0
  let c0_i32_192_r0 : BitVec 32 := 0#32
  let v260_r0 : BitVec 1 := Scalar.cmpi .ne v259_r0 c0_i32_192_r0
  v260_r0

def k0_off6 (arg21_r0 : BitVec 32) : Fin 3 → Nat :=
  let c2_i32_200_r0 : BitVec 32 := 2#32
  let v270_r0 : BitVec 32 := Scalar.remui arg21_r0 c2_i32_200_r0
  let c0_i32_202_r0 : BitVec 32 := 0#32
  let c0_i32_203_r0 : BitVec 32 := 0#32
  ![v270_r0.toNat, 0, 0]

def k0_chk1 (arg17_r0 : BitVec 32) (arg19_r0 : BitVec 32) (arg21_r0 : BitVec 32) : Prop :=
  (∀ (k0_h1 : k0_cond1 arg17_r0 arg19_r0 = 1#1), ∀ a, (k0_off5 arg21_r0) a + S1.size a ≤ S2.size a) ∧
  (∀ (k0_h1 : k0_cond1 arg17_r0 arg19_r0 = 1#1), ∀ a, (k0_off6 arg21_r0) a + S1x1024x2048.size a ≤ S2x1024x2048.size a)
theorem k0_off5_inb : ∀ (arg17_r0 : BitVec 32) (arg19_r0 : BitVec 32) (arg21_r0 : BitVec 32) (k0_hw1 : k0_chk1 arg17_r0 arg19_r0 arg21_r0), ∀ (k0_h1 : k0_cond1 arg17_r0 arg19_r0 = 1#1), ∀ a, (k0_off5 arg21_r0) a + S1.size a ≤ S2.size a := fun arg17_r0 arg19_r0 arg21_r0 k0_hw1 k0_h1 => k0_hw1.1 k0_h1
theorem k0_off6_inb : ∀ (arg17_r0 : BitVec 32) (arg19_r0 : BitVec 32) (arg21_r0 : BitVec 32) (k0_hw1 : k0_chk1 arg17_r0 arg19_r0 arg21_r0), ∀ (k0_h1 : k0_cond1 arg17_r0 arg19_r0 = 1#1), ∀ a, (k0_off6 arg21_r0) a + S1x1024x2048.size a ≤ S2x1024x2048.size a := fun arg17_r0 arg19_r0 arg21_r0 k0_hw1 k0_h1 => k0_hw1.2 k0_h1

def k0_off7 (arg19_r0 : BitVec 32) : Fin 2 → Nat :=
  let c1024_i32_201_r0 : BitVec 32 := 1024#32
  let c0_i32_190_r0 : BitVec 32 := 0#32
  let v256_r0 : BitVec 32 := Scalar.addi arg19_r0 c0_i32_190_r0
  let v271_r0 : BitVec 32 := Scalar.muli c1024_i32_201_r0 v256_r0
  let c0_i32_204_r0 : BitVec 32 := 0#32
  ![v271_r0.toNat, 0]

def k0_chk2 (arg17_r0 : BitVec 32) (arg19_r0 : BitVec 32) : Prop :=
  (∀ (k0_h1 : k0_cond1 arg17_r0 arg19_r0 = 1#1), ∀ a, (k0_off7 arg19_r0) a + S1024x2048.size a ≤ S32768x2048.size a)
theorem k0_off7_inb : ∀ (arg17_r0 : BitVec 32) (arg19_r0 : BitVec 32) (k0_hw2 : k0_chk2 arg17_r0 arg19_r0), ∀ (k0_h1 : k0_cond1 arg17_r0 arg19_r0 = 1#1), ∀ a, (k0_off7 arg19_r0) a + S1024x2048.size a ≤ S32768x2048.size a := fun arg17_r0 arg19_r0 k0_hw2 k0_h1 => k0_hw2 k0_h1

def k0_off8 (arg11_r0 : BitVec 32) : Fin 1 → Nat :=
  let c2_i32_188_r0 : BitVec 32 := 2#32
  let v254_r0 : BitVec 32 := Scalar.remui arg11_r0 c2_i32_188_r0
  ![v254_r0.toNat]
def k0_cond2 (k0_t1 : Fin k0_t1_loop.trips) (arg16_r0 : BitVec 32) : BitVec 1 :=
  let c0_i32_99_r0 : BitVec 32 := 0#32
  let v99_r0 : BitVec 32 := Scalar.addi arg16_r0 c0_i32_99_r0
  let true_110_r0 : BitVec 1 := 1#1
  let c1_i32_109_r0 : BitVec 32 := 1#32
  let v110_r0 : BitVec 32 := Scalar.addi arg16_r0 c1_i32_109_r0
  let v111_r0 : BitVec 32 := Scalar.select true_110_r0 v110_r0 arg16_r0
  let c13_i32_111_r0 : BitVec 32 := 13#32
  let v112_r0 : BitVec 1 := Scalar.cmpi .eq v111_r0 c13_i32_111_r0
  let c0_i32_112_r0 : BitVec 32 := 0#32
  let v113_r0 : BitVec 32 := Scalar.select v112_r0 c0_i32_112_r0 v111_r0
  let c0_i32_117_r0 : BitVec 32 := 0#32
  let v119_r0 : BitVec 32 := Scalar.addi v113_r0 c0_i32_117_r0
  let v143_r0 : BitVec 1 := Scalar.cmpi .ne v99_r0 v119_r0
  let c0_i32_54_r0 : BitVec 32 := 0#32
  let c1_i32_55_r0 : BitVec 32 := 1#32
  let arg5_r0 : BitVec 32 := Scf.iv c0_i32_54_r0 c1_i32_55_r0 k0_t1
  let c415_i32_136_r0 : BitVec 32 := 415#32
  let v144_r0 : BitVec 1 := Scalar.cmpi .sge arg5_r0 c415_i32_136_r0
  let true_137_r0 : BitVec 1 := 1#1
  let v145_r0 : BitVec 1 := Scalar.xori v144_r0 true_137_r0
  let v146_r0 : BitVec 1 := Scalar.andi v143_r0 v145_r0
  let true_138_r0 : BitVec 1 := 1#1
  let v147_r0 : BitVec 1 := Scalar.andi v146_r0 true_138_r0
  let v148_r0 : BitVec 32 := Scalar.extui v147_r0
  let c0_i32_139_r0 : BitVec 32 := 0#32
  let v149_r0 : BitVec 1 := Scalar.cmpi .ne v148_r0 c0_i32_139_r0
  v149_r0

def k0_off9 (arg11_r0 : BitVec 32) : Fin 3 → Nat :=
  let c2_i32_188_r0 : BitVec 32 := 2#32
  let v254_r0 : BitVec 32 := Scalar.remui arg11_r0 c2_i32_188_r0
  let c0_i32_190_r0 : BitVec 32 := 0#32
  let c0_i32_191_r0 : BitVec 32 := 0#32
  ![v254_r0.toNat, 0, 0]
def k0_off10 (arg16_r0 : BitVec 32) : Fin 2 → Nat :=
  let c768_i32_189_r0 : BitVec 32 := 768#32
  let true_110_r0 : BitVec 1 := 1#1
  let c1_i32_109_r0 : BitVec 32 := 1#32
  let v110_r0 : BitVec 32 := Scalar.addi arg16_r0 c1_i32_109_r0
  let v111_r0 : BitVec 32 := Scalar.select true_110_r0 v110_r0 arg16_r0
  let c13_i32_111_r0 : BitVec 32 := 13#32
  let v112_r0 : BitVec 1 := Scalar.cmpi .eq v111_r0 c13_i32_111_r0
  let c0_i32_112_r0 : BitVec 32 := 0#32
  let v113_r0 : BitVec 32 := Scalar.select v112_r0 c0_i32_112_r0 v111_r0
  let c0_i32_117_r0 : BitVec 32 := 0#32
  let v119_r0 : BitVec 32 := Scalar.addi v113_r0 c0_i32_117_r0
  let v255_r0 : BitVec 32 := Scalar.muli c768_i32_189_r0 v119_r0
  let c0_i32_192_r0 : BitVec 32 := 0#32
  ![v255_r0.toNat, 0]
def k0_off11 (arg7_r0 : BitVec 32) : Fin 1 → Nat :=
  let c2_i32_189_r0 : BitVec 32 := 2#32
  let v255_r0 : BitVec 32 := Scalar.remui arg7_r0 c2_i32_189_r0
  ![v255_r0.toNat]
def k0_cond3 (k0_t1 : Fin k0_t1_loop.trips) (arg15_r0 : BitVec 32) (arg16_r0 : BitVec 32) : BitVec 1 :=
  let c0_i32_98_r0 : BitVec 32 := 0#32
  let v98_r0 : BitVec 32 := Scalar.addi arg15_r0 c0_i32_98_r0
  let true_101_r0 : BitVec 1 := 1#1
  let c1_i32_100_r0 : BitVec 32 := 1#32
  let v100_r0 : BitVec 32 := Scalar.subi arg16_r0 c1_i32_100_r0
  let v101_r0 : BitVec 32 := Scalar.select true_101_r0 v100_r0 arg16_r0
  let c_m1_i32_102_r0 : BitVec 32 := 4294967295#32
  let v102_r0 : BitVec 1 := Scalar.cmpi .eq v101_r0 c_m1_i32_102_r0
  let c1_i32_104_r0 : BitVec 32 := 1#32
  let v104_r0 : BitVec 32 := Scalar.subi arg15_r0 c1_i32_104_r0
  let v105_r0 : BitVec 32 := Scalar.select v102_r0 v104_r0 arg15_r0
  let c_m1_i32_105_r0 : BitVec 32 := 4294967295#32
  let v106_r0 : BitVec 1 := Scalar.cmpi .eq v105_r0 c_m1_i32_105_r0
  let c31_i32_106_r0 : BitVec 32 := 31#32
  let v107_r0 : BitVec 32 := Scalar.select v106_r0 c31_i32_106_r0 v105_r0
  let c0_i32_107_r0 : BitVec 32 := 0#32
  let v108_r0 : BitVec 32 := Scalar.addi v107_r0 c0_i32_107_r0
  let v159_r0 : BitVec 1 := Scalar.cmpi .ne v98_r0 v108_r0
  let c0_i32_54_r0 : BitVec 32 := 0#32
  let c1_i32_55_r0 : BitVec 32 := 1#32
  let arg5_r0 : BitVec 32 := Scf.iv c0_i32_54_r0 c1_i32_55_r0 k0_t1
  let c0_i32_97_r0 : BitVec 32 := 0#32
  let v96_r0 : BitVec 1 := Scalar.cmpi .eq arg5_r0 c0_i32_97_r0
  let v160_r0 : BitVec 1 := Scalar.ori v159_r0 v96_r0
  let c0_i32_144_r0 : BitVec 32 := 0#32
  let v161_r0 : BitVec 1 := Scalar.cmpi .sge arg5_r0 c0_i32_144_r0
  let v162_r0 : BitVec 1 := Scalar.andi v160_r0 v161_r0
  let v163_r0 : BitVec 32 := Scalar.extui v162_r0
  let c0_i32_145_r0 : BitVec 32 := 0#32
  let v164_r0 : BitVec 1 := Scalar.cmpi .ne v163_r0 c0_i32_145_r0
  v164_r0

def k0_off12 (arg7_r0 : BitVec 32) : Fin 3 → Nat :=
  let c2_i32_189_r0 : BitVec 32 := 2#32
  let v255_r0 : BitVec 32 := Scalar.remui arg7_r0 c2_i32_189_r0
  let c0_i32_190_r0 : BitVec 32 := 0#32
  let c0_i32_191_r0 : BitVec 32 := 0#32
  ![v255_r0.toNat, 0, 0]
def k0_off13 (arg15_r0 : BitVec 32) : Fin 2 → Nat :=
  let c1024_i32_188_r0 : BitVec 32 := 1024#32
  let c0_i32_98_r0 : BitVec 32 := 0#32
  let v98_r0 : BitVec 32 := Scalar.addi arg15_r0 c0_i32_98_r0
  let v254_r0 : BitVec 32 := Scalar.muli c1024_i32_188_r0 v98_r0
  let c0_i32_192_r0 : BitVec 32 := 0#32
  ![v254_r0.toNat, 0]
def k0_off14 (arg12_r0 : BitVec 32) : Fin 1 → Nat :=
  let c2_i32_189_r0 : BitVec 32 := 2#32
  let v255_r0 : BitVec 32 := Scalar.remui arg12_r0 c2_i32_189_r0
  ![v255_r0.toNat]
def k0_cond4 (k0_t1 : Fin k0_t1_loop.trips) (arg16_r0 : BitVec 32) : BitVec 1 :=
  let c0_i32_99_r0 : BitVec 32 := 0#32
  let v99_r0 : BitVec 32 := Scalar.addi arg16_r0 c0_i32_99_r0
  let true_101_r0 : BitVec 1 := 1#1
  let c1_i32_100_r0 : BitVec 32 := 1#32
  let v100_r0 : BitVec 32 := Scalar.subi arg16_r0 c1_i32_100_r0
  let v101_r0 : BitVec 32 := Scalar.select true_101_r0 v100_r0 arg16_r0
  let c_m1_i32_102_r0 : BitVec 32 := 4294967295#32
  let v102_r0 : BitVec 1 := Scalar.cmpi .eq v101_r0 c_m1_i32_102_r0
  let c12_i32_103_r0 : BitVec 32 := 12#32
  let v103_r0 : BitVec 32 := Scalar.select v102_r0 c12_i32_103_r0 v101_r0
  let c0_i32_108_r0 : BitVec 32 := 0#32
  let v109_r0 : BitVec 32 := Scalar.addi v103_r0 c0_i32_108_r0
  let v165_r0 : BitVec 1 := Scalar.cmpi .ne v99_r0 v109_r0
  let c0_i32_54_r0 : BitVec 32 := 0#32
  let c1_i32_55_r0 : BitVec 32 := 1#32
  let arg5_r0 : BitVec 32 := Scf.iv c0_i32_54_r0 c1_i32_55_r0 k0_t1
  let c0_i32_97_r0 : BitVec 32 := 0#32
  let v96_r0 : BitVec 1 := Scalar.cmpi .eq arg5_r0 c0_i32_97_r0
  let v166_r0 : BitVec 1 := Scalar.ori v165_r0 v96_r0
  let c0_i32_146_r0 : BitVec 32 := 0#32
  let v167_r0 : BitVec 1 := Scalar.cmpi .sge arg5_r0 c0_i32_146_r0
  let v168_r0 : BitVec 1 := Scalar.andi v166_r0 v167_r0
  let v169_r0 : BitVec 32 := Scalar.extui v168_r0
  let c0_i32_147_r0 : BitVec 32 := 0#32
  let v170_r0 : BitVec 1 := Scalar.cmpi .ne v169_r0 c0_i32_147_r0
  v170_r0

def k0_off15 (arg12_r0 : BitVec 32) : Fin 3 → Nat :=
  let c2_i32_189_r0 : BitVec 32 := 2#32
  let v255_r0 : BitVec 32 := Scalar.remui arg12_r0 c2_i32_189_r0
  let c0_i32_190_r0 : BitVec 32 := 0#32
  let c0_i32_191_r0 : BitVec 32 := 0#32
  ![v255_r0.toNat, 0, 0]
def k0_off16 (arg16_r0 : BitVec 32) : Fin 2 → Nat :=
  let c768_i32_188_r0 : BitVec 32 := 768#32
  let c0_i32_99_r0 : BitVec 32 := 0#32
  let v99_r0 : BitVec 32 := Scalar.addi arg16_r0 c0_i32_99_r0
  let v254_r0 : BitVec 32 := Scalar.muli c768_i32_188_r0 v99_r0
  let c0_i32_192_r0 : BitVec 32 := 0#32
  ![v254_r0.toNat, 0]
def k0_off17 (arg7_r0 : BitVec 32) : Fin 3 → Nat :=
  let c2_i32_150_r0 : BitVec 32 := 2#32
  let v179_r0 : BitVec 32 := Scalar.remui arg7_r0 c2_i32_150_r0
  let v254_r0 : Index := Scalar.indexCast v179_r0
  let c0_188_r0 : Index := 0#32
  let c0_189_r0 : Index := 0#32
  ![v254_r0.toNat, 0, 0]
def k0_cond6 (arg16_r0 : BitVec 32) : BitVec 1 :=
  let c0_i32_99_r0 : BitVec 32 := 0#32
  let v99_r0 : BitVec 32 := Scalar.addi arg16_r0 c0_i32_99_r0
  let c0_i32_153_r0 : BitVec 32 := 0#32
  let v182_r0 : BitVec 1 := Scalar.cmpi .eq v99_r0 c0_i32_153_r0
  let v183_r0 : BitVec 32 := Scalar.extui v182_r0
  let c0_i32_154_r0 : BitVec 32 := 0#32
  let v184_r0 : BitVec 1 := Scalar.cmpi .ne v183_r0 c0_i32_154_r0
  v184_r0

def k0_off18 (arg12_r0 : BitVec 32) : Fin 3 → Nat :=
  let c2_i32_151_r0 : BitVec 32 := 2#32
  let v180_r0 : BitVec 32 := Scalar.remui arg12_r0 c2_i32_151_r0
  let v186_r0 : Index := Scalar.indexCast v180_r0
  let c0_156_r0 : Index := 0#32
  let c0_157_r0 : Index := 0#32
  ![v186_r0.toNat, 0, 0]

def k0_chk4 (arg12_r0 : BitVec 32) : Prop :=
  (∀ a, (k0_off18 arg12_r0) a + S1x768x2048.size a ≤ S2x768x2048.size a)
theorem k0_off18_inb : ∀ (arg12_r0 : BitVec 32) (k0_hw4 : k0_chk4 arg12_r0), ∀ a, (k0_off18 arg12_r0) a + S1x768x2048.size a ≤ S2x768x2048.size a := fun arg12_r0 k0_hw4 => k0_hw4

def k0_off19 (arg13_r0 : BitVec 32) : Fin 3 → Nat :=
  let c2_i32_152_r0 : BitVec 32 := 2#32
  let v181_r0 : BitVec 32 := Scalar.remui arg13_r0 c2_i32_152_r0
  let v190_r0 : Index := Scalar.indexCast v181_r0
  let c0_158_r0 : Index := 0#32
  let c0_159_r0 : Index := 0#32
  ![v190_r0.toNat, 0, 0]

def k0_chk5 (arg13_r0 : BitVec 32) : Prop :=
  (∀ a, (k0_off19 arg13_r0) a + S1x1024x768.size a ≤ S2x1024x768.size a)
theorem k0_off19_inb : ∀ (arg13_r0 : BitVec 32) (k0_hw5 : k0_chk5 arg13_r0), ∀ a, (k0_off19 arg13_r0) a + S1x1024x768.size a ≤ S2x1024x768.size a := fun arg13_r0 k0_hw5 => k0_hw5

def k0_off20 (arg13_r0 : BitVec 32) : Fin 1 → Nat :=
  let c2_i32_188_r0 : BitVec 32 := 2#32
  let v254_r0 : BitVec 32 := Scalar.remui arg13_r0 c2_i32_188_r0
  ![v254_r0.toNat]
def k0_cond9 (k0_t1 : Fin k0_t1_loop.trips) (arg15_r0 : BitVec 32) (arg16_r0 : BitVec 32) : BitVec 1 :=
  let c0_i32_98_r0 : BitVec 32 := 0#32
  let v98_r0 : BitVec 32 := Scalar.addi arg15_r0 c0_i32_98_r0
  let true_110_r0 : BitVec 1 := 1#1
  let c1_i32_109_r0 : BitVec 32 := 1#32
  let v110_r0 : BitVec 32 := Scalar.addi arg16_r0 c1_i32_109_r0
  let v111_r0 : BitVec 32 := Scalar.select true_110_r0 v110_r0 arg16_r0
  let c13_i32_111_r0 : BitVec 32 := 13#32
  let v112_r0 : BitVec 1 := Scalar.cmpi .eq v111_r0 c13_i32_111_r0
  let c1_i32_113_r0 : BitVec 32 := 1#32
  let v114_r0 : BitVec 32 := Scalar.addi arg15_r0 c1_i32_113_r0
  let v115_r0 : BitVec 32 := Scalar.select v112_r0 v114_r0 arg15_r0
  let c32_i32_114_r0 : BitVec 32 := 32#32
  let v116_r0 : BitVec 1 := Scalar.cmpi .eq v115_r0 c32_i32_114_r0
  let c0_i32_115_r0 : BitVec 32 := 0#32
  let v117_r0 : BitVec 32 := Scalar.select v116_r0 c0_i32_115_r0 v115_r0
  let c0_i32_116_r0 : BitVec 32 := 0#32
  let v118_r0 : BitVec 32 := Scalar.addi v117_r0 c0_i32_116_r0
  let v204_r0 : BitVec 1 := Scalar.cmpi .ne v98_r0 v118_r0
  let c0_i32_99_r0 : BitVec 32 := 0#32
  let v99_r0 : BitVec 32 := Scalar.addi arg16_r0 c0_i32_99_r0
  let c0_i32_112_r0 : BitVec 32 := 0#32
  let v113_r0 : BitVec 32 := Scalar.select v112_r0 c0_i32_112_r0 v111_r0
  let c0_i32_117_r0 : BitVec 32 := 0#32
  let v119_r0 : BitVec 32 := Scalar.addi v113_r0 c0_i32_117_r0
  let v205_r0 : BitVec 1 := Scalar.cmpi .ne v99_r0 v119_r0
  let v206_r0 : BitVec 1 := Scalar.ori v204_r0 v205_r0
  let c0_i32_54_r0 : BitVec 32 := 0#32
  let c1_i32_55_r0 : BitVec 32 := 1#32
  let arg5_r0 : BitVec 32 := Scf.iv c0_i32_54_r0 c1_i32_55_r0 k0_t1
  let c415_i32_r0 : BitVec 32 := 415#32
  let v97_r0 : BitVec 1 := Scalar.cmpi .eq arg5_r0 c415_i32_r0
  let v207_r0 : BitVec 1 := Scalar.ori v206_r0 v97_r0
  let v208_r0 : BitVec 32 := Scalar.extui v207_r0
  let c0_i32_164_r0 : BitVec 32 := 0#32
  let v209_r0 : BitVec 1 := Scalar.cmpi .ne v208_r0 c0_i32_164_r0
  v209_r0

def k0_off21 (arg15_r0 : BitVec 32) (arg16_r0 : BitVec 32) : Fin 2 → Nat :=
  let c1024_i32_189_r0 : BitVec 32 := 1024#32
  let c0_i32_98_r0 : BitVec 32 := 0#32
  let v98_r0 : BitVec 32 := Scalar.addi arg15_r0 c0_i32_98_r0
  let v255_r0 : BitVec 32 := Scalar.muli c1024_i32_189_r0 v98_r0
  let c768_i32_190_r0 : BitVec 32 := 768#32
  let c0_i32_99_r0 : BitVec 32 := 0#32
  let v99_r0 : BitVec 32 := Scalar.addi arg16_r0 c0_i32_99_r0
  let v256_r0 : BitVec 32 := Scalar.muli c768_i32_190_r0 v99_r0
  ![v255_r0.toNat, v256_r0.toNat]
def k0_off22 (arg13_r0 : BitVec 32) : Fin 3 → Nat :=
  let c2_i32_188_r0 : BitVec 32 := 2#32
  let v254_r0 : BitVec 32 := Scalar.remui arg13_r0 c2_i32_188_r0
  let c0_i32_191_r0 : BitVec 32 := 0#32
  let c0_i32_192_r0 : BitVec 32 := 0#32
  ![v254_r0.toNat, 0, 0]
def k0_off23 (arg14_r0 : BitVec 32) : Fin 1 → Nat :=
  let c2_i32_188_r0 : BitVec 32 := 2#32
  let v254_r0 : BitVec 32 := Scalar.remui arg14_r0 c2_i32_188_r0
  ![v254_r0.toNat]
def k0_cond12 (k0_t1 : Fin k0_t1_loop.trips) (arg15_r0 : BitVec 32) (arg16_r0 : BitVec 32) : BitVec 1 :=
  let c0_i32_98_r0 : BitVec 32 := 0#32
  let v98_r0 : BitVec 32 := Scalar.addi arg15_r0 c0_i32_98_r0
  let true_101_r0 : BitVec 1 := 1#1
  let c1_i32_100_r0 : BitVec 32 := 1#32
  let v100_r0 : BitVec 32 := Scalar.subi arg16_r0 c1_i32_100_r0
  let v101_r0 : BitVec 32 := Scalar.select true_101_r0 v100_r0 arg16_r0
  let c_m1_i32_102_r0 : BitVec 32 := 4294967295#32
  let v102_r0 : BitVec 1 := Scalar.cmpi .eq v101_r0 c_m1_i32_102_r0
  let c1_i32_104_r0 : BitVec 32 := 1#32
  let v104_r0 : BitVec 32 := Scalar.subi arg15_r0 c1_i32_104_r0
  let v105_r0 : BitVec 32 := Scalar.select v102_r0 v104_r0 arg15_r0
  let c_m1_i32_105_r0 : BitVec 32 := 4294967295#32
  let v106_r0 : BitVec 1 := Scalar.cmpi .eq v105_r0 c_m1_i32_105_r0
  let c31_i32_106_r0 : BitVec 32 := 31#32
  let v107_r0 : BitVec 32 := Scalar.select v106_r0 c31_i32_106_r0 v105_r0
  let c0_i32_107_r0 : BitVec 32 := 0#32
  let v108_r0 : BitVec 32 := Scalar.addi v107_r0 c0_i32_107_r0
  let v225_r0 : BitVec 1 := Scalar.cmpi .ne v98_r0 v108_r0
  let c0_i32_99_r0 : BitVec 32 := 0#32
  let v99_r0 : BitVec 32 := Scalar.addi arg16_r0 c0_i32_99_r0
  let c12_i32_103_r0 : BitVec 32 := 12#32
  let v103_r0 : BitVec 32 := Scalar.select v102_r0 c12_i32_103_r0 v101_r0
  let c0_i32_108_r0 : BitVec 32 := 0#32
  let v109_r0 : BitVec 32 := Scalar.addi v103_r0 c0_i32_108_r0
  let v226_r0 : BitVec 1 := Scalar.cmpi .ne v99_r0 v109_r0
  let v227_r0 : BitVec 1 := Scalar.ori v225_r0 v226_r0
  let c0_i32_54_r0 : BitVec 32 := 0#32
  let c1_i32_55_r0 : BitVec 32 := 1#32
  let arg5_r0 : BitVec 32 := Scf.iv c0_i32_54_r0 c1_i32_55_r0 k0_t1
  let c0_i32_97_r0 : BitVec 32 := 0#32
  let v96_r0 : BitVec 1 := Scalar.cmpi .eq arg5_r0 c0_i32_97_r0
  let true_173_r0 : BitVec 1 := 1#1
  let v228_r0 : BitVec 1 := Scalar.xori v96_r0 true_173_r0
  let v229_r0 : BitVec 1 := Scalar.andi v227_r0 v228_r0
  let v230_r0 : BitVec 32 := Scalar.extui v229_r0
  let c0_i32_174_r0 : BitVec 32 := 0#32
  let v231_r0 : BitVec 1 := Scalar.cmpi .ne v230_r0 c0_i32_174_r0
  v231_r0

def k0_off24 (arg15_r0 : BitVec 32) (arg16_r0 : BitVec 32) : Fin 2 → Nat :=
  let c1024_i32_189_r0 : BitVec 32 := 1024#32
  let true_101_r0 : BitVec 1 := 1#1
  let c1_i32_100_r0 : BitVec 32 := 1#32
  let v100_r0 : BitVec 32 := Scalar.subi arg16_r0 c1_i32_100_r0
  let v101_r0 : BitVec 32 := Scalar.select true_101_r0 v100_r0 arg16_r0
  let c_m1_i32_102_r0 : BitVec 32 := 4294967295#32
  let v102_r0 : BitVec 1 := Scalar.cmpi .eq v101_r0 c_m1_i32_102_r0
  let c1_i32_104_r0 : BitVec 32 := 1#32
  let v104_r0 : BitVec 32 := Scalar.subi arg15_r0 c1_i32_104_r0
  let v105_r0 : BitVec 32 := Scalar.select v102_r0 v104_r0 arg15_r0
  let c_m1_i32_105_r0 : BitVec 32 := 4294967295#32
  let v106_r0 : BitVec 1 := Scalar.cmpi .eq v105_r0 c_m1_i32_105_r0
  let c31_i32_106_r0 : BitVec 32 := 31#32
  let v107_r0 : BitVec 32 := Scalar.select v106_r0 c31_i32_106_r0 v105_r0
  let c0_i32_107_r0 : BitVec 32 := 0#32
  let v108_r0 : BitVec 32 := Scalar.addi v107_r0 c0_i32_107_r0
  let v255_r0 : BitVec 32 := Scalar.muli c1024_i32_189_r0 v108_r0
  let c768_i32_190_r0 : BitVec 32 := 768#32
  let c12_i32_103_r0 : BitVec 32 := 12#32
  let v103_r0 : BitVec 32 := Scalar.select v102_r0 c12_i32_103_r0 v101_r0
  let c0_i32_108_r0 : BitVec 32 := 0#32
  let v109_r0 : BitVec 32 := Scalar.addi v103_r0 c0_i32_108_r0
  let v256_r0 : BitVec 32 := Scalar.muli c768_i32_190_r0 v109_r0
  ![v255_r0.toNat, v256_r0.toNat]
def k0_off25 (arg14_r0 : BitVec 32) : Fin 3 → Nat :=
  let c2_i32_188_r0 : BitVec 32 := 2#32
  let v254_r0 : BitVec 32 := Scalar.remui arg14_r0 c2_i32_188_r0
  let c0_i32_191_r0 : BitVec 32 := 0#32
  let c0_i32_192_r0 : BitVec 32 := 0#32
  ![v254_r0.toNat, 0, 0]

def k0_chk3 (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) : Prop :=
  (∀ (k0_h2 : k0_cond2 k0_t1 arg16_r0 = 1#1), ∀ a, (k0_off8 arg11_r0) a + S1.size a ≤ S2.size a) ∧
  (∀ (k0_h2 : k0_cond2 k0_t1 arg16_r0 = 1#1), ∀ a, (k0_off9 arg11_r0) a + S1x768x2048.size a ≤ S2x768x2048.size a) ∧
  (∀ (k0_h2 : k0_cond2 k0_t1 arg16_r0 = 1#1), ∀ a, (k0_off10 arg16_r0) a + S768x2048.size a ≤ S9984x2048.size a) ∧
  (∀ (k0_h2 : k0_cond2 k0_t1 arg16_r0 = 1#1), ∀ (hinb : ∀ a, (k0_off10 arg16_r0) a + S768x2048.size a ≤ S9984x2048.size a), (Rect.unit (s := S9984x2048) (k0_off10 arg16_r0) S768x2048.size hinb).WholeWords (EltTy.packing .bf16)) ∧
  (∀ (k0_h2 : k0_cond2 k0_t1 arg16_r0 = 1#1), ∀ (hinb : ∀ a, (k0_off9 arg11_r0) a + S1x768x2048.size a ≤ S2x768x2048.size a), (Rect.unit (s := S2x768x2048) (k0_off9 arg11_r0) S1x768x2048.size hinb).WholeWords (EltTy.packing .bf16)) ∧
  (∀ (k0_h3 : k0_cond3 k0_t1 arg15_r0 arg16_r0 = 1#1), ∀ a, (k0_off11 arg7_r0) a + S1.size a ≤ S2.size a) ∧
  (∀ (k0_h3 : k0_cond3 k0_t1 arg15_r0 arg16_r0 = 1#1), ∀ a, (k0_off12 arg7_r0) a + S1x1024x2048.size a ≤ S2x1024x2048.size a) ∧
  (∀ (k0_h3 : k0_cond3 k0_t1 arg15_r0 arg16_r0 = 1#1), ∀ a, (k0_off13 arg15_r0) a + S1024x2048.size a ≤ S32768x2048.size a) ∧
  (∀ (k0_h4 : k0_cond4 k0_t1 arg16_r0 = 1#1), ∀ a, (k0_off14 arg12_r0) a + S1.size a ≤ S2.size a) ∧
  (∀ (k0_h4 : k0_cond4 k0_t1 arg16_r0 = 1#1), ∀ a, (k0_off15 arg12_r0) a + S1x768x2048.size a ≤ S2x768x2048.size a) ∧
  (∀ (k0_h4 : k0_cond4 k0_t1 arg16_r0 = 1#1), ∀ a, (k0_off16 arg16_r0) a + S768x2048.size a ≤ S9984x2048.size a) ∧
  (∀ (k0_h4 : k0_cond4 k0_t1 arg16_r0 = 1#1), ∀ (hinb : ∀ a, (k0_off16 arg16_r0) a + S768x2048.size a ≤ S9984x2048.size a), (Rect.unit (s := S9984x2048) (k0_off16 arg16_r0) S768x2048.size hinb).WholeWords (EltTy.packing .bf16)) ∧
  (∀ (k0_h4 : k0_cond4 k0_t1 arg16_r0 = 1#1), ∀ (hinb : ∀ a, (k0_off15 arg12_r0) a + S1x768x2048.size a ≤ S2x768x2048.size a), (Rect.unit (s := S2x768x2048) (k0_off15 arg12_r0) S1x768x2048.size hinb).WholeWords (EltTy.packing .bf16)) ∧
  (∀ (k0_h6 : k0_cond6 arg16_r0 = 1#1), ∀ a, (k0_off17 arg7_r0) a + S1x1024x2048.size a ≤ S2x1024x2048.size a) ∧
  (∀ (k0_h9 : k0_cond9 k0_t1 arg15_r0 arg16_r0 = 1#1), ∀ a, (k0_off20 arg13_r0) a + S1.size a ≤ S2.size a) ∧
  (∀ (k0_h9 : k0_cond9 k0_t1 arg15_r0 arg16_r0 = 1#1), ∀ a, (k0_off21 arg15_r0 arg16_r0) a + S1024x768.size a ≤ S32768x9984.size a) ∧
  (∀ (k0_h9 : k0_cond9 k0_t1 arg15_r0 arg16_r0 = 1#1), ∀ a, (k0_off22 arg13_r0) a + S1x1024x768.size a ≤ S2x1024x768.size a) ∧
  (∀ (k0_h12 : k0_cond12 k0_t1 arg15_r0 arg16_r0 = 1#1), ∀ a, (k0_off23 arg14_r0) a + S1.size a ≤ S2.size a) ∧
  (∀ (k0_h12 : k0_cond12 k0_t1 arg15_r0 arg16_r0 = 1#1), ∀ a, (k0_off24 arg15_r0 arg16_r0) a + S1024x768.size a ≤ S32768x9984.size a) ∧
  (∀ (k0_h12 : k0_cond12 k0_t1 arg15_r0 arg16_r0 = 1#1), ∀ a, (k0_off25 arg14_r0) a + S1x1024x768.size a ≤ S2x1024x768.size a)
theorem k0_off8_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h2 : k0_cond2 k0_t1 arg16_r0 = 1#1), ∀ a, (k0_off8 arg11_r0) a + S1.size a ≤ S2.size a := fun k0_t1 arg7_r0 arg11_r0 arg12_r0 arg13_r0 arg14_r0 arg15_r0 arg16_r0 k0_hw3 k0_h2 => k0_hw3.1 k0_h2
theorem k0_off9_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h2 : k0_cond2 k0_t1 arg16_r0 = 1#1), ∀ a, (k0_off9 arg11_r0) a + S1x768x2048.size a ≤ S2x768x2048.size a := fun k0_t1 arg7_r0 arg11_r0 arg12_r0 arg13_r0 arg14_r0 arg15_r0 arg16_r0 k0_hw3 k0_h2 => k0_hw3.2.1 k0_h2
theorem k0_off10_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h2 : k0_cond2 k0_t1 arg16_r0 = 1#1), ∀ a, (k0_off10 arg16_r0) a + S768x2048.size a ≤ S9984x2048.size a := fun k0_t1 arg7_r0 arg11_r0 arg12_r0 arg13_r0 arg14_r0 arg15_r0 arg16_r0 k0_hw3 k0_h2 => k0_hw3.2.2.1 k0_h2
theorem k0_off10_wordsbf16 : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h2 : k0_cond2 k0_t1 arg16_r0 = 1#1), (Rect.unit (s := S9984x2048) (k0_off10 arg16_r0) S768x2048.size (k0_off10_inb k0_t1 arg7_r0 arg11_r0 arg12_r0 arg13_r0 arg14_r0 arg15_r0 arg16_r0 k0_hw3 k0_h2)).WholeWords (EltTy.packing .bf16) := fun k0_t1 arg7_r0 arg11_r0 arg12_r0 arg13_r0 arg14_r0 arg15_r0 arg16_r0 k0_hw3 k0_h2 => k0_hw3.2.2.2.1 k0_h2 (k0_off10_inb k0_t1 arg7_r0 arg11_r0 arg12_r0 arg13_r0 arg14_r0 arg15_r0 arg16_r0 k0_hw3 k0_h2)
theorem k0_off9_wordsbf16 : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h2 : k0_cond2 k0_t1 arg16_r0 = 1#1), (Rect.unit (s := S2x768x2048) (k0_off9 arg11_r0) S1x768x2048.size (k0_off9_inb k0_t1 arg7_r0 arg11_r0 arg12_r0 arg13_r0 arg14_r0 arg15_r0 arg16_r0 k0_hw3 k0_h2)).WholeWords (EltTy.packing .bf16) := fun k0_t1 arg7_r0 arg11_r0 arg12_r0 arg13_r0 arg14_r0 arg15_r0 arg16_r0 k0_hw3 k0_h2 => k0_hw3.2.2.2.2.1 k0_h2 (k0_off9_inb k0_t1 arg7_r0 arg11_r0 arg12_r0 arg13_r0 arg14_r0 arg15_r0 arg16_r0 k0_hw3 k0_h2)
theorem k0_off11_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h3 : k0_cond3 k0_t1 arg15_r0 arg16_r0 = 1#1), ∀ a, (k0_off11 arg7_r0) a + S1.size a ≤ S2.size a := fun k0_t1 arg7_r0 arg11_r0 arg12_r0 arg13_r0 arg14_r0 arg15_r0 arg16_r0 k0_hw3 k0_h3 => k0_hw3.2.2.2.2.2.1 k0_h3
theorem k0_off12_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h3 : k0_cond3 k0_t1 arg15_r0 arg16_r0 = 1#1), ∀ a, (k0_off12 arg7_r0) a + S1x1024x2048.size a ≤ S2x1024x2048.size a := fun k0_t1 arg7_r0 arg11_r0 arg12_r0 arg13_r0 arg14_r0 arg15_r0 arg16_r0 k0_hw3 k0_h3 => k0_hw3.2.2.2.2.2.2.1 k0_h3
theorem k0_off13_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h3 : k0_cond3 k0_t1 arg15_r0 arg16_r0 = 1#1), ∀ a, (k0_off13 arg15_r0) a + S1024x2048.size a ≤ S32768x2048.size a := fun k0_t1 arg7_r0 arg11_r0 arg12_r0 arg13_r0 arg14_r0 arg15_r0 arg16_r0 k0_hw3 k0_h3 => k0_hw3.2.2.2.2.2.2.2.1 k0_h3
theorem k0_off14_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h4 : k0_cond4 k0_t1 arg16_r0 = 1#1), ∀ a, (k0_off14 arg12_r0) a + S1.size a ≤ S2.size a := fun k0_t1 arg7_r0 arg11_r0 arg12_r0 arg13_r0 arg14_r0 arg15_r0 arg16_r0 k0_hw3 k0_h4 => k0_hw3.2.2.2.2.2.2.2.2.1 k0_h4
theorem k0_off15_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h4 : k0_cond4 k0_t1 arg16_r0 = 1#1), ∀ a, (k0_off15 arg12_r0) a + S1x768x2048.size a ≤ S2x768x2048.size a := fun k0_t1 arg7_r0 arg11_r0 arg12_r0 arg13_r0 arg14_r0 arg15_r0 arg16_r0 k0_hw3 k0_h4 => k0_hw3.2.2.2.2.2.2.2.2.2.1 k0_h4
theorem k0_off16_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h4 : k0_cond4 k0_t1 arg16_r0 = 1#1), ∀ a, (k0_off16 arg16_r0) a + S768x2048.size a ≤ S9984x2048.size a := fun k0_t1 arg7_r0 arg11_r0 arg12_r0 arg13_r0 arg14_r0 arg15_r0 arg16_r0 k0_hw3 k0_h4 => k0_hw3.2.2.2.2.2.2.2.2.2.2.1 k0_h4
theorem k0_off16_wordsbf16 : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h4 : k0_cond4 k0_t1 arg16_r0 = 1#1), (Rect.unit (s := S9984x2048) (k0_off16 arg16_r0) S768x2048.size (k0_off16_inb k0_t1 arg7_r0 arg11_r0 arg12_r0 arg13_r0 arg14_r0 arg15_r0 arg16_r0 k0_hw3 k0_h4)).WholeWords (EltTy.packing .bf16) := fun k0_t1 arg7_r0 arg11_r0 arg12_r0 arg13_r0 arg14_r0 arg15_r0 arg16_r0 k0_hw3 k0_h4 => k0_hw3.2.2.2.2.2.2.2.2.2.2.2.1 k0_h4 (k0_off16_inb k0_t1 arg7_r0 arg11_r0 arg12_r0 arg13_r0 arg14_r0 arg15_r0 arg16_r0 k0_hw3 k0_h4)
theorem k0_off15_wordsbf16 : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h4 : k0_cond4 k0_t1 arg16_r0 = 1#1), (Rect.unit (s := S2x768x2048) (k0_off15 arg12_r0) S1x768x2048.size (k0_off15_inb k0_t1 arg7_r0 arg11_r0 arg12_r0 arg13_r0 arg14_r0 arg15_r0 arg16_r0 k0_hw3 k0_h4)).WholeWords (EltTy.packing .bf16) := fun k0_t1 arg7_r0 arg11_r0 arg12_r0 arg13_r0 arg14_r0 arg15_r0 arg16_r0 k0_hw3 k0_h4 => k0_hw3.2.2.2.2.2.2.2.2.2.2.2.2.1 k0_h4 (k0_off15_inb k0_t1 arg7_r0 arg11_r0 arg12_r0 arg13_r0 arg14_r0 arg15_r0 arg16_r0 k0_hw3 k0_h4)
theorem k0_off17_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h6 : k0_cond6 arg16_r0 = 1#1), ∀ a, (k0_off17 arg7_r0) a + S1x1024x2048.size a ≤ S2x1024x2048.size a := fun k0_t1 arg7_r0 arg11_r0 arg12_r0 arg13_r0 arg14_r0 arg15_r0 arg16_r0 k0_hw3 k0_h6 => k0_hw3.2.2.2.2.2.2.2.2.2.2.2.2.2.1 k0_h6
theorem k0_off20_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h9 : k0_cond9 k0_t1 arg15_r0 arg16_r0 = 1#1), ∀ a, (k0_off20 arg13_r0) a + S1.size a ≤ S2.size a := fun k0_t1 arg7_r0 arg11_r0 arg12_r0 arg13_r0 arg14_r0 arg15_r0 arg16_r0 k0_hw3 k0_h9 => k0_hw3.2.2.2.2.2.2.2.2.2.2.2.2.2.2.1 k0_h9
theorem k0_off21_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h9 : k0_cond9 k0_t1 arg15_r0 arg16_r0 = 1#1), ∀ a, (k0_off21 arg15_r0 arg16_r0) a + S1024x768.size a ≤ S32768x9984.size a := fun k0_t1 arg7_r0 arg11_r0 arg12_r0 arg13_r0 arg14_r0 arg15_r0 arg16_r0 k0_hw3 k0_h9 => k0_hw3.2.2.2.2.2.2.2.2.2.2.2.2.2.2.2.1 k0_h9
theorem k0_off22_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h9 : k0_cond9 k0_t1 arg15_r0 arg16_r0 = 1#1), ∀ a, (k0_off22 arg13_r0) a + S1x1024x768.size a ≤ S2x1024x768.size a := fun k0_t1 arg7_r0 arg11_r0 arg12_r0 arg13_r0 arg14_r0 arg15_r0 arg16_r0 k0_hw3 k0_h9 => k0_hw3.2.2.2.2.2.2.2.2.2.2.2.2.2.2.2.2.1 k0_h9
theorem k0_off23_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h12 : k0_cond12 k0_t1 arg15_r0 arg16_r0 = 1#1), ∀ a, (k0_off23 arg14_r0) a + S1.size a ≤ S2.size a := fun k0_t1 arg7_r0 arg11_r0 arg12_r0 arg13_r0 arg14_r0 arg15_r0 arg16_r0 k0_hw3 k0_h12 => k0_hw3.2.2.2.2.2.2.2.2.2.2.2.2.2.2.2.2.2.1 k0_h12
theorem k0_off24_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h12 : k0_cond12 k0_t1 arg15_r0 arg16_r0 = 1#1), ∀ a, (k0_off24 arg15_r0 arg16_r0) a + S1024x768.size a ≤ S32768x9984.size a := fun k0_t1 arg7_r0 arg11_r0 arg12_r0 arg13_r0 arg14_r0 arg15_r0 arg16_r0 k0_hw3 k0_h12 => k0_hw3.2.2.2.2.2.2.2.2.2.2.2.2.2.2.2.2.2.2.1 k0_h12
theorem k0_off25_inb : ∀ (k0_t1 : Fin k0_t1_loop.trips) (arg7_r0 : BitVec 32) (arg11_r0 : BitVec 32) (arg12_r0 : BitVec 32) (arg13_r0 : BitVec 32) (arg14_r0 : BitVec 32) (arg15_r0 : BitVec 32) (arg16_r0 : BitVec 32) (k0_hw3 : k0_chk3 k0_t1 arg7_r0 arg11_r0 arg12_r0 arg13_r0 arg14_r0 arg15_r0 arg16_r0), ∀ (k0_h12 : k0_cond12 k0_t1 arg15_r0 arg16_r0 = 1#1), ∀ a, (k0_off25 arg14_r0) a + S1x1024x768.size a ≤ S2x1024x768.size a := fun k0_t1 arg7_r0 arg11_r0 arg12_r0 arg13_r0 arg14_r0 arg15_r0 arg16_r0 k0_hw3 k0_h12 => k0_hw3.2.2.2.2.2.2.2.2.2.2.2.2.2.2.2.2.2.2.2 k0_h12

def k0_off26 (v47_8_r0 : BitVec 32) : Fin 1 → Nat :=
  let c2_i32_93_r0 : BitVec 32 := 2#32
  let v88_r0 : BitVec 32 := Scalar.remui v47_8_r0 c2_i32_93_r0
  ![v88_r0.toNat]

def k0_off27 (v47_10_r0 : BitVec 32) (v47_9_r0 : BitVec 32) : Fin 2 → Nat :=
  let c1024_i32_94_r0 : BitVec 32 := 1024#32
  let true_58_r0 : BitVec 1 := 1#1
  let c1_i32_57_r0 : BitVec 32 := 1#32
  let v48_r0 : BitVec 32 := Scalar.subi v47_10_r0 c1_i32_57_r0
  let v49_r0 : BitVec 32 := Scalar.select true_58_r0 v48_r0 v47_10_r0
  let c_m1_i32_59_r0 : BitVec 32 := 4294967295#32
  let v50_r0 : BitVec 1 := Scalar.cmpi .eq v49_r0 c_m1_i32_59_r0
  let c1_i32_61_r0 : BitVec 32 := 1#32
  let v52_r0 : BitVec 32 := Scalar.subi v47_9_r0 c1_i32_61_r0
  let v53_r0 : BitVec 32 := Scalar.select v50_r0 v52_r0 v47_9_r0
  let c_m1_i32_62_r0 : BitVec 32 := 4294967295#32
  let v54_r0 : BitVec 1 := Scalar.cmpi .eq v53_r0 c_m1_i32_62_r0
  let c31_i32_63_r0 : BitVec 32 := 31#32
  let v55_r0 : BitVec 32 := Scalar.select v54_r0 c31_i32_63_r0 v53_r0
  let c0_i32_64_r0 : BitVec 32 := 0#32
  let v56_r0 : BitVec 32 := Scalar.addi v55_r0 c0_i32_64_r0
  let v89_r0 : BitVec 32 := Scalar.muli c1024_i32_94_r0 v56_r0
  let c768_i32_r0 : BitVec 32 := 768#32
  let c12_i32_60_r0 : BitVec 32 := 12#32
  let v51_r0 : BitVec 32 := Scalar.select v50_r0 c12_i32_60_r0 v49_r0
  let c0_i32_65_r0 : BitVec 32 := 0#32
  let v57_r0 : BitVec 32 := Scalar.addi v51_r0 c0_i32_65_r0
  let v90_r0 : BitVec 32 := Scalar.muli c768_i32_r0 v57_r0
  ![v89_r0.toNat, v90_r0.toNat]

def k0_chk7 (v47_10_r0 : BitVec 32) (v47_9_r0 : BitVec 32) : Prop :=
  (∀ a, (k0_off27 v47_10_r0 v47_9_r0) a + S1024x768.size a ≤ S32768x9984.size a)
theorem k0_off27_inb : ∀ (v47_10_r0 : BitVec 32) (v47_9_r0 : BitVec 32) (k0_hw7 : k0_chk7 v47_10_r0 v47_9_r0), ∀ a, (k0_off27 v47_10_r0 v47_9_r0) a + S1024x768.size a ≤ S32768x9984.size a := fun v47_10_r0 v47_9_r0 k0_hw7 => k0_hw7

def k0_off28 (v47_8_r0 : BitVec 32) : Fin 3 → Nat :=
  let c2_i32_93_r0 : BitVec 32 := 2#32
  let v88_r0 : BitVec 32 := Scalar.remui v47_8_r0 c2_i32_93_r0
  let c0_i32_95_r0 : BitVec 32 := 0#32
  let c0_i32_96_r0 : BitVec 32 := 0#32
  ![v88_r0.toNat, 0, 0]

def k0_chk6 (v47_8_r0 : BitVec 32) : Prop :=
  (∀ a, (k0_off26 v47_8_r0) a + S1.size a ≤ S2.size a) ∧
  (∀ a, (k0_off28 v47_8_r0) a + S1x1024x768.size a ≤ S2x1024x768.size a)
theorem k0_off26_inb : ∀ (v47_8_r0 : BitVec 32) (k0_hw6 : k0_chk6 v47_8_r0), ∀ a, (k0_off26 v47_8_r0) a + S1.size a ≤ S2.size a := fun v47_8_r0 k0_hw6 => k0_hw6.1
theorem k0_off28_inb : ∀ (v47_8_r0 : BitVec 32) (k0_hw6 : k0_chk6 v47_8_r0), ∀ a, (k0_off28 v47_8_r0) a + S1x1024x768.size a ≤ S2x1024x768.size a := fun v47_8_r0 k0_hw6 => k0_hw6.2
-- ==== ReferenceIdeal.lean ====
abbrev S32768x2048 : Shape := ⟨2, ![32768, 2048]⟩
abbrev S1x2048 : Shape := ⟨2, ![1, 2048]⟩
abbrev S9984x2048 : Shape := ⟨2, ![9984, 2048]⟩
abbrev S_ : Shape := ⟨0, ![]⟩
abbrev S32768 : Shape := ⟨1, ![32768]⟩
abbrev S32768x1 : Shape := ⟨2, ![32768, 1]⟩
abbrev S32768x9984 : Shape := ⟨2, ![32768, 9984]⟩
abbrev S16x2048x9984 : Shape := ⟨3, ![16, 2048, 9984]⟩
abbrev S16x3x3072 : Shape := ⟨3, ![16, 3, 3072]⟩
abbrev S16x128x256 : Shape := ⟨3, ![16, 128, 256]⟩
abbrev S16x128x4x64 : Shape := ⟨4, ![16, 128, 4, 64]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S9984x2048, .bf16⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S9984x2048, .f32⟩
  | .hbm, ⟨19, _⟩ => ⟨S32768x9984, .f32⟩
  | .hbm, ⟨20, _⟩ => ⟨S16x2048x9984, .f32⟩
  | .hbm, ⟨21, _⟩ => ⟨S16x3x3072, .f32⟩
  | .hbm, ⟨22, _⟩ => ⟨S16x128x256, .f32⟩
  | .hbm, ⟨23, _⟩ => ⟨S16x128x4x64, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel2.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 12
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_23 : BitVec 32 := 0#32
  let c16_i32 : BitVec 32 := 16#32
  let v38 : BitVec 32 := Scalar.addi c0_i32_23 c16_i32
  let c1_i32 : BitVec 32 := 1#32
  ⟨c0_i32_23, v38, c1_i32⟩
def k0_mult1 (k0_t1 : Fin k0_t1_loop.trips) : BitVec 32 :=
  let c0_i32_23 : BitVec 32 := 0#32
  let c1_i32 : BitVec 32 := 1#32
  let arg10 : BitVec 32 := Scf.iv c0_i32_23 c1_i32 k0_t1
  let c64_i32 : BitVec 32 := 64#32
  let v39 : BitVec 32 := Scalar.muli arg10 c64_i32
  v39
def k0_off1 (k0_t1 : Fin k0_t1_loop.trips) : Fin 2 → Nat :=
  let c0_i32_23 : BitVec 32 := 0#32
  let c1_i32 : BitVec 32 := 1#32
  let arg10 : BitVec 32 := Scf.iv c0_i32_23 c1_i32 k0_t1
  let c64_i32 : BitVec 32 := 64#32
  let v39 : BitVec 32 := Scalar.muli arg10 c64_i32
  let v40 : BitVec 32 := v39
  let v41 : Index := Scalar.indexCast v40
  let c0_25 : Index := 0#32
  ![v41.toNat, 0]
def k0_cond2 (i : grid0.Coords) : BitVec 1 :=
  let arg1 : BitVec 32 := BitVec.ofNat 32 (i 1).val
  let c10_i32 : BitVec 32 := 10#32
  let v35 : BitVec 1 := Scalar.cmpi .eq arg1 c10_i32
  let v36 : BitVec 32 := Scalar.extui v35
  let c0_i32_22 : BitVec 32 := 0#32
  let v37 : BitVec 1 := Scalar.cmpi .ne v36 c0_i32_22
  v37

@[reducible] def k0_t2_loop : Scf.Loop 32 :=
  let c0_i32_23 : BitVec 32 := 0#32
  let c16_i32 : BitVec 32 := 16#32
  let v38 : BitVec 32 := Scalar.addi c0_i32_23 c16_i32
  let c1_i32 : BitVec 32 := 1#32
  ⟨c0_i32_23, v38, c1_i32⟩
def k0_mult2 (k0_t2 : Fin k0_t2_loop.trips) : BitVec 32 :=
  let c0_i32_23 : BitVec 32 := 0#32
  let c1_i32 : BitVec 32 := 1#32
  let arg10 : BitVec 32 := Scf.iv c0_i32_23 c1_i32 k0_t2
  let c64_i32 : BitVec 32 := 64#32
  let v39 : BitVec 32 := Scalar.muli arg10 c64_i32
  v39
def k0_off2 (k0_t2 : Fin k0_t2_loop.trips) : Fin 2 → Nat :=
  let c0_i32_23 : BitVec 32 := 0#32
  let c1_i32 : BitVec 32 := 1#32
  let arg10 : BitVec 32 := Scf.iv c0_i32_23 c1_i32 k0_t2
  let c64_i32 : BitVec 32 := 64#32
  let v39 : BitVec 32 := Scalar.muli arg10 c64_i32
  let v40 : BitVec 32 := v39
  let v41 : Index := Scalar.indexCast v40
  let c0_25 : Index := 0#32
  ![v41.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 12
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_23 : BitVec 32 := 0#32
  let c16_i32 : BitVec 32 := 16#32
  let v38 : BitVec 32 := Scalar.addi c0_i32_23 c16_i32
  let c1_i32 : BitVec 32 := 1#32
  ⟨c0_i32_23, v38, c1_i32⟩
def k0_mult1 (k0_t1 : Fin k0_t1_loop.trips) : BitVec 32 :=
  let c0_i32_23 : BitVec 32 := 0#32
  let c1_i32 : BitVec 32 := 1#32
  let arg10 : BitVec 32 := Scf.iv c0_i32_23 c1_i32 k0_t1
  let c64_i32 : BitVec 32 := 64#32
  let v39 : BitVec 32 := Scalar.muli arg10 c64_i32
  v39
def k0_off1 (k0_t1 : Fin k0_t1_loop.trips) : Fin 2 → Nat :=
  let c0_i32_23 : BitVec 32 := 0#32
  let c1_i32 : BitVec 32 := 1#32
  let arg10 : BitVec 32 := Scf.iv c0_i32_23 c1_i32 k0_t1
  let c64_i32 : BitVec 32 := 64#32
  let v39 : BitVec 32 := Scalar.muli arg10 c64_i32
  let v40 : BitVec 32 := v39
  let v41 : Index := Scalar.indexCast v40
  let c0_25 : Index := 0#32
  ![v41.toNat, 0]
def k0_cond2 (i : grid0.Coords) : BitVec 1 :=
  let arg1 : BitVec 32 := BitVec.ofNat 32 (i 1).val
  let c10_i32 : BitVec 32 := 10#32
  let v35 : BitVec 1 := Scalar.cmpi .eq arg1 c10_i32
  let v36 : BitVec 32 := Scalar.extui v35
  let c0_i32_22 : BitVec 32 := 0#32
  let v37 : BitVec 1 := Scalar.cmpi .ne v36 c0_i32_22
  v37

@[reducible] def k0_t2_loop : Scf.Loop 32 :=
  let c0_i32_23 : BitVec 32 := 0#32
  let c16_i32 : BitVec 32 := 16#32
  let v38 : BitVec 32 := Scalar.addi c0_i32_23 c16_i32
  let c1_i32 : BitVec 32 := 1#32
  ⟨c0_i32_23, v38, c1_i32⟩
def k0_mult2 (k0_t2 : Fin k0_t2_loop.trips) : BitVec 32 :=
  let c0_i32_23 : BitVec 32 := 0#32
  let c1_i32 : BitVec 32 := 1#32
  let arg10 : BitVec 32 := Scf.iv c0_i32_23 c1_i32 k0_t2
  let c64_i32 : BitVec 32 := 64#32
  let v39 : BitVec 32 := Scalar.muli arg10 c64_i32
  v39
def k0_off2 (k0_t2 : Fin k0_t2_loop.trips) : Fin 2 → Nat :=
  let c0_i32_23 : BitVec 32 := 0#32
  let c1_i32 : BitVec 32 := 1#32
  let arg10 : BitVec 32 := Scf.iv c0_i32_23 c1_i32 k0_t2
  let c64_i32 : BitVec 32 := 64#32
  let v39 : BitVec 32 := Scalar.muli arg10 c64_i32
  let v40 : BitVec 32 := v39
  let v41 : Index := Scalar.indexCast v40
  let c0_25 : Index := 0#32
  ![v41.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5632 : Shape := ⟨2, ![32768, 5632]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S_, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x5632, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel3.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 12
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_23 : BitVec 32 := 0#32
  let c16_i32 : BitVec 32 := 16#32
  let v38 : BitVec 32 := Scalar.addi c0_i32_23 c16_i32
  let c1_i32 : BitVec 32 := 1#32
  ⟨c0_i32_23, v38, c1_i32⟩
def k0_mult1 (k0_t1 : Fin k0_t1_loop.trips) : BitVec 32 :=
  let c0_i32_23 : BitVec 32 := 0#32
  let c1_i32 : BitVec 32 := 1#32
  let arg10 : BitVec 32 := Scf.iv c0_i32_23 c1_i32 k0_t1
  let c64_i32 : BitVec 32 := 64#32
  let v39 : BitVec 32 := Scalar.muli arg10 c64_i32
  v39
def k0_off1 (k0_t1 : Fin k0_t1_loop.trips) : Fin 2 → Nat :=
  let c0_i32_23 : BitVec 32 := 0#32
  let c1_i32 : BitVec 32 := 1#32
  let arg10 : BitVec 32 := Scf.iv c0_i32_23 c1_i32 k0_t1
  let c64_i32 : BitVec 32 := 64#32
  let v39 : BitVec 32 := Scalar.muli arg10 c64_i32
  let v40 : BitVec 32 := v39
  let v41 : Index := Scalar.indexCast v40
  let c0_25 : Index := 0#32
  ![v41.toNat, 0]
def k0_cond2 (i : grid0.Coords) : BitVec 1 :=
  let arg1 : BitVec 32 := BitVec.ofNat 32 (i 1).val
  let c10_i32 : BitVec 32 := 10#32
  let v35 : BitVec 1 := Scalar.cmpi .eq arg1 c10_i32
  let v36 : BitVec 32 := Scalar.extui v35
  let c0_i32_22 : BitVec 32 := 0#32
  let v37 : BitVec 1 := Scalar.cmpi .ne v36 c0_i32_22
  v37

@[reducible] def k0_t2_loop : Scf.Loop 32 :=
  let c0_i32_23 : BitVec 32 := 0#32
  let c16_i32 : BitVec 32 := 16#32
  let v38 : BitVec 32 := Scalar.addi c0_i32_23 c16_i32
  let c1_i32 : BitVec 32 := 1#32
  ⟨c0_i32_23, v38, c1_i32⟩
def k0_mult2 (k0_t2 : Fin k0_t2_loop.trips) : BitVec 32 :=
  let c0_i32_23 : BitVec 32 := 0#32
  let c1_i32 : BitVec 32 := 1#32
  let arg10 : BitVec 32 := Scf.iv c0_i32_23 c1_i32 k0_t2
  let c64_i32 : BitVec 32 := 64#32
  let v39 : BitVec 32 := Scalar.muli arg10 c64_i32
  v39
def k0_off2 (k0_t2 : Fin k0_t2_loop.trips) : Fin 2 → Nat :=
  let c0_i32_23 : BitVec 32 := 0#32
  let c1_i32 : BitVec 32 := 1#32
  let arg10 : BitVec 32 := Scf.iv c0_i32_23 c1_i32 k0_t2
  let c64_i32 : BitVec 32 := 64#32
  let v39 : BitVec 32 := Scalar.muli arg10 c64_i32
  let v40 : BitVec 32 := v39
  let v41 : Index := Scalar.indexCast v40
  let c0_25 : Index := 0#32
  ![v41.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S32768x2048 : Shape := ⟨2, ![32768, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5632 : Shape := ⟨2, ![32768, 5632]⟩

abbrev nBuf : Space → Nat
  | .hbm => 39
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S_, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x5632, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Kernel4.lean ====
abbrev S32768x1024 : Shape := ⟨2, ![32768, 1024]⟩
abbrev S32768x9984 : Shape := ⟨2, ![32768, 9984]⟩
abbrev S32768x2048 : Shape := ⟨2, ![32768, 2048]⟩
abbrev S1024x2048 : Shape := ⟨2, ![1024, 2048]⟩
abbrev S2048x2048 : Shape := ⟨2, ![2048, 2048]⟩
abbrev S2048 : Shape := ⟨1, ![2048]⟩
abbrev S2048x512 : Shape := ⟨2, ![2048, 512]⟩
abbrev S16x256x512 : Shape := ⟨3, ![16, 256, 512]⟩
abbrev S512x2048 : Shape := ⟨2, ![512, 2048]⟩
abbrev S1x2048 : Shape := ⟨2, ![1, 2048]⟩
abbrev S256x1024 : Shape := ⟨2, ![256, 1024]⟩
abbrev S256x2048 : Shape := ⟨2, ![256, 2048]⟩
abbrev S1x256x512 : Shape := ⟨3, ![1, 256, 512]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩

abbrev nBuf : Space → Nat
  | .hbm => 19
  | .vmem => 22
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x9984, .f32⟩
  | .hbm, ⟨3, _⟩ => ⟨S32768x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x512, .f32⟩
  | .hbm, ⟨9, _⟩ => ⟨S16x256x512, .bf16⟩
  | .hbm, ⟨10, _⟩ => ⟨S16x256x512, .bf16⟩
  | .hbm, ⟨11, _⟩ => ⟨S512x2048, .f32⟩
  | .hbm, ⟨12, _⟩ => ⟨S1024x2048, .bf16⟩
  | .hbm, ⟨13, _⟩ => ⟨S1024x2048, .bf16⟩
  | .hbm, ⟨14, _⟩ => ⟨S2048x2048, .bf16⟩
  | .hbm, ⟨15, _⟩ => ⟨S1x2048, .f32⟩
  | .hbm, ⟨16, _⟩ => ⟨S2048x512, .bf16⟩
  | .hbm, ⟨17, _⟩ => ⟨S512x2048, .bf16⟩
  | .hbm, ⟨18, _⟩ => ⟨S32768x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S2048x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S512x2048, .bf16⟩
  | .local _ .vmem, ⟨20, _⟩ => ⟨S256x2048, .f32⟩
  | .local _ .vmem, ⟨21, _⟩ => ⟨S256x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S32768x1024 : Shape := ⟨2, ![32768, 1024]⟩
abbrev S32768x9984 : Shape := ⟨2, ![32768, 9984]⟩
abbrev S32768x2048 : Shape := ⟨2, ![32768, 2048]⟩
abbrev S1024x2048 : Shape := ⟨2, ![1024, 2048]⟩
abbrev S2048x2048 : Shape := ⟨2, ![2048, 2048]⟩
abbrev S2048 : Shape := ⟨1, ![2048]⟩
abbrev S2048x512 : Shape := ⟨2, ![2048, 512]⟩
abbrev S16x256x512 : Shape := ⟨3, ![16, 256, 512]⟩
abbrev S512x2048 : Shape := ⟨2, ![512, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x512 : Shape := ⟨2, ![32768, 512]⟩
abbrev S16x2048x4x128 : Shape := ⟨4, ![16, 2048, 4, 128]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x9984, .f32⟩
  | .hbm, ⟨3, _⟩ => ⟨S32768x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x512, .f32⟩
  | .hbm, ⟨9, _⟩ => ⟨S16x256x512, .bf16⟩
  | .hbm, ⟨10, _⟩ => ⟨S16x256x512, .bf16⟩
  | .hbm, ⟨11, _⟩ => ⟨S512x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x1024, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S32768x1024, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | .hbm, ⟨55, _⟩ => ⟨S32768x512, .f32⟩
  | .hbm, ⟨56, _⟩ => ⟨S16x2048x4x128, .f32⟩
  | .hbm, ⟨57, _⟩ => ⟨S16x256x512, .f32⟩
  | .hbm, ⟨58, _⟩ => ⟨S16x256x4x128, .f32⟩
  | .hbm, ⟨59, _⟩ => ⟨S16x256x512, .f32⟩
  | .hbm, ⟨60, _⟩ => ⟨S16x256x4x128, .f32⟩
  | .hbm, ⟨61, _⟩ => ⟨S16x4x2048x256, .f32⟩
  | .hbm, ⟨62, _⟩ => ⟨S_, .f32⟩
  | .hbm, ⟨63, _⟩ => ⟨S16x4x2048x256, .f32⟩
  | .hbm, ⟨64, _⟩ => ⟨S16x4x2048x256, .f32⟩
  | .hbm, ⟨65, _⟩ => ⟨S_, .f32⟩
  | .hbm, ⟨66, _⟩ => ⟨S16x4x2048, .f32⟩
  | .hbm, ⟨67, _⟩ => ⟨S_, .f32⟩
  | .hbm, ⟨68, _⟩ => ⟨S16x4x2048, .f32⟩
  | .hbm, ⟨69, _⟩ => ⟨S16x4x2048, .f32⟩
  | .hbm, ⟨70, _⟩ => ⟨S16x4x2048x1, .f32⟩
  | .hbm, ⟨71, _⟩ => ⟨S16x4x2048x256, .f32⟩
  | .hbm, ⟨72, _⟩ => ⟨S16x4x2048x256, .f32⟩
  | .hbm, ⟨73, _⟩ => ⟨S16x4x2048x256, .f32⟩
  | .hbm, ⟨74, _⟩ => ⟨S_, .f32⟩
  | .hbm, ⟨75, _⟩ => ⟨S16x4x2048, .f32⟩
  | .hbm, ⟨76, _⟩ => ⟨S16x4x2048x1, .f32⟩
  | .hbm, ⟨77, _⟩ => ⟨S16x4x2048x256, .f32⟩
  | .hbm, ⟨78, _⟩ => ⟨S16x4x2048x256, .f32⟩
  | .hbm, ⟨79, _⟩ => ⟨S16x4x128x2048, .f32⟩
  | .hbm, ⟨80, _⟩ => ⟨S16x2048x4x128, .f32⟩
  | .hbm, ⟨81, _⟩ => ⟨S32768x512, .f32⟩
  | .hbm, ⟨82, _⟩ => ⟨S32768x2048, .f32⟩
  | .hbm, ⟨83, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Kernel5.lean ====
abbrev S128x2048 : Shape := ⟨2, ![128, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S2048x512 : Shape := ⟨2, ![2048, 512]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩
abbrev S2048x256 : Shape := ⟨2, ![2048, 256]⟩
abbrev S128x256 : Shape := ⟨2, ![128, 256]⟩
abbrev S256x2048 : Shape := ⟨2, ![256, 2048]⟩

abbrev nBuf : Space → Nat
  | .hbm => 12
  | .vmem => 11
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S128x2048, .f32⟩
  | .local _ .vmem, ⟨10, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_23 : BitVec 32 := 0#32
  let c64_i32 : BitVec 32 := 64#32
  let v38 : BitVec 32 := Scalar.muli c0_i32_23 c64_i32
  v38
def k0_off1 (c0_i32_23 : BitVec 32) : Fin 2 → Nat :=
  let c64_i32 : BitVec 32 := 64#32
  let v38 : BitVec 32 := Scalar.muli c0_i32_23 c64_i32
  let v39 : BitVec 32 := v38
  let v40 : Index := Scalar.indexCast v39
  let c0_24 : Index := 0#32
  ![v40.toNat, 0]
def k0_mult2 : BitVec 32 :=
  let c1_i32 : BitVec 32 := 1#32
  let c64_i32_33 : BitVec 32 := 64#32
  let v64 : BitVec 32 := Scalar.muli c1_i32 c64_i32_33
  v64
def k0_cond2 (i : grid0.Coords) : BitVec 1 :=
  let arg1 : BitVec 32 := BitVec.ofNat 32 (i 1).val
  let c10_i32 : BitVec 32 := 10#32
  let v35 : BitVec 1 := Scalar.cmpi .eq arg1 c10_i32
  let v36 : BitVec 32 := Scalar.extui v35
  let c0_i32_22 : BitVec 32 := 0#32
  let v37 : BitVec 1 := Scalar.cmpi .ne v36 c0_i32_22
  v37

def k0_mult3 : BitVec 32 :=
  let c0_i32_23 : BitVec 32 := 0#32
  let c64_i32 : BitVec 32 := 64#32
  let v38 : BitVec 32 := Scalar.muli c0_i32_23 c64_i32
  v38
def k0_off2 (c0_i32_23 : BitVec 32) : Fin 2 → Nat :=
  let c64_i32 : BitVec 32 := 64#32
  let v38 : BitVec 32 := Scalar.muli c0_i32_23 c64_i32
  let v39 : BitVec 32 := v38
  let v40 : Index := Scalar.indexCast v39
  let c0_24 : Index := 0#32
  ![v40.toNat, 0]
def k0_mult4 : BitVec 32 :=
  let c1_i32 : BitVec 32 := 1#32
  let c64_i32_33 : BitVec 32 := 64#32
  let v64 : BitVec 32 := Scalar.muli c1_i32 c64_i32_33
  v64
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference5Ideal.lean ====
abbrev S128x2048 : Shape := ⟨2, ![128, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x5632 : Shape := ⟨2, ![128, 5632]⟩

abbrev nBuf : Space → Nat
  | .hbm => 55
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S128x2048, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x2048, .f32⟩
  | .hbm, ⟨18, _⟩ => ⟨S128x2048, .f32⟩
  | .hbm, ⟨19, _⟩ => ⟨S1x2048, .f32⟩
  | .hbm, ⟨20, _⟩ => ⟨S128x2048, .f32⟩
  | .hbm, ⟨21, _⟩ => ⟨S128x2048, .f32⟩
  | .hbm, ⟨22, _⟩ => ⟨S128x5632, .f32⟩
  | .hbm, ⟨23, _⟩ => ⟨S128x5632, .f32⟩
  | .hbm, ⟨24, _⟩ => ⟨S128x5632, .f32⟩
  | .hbm, ⟨25, _⟩ => ⟨S_, .f32⟩
  | .hbm, ⟨26, _⟩ => ⟨S128x5632, .f32⟩
  | .hbm, ⟨27, _⟩ => ⟨S128x5632, .f32⟩
  | .hbm, ⟨28, _⟩ => ⟨S_, .f32⟩
  | .hbm, ⟨29, _⟩ => ⟨S128x5632, .f32⟩
  | .hbm, ⟨30, _⟩ => ⟨S128x5632, .f32⟩
  | .hbm, ⟨31, _⟩ => ⟨S128x5632, .f32⟩
  | .hbm, ⟨32, _⟩ => ⟨S128x5632, .f32⟩
  | .hbm, ⟨33, _⟩ => ⟨S128x5632, .f32⟩
  | .hbm, ⟨34, _⟩ => ⟨S128x2048, .f32⟩
  | .hbm, ⟨35, _⟩ => ⟨S_, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S128x2048, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x2048, .f32⟩
  | .hbm, ⟨51, _⟩ => ⟨S128x2048, .f32⟩
  | .hbm, ⟨52, _⟩ => ⟨S1x2048, .f32⟩
  | .hbm, ⟨53, _⟩ => ⟨S128x2048, .f32⟩
  | .hbm, ⟨54, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel6.lean ====
abbrev S16x256x2048 : Shape := ⟨3, ![16, 256, 2048]⟩
abbrev S2048 : Shape := ⟨1, ![2048]⟩
abbrev S2048x512 : Shape := ⟨2, ![2048, 512]⟩
abbrev S4096x2048 : Shape := ⟨2, ![4096, 2048]⟩
abbrev S1x2048 : Shape := ⟨2, ![1, 2048]⟩
abbrev S16384x128 : Shape := ⟨2, ![16384, 128]⟩
abbrev S4096x512 : Shape := ⟨2, ![4096, 512]⟩
abbrev S1024x2048 : Shape := ⟨2, ![1024, 2048]⟩
abbrev S4096x128 : Shape := ⟨2, ![4096, 128]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩

abbrev nBuf : Space → Nat
  | .hbm => 12
  | .vmem => 13
  | .smem => 0
  | _ => 0

abbrev bufTy : (tb : Table) → Fin (tcTables nBuf tb) → BufTy
  | .hbm, ⟨0, _⟩ => ⟨S16x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S4096x2048, .f32⟩
  | .hbm, ⟨5, _⟩ => ⟨S1x2048, .f32⟩
  | .hbm, ⟨6, _⟩ => ⟨S2048x512, .bf16⟩
  | .hbm, ⟨7, _⟩ => ⟨S2048x512, .bf16⟩
  | .hbm, ⟨8, _⟩ => ⟨S16384x128, .f32⟩
  | .hbm, ⟨9, _⟩ => ⟨S16384x128, .f32⟩
  | .hbm, ⟨10, _⟩ => ⟨S4096x512, .bf16⟩
  | .hbm, ⟨11, _⟩ => ⟨S4096x512, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16x256x2048 : Shape := ⟨3, ![16, 256, 2048]⟩
abbrev S2048 : Shape := ⟨1, ![2048]⟩
abbrev S2048x512 : Shape := ⟨2, ![2048, 512]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x512 : Shape := ⟨2, ![4096, 512]⟩
abbrev S16384x128 : Shape := ⟨2, ![16384, 128]⟩

abbrev nBuf : Space → Nat
  | .hbm => 27
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x512, .f32⟩
  | .hbm, ⟨22, _⟩ => ⟨S4096x512, .f32⟩
  | .hbm, ⟨23, _⟩ => ⟨S16384x128, .f32⟩
  | .hbm, ⟨24, _⟩ => ⟨S16384x128, .f32⟩
  | .hbm, ⟨25, _⟩ => ⟨S4096x512, .bf16⟩
  | .hbm, ⟨26, _⟩ => ⟨S4096x512, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel7.lean ====
abbrev S128x2048 : Shape := ⟨2, ![128, 2048]⟩
abbrev S1x2048 : Shape := ⟨2, ![1, 2048]⟩
abbrev S9984x2048 : Shape := ⟨2, ![9984, 2048]⟩
abbrev S128x3x3072 : Shape := ⟨3, ![128, 3, 3072]⟩
abbrev S128x9984 : Shape := ⟨2, ![128, 9984]⟩
abbrev S768x2048 : Shape := ⟨2, ![768, 2048]⟩
abbrev S128x768 : Shape := ⟨2, ![128, 768]⟩
abbrev S128 : Shape := ⟨1, ![128]⟩
abbrev S128x1 : Shape := ⟨2, ![128, 1]⟩
abbrev S128x1x9984 : Shape := ⟨3, ![128, 1, 9984]⟩
abbrev S128x2x3072 : Shape := ⟨3, ![128, 2, 3072]⟩
abbrev S128x1x3072 : Shape := ⟨3, ![128, 1, 3072]⟩

abbrev nBuf : Space → Nat
  | .hbm => 9
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S9984x2048, .bf16⟩
  | .hbm, ⟨3, _⟩ => ⟨S128x3x3072, .f32⟩
  | .hbm, ⟨4, _⟩ => ⟨S128x9984, .f32⟩
  | .hbm, ⟨5, _⟩ => ⟨S128x1x9984, .f32⟩
  | .hbm, ⟨6, _⟩ => ⟨S128x2x3072, .f32⟩
  | .hbm, ⟨7, _⟩ => ⟨S128x1x3072, .f32⟩
  | .hbm, ⟨8, _⟩ => ⟨S128x3x3072, .f32⟩
  | .local _ .vmem, ⟨0, _⟩ => ⟨S128x2048, .f32⟩
  | .local _ .vmem, ⟨1, _⟩ => ⟨S1x2048, .f32⟩
  | .local _ .vmem, ⟨2, _⟩ => ⟨S768x2048, .bf16⟩
  | .local _ .vmem, ⟨3, _⟩ => ⟨S768x2048, .bf16⟩
  | .local _ .vmem, ⟨4, _⟩ => ⟨S128x768, .f32⟩
  | .local _ .vmem, ⟨5, _⟩ => ⟨S128x768, .f32⟩
  | .local _ .vmem, ⟨6, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S128x2048 : Shape := ⟨2, ![128, 2048]⟩
abbrev S1x2048 : Shape := ⟨2, ![1, 2048]⟩
abbrev S9984x2048 : Shape := ⟨2, ![9984, 2048]⟩
abbrev S128x3x3072 : Shape := ⟨3, ![128, 3, 3072]⟩
abbrev S_ : Shape := ⟨0, ![]⟩
abbrev S128 : Shape := ⟨1, ![128]⟩
abbrev S128x1 : Shape := ⟨2, ![128, 1]⟩
abbrev S128x9984 : Shape := ⟨2, ![128, 9984]⟩
abbrev S128x2x3072 : Shape := ⟨3, ![128, 2, 3072]⟩
abbrev S128x3072 : Shape := ⟨2, ![128, 3072]⟩
abbrev S128x1x3072 : Shape := ⟨3, ![128, 1, 3072]⟩

abbrev nBuf : Space → Nat
  | .hbm => 25
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S9984x2048, .bf16⟩
  | .hbm, ⟨3, _⟩ => ⟨S128x3x3072, .f32⟩
  | .hbm, ⟨4, _⟩ => ⟨S128x2048, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x2048, .f32⟩
  | .hbm, ⟨16, _⟩ => ⟨S128x2048, .f32⟩
  | .hbm, ⟨17, _⟩ => ⟨S128x2048, .f32⟩
  | .hbm, ⟨18, _⟩ => ⟨S128x2048, .f32⟩
  | .hbm, ⟨19, _⟩ => ⟨S9984x2048, .f32⟩
  | .hbm, ⟨20, _⟩ => ⟨S128x9984, .f32⟩
  | .hbm, ⟨21, _⟩ => ⟨S128x2x3072, .f32⟩
  | .hbm, ⟨22, _⟩ => ⟨S128x3072, .f32⟩
  | .hbm, ⟨23, _⟩ => ⟨S128x1x3072, .f32⟩
  | .hbm, ⟨24, _⟩ => ⟨S128x3x3072, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel8.lean ====
abbrev S128x9984 : Shape := ⟨2, ![128, 9984]⟩
abbrev S128x128x4x64 : Shape := ⟨4, ![128, 128, 4, 64]⟩
abbrev S1x32 : Shape := ⟨2, ![1, 32]⟩
abbrev S16 : Shape := ⟨1, ![16]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S4x4 : Shape := ⟨2, ![4, 4]⟩
abbrev S_ : Shape := ⟨0, ![]⟩
abbrev S128x1x9984 : Shape := ⟨3, ![128, 1, 9984]⟩
abbrev S128x1024 : Shape := ⟨2, ![128, 1024]⟩
abbrev S128x4x4x1x64 : Shape := ⟨5, ![128, 4, 4, 1, 64]⟩
abbrev S1x4x1x4x1 : Shape := ⟨5, ![1, 4, 1, 4, 1]⟩
abbrev S128x4x4x4x64 : Shape := ⟨5, ![128, 4, 4, 4, 64]⟩
abbrev S128x16x256 : Shape := ⟨3, ![128, 16, 256]⟩
abbrev S128x128x256 : Shape := ⟨3, ![128, 128, 256]⟩
abbrev S128x256x128 : Shape := ⟨3, ![128, 256, 128]⟩
abbrev S16x1 : Shape := ⟨2, ![16, 1]⟩
abbrev S8x16x256 : Shape := ⟨3, ![8, 16, 256]⟩
abbrev S8x1x512 : Shape := ⟨3, ![8, 1, 512]⟩
abbrev S8x256x128 : Shape := ⟨3, ![8, 256, 128]⟩
abbrev S128x256 : Shape := ⟨2, ![128, 256]⟩
abbrev S1x1x512 : Shape := ⟨3, ![1, 1, 512]⟩
abbrev S1x512 : Shape := ⟨2, ![1, 512]⟩
abbrev S1x256x128 : Shape := ⟨3, ![1, 256, 128]⟩
abbrev S256x128 : Shape := ⟨2, ![256, 128]⟩
abbrev S1x16x256 : Shape := ⟨3, ![1, 16, 256]⟩
abbrev S16x256 : Shape := ⟨2, ![16, 256]⟩
abbrev S16x128 : Shape := ⟨2, ![16, 128]⟩

abbrev nBuf : Space → Nat
  | .hbm => 42
  | .vmem => 17
  | .smem => 0
  | _ => 0

abbrev bufTy : (tb : Table) → Fin (tcTables nBuf tb) → BufTy
  | .hbm, ⟨0, _⟩ => ⟨S128x9984, .f32⟩
  | .hbm, ⟨1, _⟩ => ⟨S128x128x4x64, .f32⟩
  | .hbm, ⟨2, _⟩ => ⟨S128x128x4x64, .f32⟩
  | .hbm, ⟨3, _⟩ => ⟨S1x32, .f32⟩
  | .hbm, ⟨4, _⟩ => ⟨S1x32, .f32⟩
  | .hbm, ⟨5, _⟩ => ⟨S16, .f32⟩
  | .hbm, ⟨6, _⟩ => ⟨S1x64, .f32⟩
  | .hbm, ⟨7, _⟩ => ⟨S1x1x1x64, .f32⟩
  | .hbm, ⟨8, _⟩ => ⟨S1x1x4x64, .f32⟩
  | .hbm, ⟨9, _⟩ => ⟨S1x256, .f32⟩
  | .hbm, ⟨10, _⟩ => ⟨S1x32, .f32⟩
  | .hbm, ⟨11, _⟩ => ⟨S1x64, .f32⟩
  | .hbm, ⟨12, _⟩ => ⟨S1x1x1x64, .f32⟩
  | .hbm, ⟨13, _⟩ => ⟨S1x1x4x64, .f32⟩
  | .hbm, ⟨14, _⟩ => ⟨S1x256, .f32⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S4x4, .f32⟩
  | .hbm, ⟨22, _⟩ => ⟨S128x1x9984, .f32⟩
  | .hbm, ⟨23, _⟩ => ⟨S128x1024, .f32⟩
  | .hbm, ⟨24, _⟩ => ⟨S128x4x4x1x64, .f32⟩
  | .hbm, ⟨25, _⟩ => ⟨S1x4x1x4x1, .f32⟩
  | .hbm, ⟨26, _⟩ => ⟨S128x4x4x4x64, .f32⟩
  | .hbm, ⟨27, _⟩ => ⟨S128x4x4x4x64, .f32⟩
  | .hbm, ⟨28, _⟩ => ⟨S128x4x4x4x64, .f32⟩
  | .hbm, ⟨29, _⟩ => ⟨S128x16x256, .f32⟩
  | .hbm, ⟨30, _⟩ => ⟨S128x128x256, .f32⟩
  | .hbm, ⟨31, _⟩ => ⟨S128x256x128, .f32⟩
  | .hbm, ⟨32, _⟩ => ⟨S128x128x256, .f32⟩
  | .hbm, ⟨33, _⟩ => ⟨S128x256x128, .f32⟩
  | .hbm, ⟨34, _⟩ => ⟨S16x1, .f32⟩
  | .hbm, ⟨35, _⟩ => ⟨S128x16x256, .f32⟩
  | .hbm, ⟨36, _⟩ => ⟨S128x256x128, .f32⟩
  | .hbm, ⟨37, _⟩ => ⟨S128x256x128, .f32⟩
  | .hbm, ⟨38, _⟩ => ⟨S128x128x256, .f32⟩
  | .hbm, ⟨39, _⟩ => ⟨S128x128x4x64, .f32⟩
  | .hbm, ⟨40, _⟩ => ⟨S128x128x256, .f32⟩
  | .hbm, ⟨41, _⟩ => ⟨S128x128x4x64, .f32⟩
  | .local _ .vmem, ⟨0, _⟩ => ⟨S8x16x256, .f32⟩
  | .local _ .vmem, ⟨1, _⟩ => ⟨S8x16x256, .f32⟩
  | .local _ .vmem, ⟨2, _⟩ => ⟨S8x1x512, .f32⟩
  | .local _ .vmem, ⟨3, _⟩ => ⟨S8x1x512, .f32⟩
  | .local _ .vmem, ⟨4, _⟩ => ⟨S8x256x128, .f32⟩
  | .local _ .vmem, ⟨5, _⟩ => ⟨S8x256x128, .f32⟩
  | .local _ .vmem, ⟨6, _⟩ => ⟨S8x256x128, .f32⟩
  | .local _ .vmem, ⟨7, _⟩ => ⟨S8x256x128, .f32⟩
  | .local _ .vmem, ⟨8, _⟩ => ⟨S1x256, .f32⟩
  | .local _ .vmem, ⟨9, _⟩ => ⟨S1x256, .f32⟩
  | .local _ .vmem, ⟨10, _⟩ => ⟨S16x1, .f32⟩
  | .local _ .vmem, ⟨11, _⟩ => ⟨S8x16x256, .f32⟩
  | .local _ .vmem, ⟨12, _⟩ => ⟨S8x16x256, .f32⟩
  | .local _ .vmem, ⟨13, _⟩ => ⟨S8x256x128, .f32⟩
  | .local _ .vmem, ⟨14, _⟩ => ⟨S8x256x128, .f32⟩
  | .local _ .vmem, ⟨15, _⟩ => ⟨S8x256x128, .f32⟩
  | .local _ .vmem, ⟨16, _⟩ => ⟨S8x256x128, .f32⟩
  | _, _ => ⟨S128x9984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c18_i32 : BitVec 32 := 18#32
  let c0_i32_0 : BitVec 32 := 0#32
  ![arg0.toNat, c0_i32.toNat, c18_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S128x9984 : Shape := ⟨2, ![128, 9984]⟩
abbrev S128x128x4x64 : Shape := ⟨4, ![128, 128, 4, 64]⟩
abbrev S1x32 : Shape := ⟨2, ![1, 32]⟩
abbrev S16 : Shape := ⟨1, ![16]⟩
abbrev S128x256 : Shape := ⟨2, ![128, 256]⟩
abbrev S128x1x4x64 : Shape := ⟨4, ![128, 1, 4, 64]⟩
abbrev S128x1x4x32 : Shape := ⟨4, ![128, 1, 4, 32]⟩
abbrev S1x1x1x32 : Shape := ⟨4, ![1, 1, 1, 32]⟩
abbrev S128x127x4x64 : Shape := ⟨4, ![128, 127, 4, 64]⟩

abbrev nBuf : Space → Nat
  | .hbm => 29
  | .vmem => 0
  | .smem => 0
  | _ => 0

abbrev bufTy : (tb : Table) → Fin (tcTables nBuf tb) → BufTy
  | .hbm, ⟨0, _⟩ => ⟨S128x9984, .f32⟩
  | .hbm, ⟨1, _⟩ => ⟨S128x128x4x64, .f32⟩
  | .hbm, ⟨2, _⟩ => ⟨S128x128x4x64, .f32⟩
  | .hbm, ⟨3, _⟩ => ⟨S1x32, .f32⟩
  | .hbm, ⟨4, _⟩ => ⟨S1x32, .f32⟩
  | .hbm, ⟨5, _⟩ => ⟨S16, .f32⟩
  | .hbm, ⟨6, _⟩ => ⟨S128x256, .f32⟩
  | .hbm, ⟨7, _⟩ => ⟨S128x1x4x64, .f32⟩
  | .hbm, ⟨8, _⟩ => ⟨S128x256, .f32⟩
  | .hbm, ⟨9, _⟩ => ⟨S128x1x4x64, .f32⟩
  | .hbm, ⟨10, _⟩ => ⟨S128x1x4x32, .f32⟩
  | .hbm, ⟨11, _⟩ => ⟨S128x1x4x32, .f32⟩
  | .hbm, ⟨12, _⟩ => ⟨S1x1x1x32, .f32⟩
  | .hbm, ⟨13, _⟩ => ⟨S1x1x1x32, .f32⟩
  | .hbm, ⟨14, _⟩ => ⟨S128x1x4x32, .f32⟩
  | .hbm, ⟨15, _⟩ => ⟨S128x1x4x32, .f32⟩
  | .hbm, ⟨16, _⟩ => ⟨S128x1x4x32, .f32⟩
  | .hbm, ⟨17, _⟩ => ⟨S128x1x4x32, .f32⟩
  | .hbm, ⟨18, _⟩ => ⟨S128x1x4x32, .f32⟩
  | .hbm, ⟨19, _⟩ => ⟨S128x1x4x32, .f32⟩
  | .hbm, ⟨20, _⟩ => ⟨S128x1x4x32, .f32⟩
  | .hbm, ⟨21, _⟩ => ⟨S128x1x4x32, .f32⟩
  | .hbm, ⟨22, _⟩ => ⟨S128x1x4x32, .f32⟩
  | .hbm, ⟨23, _⟩ => ⟨S128x1x4x32, .f32⟩
  | .hbm, ⟨24, _⟩ => ⟨S128x1x4x64, .f32⟩
  | .hbm, ⟨25, _⟩ => ⟨S128x127x4x64, .f32⟩
  | .hbm, ⟨26, _⟩ => ⟨S128x128x4x64, .f32⟩
  | .hbm, ⟨27, _⟩ => ⟨S128x127x4x64, .f32⟩
  | .hbm, ⟨28, _⟩ => ⟨S128x128x4x64, .f32⟩
  | _, _ => ⟨S128x9984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.KI.Words.lean ====
/-
  The words the pipelined loop carries, in closed form. Trip `t` of the 416 works on the grid step `(t / 13, t % 13)`: row
  block `t / 13` of the activations against block `t % 13` of the weight's rows. Everything the loop carries is a count or
  a grid index determined by `t`; the theorems read the kernel's own index arithmetic (conditions, checks, offsets) at
  those closed forms.
-/
module

public import proofs.«01_k».proof.Proof.Gen.KernelIdeal.Loops

@[expose] public section

namespace Cert.Proof.KI

open Cert.KernelIdeal Cert.KernelIdeal.Gen
open Idealize.ShloMosaic

/-- A count as a 32-bit word. -/
abbrev w (n : ℕ) : BitVec 32 := BitVec.ofNat 32 n

/-- Which of the two slots of a ring serves count `n`. -/
def sl (n : ℕ) : Fin 2 := ⟨n % 2, Nat.mod_lt _ (by decide)⟩

/-- How many row blocks have been requested before trip `t`. -/
def a6 (t : ℕ) : ℕ := if t % 13 = 0 then t / 13 + 1 else min (t / 13 + 2) 32
/-- The lookahead's grid row before trip `t`. -/
def a8 (t : ℕ) : ℕ := if t % 13 = 0 then min (t / 13) 31 else min (t / 13 + 1) 31
/-- The lookahead's grid column before trip `t`. -/
def a9 (t : ℕ) : ℕ := if t % 13 = 0 then (if t = 416 then 12 else 0) else if t / 13 = 31 then 12 else 0
/-- What the loop carries before trip `t`. -/
def carried (t : ℕ) : BitVec 32 × BitVec 32 × BitVec 32 × BitVec 32 × BitVec 32 × BitVec 32 × BitVec 32 × BitVec 32 × BitVec 32 × BitVec 32 × BitVec 32 :=
  (w (if t = 416 then 32 else a6 t), w (t / 13), w (a8 t), w (a9 t), w (if t = 416 then 1 else 0), w (min (t + 1) 416), w t, w t, w (t - 1),
    w (if t = 416 then 0 else t / 13), w (t % 13))

theorem trips_eq : k0_t1_loop.trips = 416 := by decide +kernel

/-! ### The conditions -/

theorem cond2_eq : ∀ k : Fin k0_t1_loop.trips, k0_cond2 k (w (k % 13)) = if k.val = 415 then 0#1 else 1#1 := by decide +kernel
theorem cond3_eq : ∀ k : Fin k0_t1_loop.trips, k0_cond3 k (w (k / 13)) (w (k % 13)) = if k.val % 13 = 0 then 1#1 else 0#1 := by decide +kernel
theorem cond4_eq : ∀ k : Fin k0_t1_loop.trips, k0_cond4 k (w (k % 13)) = 1#1 := by decide +kernel
theorem cond6_eq : ∀ k : Fin k0_t1_loop.trips, k0_cond6 (w (k % 13)) = if k.val % 13 = 0 then 1#1 else 0#1 := by decide +kernel
theorem cond9_eq : ∀ k : Fin k0_t1_loop.trips, k0_cond9 k (w (k / 13)) (w (k % 13)) = 1#1 := by decide +kernel
theorem cond12_eq : ∀ k : Fin k0_t1_loop.trips, k0_cond12 k (w (k / 13)) (w (k % 13)) = if k.val = 0 then 0#1 else 1#1 := by decide +kernel

/-! ### The checks -/

theorem chk5_of : ∀ k : Fin k0_t1_loop.trips, k0_chk5 (w k) := by decide +kernel
theorem chk4_of : ∀ k : Fin k0_t1_loop.trips, k0_chk4 (w k) := by decide +kernel
theorem chk7_of : k0_chk7 (w 0) (w 0) := by decide +kernel
theorem chk6_of : k0_chk6 (w 415) := by decide +kernel

theorem chk3_of : ∀ k : Fin k0_t1_loop.trips, k0_chk3 k (w (k / 13)) (w (min (k + 1) 416)) (w k) (w k) (w (k - 1)) (w (k / 13)) (w (k % 13)) := by
  decide +kernel

/-! ### The offsets -/

theorem off8_eq : ∀ k : Fin k0_t1_loop.trips, k0_off8 (w (min (k + 1) 416)) = ![(sl (min (k + 1) 416)).val] := by decide +kernel
theorem off9_eq : ∀ k : Fin k0_t1_loop.trips, k0_off9 (w (min (k + 1) 416)) = ![(sl (min (k + 1) 416)).val, 0, 0] := by decide +kernel
theorem off10_eq : ∀ k : Fin k0_t1_loop.trips, k.val ≠ 415 → k0_off10 (w (k % 13)) = ![768 * ((k.val + 1) % 13), 0] := by decide +kernel
theorem off11_eq : ∀ k : Fin k0_t1_loop.trips, k0_off11 (w (k / 13)) = ![(sl (k / 13)).val] := by decide +kernel
theorem off12_eq : ∀ k : Fin k0_t1_loop.trips, k0_off12 (w (k / 13)) = ![(sl (k / 13)).val, 0, 0] := by decide +kernel
theorem off14_eq : ∀ k : Fin k0_t1_loop.trips, k0_off14 (w k) = ![(sl k).val] := by decide +kernel
theorem off15_eq : ∀ k : Fin k0_t1_loop.trips, k0_off15 (w k) = ![(sl k).val, 0, 0] := by decide +kernel
theorem off17_eq : ∀ k : Fin k0_t1_loop.trips, k0_off17 (w (k / 13)) = ![(sl (k / 13)).val, 0, 0] := by decide +kernel
theorem off18_eq : ∀ k : Fin k0_t1_loop.trips, k0_off18 (w k) = ![(sl k).val, 0, 0] := by decide +kernel
theorem off19_eq : ∀ k : Fin k0_t1_loop.trips, k0_off19 (w k) = ![(sl k).val, 0, 0] := by decide +kernel
theorem off20_eq : ∀ k : Fin k0_t1_loop.trips, k0_off20 (w k) = ![(sl k).val] := by decide +kernel
theorem off21_eq : ∀ k : Fin k0_t1_loop.trips, k0_off21 (w (k / 13)) (w (k % 13)) = ![1024 * (k.val / 13), 768 * (k.val % 13)] := by decide +kernel
theorem off22_eq : ∀ k : Fin k0_t1_loop.trips, k0_off22 (w k) = ![(sl k).val, 0, 0] := by decide +kernel
theorem off23_eq : ∀ k : Fin k0_t1_loop.trips, k.val ≠ 0 → k0_off23 (w (k - 1)) = ![(sl (k - 1)).val] := by decide +kernel
theorem off25_eq : ∀ k : Fin k0_t1_loop.trips, k.val ≠ 0 → k0_off25 (w (k - 1)) = ![(sl (k - 1)).val, 0, 0] := by decide +kernel
theorem off26_eq : k0_off26 (w 415) = ![(sl 415).val] := by decide +kernel

/-! ### The lookahead: counts before its `m`-th step in grid row `i` -/

theorem off5_eq : ∀ i : Fin 32, k0_off5 (w (i + 1)) = ![(sl (i + 1)).val] := by decide +kernel
theorem off6_eq : ∀ i : Fin 32, k0_off6 (w (i + 1)) = ![(sl (i + 1)).val, 0, 0] := by decide +kernel
theorem off7_eq : ∀ i : Fin 32, i.val + 1 < 32 → k0_off7 (w (i + 1)) = ![1024 * (i.val + 1), 0] := by decide +kernel

/-- The lookahead's test. -/
def wtest (lim v19 v20 v21 : BitVec 32) : BitVec 1 :=
  Scalar.andi (Scalar.andi 1#1 (Scalar.cmpi .ult v21 lim)) (Scalar.andi (Scalar.andi 1#1 (Scalar.cmpi .slt v19 32#32)) (Scalar.cmpi .slt v20 13#32))

/-- The column after column `j` of the grid, and the row it is in, as the kernel computes them. -/
def ncol (j : BitVec 32) : BitVec 32 :=
  Scalar.select (Scalar.cmpi .eq (Scalar.select 1#1 (Scalar.addi j 1#32) j) 13#32) 0#32 (Scalar.select 1#1 (Scalar.addi j 1#32) j)
@[inherit_doc ncol] def nrow (i j : BitVec 32) : BitVec 32 :=
  Scalar.select 0#1 0#32 (Scalar.select (Scalar.cmpi .eq (Scalar.select 1#1 (Scalar.addi j 1#32) j) 13#32) (Scalar.addi i 1#32) i)
/-- How many blocks the lookahead has requested after a step from row `i` to row `i'`. -/
def nreq (v21 i i' : BitVec 32) : BitVec 32 :=
  Scalar.addi v21 (Scalar.extui (Scalar.cmpi .ne (Scalar.addi i 0#32) (Scalar.addi i' 0#32)))

/-- Within the grid row the test passes; -/
theorem wtest_row : ∀ (i : Fin 32) (m : Fin 12), wtest (Scalar.addi (w i) 2#32) (w i) (w (m + 1)) (w (i + 1)) = 1#1 := by decide +kernel
/-- no block is due; -/
theorem wcond_row : ∀ i : Fin 32, k0_cond1 (w i) (w i) = 0#1 := by decide +kernel
/-- and the words move on. -/
theorem wstep_row : ∀ (i : Fin 32) (m : Fin 12),
    (ncol (w (m + 1)) = if m.val + 1 = 12 then w 0 else w (m + 2)) ∧ (nrow (w i) (w (m + 1)) = if m.val + 1 = 12 then w (i + 1) else w i)
      ∧ nreq (w (i + 1)) (w i) (w i) = w (i + 1) := by decide +kernel
/-- At the row's end the test passes unless it is the last row; -/
theorem wtest_end : ∀ i : Fin 32, wtest (Scalar.addi (w i) 2#32) (w (i + 1)) (w 0) (w (i + 1)) = if i.val = 31 then 0#1 else 1#1 := by decide +kernel
/-- the next row's block is due; -/
theorem wcond_end : ∀ i : Fin 32, k0_cond1 (w i) (w (i + 1)) = 1#1 := by decide +kernel
/-- the words move on, -/
theorem wstep_end : ∀ i : Fin 32, ncol (w 0) = w 1 ∧ nrow (w (i + 1)) (w 0) = w (i + 1) ∧ nreq (w (i + 1)) (w i) (w (i + 1)) = w (i + 2) := by decide +kernel
/-- and the request made is the last one. -/
theorem wtest_stop : ∀ i : Fin 32, wtest (Scalar.addi (w i) 2#32) (w (i + 1)) (w 1) (w (i + 2)) = 0#1 := by decide +kernel
/-- Away from a row's first trip the lookahead makes no step. -/
theorem wtest_idle : ∀ k : Fin k0_t1_loop.trips, k.val % 13 ≠ 0 →
    wtest (Scalar.addi (w (k / 13)) 2#32) (nrow (w (a8 k)) (w (a9 k))) (ncol (w (a9 k))) (w (a6 k)) = 0#1 := by decide +kernel
theorem wchk2_row : ∀ i : Fin 32, k0_chk2 (w i) (w i) := by decide +kernel
theorem wchk1_row : ∀ i : Fin 32, k0_chk1 (w i) (w i) (w (i + 1)) := by decide +kernel
theorem wchk2_end : ∀ i : Fin 32, i.val ≠ 31 → k0_chk2 (w i) (w (i + 1)) := by decide +kernel
theorem wchk1_end : ∀ i : Fin 32, i.val ≠ 31 → k0_chk1 (w i) (w (i + 1)) (w (i + 1)) := by decide +kernel

/-- The grid position before `(i, j)`, as the kernel computes it. -/
def prevJ (j : BitVec 32) : BitVec 32 :=
  Scalar.addi (Scalar.select (Scalar.cmpi .eq (Scalar.select 1#1 (Scalar.subi j 1#32) j) 4294967295#32) 12#32 (Scalar.select 1#1 (Scalar.subi j 1#32) j)) 0#32
@[inherit_doc prevJ] def prevI (i j : BitVec 32) : BitVec 32 :=
  let p := Scalar.select (Scalar.cmpi .eq (Scalar.select 1#1 (Scalar.subi j 1#32) j) 4294967295#32) (Scalar.subi i 1#32) i
  Scalar.addi (Scalar.select (Scalar.cmpi .eq p 4294967295#32) 31#32 p) 0#32
/-- The grid position after `(i, j)`, as the kernel computes it. -/
def nextJ (j : BitVec 32) : BitVec 32 := Scalar.addi (ncol j) 0#32
@[inherit_doc nextJ] def stepI (i j : BitVec 32) : BitVec 32 :=
  let n := Scalar.select (Scalar.cmpi .eq (Scalar.select 1#1 (Scalar.addi j 1#32) j) 13#32) (Scalar.addi i 1#32) i
  Scalar.select (Scalar.cmpi .eq n 32#32) 0#32 n
@[inherit_doc nextJ] def nextI (i j : BitVec 32) : BitVec 32 := Scalar.addi (stepI i j) 0#32

/-- What a trip at grid position `(i, j)` yields, from what the loop carries into it and what its lookahead returned. -/
def yielded (t7 t10 t11 t12 t13 t14 i j : BitVec 32) (first last : BitVec 1) (r0 r1 r4 iv : BitVec 32) :
    BitVec 32 × BitVec 32 × BitVec 32 × BitVec 32 × BitVec 32 × BitVec 32 × BitVec 32 × BitVec 32 × BitVec 32 × BitVec 32 × BitVec 32 :=
  let v98 := Scalar.addi i 0#32
  let v99 := Scalar.addi j 0#32
  (r4, Scalar.select (Scalar.ori (Scalar.cmpi .ne v98 (nextI i j)) last) (Scalar.addi t7 1#32) t7, r0, r1,
    Scalar.select (Scalar.ori 0#1 last) (Scalar.addi t10 1#32) t10,
    Scalar.select (Scalar.andi (Scalar.andi (Scalar.cmpi .ne v99 (nextJ j)) (Scalar.xori (Scalar.cmpi .sge iv 415#32) 1#1)) 1#1) (Scalar.addi t11 1#32) t11,
    Scalar.select (Scalar.ori (Scalar.cmpi .ne v99 (nextJ j)) last) (Scalar.addi t12 1#32) t12,
    Scalar.select (Scalar.andi (Scalar.ori (Scalar.ori (Scalar.cmpi .ne v98 (nextI i j)) (Scalar.cmpi .ne v99 (nextJ j))) last) 1#1) (Scalar.addi t13 1#32) t13,
    Scalar.select (Scalar.andi (Scalar.andi (Scalar.ori (Scalar.cmpi .ne v98 (prevI i j)) (Scalar.cmpi .ne v99 (prevJ j))) (Scalar.xori first 1#1)) 1#1) (Scalar.addi t14 1#32) t14,
    stepI i j, ncol j)

set_option synthInstance.maxSize 4096 in
set_option synthInstance.maxHeartbeats 400000 in
/-- A trip yields what the loop carries before the next. -/
theorem yielded_eq : ∀ k : Fin k0_t1_loop.trips,
    yielded (w (k / 13)) (w 0) (w (min (k + 1) 416)) (w k) (w k) (w (k - 1)) (w (k / 13)) (w (k % 13))
      (Scalar.cmpi .eq (Scf.iv 0#32 1#32 k) 0#32) (Scalar.cmpi .eq (Scf.iv 0#32 1#32 k) 415#32)
      (w (a8 (k + 1))) (w (a9 (k + 1))) (w (if k.val + 1 = 416 then 32 else a6 (k + 1))) (Scf.iv 0#32 1#32 k) = carried (k + 1) := by decide +kernel

set_option synthInstance.maxSize 4096 in
set_option synthInstance.maxHeartbeats 400000 in
/-- What the loop starts from. -/
theorem carried_zero : carried 0 = (Scalar.addi 0#32 1#32, 0#32, 0#32, 0#32, 0#32, Scalar.addi 0#32 1#32, 0#32, 0#32, 0#32, 0#32, 0#32) := by decide +kernel
theorem off1_eq : k0_off1 = ![(sl 0).val] := by decide +kernel
theorem off2_eq : k0_off2 = ![(sl 0).val, 0, 0] := by decide +kernel
theorem off3_eq : k0_off3 = ![1024 * 0, 0] := by decide +kernel
theorem off4_eq : k0_off4 = ![(sl 0).val, 0, 0] := by decide +kernel

end Cert.Proof.KI
-- ==== Proof.KI.Slot.lean ====
/-
  One slot of a double-buffered ring, and the transfers between it and an array in HBM: what the core holds of a slot that
  is free, of one whose transfer is in flight, and of one that has arrived, with the rule for issuing each transfer and the
  rule for waiting for it. Stated once for any slot of any ring: the activations' and the weight's rings fetch by `fetch_issue`
  and `fetch_wait`, the result's ring sends by `send_issue` and `send_wait`.
-/
module

public import proofs.«01_k».proof.Proof.KI.Words
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.ViewIndex
public import Idealize.ShloMosaic.Lib.Tactic

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra beside the counters that the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.nat

omit [FloatOps F] in
theorem entails_of_eq {P Q : sProp 𝕄} (e : P = Q) : P ⊢ Q := e ▸ .rfl

section Slot

variable (c : Dev nD) {s s' : Shape} {e : EltTy} (buf : Memref sig .tc .vmem s e) (r : Rect s) (hr : ∀ a, r.stride a = 1)
  (hq : r.shape.Squeezes s') (arr : Memref sig .tc .hbm s' e) (cell : DmaSems sig S_) (N : ℕ)

/-- The slot's elements, reading `v`. -/
def holds (v : r.shape.Idx → Elt F e) : sProp 𝕄 :=
  iprop(∃ f : Buf (Elt F) ((buf.access r).loc (c : Thread nD τ)), ⌜(buf.access r).read (Elt F) f = v⌝
    ∗ (buf.access r).loc (c : Thread nD τ) ↦[(buf.access r).set]{fullShare} f)
/-- The slot's elements, at anything. -/
def slotAny : sProp 𝕄 :=
  iprop(∃ f : Buf (Elt F) ((buf.access r).loc (c : Thread nD τ)), (buf.access r).loc (c : Thread nD τ) ↦[(buf.access r).set]{fullShare} f)
/-- The cell's counter at zero. -/
def cellZ : sProp 𝕄 := semVal ((c : Thread nD τ), SemLoc.dma cell.sem) 0

/-- A block of an array as a slot reads it after the block's transfer. -/
def slotVal (x : s'.Idx → Elt F e) : r.shape.Idx → Elt F e := fun y => x ((Shape.reshapeEquiv hq.numel_eq).symm y)

theorem holds_any (v : r.shape.Idx → Elt F e) : holds c buf r v ⊢ (slotAny c buf r : sProp 𝕄) := by
  unfold holds slotAny
  iintro ⟨%f, -, H⟩
  iexists f; iexact H

variable (q : PosShare TreeShare) (XA : Buf (Elt F) (arr.view.loc (c : Thread nD τ)))

/-- An array held at a share. -/
def arrAt : sProp 𝕄 := arr.view.loc (c : Thread nD τ) ↦[Finset.univ]{q} XA
/-- A fetch in flight: at its wait it delivers the slot holding the block, and the block's share of the array back; the
    rest of that share is kept beside it. -/
def fetching : sProp 𝕄 :=
  iprop(Transfers.Flight countersEmb (c : Thread nD τ) (SemLoc.dma cell.sem) () N
      iprop(holds c buf r (slotVal r hq (arr.view.read (Elt F) XA)) ∗ arr.view.loc (c : Thread nD τ) ↦[arr.view.set]{q} XA)
    ∗ arr.view.loc (c : Thread nD τ) ↦[Finset.univ \ arr.view.set]{q} XA)

theorem fetch_issue {α : Type} {Q : α → sProp 𝕄} {bd : Option 𝒱₀.V} {hsrc : arr.view.WordExact} {hdst : ((buf.slice r hr).squeeze s' hq).view.WordExact}
    {hsem : DmaTarget.Typed (nD := nD) .hbm (SemLoc.dma cell.sem) (.here (p := (.tc : Proc τ)) ((buf.slice r hr).squeeze s' hq))}
    {k : PUnit → Prog (TpuEff nD τ sig (Elt F) (Λ₀ F) .tc) α}
    (hN : ((buf.slice r hr).squeeze s' hq).view.amount (SemLoc.dma cell.sem) = N) (hN0 : 0 < N) :
    iprop(slotAny c buf r ∗ cellZ c cell ∗ arrAt c arr q XA)
      ⊢ iprop((fetching c buf r hq arr cell N q XA -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma arr (.here (p := (.tc : Proc τ)) ((buf.slice r hr).squeeze s' hq)) (.dma cell.sem) hsrc hdst hsem) k) Q) := by
  unfold slotAny cellZ arrAt fetching
  iintro ⟨⟨%f, Hs⟩, Hc, Ha⟩ Hk
  ihave Ha' := (pointsTo_split_subset (Finset.subset_univ arr.view.set)).1 $$ Ha
  icases Ha' with ⟨Hb, Hrest⟩
  iapply (Transfers.wp_dmaLocal countersEmb 𝒱₀ (c : Thread nD τ) bd () N hN hN0
    (Sd := (buf.access r).set) (by rw [show ((buf.slice r hr).squeeze s' hq).view.set = (buf.access r).set from View.set_reshape (v := buf.access r) hq.numel_eq])) $$ [Hb Hs Hc]
  · isplitl [Hb]; · iexact Hb
    isplitl [Hs]; · iexact Hs
    iexact Hc
  iintro Hf
  iapply Hk
  isplitl [Hf]
  · iapply (Transfers.Flight_mono _ _ (D := _) ?_) $$ Hf
    iintro ⟨Hs, Hb⟩
    isplitl [Hs]
    · unfold holds
      iexists _
      isplitr
      rotate_left
      · iexact Hs
      · ipureintro
        exact (congrArg ((buf.access r).read (Elt F)) (View.write_reshape_univ (v := buf.access r) hq.numel_eq _ _)).trans (View.read_write_univ _ _)
    · iexact Hb
  · iexact Hrest

theorem fetch_wait {α : Type} {Q : α → sProp 𝕄} {bd : Option 𝒱₀.V} {sp₂ : Space} {s₂ : Shape} {e₂ : EltTy} {sp₃ : Space} {s₃ : Shape} {e₃ : EltTy} {srcw : Memref sig .tc sp₂ s₂ e₂} {dstw : Memref sig .tc sp₃ s₃ e₃}
    {hsrc : srcw.view.WordExact} {hdst : dstw.view.WordExact}
    {k : PUnit → Prog (TpuEff nD τ sig (Elt F) (Λ₀ F) .tc) α} (hN : dstw.view.dmaCredit = N) :
    iprop(fetching c buf r hq arr cell N q XA ∗ (∃ W, owes (c : Thread nD τ) 0 W))
      ⊢ iprop((iprop(holds c buf r (slotVal r hq (arr.view.read (Elt F) XA)) ∗ cellZ c cell ∗ arrAt c arr q XA ∗ (∃ W, owes (c : Thread nD τ) 0 W))
          -∗ wp frame (wpE (defs₀ (F := F)) 𝒱₀ (c : Thread nD τ) bd) Set.univ (k ⟨⟩) Q)
        -∗ wp frame (wpE (defs₀ (F := F)) 𝒱₀ (c : Thread nD τ) bd) Set.univ (.op (.waitDma2 cell.sem srcw dstw hsrc hdst) k) Q) := by
  unfold cellZ arrAt fetching
  iintro ⟨⟨Hf, Hrest⟩, ⟨%W, HW⟩⟩ Hk
  iapply (Transfers.wp_waitLocal countersEmb 𝒱₀ (c : Thread nD τ) bd () hN) $$ [Hf HW]
  · isplitl [Hf]; · iexact Hf
    iexact HW
  iintro ⟨⟨Hs, Hb⟩, Hc, HW⟩
  iapply Hk
  isplitl [Hs]; · iexact Hs
  isplitl [Hc]; · iexact Hc
  isplitl [Hb Hrest]
  · iapply (pointsTo_split_subset (Finset.subset_univ arr.view.set)).2
    isplitl [Hb]; · iexact Hb
    iexact Hrest
  iexists _; iexact HW

/-! ### Sending a slot to a block of the result -/

/-- A block of an array read as the slot's squeeze reads it. -/
def unslotVal (v : r.shape.Idx → Elt F e) : s'.Idx → Elt F e := fun y => v (Shape.reshapeEquiv hq.numel_eq y)

/-- A send in flight: at its wait it delivers the slot back and the block at the contents `G`. -/
def sending (G : Buf (Elt F) (arr.view.loc (c : Thread nD τ))) : sProp 𝕄 :=
  Transfers.Flight countersEmb (c : Thread nD τ) (SemLoc.dma cell.sem) () N
    iprop(slotAny c buf r ∗ arr.view.loc (c : Thread nD τ) ↦[arr.view.set]{fullShare} G)

theorem send_issue {α : Type} {Q : α → sProp 𝕄} {bd : Option 𝒱₀.V} (f₀ G : Buf (Elt F) (arr.view.loc (c : Thread nD τ))) (v : r.shape.Idx → Elt F e)
    (hG : arr.view.read (Elt F) G = unslotVal r hq v)
    {hsrc : ((buf.slice r hr).squeeze s' hq).view.WordExact} {hdst : arr.view.WordExact}
    {hsem : DmaTarget.Typed (nD := nD) .vmem (SemLoc.dma cell.sem) (.here (p := (.tc : Proc τ)) arr)}
    {k : PUnit → Prog (TpuEff nD τ sig (Elt F) (Λ₀ F) .tc) α}
    (hN : arr.view.amount (SemLoc.dma cell.sem) = N) (hN0 : 0 < N) :
    iprop(holds c buf r v ∗ cellZ c cell ∗ arr.view.loc (c : Thread nD τ) ↦[arr.view.set]{fullShare} f₀)
      ⊢ iprop((sending c buf r arr cell N G -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma ((buf.slice r hr).squeeze s' hq) (.here (p := (.tc : Proc τ)) arr) (.dma cell.sem) hsrc hdst hsem) k) Q) := by
  unfold holds cellZ sending
  iintro ⟨⟨%f, %hf, Hs⟩, Hc, Ha⟩ Hk
  have hset : ((buf.slice r hr).squeeze s' hq).view.set = (buf.access r).set := View.set_reshape (v := buf.access r) hq.numel_eq
  iapply (Transfers.wp_dmaLocal countersEmb 𝒱₀ (c : Thread nD τ) bd () N hN hN0
    (src := (buf.slice r hr).squeeze s' hq) (dst := arr) (q := fullShare) (fs := f) (Sd := arr.view.set) (Finset.Subset.refl _)) $$ [Ha Hs Hc]
  · isplitl [Hs]
    · rw [hset]; iexact Hs
    isplitl [Ha]; · iexact Ha
    iexact Hc
  iintro Hf
  iapply Hk
  iapply (Transfers.Flight_mono _ _ (D := _) ?_) $$ Hf
  iintro ⟨Ha, Hs⟩
  isplitl [Hs]
  · unfold slotAny
    iexists f
    rw [← hset]; iexact Hs
  · iapply (entails_of_eq (pointsTo_congr fun i hi => ?_)) $$ Ha
    obtain ⟨x, -, rfl⟩ := Finset.mem_map.mp hi
    refine View.eq_of_read_eq (v := arr.view) (Val := Elt F) ?_
    rw [View.read_write_univ, hG, ← hf]
    rfl

theorem send_wait {α : Type} {Q : α → sProp 𝕄} {bd : Option 𝒱₀.V} {sp₂ : Space} {s₂ : Shape} {e₂ : EltTy} {sp₃ : Space} {s₃ : Shape} {e₃ : EltTy} {srcw : Memref sig .tc sp₂ s₂ e₂} {dstw : Memref sig .tc sp₃ s₃ e₃}
    {hsrc : srcw.view.WordExact} {hdst : dstw.view.WordExact} (G : Buf (Elt F) (arr.view.loc (c : Thread nD τ)))
    {k : PUnit → Prog (TpuEff nD τ sig (Elt F) (Λ₀ F) .tc) α} (hN : dstw.view.dmaCredit = N) :
    iprop(sending c buf r arr cell N G ∗ (∃ W, owes (c : Thread nD τ) 0 W))
      ⊢ iprop((iprop(slotAny c buf r ∗ cellZ c cell ∗ (arr.view.loc (c : Thread nD τ) ↦[arr.view.set]{fullShare} G) ∗ (∃ W, owes (c : Thread nD τ) 0 W))
          -∗ wp frame (wpE (defs₀ (F := F)) 𝒱₀ (c : Thread nD τ) bd) Set.univ (k ⟨⟩) Q)
        -∗ wp frame (wpE (defs₀ (F := F)) 𝒱₀ (c : Thread nD τ) bd) Set.univ (.op (.waitDma2 cell.sem srcw dstw hsrc hdst) k) Q) := by
  unfold cellZ sending
  iintro ⟨Hf, ⟨%W, HW⟩⟩ Hk
  iapply (Transfers.wp_waitLocal countersEmb 𝒱₀ (c : Thread nD τ) bd () hN) $$ [Hf HW]
  · isplitl [Hf]; · iexact Hf
    iexact HW
  iintro ⟨⟨Hs, Hb⟩, Hc, HW⟩
  iapply Hk
  isplitl [Hs]; · iexact Hs
  isplitl [Hc]; · iexact Hc
  isplitl [Hb]; · iexact Hb
  iexists _; iexact HW

/-! ### Loads and stores of a slot -/

theorem holds_load {α : Type} {Q : α → sProp 𝕄} {bd : Option 𝒱₀.V} {hl : buf.view.LoadsAt r.toLoadRect} {k : (r.shape.Idx → Elt F e) → Prog (TpuEff nD τ sig (Elt F) (Λ₀ F) .tc) α} (v : r.shape.Idx → Elt F e) :
    holds c buf r v
      ⊢ iprop((holds c buf r v -∗ wp frame (wpE (defs₀ (F := F)) 𝒱₀ (c : Thread nD τ) bd) Set.univ (k v) Q)
        -∗ wp frame (wpE (defs₀ (F := F)) 𝒱₀ (c : Thread nD τ) bd) Set.univ (.op (.load buf r.toLoadRect hl) k) Q) := by
  unfold holds
  iintro ⟨%f, %hf, Hs⟩ Hk
  iapply (wp_load_rect 𝒱₀ (c : Thread nD τ) bd Set.univ (m := buf) (r := r) (Finset.Subset.refl _)) $$ Hs
  iintro Hs
  rw [hf]
  iapply Hk
  iexists f
  isplitr
  · ipureintro; exact hf
  iexact Hs

theorem any_load {α : Type} {Q : α → sProp 𝕄} {bd : Option 𝒱₀.V} {hl : buf.view.LoadsAt r.toLoadRect} {k : (r.shape.Idx → Elt F e) → Prog (TpuEff nD τ sig (Elt F) (Λ₀ F) .tc) α} :
    slotAny c buf r
      ⊢ iprop((∀ v, slotAny c buf r -∗ wp frame (wpE (defs₀ (F := F)) 𝒱₀ (c : Thread nD τ) bd) Set.univ (k v) Q)
        -∗ wp frame (wpE (defs₀ (F := F)) 𝒱₀ (c : Thread nD τ) bd) Set.univ (.op (.load buf r.toLoadRect hl) k) Q) := by
  unfold slotAny
  iintro ⟨%f, Hs⟩ Hk
  iapply (wp_load_rect 𝒱₀ (c : Thread nD τ) bd Set.univ (m := buf) (r := r) (Finset.Subset.refl _)) $$ Hs
  iintro Hs
  iapply Hk
  iexists f
  iexact Hs

theorem any_store {α : Type} {Q : α → sProp 𝕄} {bd : Option 𝒱₀.V} {v : r.shape.Idx → Elt F e} {hx : (buf.access r).Stores Finset.univ} {hm : (Finset.univ : Finset r.shape.Idx) = Finset.univ ∨ ∀ a, r.stride a = 1}
    {k : PUnit → Prog (TpuEff nD τ sig (Elt F) (Λ₀ F) .tc) α} :
    slotAny c buf r
      ⊢ iprop((holds c buf r v -∗ wp frame (wpE (defs₀ (F := F)) 𝒱₀ (c : Thread nD τ) bd) Set.univ (k ⟨⟩) Q)
        -∗ wp frame (wpE (defs₀ (F := F)) 𝒱₀ (c : Thread nD τ) bd) Set.univ (.op (.store buf r v Finset.univ hx hm) k) Q) := by
  unfold slotAny holds
  iintro ⟨%f, Hs⟩ Hk
  iapply (wp_store 𝒱₀ (c : Thread nD τ) bd Set.univ (m := buf) (r := r) (Mk := Finset.univ) (S := (buf.access r).set) (View.setOn_subset_set _ _)) $$ Hs
  iintro Hs
  iapply Hk
  iexists _
  isplitr
  rotate_left
  · iexact Hs
  ipureintro; exact View.read_write_univ _ _

end Slot

end Cert.Proof.KI

end
-- ==== Proof.KI.Rings.lean ====
/-
  The two rings that fetch: slot `s` of a ring is free, or fetching block `i` of its array, or holds it. Each slot keeps one
  half of the array it fetches from, so both can be in flight. The rules here are the slot's rules at the kernel's own
  offsets, which are known only up to an equation.
-/
module

public import proofs.«01_k».proof.Proof.KI.Slot

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The half of an array that slot `s` keeps. -/
def half (s : Fin 2) : PosShare TreeShare := if s = 0 then fullShare.left else fullShare.right

/-- Counter `s` of a ring's pair. -/
def ringCell (v : DmaSems sig S2) (s : Fin 2) : DmaSems sig S_ :=
  (v.slice (Rect.unit (s := S2) ![s.val] S1.size (by revert s; decide))).squeeze S_ squeezes_S1_S_

/-! ### The activations' ring -/

/-- Slot `s` of the activations' ring. -/
def xRect (s : Fin 2) : Rect S2x1024x2048 := Rect.unit (s := S2x1024x2048) ![s.val, 0, 0] S1x1024x2048.size (by revert s; decide)
/-- Block `i` of the activations: rows `1024 i` on. -/
def xBlk (arg0 : Memref sig .tc .hbm S32768x2048 .f32) (i : Fin 32) : Memref sig .tc .hbm S1024x2048 .f32 :=
  arg0.slice (Rect.unit (s := S32768x2048) ![1024 * i.val, 0] S1024x2048.size (by revert i; decide)) (fun _ => rfl)

section X

variable (c : Dev nD) (al : Memref sig .tc .vmem S2x1024x2048 .f32) (v : DmaSems sig S2)
  (arg0 : Memref sig .tc .hbm S32768x2048 .f32) (XA : Buf (Elt F) (arg0.view.loc (c : Thread nD τ)))

/-- Block `i` as a slot holds it. -/
def xVal (i : Fin 32) : S1x1024x2048.Idx → Elt F .f32 := slotVal (xRect 0) squeezes_S1x1024x2048_S1024x2048 ((xBlk arg0 i).view.read (Elt F) XA)
/-- Slot `s` is free. -/
def xFree (s : Fin 2) : sProp 𝕄 :=
  iprop(slotAny c al (xRect s) ∗ cellZ c (ringCell v s) ∗ arg0.view.loc (c : Thread nD τ) ↦[Finset.univ]{half s} XA)
/-- Slot `s` is fetching block `i`. -/
def xFly (s : Fin 2) (i : Fin 32) : sProp 𝕄 :=
  fetching c al (xRect s) squeezes_S1x1024x2048_S1024x2048 (xBlk arg0 i) (ringCell v s) 262144 (half s) XA
/-- Slot `s` holds block `i`. -/
def xHas (s : Fin 2) (i : Fin 32) : sProp 𝕄 :=
  iprop(holds c al (xRect s) (xVal c arg0 XA i) ∗ cellZ c (ringCell v s) ∗ arg0.view.loc (c : Thread nD τ) ↦[Finset.univ]{half s} XA)

theorem xHas_free (s : Fin 2) (i : Fin 32) : xHas c al v arg0 XA s i ⊢ xFree c al v arg0 XA s := by
  unfold xHas xFree
  iintro ⟨H, R⟩
  isplitl [H]
  · iapply (show holds c al (xRect s) (xVal c arg0 XA i) ⊢ slotAny c al (xRect s) from holds_any c al (xRect s) _) $$ H
  · iexact R

theorem x_issue {α : Type} {Q : α → sProp 𝕄} {bd : Option 𝒱₀.V} (s : Fin 2) (i : Fin 32)
    {o1 : Fin S2.rank → ℕ} {o2 : Fin S2x1024x2048.rank → ℕ} {o3 : Fin S32768x2048.rank → ℕ}
    (h1 : o1 = ![s.val]) (h2 : o2 = ![s.val, 0, 0]) (h3 : o3 = ![1024 * i.val, 0])
    {i1 : ∀ a, o1 a + S1.size a ≤ S2.size a} {i2 : ∀ a, o2 a + S1x1024x2048.size a ≤ S2x1024x2048.size a} {i3 : ∀ a, o3 a + S1024x2048.size a ≤ S32768x2048.size a}
    {hsrc hdst hsem}
    {k : PUnit → Prog (TpuEff nD τ sig (Elt F) (Λ₀ F) .tc) α} :
    xFree c al v arg0 XA s
      ⊢ iprop((xFly c al v arg0 XA s i -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma (arg0.slice (Rect.unit (s := S32768x2048) o3 S1024x2048.size i3) (fun _ => rfl))
              (.here (p := (.tc : Proc τ)) ((al.slice (Rect.unit (s := S2x1024x2048) o2 S1x1024x2048.size i2) (fun _ => rfl)).squeeze S1024x2048 squeezes_S1x1024x2048_S1024x2048))
              (.dma ((v.slice (Rect.unit (s := S2) o1 S1.size i1)).squeeze S_ squeezes_S1_S_).sem) hsrc hdst hsem) k) Q) := by
  subst h1 h2 h3
  exact fetch_issue c al (xRect s) (fun _ => rfl) squeezes_S1x1024x2048_S1024x2048 (xBlk arg0 i) (ringCell v s) 262144 (half s) XA rfl (by decide)

theorem x_wait {α : Type} {Q : α → sProp 𝕄} {bd : Option 𝒱₀.V} (s : Fin 2) (i : Fin 32)
    {o1 : Fin S2.rank → ℕ} (h1 : o1 = ![s.val])
    {i1 : ∀ a, o1 a + S1.size a ≤ S2.size a} {sp₂ : Space} {s₂ : Shape} {e₂ : EltTy} {srcw : Memref sig .tc sp₂ s₂ e₂} {dstw : Memref sig .tc .vmem S1024x2048 .f32}
    {hsrc hdst}
    {k : PUnit → Prog (TpuEff nD τ sig (Elt F) (Λ₀ F) .tc) α} :
    iprop(xFly c al v arg0 XA s i ∗ (∃ W, owes (c : Thread nD τ) 0 W))
      ⊢ iprop((iprop(xHas c al v arg0 XA s i ∗ (∃ W, owes (c : Thread nD τ) 0 W)) -∗ wp frame (wpE (defs₀ (F := F)) 𝒱₀ (c : Thread nD τ) bd) Set.univ (k ⟨⟩) Q)
        -∗ wp frame (wpE (defs₀ (F := F)) 𝒱₀ (c : Thread nD τ) bd) Set.univ
            (.op (.waitDma2 ((v.slice (Rect.unit (s := S2) o1 S1.size i1)).squeeze S_ squeezes_S1_S_).sem srcw dstw hsrc hdst) k) Q) := by
  subst h1
  unfold xFly
  iintro H Hk
  iapply (fetch_wait c al (xRect s) squeezes_S1x1024x2048_S1024x2048 (xBlk arg0 i) (ringCell v s) 262144 (half s) XA rfl) $$ H
  iintro ⟨H, R, A, W⟩
  iapply Hk
  unfold xHas
  isplitl [H R A]
  · isplitl [H]; · iexact H
    isplitl [R]; · iexact R
    iapply (show arrAt c (xBlk arg0 i) (half s) XA ⊢ arg0.view.loc (c : Thread nD τ) ↦[Finset.univ]{half s} XA from .rfl) $$ A
  · iexact W

theorem x_load {α : Type} {Q : α → sProp 𝕄} {bd : Option 𝒱₀.V} (s : Fin 2) (i : Fin 32)
    {o2 : Fin S2x1024x2048.rank → ℕ} (h2 : o2 = ![s.val, 0, 0]) {i2 : ∀ a, o2 a + S1x1024x2048.size a ≤ S2x1024x2048.size a} {hl}
    {k : (S1x1024x2048.Idx → Elt F .f32) → Prog (TpuEff nD τ sig (Elt F) (Λ₀ F) .tc) α} :
    xHas c al v arg0 XA s i
      ⊢ iprop((xHas c al v arg0 XA s i -∗ wp frame (wpE (defs₀ (F := F)) 𝒱₀ (c : Thread nD τ) bd) Set.univ (k (xVal c arg0 XA i)) Q)
        -∗ wp frame (wpE (defs₀ (F := F)) 𝒱₀ (c : Thread nD τ) bd) Set.univ
            (.op (.load al (Rect.unit (s := S2x1024x2048) o2 S1x1024x2048.size i2).toLoadRect hl) k) Q) := by
  subst h2
  unfold xHas
  iintro ⟨H, R⟩ Hk
  iapply (holds_load c al (xRect s) (xVal c arg0 XA i)) $$ H
  iintro H
  iapply Hk
  isplitl [H]; · iexact H
  iexact R

end X

/-! ### The weight's ring -/

/-- Slot `s` of the weight's ring. -/
def wRect (s : Fin 2) : Rect S2x768x2048 := Rect.unit (s := S2x768x2048) ![s.val, 0, 0] S1x768x2048.size (by revert s; decide)
/-- Block `i` of the weight: rows `768 i` on. -/
def wBlk (arg2 : Memref sig .tc .hbm S9984x2048 .bf16) (i : Fin 13) : Memref sig .tc .hbm S768x2048 .bf16 :=
  arg2.slice (Rect.unit (s := S9984x2048) ![768 * i.val, 0] S768x2048.size (by revert i; decide)) (fun _ => rfl)

section W

variable (c : Dev nD) (al : Memref sig .tc .vmem S2x768x2048 .bf16) (v : DmaSems sig S2)
  (arg2 : Memref sig .tc .hbm S9984x2048 .bf16) (WA : Buf (Elt F) (arg2.view.loc (c : Thread nD τ)))

/-- Block `i` as a slot holds it. -/
def wVal (i : Fin 13) : S1x768x2048.Idx → Elt F .bf16 := slotVal (wRect 0) squeezes_S1x768x2048_S768x2048 ((wBlk arg2 i).view.read (Elt F) WA)
/-- Slot `s` is free. -/
def wFree (s : Fin 2) : sProp 𝕄 :=
  iprop(slotAny c al (wRect s) ∗ cellZ c (ringCell v s) ∗ arg2.view.loc (c : Thread nD τ) ↦[Finset.univ]{half s} WA)
/-- Slot `s` is fetching block `i`. -/
def wFly (s : Fin 2) (i : Fin 13) : sProp 𝕄 :=
  fetching c al (wRect s) squeezes_S1x768x2048_S768x2048 (wBlk arg2 i) (ringCell v s) 98304 (half s) WA
/-- Slot `s` holds block `i`. -/
def wHas (s : Fin 2) (i : Fin 13) : sProp 𝕄 :=
  iprop(holds c al (wRect s) (wVal c arg2 WA i) ∗ cellZ c (ringCell v s) ∗ arg2.view.loc (c : Thread nD τ) ↦[Finset.univ]{half s} WA)

theorem wHas_free (s : Fin 2) (i : Fin 13) : wHas c al v arg2 WA s i ⊢ wFree c al v arg2 WA s := by
  unfold wHas wFree
  iintro ⟨H, R⟩
  isplitl [H]
  · iapply (show holds c al (wRect s) (wVal c arg2 WA i) ⊢ slotAny c al (wRect s) from holds_any c al (wRect s) _) $$ H
  · iexact R

theorem w_issue {α : Type} {Q : α → sProp 𝕄} {bd : Option 𝒱₀.V} (s : Fin 2) (i : Fin 13)
    {o1 : Fin S2.rank → ℕ} {o2 : Fin S2x768x2048.rank → ℕ} {o3 : Fin S9984x2048.rank → ℕ}
    (h1 : o1 = ![s.val]) (h2 : o2 = ![s.val, 0, 0]) (h3 : o3 = ![768 * i.val, 0])
    {i1 : ∀ a, o1 a + S1.size a ≤ S2.size a} {i2 : ∀ a, o2 a + S1x768x2048.size a ≤ S2x768x2048.size a} {i3 : ∀ a, o3 a + S768x2048.size a ≤ S9984x2048.size a}
    {hsrc hdst hsem}
    {k : PUnit → Prog (TpuEff nD τ sig (Elt F) (Λ₀ F) .tc) α} :
    wFree c al v arg2 WA s
      ⊢ iprop((wFly c al v arg2 WA s i -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma (arg2.slice (Rect.unit (s := S9984x2048) o3 S768x2048.size i3) (fun _ => rfl))
              (.here (p := (.tc : Proc τ)) ((al.slice (Rect.unit (s := S2x768x2048) o2 S1x768x2048.size i2) (fun _ => rfl)).squeeze S768x2048 squeezes_S1x768x2048_S768x2048))
              (.dma ((v.slice (Rect.unit (s := S2) o1 S1.size i1)).squeeze S_ squeezes_S1_S_).sem) hsrc hdst hsem) k) Q) := by
  subst h1 h2 h3
  exact fetch_issue c al (wRect s) (fun _ => rfl) squeezes_S1x768x2048_S768x2048 (wBlk arg2 i) (ringCell v s) 98304 (half s) WA rfl (by decide)

theorem w_wait {α : Type} {Q : α → sProp 𝕄} {bd : Option 𝒱₀.V} (s : Fin 2) (i : Fin 13)
    {o1 : Fin S2.rank → ℕ} (h1 : o1 = ![s.val])
    {i1 : ∀ a, o1 a + S1.size a ≤ S2.size a} {sp₂ : Space} {s₂ : Shape} {e₂ : EltTy} {srcw : Memref sig .tc sp₂ s₂ e₂} {dstw : Memref sig .tc .vmem S768x2048 .bf16}
    {hsrc hdst}
    {k : PUnit → Prog (TpuEff nD τ sig (Elt F) (Λ₀ F) .tc) α} :
    iprop(wFly c al v arg2 WA s i ∗ (∃ W, owes (c : Thread nD τ) 0 W))
      ⊢ iprop((iprop(wHas c al v arg2 WA s i ∗ (∃ W, owes (c : Thread nD τ) 0 W)) -∗ wp frame (wpE (defs₀ (F := F)) 𝒱₀ (c : Thread nD τ) bd) Set.univ (k ⟨⟩) Q)
        -∗ wp frame (wpE (defs₀ (F := F)) 𝒱₀ (c : Thread nD τ) bd) Set.univ
            (.op (.waitDma2 ((v.slice (Rect.unit (s := S2) o1 S1.size i1)).squeeze S_ squeezes_S1_S_).sem srcw dstw hsrc hdst) k) Q) := by
  subst h1
  unfold wFly
  iintro H Hk
  iapply (fetch_wait c al (wRect s) squeezes_S1x768x2048_S768x2048 (wBlk arg2 i) (ringCell v s) 98304 (half s) WA rfl) $$ H
  iintro ⟨H, R, A, W⟩
  iapply Hk
  unfold wHas
  isplitl [H R A]
  · isplitl [H]; · iexact H
    isplitl [R]; · iexact R
    iapply (show arrAt c (wBlk arg2 i) (half s) WA ⊢ arg2.view.loc (c : Thread nD τ) ↦[Finset.univ]{half s} WA from .rfl) $$ A
  · iexact W

theorem w_load {α : Type} {Q : α → sProp 𝕄} {bd : Option 𝒱₀.V} (s : Fin 2) (i : Fin 13)
    {o2 : Fin S2x768x2048.rank → ℕ} (h2 : o2 = ![s.val, 0, 0]) {i2 : ∀ a, o2 a + S1x768x2048.size a ≤ S2x768x2048.size a} {hl}
    {k : (S1x768x2048.Idx → Elt F .bf16) → Prog (TpuEff nD τ sig (Elt F) (Λ₀ F) .tc) α} :
    wHas c al v arg2 WA s i
      ⊢ iprop((wHas c al v arg2 WA s i -∗ wp frame (wpE (defs₀ (F := F)) 𝒱₀ (c : Thread nD τ) bd) Set.univ (k (wVal c arg2 WA i)) Q)
        -∗ wp frame (wpE (defs₀ (F := F)) 𝒱₀ (c : Thread nD τ) bd) Set.univ
            (.op (.load al (Rect.unit (s := S2x768x2048) o2 S1x768x2048.size i2).toLoadRect hl) k) Q) := by
  subst h2
  unfold wHas
  iintro ⟨H, R⟩ Hk
  iapply (holds_load c al (wRect s) (wVal c arg2 WA i)) $$ H
  iintro H
  iapply Hk
  isplitl [H]; · iexact H
  iexact R

end W

end Cert.Proof.KI

end
-- ==== Proof.KI.Lookahead.lean ====
/-
  The lookahead: the loop within each trip that walks the grid ahead of the trip until it has requested the next row's
  activations. At the first trip of a row it walks the row to its end and requests the next block, unless the row is the last;
  at every other trip it stops at once.
-/
module

public import proofs.«01_k».proof.Proof.KI.Rings

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- A count of row blocks as a block's number. -/
def row (p : ℕ) : Fin 32 := ⟨p % 32, Nat.mod_lt _ (by decide)⟩

/-- What the lookahead returns at trip `t`. -/
def lookOut (t : ℕ) : BitVec 32 × BitVec 32 × BitVec 32 × BitVec 32 × BitVec 32 :=
  (w (a8 (t + 1)), w (a9 (t + 1)), nrow (w (a8 (t + 1))) (w (a9 (t + 1))), ncol (w (a9 (t + 1))), w (if t + 1 = 416 then 32 else a6 (t + 1)))

theorem lookOut_idle : ∀ k : Fin k0_t1_loop.trips, k.val % 13 ≠ 0 → (w (a8 k), w (a9 k), nrow (w (a8 k)) (w (a9 k)), ncol (w (a9 k)), w (a6 k)) = lookOut k := by decide +kernel
theorem lookOut_row : ∀ i : Fin 32, (if i.val = 31 then (w i, w 12, w (i + 1), w 0, w (i + 1)) else (w (i + 1), w 0, w (i + 1), w 1, w (i + 2))) = lookOut (13 * i) := by decide +kernel
theorem look_first : ∀ i : Fin 32, a8 (13 * i) = i ∧ a9 (13 * i) = 0 ∧ a6 (13 * i) = i + 1 ∧ nrow (w i) (w 0) = w i ∧ ncol (w 0) = w 1 := by decide +kernel

section

variable (c : Dev nD) (al : Memref sig .tc .vmem S2x1024x2048 .f32) (hal : al.IsWhole) (v : DmaSems sig S2)
  (arg0 : Memref sig .tc .hbm S32768x2048 .f32) (h0 : arg0.IsWhole) (XA : Buf (Elt F) (arg0.view.loc (c : Thread nD τ))) (t : Fin k0_t1_loop.trips)

/-- With at most `n` steps to go, the lookahead entered at these words takes `B`, returns `r` and gives `A`. -/
def lookMeets (n : ℕ) (lim v17 v18 v19 v20 v21 : BitVec 32) (B : sProp 𝕄) (r : BitVec 32 × BitVec 32 × BitVec 32 × BitVec 32 × BitVec 32) (A : sProp 𝕄) : Prop :=
  ∀ K, iprop(B ∗ (A -∗ K r)) ⊢ wp frame (wpE (defs₀ (F := F)) 𝒱₀ (c : Thread nD τ) (some n)) Set.univ
    (cc0_while1 t lim v al hal arg0 h0 v17 v18 v19 v20 v21) K

/-- The lookahead's specification, in the form the call's rule takes. -/
def lookSpec (B : sProp 𝕄) (r : BitVec 32 × BitVec 32 × BitVec 32 × BitVec 32 × BitVec 32) (A : sProp 𝕄) : sWPT 𝕄 (BitVec 32 × BitVec 32 × BitVec 32 × BitVec 32 × BitVec 32) := do
  sWPT.consume B
  sWPT.produce A
  pure r

variable {c al hal v arg0 h0 XA t}

/-- Calling the lookahead. -/
theorem look_call {α : Type} {Q : α → sProp 𝕄} {bd : Option 𝒱₀.V} {n : ℕ} {lim v17 v18 v19 v20 v21 : BitVec 32} {B : sProp 𝕄}
    {r : BitVec 32 × BitVec 32 × BitVec 32 × BitVec 32 × BitVec 32} {A : sProp 𝕄}
    (hS : lookMeets c al hal v arg0 h0 t n lim v17 v18 v19 v20 v21 B r A) (hn : ∀ u ∈ bd, 𝒱₀.lt n u)
    {k : (BitVec 32 × BitVec 32 × BitVec 32 × BitVec 32 × BitVec 32) → Prog (TpuEff nD τ sig (Elt F) (Λ₀ F) .tc) α} :
    iprop(B ∗ (A -∗ wp frame (wpE (defs₀ (F := F)) 𝒱₀ (c : Thread nD τ) bd) Set.univ (k r) Q))
      ⊢ wp frame (wpE (defs₀ (F := F)) 𝒱₀ (c : Thread nD τ) bd) Set.univ
          (.op (.call (1 : (Λ₀ F).Label) ⟨t, lim, v, al, hal, arg0, h0, v17, v18, v19, v20, v21⟩) k) Q := by
  show lookSpec B r A (fun x => wp frame (wpE (defs₀ (F := F)) 𝒱₀ (c : Thread nD τ) bd) Set.univ (k x) Q) ⊢ _
  exact wp_call_spec (defs := defs₀ (F := F)) 𝒱₀ (c : Thread nD τ) bd Set.univ (ℓ := (1 : (Λ₀ F).Label)) (lookSpec B r A) n hn hS

/-- A failed test returns the words as they are. -/
theorem look_stop (n : ℕ) {lim v17 v18 v19 v20 v21 : BitVec 32} (ht : wtest lim v19 v20 v21 = 0#1) :
    lookMeets (F := F) c al hal v arg0 h0 t n lim v17 v18 v19 v20 v21 iprop(emp) (v17, v18, v19, v20, v21) iprop(emp) := fun K => by
  unfold wtest at ht
  simp only [cc0_while1_eq_skeleton]; unfold cc0_while1_skel
  simp only [ht, show (0#1 = 1#1) = False from by decide, ↓reduceIte, Prog.lift, Prog.bind_op, Prog.bind_ret, Prog.pure_eq_ret]
  iintro ⟨-, Hk⟩
  rw [wp_ret]; imodintro
  iapply Hk
  iempintro

/-- A step with no request due. -/
theorem look_step {n : ℕ} {lim v17 v18 v19 v20 v21 v19' v20' v21' : BitVec 32} {B : sProp 𝕄} {r : BitVec 32 × BitVec 32 × BitVec 32 × BitVec 32 × BitVec 32} {A : sProp 𝕄}
    (ht : wtest lim v19 v20 v21 = 1#1) (h2 : k0_chk2 v17 v19) (h1 : k0_chk1 v17 v19 v21) (hc : k0_cond1 v17 v19 = 0#1)
    (e19 : nrow v19 v20 = v19') (e20 : ncol v20 = v20') (e21 : nreq v21 v17 v19 = v21')
    (hS : lookMeets c al hal v arg0 h0 t n lim v19 v20 v19' v20' v21' B r A) :
    lookMeets c al hal v arg0 h0 t (n + 1) lim v17 v18 v19 v20 v21 B r A := fun K => by
  subst e19 e20 e21
  unfold wtest at ht
  simp only [cc0_while1_eq_skeleton]; unfold cc0_while1_skel
  simp only [ht, hc, show ¬(0#1 = 1#1) from by decide, ↓reduceIte, ↓reduceDIte, Prog.lift, Prog.bind_op, Prog.bind_ret, Prog.pure_eq_ret]
  iintro H
  iapply (wp_assume 𝒱₀ (c : Thread nD τ) (some (n + 1)) Set.univ h2)
  iapply (wp_assume 𝒱₀ (c : Thread nD τ) (some (n + 1)) Set.univ h1)
  iapply (look_call hS (fun u hu => by cases hu; exact Nat.lt_succ_self n))
  simp only [wp_ret]
  icases H with ⟨HB, Hk⟩
  isplitl [HB]; · iexact HB
  iintro HA
  imodintro
  iapply Hk $$ HA

/-- The step that requests block `i`. -/
theorem look_issue {n : ℕ} {lim v17 v18 v19 v20 v21 v19' v20' v21' : BitVec 32} {r : BitVec 32 × BitVec 32 × BitVec 32 × BitVec 32 × BitVec 32} (s : Fin 2) (i : Fin 32)
    (ht : wtest lim v19 v20 v21 = 1#1) (h2 : k0_chk2 v17 v19) (h1 : k0_chk1 v17 v19 v21) (hc : k0_cond1 v17 v19 = 1#1)
    (e19 : nrow v19 v20 = v19') (e20 : ncol v20 = v20') (e21 : nreq v21 v17 v19 = v21')
    (o5 : k0_off5 v21 = ![s.val]) (o6 : k0_off6 v21 = ![s.val, 0, 0]) (o7 : k0_off7 v19 = ![1024 * i.val, 0])
    (hS : lookMeets (F := F) c al hal v arg0 h0 t n lim v19 v20 v19' v20' v21' iprop(emp) r iprop(emp)) :
    lookMeets c al hal v arg0 h0 t (n + 1) lim v17 v18 v19 v20 v21 (xFree c al v arg0 XA s) r (xFly c al v arg0 XA s i) := fun K => by
  subst e19 e20 e21
  unfold wtest at ht
  simp only [cc0_while1_eq_skeleton]; unfold cc0_while1_skel
  simp only [ht, hc, ↓reduceIte, ↓reduceDIte, Prog.lift, Prog.bind_op, Prog.bind_ret, Prog.pure_eq_ret]
  iintro ⟨HB, Hk⟩
  iapply (wp_assume 𝒱₀ (c : Thread nD τ) (some (n + 1)) Set.univ h2)
  iapply (wp_assume 𝒱₀ (c : Thread nD τ) (some (n + 1)) Set.univ h1)
  iapply (x_issue c al v arg0 XA s i o5 o6 o7) $$ HB
  iintro HA
  iapply (look_call hS (fun u hu => by cases hu; exact Nat.lt_succ_self n))
  simp only [wp_ret]
  isplitr; · iempintro
  iintro -
  imodintro
  iapply Hk $$ HA

variable (c al hal v arg0 h0 XA t)

/-- Slot of block `p`: it is fetching it, or, past the last block, free. -/
def xNext (p : ℕ) : sProp 𝕄 := if p < 32 then xFly c al v arg0 XA (sl p) (row p) else xFree c al v arg0 XA (sl p)
/-- What the lookahead takes and gives at trip `t`. -/
def lookBefore (t : ℕ) : sProp 𝕄 := if t % 13 = 0 then xFree c al v arg0 XA (sl (t / 13 + 1)) else iprop(emp)
@[inherit_doc lookBefore] def lookAfter (t : ℕ) : sProp 𝕄 := if t % 13 = 0 then xNext c al v arg0 XA (t / 13 + 1) else iprop(emp)

variable {c al hal v arg0 h0 XA t}

/-- What the lookahead leaves alone may be carried past it. -/
theorem look_frame {n : ℕ} {lim v17 v18 v19 v20 v21 : BitVec 32} {r : BitVec 32 × BitVec 32 × BitVec 32 × BitVec 32 × BitVec 32} (B : sProp 𝕄)
    (hS : lookMeets (F := F) c al hal v arg0 h0 t n lim v17 v18 v19 v20 v21 iprop(emp) r iprop(emp)) :
    lookMeets c al hal v arg0 h0 t n lim v17 v18 v19 v20 v21 B r B := fun K => by
  iintro ⟨HB, Hk⟩
  iapply (hS K)
  isplitr; · iempintro
  iintro -
  iapply Hk $$ HB

/-- From the row's end. -/
theorem look_end (i : Fin 32) :
    lookMeets c al hal v arg0 h0 t 1 (Scalar.addi (w i) 2#32) (w i) (w 12) (w (i + 1)) (w 0) (w (i + 1))
      (xFree c al v arg0 XA (sl (i + 1))) (lookOut (13 * i)) (xNext c al v arg0 XA (i + 1)) := by
  by_cases hi : i.val = 31
  · have ho := lookOut_row i
    rw [if_pos hi] at ho
    rw [← ho, show xNext c al v arg0 XA (i + 1) = xFree c al v arg0 XA (sl (i + 1)) from if_neg (by omega)]
    exact look_frame _ (look_stop 1 ((wtest_end i).trans (if_pos hi)))
  · have ho := lookOut_row i
    rw [if_neg hi] at ho
    have hi' : i.val + 1 < 32 := by omega
    rw [← ho, show xNext c al v arg0 XA (i + 1) = xFly c al v arg0 XA (sl (i + 1)) (row (i + 1)) from if_pos hi']
    have hr : (row (i + 1)).val = i + 1 := Nat.mod_eq_of_lt hi'
    exact look_issue (sl (i + 1)) (row (i + 1)) ((wtest_end i).trans (if_neg hi)) (wchk2_end i hi) (wchk1_end i hi) (wcond_end i)
      (wstep_end i).2.1 (wstep_end i).1 (wstep_end i).2.2 (off5_eq i) (off6_eq i) (by rw [hr]; exact off7_eq i hi') (look_stop 0 (wtest_stop i))

/-- From `d` steps before the row's end. -/
theorem look_row (i : Fin 32) : ∀ (d m : ℕ), m + d + 1 = 12 →
    lookMeets c al hal v arg0 h0 t (d + 2) (Scalar.addi (w i) 2#32) (w i) (w m) (w i) (w (m + 1)) (w (i + 1))
      (xFree c al v arg0 XA (sl (i + 1))) (lookOut (13 * i)) (xNext c al v arg0 XA (i + 1)) := by
  intro d
  induction d with
  | zero =>
    intro m hm
    obtain rfl : m = 11 := by omega
    exact look_step (wtest_row i 11) (wchk2_row i) (wchk1_row i) (wcond_row i) (wstep_row i 11).2.1 (wstep_row i 11).1 (wstep_row i 11).2.2 (look_end i)
  | succ d ih =>
    intro m hm
    have h12 : ¬m + 1 = 12 := by omega
    have hs := wstep_row i ⟨m, by omega⟩
    exact look_step (wtest_row i ⟨m, by omega⟩) (wchk2_row i) (wchk1_row i) (wcond_row i) (hs.2.1.trans (if_neg h12)) (hs.1.trans (if_neg h12)) hs.2.2
      (ih (m + 1) (by omega))

/-- The lookahead at trip `t`. -/
theorem look_trip : lookMeets c al hal v arg0 h0 t 13 (Scalar.addi (w (t / 13)) 2#32) (w (a8 t)) (w (a9 t)) (nrow (w (a8 t)) (w (a9 t))) (ncol (w (a9 t))) (w (a6 t))
    (lookBefore c al v arg0 XA t) (lookOut t) (lookAfter c al v arg0 XA t) := by
  have ht : t.val < 416 := trips_eq ▸ t.isLt
  by_cases hj : t.val % 13 = 0
  · unfold lookBefore lookAfter
    rw [if_pos hj, if_pos hj]
    have e : t.val = 13 * (t.val / 13) := by omega
    have hf := look_first ⟨t.val / 13, by omega⟩
    dsimp only at hf
    rw [← e] at hf
    obtain ⟨f1, f2, f3, f4, f5⟩ := hf
    rw [f1, f2, f3, f4, f5]
    have := look_row (c := c) (al := al) (hal := hal) (v := v) (arg0 := arg0) (h0 := h0) (XA := XA) (t := t) ⟨t.val / 13, by omega⟩ 11 0 (by omega)
    dsimp only at this
    rwa [← e] at this
  · unfold lookBefore lookAfter
    rw [if_neg hj, if_neg hj, ← lookOut_idle t hj]
    exact look_stop 13 (wtest_idle t hj)

end

end Cert.Proof.KI

end
-- ==== Proof.KI.Parts.lean ====
/-
  The three parts of a trip that touch memory. The second requests: the lookahead's activations and the next trip's weight
  block. The third waits for what the trip reads, normalises the row's activations at the row's first trip, and multiplies.
  The fourth sends the trip's block of the result and waits for the block before it.
-/
module

public import proofs.«01_k».proof.Proof.KI.Lookahead

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- A trip's column of the grid. -/
def col (t : ℕ) : Fin 13 := ⟨t % 13, Nat.mod_lt _ (by decide)⟩

/-- Slot `s` of the result's ring. -/
def oRect (s : Fin 2) : Rect S2x1024x768 := Rect.unit (s := S2x1024x768) ![s.val, 0, 0] S1x1024x768.size (by revert s; decide)
/-- The block of the result that trip `t` writes. -/
def oBlk (arg3 : Memref sig .tc .hbm S32768x9984 .f32) (t : Fin 416) : Memref sig .tc .hbm S1024x768 .f32 :=
  arg3.slice (Rect.unit (s := S32768x9984) ![1024 * (t.val / 13), 768 * (t.val % 13)] S1024x768.size (by revert t; decide +kernel)) (fun _ => rfl)
/-- The buffer of normalised activations, and the scale's. -/
abbrev hRect : Rect S1024x2048 := Rect.unit (s := S1024x2048) ![0, 0] S1024x2048.size inb_S1024x2048_S1024x2048_0_0
@[inherit_doc hRect] abbrev gRect : Rect S1x2048 := Rect.unit (s := S1x2048) ![0, 0] S1x2048.size inb_S1x2048_S1x2048_0_0

section

variable (c : Dev nD)
  (arg0 : Memref sig .tc .hbm S32768x2048 .f32) (harg0 : arg0.IsWhole) (arg1 : Memref sig .tc .hbm S1x2048 .f32) (harg1 : arg1.IsWhole)
  (arg2 : Memref sig .tc .hbm S9984x2048 .bf16) (harg2 : arg2.IsWhole) (arg3 : Memref sig .tc .hbm S32768x9984 .f32) (harg3 : arg3.IsWhole)
  (arg4 : Memref sig .tc .vmem S1024x2048 .bf16) (harg4 : arg4.IsWhole)
  (al : Memref sig .tc .vmem S2x1024x2048 .f32) (hal : al.IsWhole) (v0 : DmaSems sig S2)
  (al0 : Memref sig .tc .vmem S1x2048 .f32) (hal0 : al0.IsWhole)
  (al1 : Memref sig .tc .vmem S2x768x2048 .bf16) (hal1 : al1.IsWhole) (v1 : DmaSems sig S2)
  (al2 : Memref sig .tc .vmem S2x1024x768 .f32) (hal2 : al2.IsWhole) (v2 : DmaSems sig S2) (vg : DmaSems sig S_)
  (XA : Buf (Elt F) (arg0.view.loc (c : Thread nD τ))) (WA : Buf (Elt F) (arg2.view.loc (c : Thread nD τ))) (gv : S1x2048.Idx → Elt F .f32)
  (G : Buf (Elt F) (arg3.view.loc (c : Thread nD τ)))

/-- The weight's slot of trip `p`: it is fetching the trip's block, or, past the last trip, free. -/
def wNext (p : ℕ) : sProp 𝕄 := if p < 416 then wFly c al1 v1 arg2 WA (sl p) (col p) else wFree c al1 v1 arg2 WA (sl p)

/-- Row `i` of the grid's activations, normalised. -/
def H (i : ℕ) : S1024x2048.Idx → Elt F .bf16 := k0_pay1 (xVal c arg0 XA (row i)) gv
/-- The block of the result of trip `t`. -/
def O (t : ℕ) : S1x1024x768.Idx → Elt F .f32 := k0_pay2 (H c arg0 XA gv (t / 13)) (wVal c arg2 WA (col t))

/-- What the third part takes of the activations' ring, and what it gives back. -/
def xWait (t : ℕ) : sProp 𝕄 := if t % 13 = 0 then xFly c al v0 arg0 XA (sl (t / 13)) (row (t / 13)) else iprop(emp)
@[inherit_doc xWait] def xDone (t : ℕ) : sProp 𝕄 := if t % 13 = 0 then xFree c al v0 arg0 XA (sl (t / 13)) else iprop(emp)
/-- The normalised activations before trip `t`: at a row's first trip, anything. -/
def hBuf (t : ℕ) : sProp 𝕄 := if t % 13 = 0 then slotAny c arg4 hRect else holds c arg4 hRect (H c arg0 XA gv (t / 13))

variable (t : Fin k0_t1_loop.trips)
  (hw3 : k0_chk3 t (w (t / 13)) (w (min (t + 1) 416)) (w t) (w t) (w (t - 1)) (w (t / 13)) (w (t % 13)))
  (hw4 : k0_chk4 (w t)) (hw5 : k0_chk5 (w t))

theorem part2 (v5 : BitVec 32) (v96 : BitVec 1) (v98 v99 v108 v117 v118 v119 : BitVec 32) (v122 : BitVec 1) (v123 v124 : BitVec 32) {Q : _ → sProp 𝕄} :
    iprop(lookBefore c al v0 arg0 XA t ∗ wFree c al1 v1 arg2 WA (sl (t + 1)))
      ⊢ iprop((iprop(lookAfter c al v0 arg0 XA t ∗ wNext c arg2 al1 v1 WA (t + 1))
          -∗ Q ⟨w (a8 (t + 1)), w (a9 (t + 1)), w (if t.val + 1 = 416 then 32 else a6 (t + 1)),
              Scalar.select (Scalar.andi (Scalar.andi (Scalar.cmpi .ne v99 v119) (Scalar.xori (Scalar.cmpi .sge v5 415#32) 1#1)) 1#1)
                (Scalar.addi (w (min (t + 1) 416)) 1#32) (w (min (t + 1) 416)),
              Scalar.ori (Scalar.cmpi .ne v98 v108) v96, 0#32⟩)
        -∗ wp frame (wpE (defs₀ (F := F)) 𝒱₀ (c : Thread nD τ) none) Set.univ
            (k0_part2 arg0 harg0 arg1 harg1 arg2 harg2 arg3 harg3 arg4 harg4 al hal v0 al0 hal0 al1 hal1 v1 al2 hal2 v2 vg t
              (w (a6 t)) (w (t / 13)) (w (a8 t)) (w (a9 t)) (w (min (t + 1) 416)) (w t) (w t) (w (t - 1)) (w (t / 13)) (w (t % 13)) hw3
              v5 v96 v98 v99 v108 v117 v118 v119 v122 v123 v124) Q) := by
  have ht : t.val < 416 := trips_eq ▸ t.isLt
  simp only [k0_part2_eq_skeleton]; unfold k0_part2_skel
  simp only [Prog.lift, Prog.bind_op, Prog.bind_ret, Prog.pure_eq_ret]
  iintro ⟨HB, HW⟩ Hk
  iapply (look_call (look_trip (hal := hal) (h0 := harg0) (XA := XA)) (bd := none) (fun u hu => by cases hu))
  simp only [lookOut]
  isplitl [HB]; · iexact HB
  iintro HA
  by_cases h : t.val = 415
  · have hc := (cond2_eq t).trans (if_pos h)
    simp only [hc, show ¬(0#1 = 1#1) from by decide, ↓reduceDIte, Prog.bind_op, Prog.bind_ret, Prog.pure_eq_ret]
    rw [wp_ret]; imodintro
    iapply Hk
    isplitl [HA]; · iexact HA
    rw [show wNext c arg2 al1 v1 WA (t + 1) = wFree c al1 v1 arg2 WA (sl (t + 1)) from if_neg (by omega)]
    iexact HW
  · have hc := (cond2_eq t).trans (if_neg h)
    have hm : min (t.val + 1) 416 = t + 1 := by omega
    simp only [hc, ↓reduceDIte, Prog.bind_op, Prog.bind_ret, Prog.pure_eq_ret]
    iapply (w_issue c al1 v1 arg2 WA (sl (t + 1)) (col (t + 1)) ((off8_eq t).trans (by rw [hm])) ((off9_eq t).trans (by rw [hm])) (off10_eq t h)) $$ HW
    iintro HW
    rw [wp_ret]; imodintro
    iapply Hk
    isplitl [HA]; · iexact HA
    rw [show wNext c arg2 al1 v1 WA (t + 1) = wFly c al1 v1 arg2 WA (sl (t + 1)) (col (t + 1)) from if_pos (by omega)]
    iexact HW

/-- A slot of the result's ring is loaded before it is stored; what is read is not used. -/
theorem o_load {α : Type} {Q : α → sProp 𝕄} {bd : Option 𝒱₀.V} (s : Fin 2) {o : Fin S2x1024x768.rank → ℕ} (h : o = ![s.val, 0, 0])
    {i : ∀ a, o a + S1x1024x768.size a ≤ S2x1024x768.size a} {hl} {k : (S1x1024x768.Idx → Elt F .f32) → Prog (TpuEff nD τ sig (Elt F) (Λ₀ F) .tc) α} :
    slotAny c al2 (oRect s)
      ⊢ iprop((∀ v, slotAny c al2 (oRect s) -∗ wp frame (wpE (defs₀ (F := F)) 𝒱₀ (c : Thread nD τ) bd) Set.univ (k v) Q)
        -∗ wp frame (wpE (defs₀ (F := F)) 𝒱₀ (c : Thread nD τ) bd) Set.univ
            (.op (.load al2 (Rect.unit (s := S2x1024x768) o S1x1024x768.size i).toLoadRect hl) k) Q) := by
  subst h
  exact any_load c al2 (oRect s)

theorem o_store {α : Type} {Q : α → sProp 𝕄} {bd : Option 𝒱₀.V} (s : Fin 2) {o : Fin S2x1024x768.rank → ℕ} (h : o = ![s.val, 0, 0])
    {i : ∀ a, o a + S1x1024x768.size a ≤ S2x1024x768.size a} {v : S1x1024x768.Idx → Elt F .f32} {hx hm} {k : PUnit → Prog (TpuEff nD τ sig (Elt F) (Λ₀ F) .tc) α} :
    slotAny c al2 (oRect s)
      ⊢ iprop((holds c al2 (oRect s) v -∗ wp frame (wpE (defs₀ (F := F)) 𝒱₀ (c : Thread nD τ) bd) Set.univ (k ⟨⟩) Q)
        -∗ wp frame (wpE (defs₀ (F := F)) 𝒱₀ (c : Thread nD τ) bd) Set.univ
            (.op (.store al2 (Rect.unit (s := S2x1024x768) o S1x1024x768.size i) v Finset.univ hx hm) k) Q) := by
  subst h
  exact any_store c al2 (oRect s)

theorem part3 (v5 : BitVec 32) (v96 v97 : BitVec 1) (v98 v99 v108 v109 v118 : BitVec 32) (v160 : BitVec 1) (v161 : BitVec 32) {Q : _ → sProp 𝕄} :
    iprop(xWait c arg0 al v0 XA t ∗ wFly c al1 v1 arg2 WA (sl t) (col t) ∗ hBuf c arg0 arg4 XA gv t ∗ holds c al0 gRect gv
        ∗ slotAny c al2 (oRect (sl t)) ∗ (∃ W, owes (c : Thread nD τ) 0 W))
      ⊢ iprop((iprop(xDone c arg0 al v0 XA t ∗ wFree c al1 v1 arg2 WA (sl t) ∗ holds c arg4 hRect (H c arg0 XA gv (t / 13)) ∗ holds c al0 gRect gv
            ∗ holds c al2 (oRect (sl t)) (O c arg0 arg2 XA WA gv t) ∗ (∃ W, owes (c : Thread nD τ) 0 W))
          -∗ Q ⟨Scalar.ori (Scalar.cmpi .ne v98 v118) v97, Scalar.cmpi .ne (Scalar.extui (Scalar.ori (Scalar.cmpi .ne v98 v118) v97)) 0#32⟩)
        -∗ wp frame (wpE (defs₀ (F := F)) 𝒱₀ (c : Thread nD τ) none) Set.univ
            (k0_part3 arg0 harg0 arg1 harg1 arg2 harg2 arg3 harg3 arg4 harg4 al hal v0 al0 hal0 al1 hal1 v1 al2 hal2 v2 vg t
              (w (t / 13)) (w (min (t + 1) 416)) (w t) (w t) (w (t - 1)) (w (t / 13)) (w (t % 13)) hw5 hw4 hw3
              v5 v96 v97 v98 v99 v108 v109 v118 v160 v161) Q) := by
  have ht : t.val < 416 := trips_eq ▸ t.isLt
  simp only [k0_part3_eq_skeleton]; unfold k0_part3_skel
  have h4 := cond4_eq t
  simp only [h4, ite_self, Prog.lift, Prog.bind_op, Prog.bind_ret, Prog.pure_eq_ret, ↓reduceDIte]
  by_cases h : t.val % 13 = 0
  · have h3 := (cond3_eq t).trans (if_pos h)
    have h6 := (cond6_eq t).trans (if_pos h)
    rw [show xWait c arg0 al v0 XA t = _ from if_pos h, show xDone c arg0 al v0 XA t = _ from if_pos h, show hBuf c arg0 arg4 XA gv t = _ from if_pos h]
    simp only [h3, h6, ↓reduceDIte, Prog.bind_op, Prog.bind_ret, Prog.pure_eq_ret]
    iintro ⟨HX, HW, HH, HG, HO, HOW⟩ Hk
    iapply (x_wait c al v0 arg0 XA (sl (t / 13)) (row (t / 13)) (off11_eq t)) $$ [HX HOW]
    · isplitl [HX]; · iexact HX
      iexact HOW
    iintro ⟨HX, HOW⟩
    iapply (w_wait c al1 v1 arg2 WA (sl t) (col t) (off14_eq t)) $$ [HW HOW]
    · isplitl [HW]; · iexact HW
      iexact HOW
    iintro ⟨HW, HOW⟩
    iapply (x_load c al v0 arg0 XA (sl (t / 13)) (row (t / 13)) (off17_eq t)) $$ HX
    iintro HX
    iapply (holds_load c al0 gRect gv) $$ HG
    iintro HG
    iapply (any_load c arg4 hRect) $$ HH
    iintro %_ HH
    iapply (any_store c arg4 hRect) $$ HH
    iintro HH
    ihave HH := (show holds c arg4 hRect (k0_pay1 (xVal c arg0 XA (row (t / 13))) gv) ⊢ holds c arg4 hRect (H c arg0 XA gv (t / 13)) from .rfl) $$ HH
    iapply (holds_load c arg4 hRect (H c arg0 XA gv (t / 13))) $$ HH
    iintro HH
    iapply (w_load c al1 v1 arg2 WA (sl t) (col t) (off18_eq t)) $$ HW
    iintro HW
    iapply (o_load c al2 (sl t) (off19_eq t)) $$ HO
    iintro %_ HO
    iapply (o_store c al2 (sl t) (off19_eq t)) $$ HO
    iintro HO
    rw [wp_ret]; imodintro
    iapply Hk
    isplitl [HX]; · iapply (xHas_free c al v0 arg0 XA _ _) $$ HX
    isplitl [HW]; · iapply (wHas_free c al1 v1 arg2 WA _ _) $$ HW
    isplitl [HH]; · iexact HH
    isplitl [HG]; · iexact HG
    isplitl [HO]; · iexact HO
    iexact HOW
  · have h3 := (cond3_eq t).trans (if_neg h)
    have h6 := (cond6_eq t).trans (if_neg h)
    rw [show xWait c arg0 al v0 XA t = _ from if_neg h, show xDone c arg0 al v0 XA t = _ from if_neg h, show hBuf c arg0 arg4 XA gv t = _ from if_neg h]
    simp only [h3, h6, show ¬(0#1 = 1#1) from by decide, ↓reduceDIte, Prog.bind_op, Prog.bind_ret, Prog.pure_eq_ret]
    iintro ⟨HX, HW, HH, HG, HO, HOW⟩ Hk
    iapply (w_wait c al1 v1 arg2 WA (sl t) (col t) (off14_eq t)) $$ [HW HOW]
    · isplitl [HW]; · iexact HW
      iexact HOW
    iintro ⟨HW, HOW⟩
    iapply (holds_load c arg4 hRect (H c arg0 XA gv (t / 13))) $$ HH
    iintro HH
    iapply (w_load c al1 v1 arg2 WA (sl t) (col t) (off18_eq t)) $$ HW
    iintro HW
    iapply (o_load c al2 (sl t) (off19_eq t)) $$ HO
    iintro %_ HO
    iapply (o_store c al2 (sl t) (off19_eq t)) $$ HO
    iintro HO
    rw [wp_ret]; imodintro
    iapply Hk
    isplitl [HX]; · iexact HX
    isplitl [HW]; · iapply (wHas_free c al1 v1 arg2 WA _ _) $$ HW
    isplitl [HH]; · iexact HH
    isplitl [HG]; · iexact HG
    isplitl [HO]; · iexact HO
    iexact HOW

/-- The block of the result of trip `t`, at a buffer's contents. -/
def oAt (t : Fin 416) (f : Buf (Elt F) (arg3.view.loc (c : Thread nD τ))) : sProp 𝕄 :=
  arg3.view.loc (c : Thread nD τ) ↦[(oBlk arg3 t).view.set]{fullShare} f
/-- Slot `s` is sending the block of trip `t`. -/
def oFly (s : Fin 2) (t : Fin 416) : sProp 𝕄 :=
  sending c al2 (oRect s) (oBlk arg3 t) (ringCell v2 s) 98304 G
/-- Slot `s` of the result's ring is free. -/
def oFree (s : Fin 2) : sProp 𝕄 := iprop(slotAny c al2 (oRect s) ∗ cellZ c (ringCell v2 s))

theorem o_send {α : Type} {Q : α → sProp 𝕄} {bd : Option 𝒱₀.V} (s : Fin 2) (t : Fin 416) (f₀ : Buf (Elt F) (arg3.view.loc (c : Thread nD τ)))
    (v : S1x1024x768.Idx → Elt F .f32) (hG : (oBlk arg3 t).view.read (Elt F) G = unslotVal (oRect s) squeezes_S1x1024x768_S1024x768 v)
    {o1 : Fin S2.rank → ℕ} {o2 : Fin S2x1024x768.rank → ℕ} {o3 : Fin S32768x9984.rank → ℕ}
    (h1 : o1 = ![s.val]) (h2 : o2 = ![s.val, 0, 0]) (h3 : o3 = ![1024 * (t.val / 13), 768 * (t.val % 13)])
    {i1 : ∀ a, o1 a + S1.size a ≤ S2.size a} {i2 : ∀ a, o2 a + S1x1024x768.size a ≤ S2x1024x768.size a} {i3 : ∀ a, o3 a + S1024x768.size a ≤ S32768x9984.size a}
    {hsrc hdst hsem}
    {k : PUnit → Prog (TpuEff nD τ sig (Elt F) (Λ₀ F) .tc) α} :
    iprop(holds c al2 (oRect s) v ∗ cellZ c (ringCell v2 s) ∗ oAt c arg3 t f₀)
      ⊢ iprop((oFly c arg3 al2 v2 G s t -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma ((al2.slice (Rect.unit (s := S2x1024x768) o2 S1x1024x768.size i2) (fun _ => rfl)).squeeze S1024x768 squeezes_S1x1024x768_S1024x768)
              (.here (p := (.tc : Proc τ)) (arg3.slice (Rect.unit (s := S32768x9984) o3 S1024x768.size i3) (fun _ => rfl)))
              (.dma ((v2.slice (Rect.unit (s := S2) o1 S1.size i1)).squeeze S_ squeezes_S1_S_).sem) hsrc hdst hsem) k) Q) := by
  subst h1 h2 h3
  exact send_issue c al2 (oRect s) (fun _ => rfl) squeezes_S1x1024x768_S1024x768 (oBlk arg3 t) (ringCell v2 s) 98304 f₀ G v hG rfl (by decide)

theorem o_wait {α : Type} {Q : α → sProp 𝕄} {bd : Option 𝒱₀.V} (s : Fin 2) (t : Fin 416) {o1 : Fin S2.rank → ℕ} (h1 : o1 = ![s.val])
    {i1 : ∀ a, o1 a + S1.size a ≤ S2.size a} {sp₂ : Space} {s₂ : Shape} {e₂ : EltTy} {srcw : Memref sig .tc sp₂ s₂ e₂} {dstw : Memref sig .tc .hbm S1024x768 .f32}
    {hsrc hdst}
    {k : PUnit → Prog (TpuEff nD τ sig (Elt F) (Λ₀ F) .tc) α} :
    iprop(oFly c arg3 al2 v2 G s t ∗ (∃ W, owes (c : Thread nD τ) 0 W))
      ⊢ iprop((iprop(oFree c al2 v2 s ∗ oAt c arg3 t G ∗ (∃ W, owes (c : Thread nD τ) 0 W)) -∗ wp frame (wpE (defs₀ (F := F)) 𝒱₀ (c : Thread nD τ) bd) Set.univ (k ⟨⟩) Q)
        -∗ wp frame (wpE (defs₀ (F := F)) 𝒱₀ (c : Thread nD τ) bd) Set.univ
            (.op (.waitDma2 ((v2.slice (Rect.unit (s := S2) o1 S1.size i1)).squeeze S_ squeezes_S1_S_).sem srcw dstw hsrc hdst) k) Q) := by
  subst h1
  unfold oFly
  iintro H Hk
  iapply (send_wait c al2 (oRect s) (oBlk arg3 t) (ringCell v2 s) 98304 G rfl) $$ H
  iintro ⟨H, R, A, W⟩
  iapply Hk
  unfold oFree
  isplitl [H R]
  · isplitl [H]; · iexact H
    iexact R
  isplitl [A]
  · iapply (show iprop((oBlk arg3 t).view.loc (c : Thread nD τ) ↦[(oBlk arg3 t).view.set]{fullShare} G) ⊢ (oAt c arg3 t G : sProp 𝕄) from .rfl) $$ A
  · iexact W

/-- Trip `t` and the trip before it, as trips of the grid. -/
def trip (t : ℕ) : Fin 416 := ⟨t % 416, Nat.mod_lt _ (by decide)⟩
/-- The send of the trip before `t`, if there is one, in flight; and done. -/
def oPrev (t : ℕ) : sProp 𝕄 := if t = 0 then oFree c al2 v2 (sl (t + 1)) else oFly c arg3 al2 v2 G (sl (t - 1)) (trip (t - 1))
@[inherit_doc oPrev] def oPrevDone (t : ℕ) : sProp 𝕄 :=
  if t = 0 then oFree c al2 v2 (sl (t + 1)) else iprop(oFree c al2 v2 (sl (t - 1)) ∗ oAt c arg3 (trip (t - 1)) G)

theorem part4 (f₀ : Buf (Elt F) (arg3.view.loc (c : Thread nD τ)))
    (hG : (oBlk arg3 (trip t)).view.read (Elt F) G = unslotVal (oRect (sl t)) squeezes_S1x1024x768_S1024x768 (O c arg0 arg2 XA WA gv t))
    (v96 v97 : BitVec 1) (v98 v99 v108 v109 v118 v119 : BitVec 32) (v195 v197 : BitVec 1) {Q : _ → sProp 𝕄} :
    iprop(holds c al2 (oRect (sl t)) (O c arg0 arg2 XA WA gv t) ∗ cellZ c (ringCell v2 (sl t)) ∗ oAt c arg3 (trip t) f₀ ∗ oPrev c arg3 al2 v2 G t
        ∗ (∃ W, owes (c : Thread nD τ) 0 W))
      ⊢ iprop((iprop(oFly c arg3 al2 v2 G (sl t) (trip t) ∗ oPrevDone c arg3 al2 v2 G t ∗ (∃ W, owes (c : Thread nD τ) 0 W))
          -∗ Q ⟨Scalar.select (Scalar.andi (Scalar.ori (Scalar.ori (Scalar.cmpi .ne v98 v118) (Scalar.cmpi .ne v99 v119)) v97) 1#1) (Scalar.addi (w t) 1#32) (w t),
              Scalar.select (Scalar.andi (Scalar.andi (Scalar.ori (Scalar.cmpi .ne v98 v108) (Scalar.cmpi .ne v99 v109)) (Scalar.xori v96 1#1)) 1#1)
                (Scalar.addi (w (t - 1)) 1#32) (w (t - 1)),
              Scalar.cmpi .ne v98 v118⟩)
        -∗ wp frame (wpE (defs₀ (F := F)) 𝒱₀ (c : Thread nD τ) none) Set.univ
            (k0_part4 arg0 harg0 arg1 harg1 arg2 harg2 arg3 harg3 arg4 harg4 al hal v0 al0 hal0 al1 hal1 v1 al2 hal2 v2 vg t
              (w (t / 13)) (w (min (t + 1) 416)) (w t) (w t) (w (t - 1)) (w (t / 13)) (w (t % 13)) hw3
              v96 v97 v98 v99 v108 v109 v118 v119 v195 v197) Q) := by
  have ht : t.val < 416 := trips_eq ▸ t.isLt
  have hT : (trip t).val = t := Nat.mod_eq_of_lt ht
  simp only [k0_part4_eq_skeleton]; unfold k0_part4_skel
  have h9 := cond9_eq t
  simp only [h9, ite_self, Prog.lift, Prog.bind_op, Prog.bind_ret, Prog.pure_eq_ret, ↓reduceDIte]
  by_cases h : t.val = 0
  · have h12 := (cond12_eq t).trans (if_pos h)
    rw [show oPrev c arg3 al2 v2 G t = _ from if_pos h, show oPrevDone c arg3 al2 v2 G t = _ from if_pos h]
    simp only [h12, show ¬(0#1 = 1#1) from by decide, ↓reduceDIte, Prog.bind_op, Prog.bind_ret, Prog.pure_eq_ret]
    iintro ⟨HO, HC, HA, HP, HOW⟩ Hk
    iapply (o_send c arg3 al2 v2 G (sl t) (trip t) f₀ _ hG (off20_eq t) (off22_eq t) (by rw [hT]; exact off21_eq t)) $$ [HO HC HA]
    · isplitl [HO]; · iexact HO
      isplitl [HC]; · iexact HC
      iexact HA
    iintro HF
    rw [wp_ret]; imodintro
    iapply Hk
    isplitl [HF]; · iexact HF
    isplitl [HP]; · iexact HP
    iexact HOW
  · have h12 := (cond12_eq t).trans (if_neg h)
    rw [show oPrev c arg3 al2 v2 G t = _ from if_neg h, show oPrevDone c arg3 al2 v2 G t = _ from if_neg h]
    simp only [h12, ↓reduceDIte, Prog.bind_op, Prog.bind_ret, Prog.pure_eq_ret]
    iintro ⟨HO, HC, HA, HP, HOW⟩ Hk
    iapply (o_send c arg3 al2 v2 G (sl t) (trip t) f₀ _ hG (off20_eq t) (off22_eq t) (by rw [hT]; exact off21_eq t)) $$ [HO HC HA]
    · isplitl [HO]; · iexact HO
      isplitl [HC]; · iexact HC
      iexact HA
    iintro HF
    iapply (o_wait c arg3 al2 v2 G (sl (t - 1)) (trip (t - 1)) (off23_eq t h)) $$ [HP HOW]
    · isplitl [HP]; · iexact HP
      iexact HOW
    iintro ⟨HP, HA, HOW⟩
    rw [wp_ret]; imodintro
    iapply Hk
    isplitl [HF]; · iexact HF
    isplitl [HP HA]
    · isplitl [HP]; · iexact HP
      iexact HA
    iexact HOW

end

end Cert.Proof.KI

end
-- ==== Proof.KI.Trip.lean ====
/-
  One trip of the pipeline's loop, from what the core holds before trip `t` to what it holds before trip `t + 1`: the three
  rings, the normalised activations, the scale, and the result's array, of which the blocks from trip `t` on are as they were
  and the blocks before trip `t - 1` are written.
-/
module

public import proofs.«01_k».proof.Proof.KI.Parts

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section

variable (c : Dev nD)
  (arg0 : Memref sig .tc .hbm S32768x2048 .f32) (harg0 : arg0.IsWhole) (arg1 : Memref sig .tc .hbm S1x2048 .f32) (harg1 : arg1.IsWhole)
  (arg2 : Memref sig .tc .hbm S9984x2048 .bf16) (harg2 : arg2.IsWhole) (arg3 : Memref sig .tc .hbm S32768x9984 .f32) (harg3 : arg3.IsWhole)
  (arg4 : Memref sig .tc .vmem S1024x2048 .bf16) (harg4 : arg4.IsWhole)
  (al : Memref sig .tc .vmem S2x1024x2048 .f32) (hal : al.IsWhole) (v0 : DmaSems sig S2)
  (al0 : Memref sig .tc .vmem S1x2048 .f32) (hal0 : al0.IsWhole)
  (al1 : Memref sig .tc .vmem S2x768x2048 .bf16) (hal1 : al1.IsWhole) (v1 : DmaSems sig S2)
  (al2 : Memref sig .tc .vmem S2x1024x768 .f32) (hal2 : al2.IsWhole) (v2 : DmaSems sig S2) (vg : DmaSems sig S_)
  (XA : Buf (Elt F) (arg0.view.loc (c : Thread nD τ))) (WA : Buf (Elt F) (arg2.view.loc (c : Thread nD τ))) (gv : S1x2048.Idx → Elt F .f32)
  (f₀ G : Buf (Elt F) (arg3.view.loc (c : Thread nD τ)))

/-! ### The activations' ring across a trip -/

/-- The activations' ring before trip `t`. -/
def xRing (t : ℕ) : sProp 𝕄 := iprop(xNext c al v0 arg0 XA ((t + 12) / 13) ∗ xFree c al v0 arg0 XA (sl ((t + 12) / 13 + 1)))
/-- What a trip that is not a row's first leaves alone of it. -/
def xRest (t : ℕ) : sProp 𝕄 := if t % 13 = 0 then iprop(emp) else xRing c arg0 al v0 XA t

theorem sl_add_two (n : ℕ) : sl (n + 1 + 1) = sl n := Fin.ext (by simp only [sl]; omega)

theorem xRing_open (t : ℕ) (ht : t < 416) :
    xRing c arg0 al v0 XA t ⊢ iprop(lookBefore c al v0 arg0 XA t ∗ xWait c arg0 al v0 XA t ∗ xRest c arg0 al v0 XA t) := by
  by_cases h : t % 13 = 0
  · rw [show lookBefore c al v0 arg0 XA t = _ from if_pos h, show xWait c arg0 al v0 XA t = _ from if_pos h, show xRest c arg0 al v0 XA t = _ from if_pos h]
    unfold xRing
    rw [show (t + 12) / 13 = t / 13 by omega, show xNext c al v0 arg0 XA (t / 13) = xFly c al v0 arg0 XA (sl (t / 13)) (row (t / 13)) from if_pos (by omega)]
    iintro ⟨H1, H2⟩
    isplitl [H2]; · iexact H2
    isplitl [H1]; · iexact H1
    iempintro
  · rw [show lookBefore c al v0 arg0 XA t = _ from if_neg h, show xWait c arg0 al v0 XA t = _ from if_neg h, show xRest c arg0 al v0 XA t = _ from if_neg h]
    iintro H
    isplitr; · iempintro
    isplitr; · iempintro
    iexact H

theorem xRing_close (t : ℕ) :
    iprop(lookAfter c al v0 arg0 XA t ∗ xDone c arg0 al v0 XA t ∗ xRest c arg0 al v0 XA t) ⊢ xRing c arg0 al v0 XA (t + 1) := by
  by_cases h : t % 13 = 0
  · rw [show lookAfter c al v0 arg0 XA t = _ from if_pos h, show xDone c arg0 al v0 XA t = _ from if_pos h, show xRest c arg0 al v0 XA t = _ from if_pos h]
    unfold xRing
    rw [show (t + 1 + 12) / 13 = t / 13 + 1 by omega, sl_add_two]
    iintro ⟨H1, H2, -⟩
    isplitl [H1]; · iexact H1
    iexact H2
  · rw [show lookAfter c al v0 arg0 XA t = _ from if_neg h, show xDone c arg0 al v0 XA t = _ from if_neg h, show xRest c arg0 al v0 XA t = _ from if_neg h]
    unfold xRing
    rw [show (t + 1 + 12) / 13 = (t + 12) / 13 by omega]
    iintro ⟨-, -, H⟩
    iexact H

/-! ### The result's array across a trip -/

/-- The elements of the result in blocks that satisfy `p`. -/
def oSet (p : Fin 416 → Prop) [DecidablePred p] : Finset arg3.view.ref.ty.shape.Idx :=
  Finset.biUnion (β := arg3.view.ref.ty.shape.Idx) (Finset.univ.filter p) fun t => (oBlk arg3 t).view.set

/-- Blocks of the result do not meet. -/
def oApart : Prop := ∀ a b : Fin 416, a ≠ b → Disjoint (oBlk arg3 a).view.set (oBlk arg3 b).view.set

/-- The blocks still to be written before trip `t`, and those already written. -/
def oTodo (t : ℕ) : sProp 𝕄 := arg3.view.loc (c : Thread nD τ) ↦[oSet arg3 fun b => t ≤ b.val]{fullShare} f₀
@[inherit_doc oTodo] def oDone (t : ℕ) : sProp 𝕄 := arg3.view.loc (c : Thread nD τ) ↦[oSet arg3 fun b => b.val + 1 < t]{fullShare} G

theorem oSet_cons (hap : oApart arg3) (p q : Fin 416 → Prop) [DecidablePred p] [DecidablePred q] (t : Fin 416) (hp : ∀ b, p b ↔ b = t ∨ q b) (hq : ¬ q t)
    (f : Buf (Elt F) (arg3.view.loc (c : Thread nD τ))) :
    (iprop(arg3.view.loc (c : Thread nD τ) ↦[oSet arg3 p]{fullShare} f) : sProp 𝕄)
      ⊣⊢ iprop(oAt c arg3 t f ∗ arg3.view.loc (c : Thread nD τ) ↦[oSet arg3 q]{fullShare} f) := by
  rw [show oSet arg3 p = (oBlk arg3 t).view.set ∪ oSet arg3 q by
    unfold oSet
    rw [show Finset.univ.filter p = insert t (Finset.univ.filter q) by ext b; simp [hp b]]
    exact Finset.biUnion_insert (β := arg3.view.ref.ty.shape.Idx)]
  exact pointsTo_union (Finset.disjoint_biUnion_right _ _ _ |>.mpr fun b hb => hap t b fun h => hq (h ▸ (Finset.mem_filter.mp hb).2))

theorem oTodo_next (hap : oApart arg3) (t : ℕ) (ht : t < 416) :
    oTodo c arg3 f₀ t ⊢ (iprop(oAt c arg3 (trip t) f₀ ∗ oTodo c arg3 f₀ (t + 1)) : sProp 𝕄) :=
  (oSet_cons c arg3 hap _ _ (trip t) (fun b => by
    rw [Fin.ext_iff, show (trip t).val = t from Nat.mod_eq_of_lt ht]; omega)
    (by rw [show (trip t).val = t from Nat.mod_eq_of_lt ht]; omega) f₀).1

theorem oDone_next (hap : oApart arg3) (t : ℕ) (ht : t < 417) (h0 : t ≠ 0) :
    (iprop(oAt c arg3 (trip (t - 1)) G ∗ oDone c arg3 G t) : sProp 𝕄) ⊢ oDone c arg3 G (t + 1) :=
  (oSet_cons c arg3 hap _ _ (trip (t - 1)) (fun b => by
    rw [Fin.ext_iff, show (trip (t - 1)).val = t - 1 from Nat.mod_eq_of_lt (by omega)]; omega)
    (by rw [show (trip (t - 1)).val = t - 1 from Nat.mod_eq_of_lt (by omega)]; omega) G).2

theorem oDone_start : oDone c arg3 G 0 ⊢ (oDone c arg3 G (0 + 1) : sProp 𝕄) :=
  entails_of_eq (congrArg (fun S => iprop(arg3.view.loc (c : Thread nD τ) ↦[S]{fullShare} G))
    (by unfold oSet; congr 1))

/-- What the result's ring and its finished blocks hold before trip `t`. -/
def oRing (t : ℕ) : sProp 𝕄 := iprop(oFree c al2 v2 (sl t) ∗ oPrev c arg3 al2 v2 G t ∗ oDone c arg3 G t)

theorem oRing_close (hap : oApart arg3) (t : ℕ) (ht : t < 416) :
    iprop(oFly c arg3 al2 v2 G (sl t) (trip t) ∗ oPrevDone c arg3 al2 v2 G t ∗ oDone c arg3 G t) ⊢ oRing c arg3 al2 v2 G (t + 1) := by
  unfold oRing
  rw [show oPrev c arg3 al2 v2 G (t + 1) = oFly c arg3 al2 v2 G (sl t) (trip t) from if_neg (by omega)]
  by_cases h : t = 0
  · subst h
    rw [show oPrevDone c arg3 al2 v2 G 0 = _ from if_pos rfl]
    iintro ⟨HF, HP, HD⟩
    isplitl [HP]; · iexact HP
    isplitl [HF]; · iexact HF
    iapply (oDone_start c arg3 G) $$ HD
  · rw [show oPrevDone c arg3 al2 v2 G t = _ from if_neg h, show sl (t - 1) = sl (t + 1) from Fin.ext (by simp only [sl]; omega)]
    iintro ⟨HF, ⟨HP, HA⟩, HD⟩
    isplitl [HP]; · iexact HP
    isplitl [HF]; · iexact HF
    iapply (oDone_next c arg3 G hap t (by omega) h)
    isplitl [HA]; · iexact HA
    iexact HD

/-! ### The weight's ring and the normalised activations across a trip -/

theorem wNext_now (t : ℕ) (ht : t < 416) : wNext c arg2 al1 v1 WA t ⊢ wFly c al1 v1 arg2 WA (sl t) (col t) := entails_of_eq (if_pos ht)

theorem hBuf_next (t : ℕ) : holds c arg4 hRect (H c arg0 XA gv (t / 13)) ⊢ hBuf c arg0 arg4 XA gv (t + 1) := by
  by_cases h : (t + 1) % 13 = 0
  · rw [show hBuf c arg0 arg4 XA gv (t + 1) = _ from if_pos h]
    exact holds_any c arg4 hRect _
  · rw [show hBuf c arg0 arg4 XA gv (t + 1) = _ from if_neg h, show (t + 1) / 13 = t / 13 by omega]

/-! ### A trip -/

/-- What the core holds before trip `t`. -/
def held (t : ℕ) : sProp 𝕄 :=
  iprop(xRing c arg0 al v0 XA t ∗ (wNext c arg2 al1 v1 WA t ∗ wFree c al1 v1 arg2 WA (sl (t + 1))) ∗ hBuf c arg0 arg4 XA gv t ∗ holds c al0 gRect gv
    ∗ oRing c arg3 al2 v2 G t ∗ oTodo c arg3 f₀ t ∗ (∃ W, owes (c : Thread nD τ) 0 W))

/-- The result's contents, block by block, are what the trips compute. -/
def computes : Prop := ∀ t : Fin 416, (oBlk arg3 t).view.read (Elt F) G
  = unslotVal (oRect (sl t)) squeezes_S1x1024x768_S1024x768 (O c arg0 arg2 XA WA gv t)

/-- The loop's invariant: the carried words are known, and so is what the core holds. -/
def inv (t : ℕ) (acc : BitVec 32 × BitVec 32 × BitVec 32 × BitVec 32 × BitVec 32 × BitVec 32 × BitVec 32 × BitVec 32 × BitVec 32 × BitVec 32 × BitVec 32) : sProp 𝕄 :=
  iprop(⌜acc = carried t⌝ ∗ held c arg0 arg2 arg3 arg4 al v0 al0 al1 v1 al2 v2 XA WA gv f₀ G t)

omit c arg0 arg1 arg2 arg3 arg4 al al0 al1 al2 v0 v1 v2 vg in
theorem carried_lt (t : ℕ) (ht : t < 416) : carried t
    = (w (a6 t), w (t / 13), w (a8 t), w (a9 t), w 0, w (min (t + 1) 416), w t, w t, w (t - 1), w (t / 13), w (t % 13)) := by
  unfold carried
  rw [if_neg (by omega), if_neg (by omega), if_neg (by omega)]

theorem trip_body (hap : oApart arg3) (hG : computes c arg0 arg2 arg3 XA WA gv G) (k : Fin k0_t1_loop.trips) :
    held c arg0 arg2 arg3 arg4 al v0 al0 al1 v1 al2 v2 XA WA gv f₀ G k
      ⊢ wp frame (wpE (defs₀ (F := F)) 𝒱₀ (c : Thread nD τ) none) Set.univ
          (k0_t1_body arg0 harg0 arg1 harg1 arg2 harg2 arg3 harg3 arg4 harg4 al hal v0 al0 hal0 al1 hal1 v1 al2 hal2 v2 vg 0#32 k (carried k))
          (inv c arg0 arg2 arg3 arg4 al v0 al0 al1 v1 al2 v2 XA WA gv f₀ G (k + 1)) := by
  have hk : k.val < 416 := trips_eq ▸ k.isLt
  have hT : (trip k).val = k := Nat.mod_eq_of_lt hk
  have hy := yielded_eq k
  rw [carried_lt k hk]
  unfold k0_t1_body k0_part1
  simp only [wp_bind, Prog.lift, Prog.bind_op, Prog.bind_ret, Prog.pure_eq_ret]
  unfold held oRing oFree
  iintro ⟨HX, ⟨HW, HWf⟩, HH, HG, ⟨⟨HO, HC⟩, HP, HD⟩, HT, HOW⟩
  ihave HX := (xRing_open c arg0 al v0 XA k hk) $$ HX
  icases HX with ⟨HB, HX, HR⟩
  ihave HT := (oTodo_next c arg3 f₀ hap k hk) $$ HT
  icases HT with ⟨HA, HT⟩
  ihave HW := (wNext_now c arg2 al1 v1 WA k hk) $$ HW
  iapply (wp_assume 𝒱₀ (c : Thread nD τ) none Set.univ (chk5_of k))
  iapply (wp_assume 𝒱₀ (c : Thread nD τ) none Set.univ (chk4_of k))
  iapply (wp_assume 𝒱₀ (c : Thread nD τ) none Set.univ (chk3_of k))
  simp only [wp_bind]
  iapply (part2 c arg0 harg0 arg1 harg1 arg2 harg2 arg3 harg3 arg4 harg4 al hal v0 al0 hal0 al1 hal1 v1 al2 hal2 v2 vg XA WA k (chk3_of k)) $$ [HB HWf]
  · isplitl [HB]; · iexact HB
    iexact HWf
  iintro ⟨HB, HWn⟩
  iapply (part3 c arg0 harg0 arg1 harg1 arg2 harg2 arg3 harg3 arg4 harg4 al hal v0 al0 hal0 al1 hal1 v1 al2 hal2 v2 vg XA WA gv k (chk3_of k) (chk4_of k) (chk5_of k)) $$ [HX HW HH HG HO HOW]
  · isplitl [HX]; · iexact HX
    isplitl [HW]; · iexact HW
    isplitl [HH]; · iexact HH
    isplitl [HG]; · iexact HG
    isplitl [HO]; · iexact HO
    iexact HOW
  iintro ⟨HX, HWf, HH, HG, HO, HOW⟩
  iapply (part4 c arg0 harg0 arg1 harg1 arg2 harg2 arg3 harg3 arg4 harg4 al hal v0 al0 hal0 al1 hal1 v1 al2 hal2 v2 vg XA WA gv G k (chk3_of k) f₀
    (by rw [hG, hT])) $$ [HO HC HA HP HOW]
  · isplitl [HO]; · iexact HO
    isplitl [HC]; · iexact HC
    isplitl [HA]; · iexact HA
    isplitl [HP]; · iexact HP
    iexact HOW
  iintro ⟨HF, HP, HOW⟩
  rw [wp_ret]; imodintro
  unfold inv held
  isplitr
  · ipureintro; exact hy
  isplitl [HB HX HR]
  · iapply (xRing_close c arg0 al v0 XA k)
    isplitl [HB]; · iexact HB
    isplitl [HX]; · iexact HX
    iexact HR
  isplitl [HWn HWf]
  · isplitl [HWn]; · iexact HWn
    rw [sl_add_two]
    iexact HWf
  isplitl [HH]; · iapply (hBuf_next c arg0 arg4 XA gv k) $$ HH
  isplitl [HG]; · iexact HG
  isplitl [HF HP HD]
  · iapply (oRing_close c arg3 al2 v2 G hap k hk)
    isplitl [HF]; · iexact HF
    isplitl [HP]; · iexact HP
    iexact HD
  isplitl [HT]; · iexact HT
  iexact HOW

end

end Cert.Proof.KI

end
-- ==== Proof.KI.Body.lean ====
/-
  The kernel's body as one run: the scale is copied in, the first blocks are requested, the loop's trips run, and the last
  block's send is waited for. From the rings free and the result at anything, the body leaves the rings free and every block
  of the result written.
-/
module

public import proofs.«01_k».proof.Proof.KI.Trip

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section

variable (c : Dev nD)
  (arg0 : Memref sig .tc .hbm S32768x2048 .f32) (harg0 : arg0.IsWhole) (arg1 : Memref sig .tc .hbm S1x2048 .f32) (harg1 : arg1.IsWhole)
  (arg2 : Memref sig .tc .hbm S9984x2048 .bf16) (harg2 : arg2.IsWhole) (arg3 : Memref sig .tc .hbm S32768x9984 .f32) (harg3 : arg3.IsWhole)
  (arg4 : Memref sig .tc .vmem S1024x2048 .bf16) (harg4 : arg4.IsWhole)
  (al : Memref sig .tc .vmem S2x1024x2048 .f32) (hal : al.IsWhole) (v0 : DmaSems sig S2)
  (al0 : Memref sig .tc .vmem S1x2048 .f32) (hal0 : al0.IsWhole)
  (al1 : Memref sig .tc .vmem S2x768x2048 .bf16) (hal1 : al1.IsWhole) (v1 : DmaSems sig S2)
  (al2 : Memref sig .tc .vmem S2x1024x768 .f32) (hal2 : al2.IsWhole) (v2 : DmaSems sig S2) (vg : DmaSems sig S_)
  (XA : Buf (Elt F) (arg0.view.loc (c : Thread nD τ))) (WA : Buf (Elt F) (arg2.view.loc (c : Thread nD τ))) (gv : S1x2048.Idx → Elt F .f32)
  (f₀ G : Buf (Elt F) (arg3.view.loc (c : Thread nD τ)))

variable (GA : Buf (Elt F) (arg1.view.loc (c : Thread nD τ)))

/-! ### The scale's copy -/

omit [FloatOps F] in
theorem gRect_emb (x : S1x2048.Idx) : gRect.emb x = x := by
  funext a; refine Fin.ext ?_; rw [Rect.emb_apply]; fin_cases a <;> simp [gRect, Rect.unit]

omit [FloatOps F] in
theorem gRect_set : al0.view.set ⊆ (al0.access gRect).set := by
  intro i hi
  obtain ⟨x, -, rfl⟩ := Finset.mem_map.mp hi
  have h : (al0.access gRect).emb x = al0.view.emb x := congrArg al0.view.emb (gRect_emb x)
  exact Finset.mem_map.mpr ⟨x, Finset.mem_univ _, h⟩

theorem g_copy {α : Type} {Q : α → sProp 𝕄} {bd : Option 𝒱₀.V} {hsrc hdst hsem hsrc' hdst'} {k : PUnit → Prog (TpuEff nD τ sig (Elt F) (Λ₀ F) .tc) α} :
    iprop(slotAny c al0 gRect ∗ cellZ c vg ∗ (arg1.view.loc (c : Thread nD τ) ↦[arg1.view.set]{fullShare} GA) ∗ (∃ W, owes (c : Thread nD τ) 0 W))
      ⊢ iprop((iprop(holds c al0 gRect (arg1.view.read (Elt F) GA) ∗ cellZ c vg ∗ (arg1.view.loc (c : Thread nD τ) ↦[arg1.view.set]{fullShare} GA)
            ∗ (∃ W, owes (c : Thread nD τ) 0 W)) -∗ wp frame (wpE (defs₀ (F := F)) 𝒱₀ (c : Thread nD τ) bd) Set.univ (k ⟨⟩) Q)
        -∗ wp frame (wpE (defs₀ (F := F)) 𝒱₀ (c : Thread nD τ) bd) Set.univ
            (.op (.enqueueDma arg1 (.here (p := (.tc : Proc τ)) al0) (.dma vg.sem) hsrc hdst hsem)
              fun _ => .op (.waitDma2 vg.sem arg1 al0 hsrc' hdst') k) Q) := by
  unfold slotAny cellZ holds
  iintro ⟨⟨%f, Hs⟩, Hc, Hg, ⟨%W, HW⟩⟩ Hk
  iapply (Transfers.wp_dmaLocal countersEmb 𝒱₀ (c : Thread nD τ) bd () 256 rfl (by decide) (gRect_set al0)) $$ [Hg Hs Hc]
  · isplitl [Hg]; · iexact Hg
    isplitl [Hs]; · iexact Hs
    iexact Hc
  iintro Hf
  iapply (Transfers.wp_waitLocal countersEmb 𝒱₀ (c : Thread nD τ) bd () rfl) $$ [Hf HW]
  · isplitl [Hf]; · iexact Hf
    iexact HW
  iintro ⟨⟨Hs, Hg⟩, Hc, HW⟩
  iapply Hk
  isplitl [Hs]
  · iexists _
    isplitr
    rotate_left
    · iexact Hs
    ipureintro
    funext x
    show al0.view.read (Elt F) _ (gRect.emb x) = _
    rw [View.read_write_univ, gRect_emb]
  isplitl [Hc]; · iexact Hc
  isplitl [Hg]; · iexact Hg
  iexists _; iexact HW

/-! ### The loop's ends -/

theorem held_zero :
    iprop(xFly c al v0 arg0 XA 0 0 ∗ xFree c al v0 arg0 XA 1 ∗ wFly c al1 v1 arg2 WA 0 0 ∗ wFree c al1 v1 arg2 WA 1 ∗ slotAny c arg4 hRect ∗ holds c al0 gRect gv
        ∗ oFree c al2 v2 0 ∗ oFree c al2 v2 1 ∗ oTodo c arg3 f₀ 0 ∗ oDone c arg3 G 0 ∗ (∃ W, owes (c : Thread nD τ) 0 W))
      ⊢ held c arg0 arg2 arg3 arg4 al v0 al0 al1 v1 al2 v2 XA WA gv f₀ G 0 := by
  unfold held xRing oRing
  rw [show xNext c al v0 arg0 XA ((0 + 12) / 13) = xFly c al v0 arg0 XA 0 0 from if_pos (by decide), show wNext c arg2 al1 v1 WA 0 = wFly c al1 v1 arg2 WA 0 0 from if_pos (by decide),
    show hBuf c arg0 arg4 XA gv 0 = _ from if_pos rfl, show oPrev c arg3 al2 v2 G 0 = _ from if_pos rfl]
  iintro ⟨X0, X1, W0, W1, HH, HG, O0, O1, HT, HD, HW⟩
  isplitl [X0 X1]
  · isplitl [X0]; · iexact X0
    iexact X1
  isplitl [W0 W1]
  · isplitl [W0]; · iexact W0
    iexact W1
  isplitl [HH]; · iexact HH
  isplitl [HG]; · iexact HG
  isplitl [O0 O1 HD]
  · isplitl [O0]; · iexact O0
    isplitl [O1]; · iexact O1
    iexact HD
  isplitl [HT]; · iexact HT
  iexact HW

theorem held_end :
    held c arg0 arg2 arg3 arg4 al v0 al0 al1 v1 al2 v2 XA WA gv f₀ G 416
      ⊢ iprop(xFree c al v0 arg0 XA 0 ∗ xFree c al v0 arg0 XA 1 ∗ wFree c al1 v1 arg2 WA 0 ∗ wFree c al1 v1 arg2 WA 1 ∗ slotAny c arg4 hRect ∗ slotAny c al0 gRect
        ∗ oFree c al2 v2 0 ∗ oFly c arg3 al2 v2 G 1 (trip 415) ∗ oDone c arg3 G 416 ∗ (∃ W, owes (c : Thread nD τ) 0 W)) := by
  unfold held xRing oRing
  rw [show xNext c al v0 arg0 XA ((416 + 12) / 13) = xFree c al v0 arg0 XA 0 from if_neg (by decide), show wNext c arg2 al1 v1 WA 416 = wFree c al1 v1 arg2 WA 0 from if_neg (by decide),
    show hBuf c arg0 arg4 XA gv 416 = _ from if_pos rfl, show oPrev c arg3 al2 v2 G 416 = oFly c arg3 al2 v2 G 1 (trip 415) from if_neg (by decide)]
  iintro ⟨⟨X0, X1⟩, ⟨W0, W1⟩, HH, HG, ⟨O0, O1, HD⟩, -, HW⟩
  isplitl [X0]; · iexact X0
  isplitl [X1]; · iexact X1
  isplitl [W0]; · iexact W0
  isplitl [W1]; · iexact W1
  isplitl [HH]; · iexact HH
  isplitl [HG]; · iapply (holds_any c al0 gRect gv) $$ HG
  isplitl [O0]; · iexact O0
  isplitl [O1]; · iexact O1
  isplitl [HD]; · iexact HD
  iexact HW

omit c arg0 arg1 arg2 arg3 arg4 al al0 al1 al2 v0 v1 v2 vg in
theorem carried_end : carried 416 = (w 32, w 32, w (a8 416), w (a9 416), w 1, w 416, w 416, w 416, w 415, w 0, w 0) := rfl

/-! ### The body -/

/-- What the body leaves as it found it: every ring free, the activations, the weight and the scale unchanged. -/
def around : sProp 𝕄 :=
  iprop(xFree c al v0 arg0 XA 0 ∗ xFree c al v0 arg0 XA 1 ∗ wFree c al1 v1 arg2 WA 0 ∗ wFree c al1 v1 arg2 WA 1 ∗ slotAny c arg4 hRect ∗ slotAny c al0 gRect
    ∗ oFree c al2 v2 0 ∗ oFree c al2 v2 1 ∗ cellZ c vg ∗ (arg1.view.loc (c : Thread nD τ) ↦[arg1.view.set]{fullShare} GA))

theorem body (hap : oApart arg3) (hG : computes c arg0 arg2 arg3 XA WA (arg1.view.read (Elt F) GA) G) {Q : PUnit → sProp 𝕄} :
    iprop(around c arg0 arg1 arg2 arg4 al v0 al0 al1 v1 al2 v2 vg XA WA GA ∗ oTodo c arg3 f₀ 0 ∗ oDone c arg3 G 0 ∗ (∃ W, owes (c : Thread nD τ) 0 W))
      ⊢ iprop((iprop(around c arg0 arg1 arg2 arg4 al v0 al0 al1 v1 al2 v2 vg XA WA GA ∗ oDone c arg3 G 417 ∗ (∃ W, owes (c : Thread nD τ) 0 W)) -∗ Q ⟨⟩)
        -∗ wp frame (wpE (defs₀ (F := F)) 𝒱₀ (c : Thread nD τ) none) Set.univ
          (cc0_norm_matmul_lookahead arg0 harg0 arg1 harg1 arg2 harg2 arg3 harg3 arg4 harg4 al hal v0 al0 hal0 al1 hal1 v1 al2 hal2 v2 vg) Q) := by
  unfold around
  rw [cc0_norm_matmul_lookahead_eq_skeleton]; unfold cc0_norm_matmul_lookahead_skel
  simp only [k0_part5_eq_skeleton, k0_part6_eq_skeleton]; unfold k0_part5_skel k0_part6_skel k0_part7
  simp only [Prog.lift, Prog.bind_op, Prog.bind_ret, Prog.pure_eq_ret]
  iintro ⟨⟨X0, X1, W0, W1, HH, HG, O0, O1, HC, Hg⟩, HT, HD, HW⟩ Hk
  iapply (g_copy c arg1 al0 vg GA) $$ [HG HC Hg HW]
  · isplitl [HG]; · iexact HG
    isplitl [HC]; · iexact HC
    isplitl [Hg]; · iexact Hg
    iexact HW
  iintro ⟨HG, HC, Hg, HW⟩
  iapply (x_issue c al v0 arg0 XA 0 0 off1_eq off2_eq off3_eq) $$ X0
  iintro X0
  iapply (w_issue c al1 v1 arg2 WA 0 0 off1_eq off4_eq rfl) $$ W0
  iintro W0
  ihave HI := (held_zero c arg0 arg2 arg3 arg4 al v0 al0 al1 v1 al2 v2 XA WA (arg1.view.read (Elt F) GA) f₀ G) $$ [X0 X1 W0 W1 HH HG O0 O1 HT HD HW]
  · isplitl [X0]; · iexact X0
    isplitl [X1]; · iexact X1
    isplitl [W0]; · iexact W0
    isplitl [W1]; · iexact W1
    isplitl [HH]; · iexact HH
    isplitl [HG]; · iexact HG
    isplitl [O0]; · iexact O0
    isplitl [O1]; · iexact O1
    isplitl [HT]; · iexact HT
    isplitl [HD]; · iexact HD
    iexact HW
  simp only [wp_bind]
  iapply (Scf.wp_for frame (wpE (defs₀ (F := F)) 𝒱₀ (c : Thread nD τ) none) Set.univ k0_t1_loop.lb k0_t1_loop.ub k0_t1_loop.st k0_t1_ok _ _
    (inv c arg0 arg2 arg3 arg4 al v0 al0 al1 v1 al2 v2 XA WA (arg1.view.read (Elt F) GA) f₀ G) (fun k acc => by
      unfold inv
      iintro ⟨%ha, H⟩
      subst ha
      iapply (trip_body c arg0 harg0 arg1 harg1 arg2 harg2 arg3 harg3 arg4 harg4 al hal v0 al0 hal0 al1 hal1 v1 al2 hal2 v2 vg XA WA (arg1.view.read (Elt F) GA) f₀ G hap hG k) $$ H))
  isplitl [HI]
  · unfold inv
    isplitr
    · ipureintro; exact carried_zero.symm
    iexact HI
  iintro %acc HI
  rw [show Scf.trips k0_t1_loop.lb k0_t1_loop.ub k0_t1_loop.st = 416 from trips_eq]
  unfold inv
  icases HI with ⟨%ha, HI⟩
  subst ha
  rw [carried_end]
  ihave HI := (held_end c arg0 arg2 arg3 arg4 al v0 al0 al1 v1 al2 v2 XA WA (arg1.view.read (Elt F) GA) f₀ G) $$ HI
  icases HI with ⟨X0, X1, W0, W1, HH, HG, O0, O1, HD, HW⟩
  iapply (wp_assume 𝒱₀ (c : Thread nD τ) none Set.univ chk7_of)
  iapply (wp_assume 𝒱₀ (c : Thread nD τ) none Set.univ chk6_of)
  simp only [wp_ret]
  imodintro
  iapply (o_wait c arg3 al2 v2 G 1 (trip 415) off26_eq) $$ [O1 HW]
  · isplitl [O1]; · iexact O1
    iexact HW
  iintro ⟨O1, HA, HW⟩
  rw [wp_ret]; imodintro
  iapply Hk
  isplitr [HA HD HW]
  rotate_left
  · isplitr [HW]
    · iapply (oDone_next c arg3 G hap 416 (by decide) (by decide))
      isplitl [HA]; · iexact HA
      iexact HD
    iexact HW
  isplitl [X0]; · iexact X0
  isplitl [X1]; · iexact X1
  isplitl [W0]; · iexact W0
  isplitl [W1]; · iexact W1
  isplitl [HH]; · iexact HH
  isplitl [HG]; · iexact HG
  isplitl [O0]; · iexact O0
  isplitl [O1]; · iexact O1
  isplitl [HC]; · iexact HC
  iexact Hg

end

end Cert.Proof.KI

end
-- ==== Proof.KI.Layout.lean ====
/-
  How the kernel's buffers are cut: a ring is its two slots, a scratch buffer is its one rectangle, the result is its 416
  blocks, and an array read by two fetches at once is held in two halves.
-/
module

public import proofs.«01_k».proof.Proof.KI.Body
public import Idealize.ShloMosaic.Lib.Ring

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ### Rings -/

/-- A slot of a three-dimensional ring: the elements whose first coordinate is the slot. -/
theorem mem_slot (n k : ℕ) (s : Fin 2) {inb} (y : (⟨3, ![2, n, k]⟩ : Shape).Idx) :
    y ∈ (Rect.unit (s := ⟨3, ![2, n, k]⟩) ![s.val, 0, 0] ![1, n, k] inb).set ↔ (y 0).val = s.val := by
  rw [Rect.mem_set_unit]
  have h1 : (y 1).val < n := (y 1).isLt
  have h2 : (y 2).val < k := (y 2).isLt
  constructor
  · intro H; have a0 : s.val ≤ (y 0).val ∧ (y 0).val < s.val + 1 := H 0; omega
  · intro H i
    fin_cases i
    · show s.val ≤ (y 0).val ∧ (y 0).val < s.val + 1; omega
    · show 0 ≤ (y 1).val ∧ (y 1).val < 0 + n; omega
    · show 0 ≤ (y 2).val ∧ (y 2).val < 0 + k; omega

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ

/-- The elements of slot `s` of a ring, as a set of its buffer's. -/
structure Halves {b : Ref sig .tc} (A : Fin 2 → Finset b.ty.shape.Idx) : Prop where
  apart : ∀ s s', s ≠ s' → Disjoint (A s) (A s')
  cover : Finset.univ.biUnion A = Finset.univ

theorem halves_of {b : Ref sig .tc} (A : Fin 2 → Finset b.ty.shape.Idx) (p : b.ty.shape.Idx → ℕ) (hp : ∀ y, p y < 2) (h : ∀ s y, y ∈ A s ↔ p y = s.val) : Halves A where
  apart s s' hne := Finset.disjoint_left.mpr fun y hy hy' => hne (Fin.ext (((h s y).mp hy).symm.trans ((h s' y).mp hy')))
  cover := by
    ext y
    simp only [Finset.mem_biUnion, Finset.mem_univ, true_and, iff_true]
    exact ⟨⟨p y, hp y⟩, (h _ y).mpr rfl⟩

omit [FloatOps F] in
/-- A ring's buffer at anything is its two slots at anything; -/
theorem ring_split (c : Dev nD) {b : Ref sig .tc} {A : Fin 2 → Finset b.ty.shape.Idx} (h : Halves A) :
    iprop(∃ f : Buf (Elt F) ((c : Thread nD τ).loc b), ((c : Thread nD τ).loc b) ↦{fullShare} f)
      ⊢ (iprop((∃ f : Buf (Elt F) ((c : Thread nD τ).loc b), ((c : Thread nD τ).loc b) ↦[A 0]{fullShare} f)
          ∗ ∃ f : Buf (Elt F) ((c : Thread nD τ).loc b), ((c : Thread nD τ).loc b) ↦[A 1]{fullShare} f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc b) A h.apart h.cover f).trans (bigSep_two _))) $$ H
  icases H2 with ⟨H0, H1⟩
  isplitl [H0]
  · iexists f; iexact H0
  · iexists f; iexact H1

omit [FloatOps F] in
/-- and the two slots are the buffer. -/
theorem ring_join (c : Dev nD) {b : Ref sig .tc} {A : Fin 2 → Finset b.ty.shape.Idx} (h : Halves A) :
    iprop((∃ f : Buf (Elt F) ((c : Thread nD τ).loc b), ((c : Thread nD τ).loc b) ↦[A 0]{fullShare} f)
        ∗ ∃ f : Buf (Elt F) ((c : Thread nD τ).loc b), ((c : Thread nD τ).loc b) ↦[A 1]{fullShare} f)
      ⊢ (iprop(∃ f : Buf (Elt F) ((c : Thread nD τ).loc b), ((c : Thread nD τ).loc b) ↦{fullShare} f) : sProp 𝕄) := by
  iintro ⟨⟨%f0, H0⟩, ⟨%f1, H1⟩⟩
  iapply (Ring.pointsTo_blocks_join_exists (ℓ := (c : Thread nD τ).loc b) A h.apart h.cover f0)
  irw [bigSep_two]
  isplitl [H0]
  · iexists f0; iexact H0
  · iexists f1; iexact H1

theorem xHalves : Halves (b := cc0_scoped0) fun s => (xRect s).set := halves_of _ (fun y => (y 0).val) (fun y => (y 0).isLt) fun s y => mem_slot 1024 2048 s y
theorem wHalves : Halves (b := cc0_scoped3) fun s => (wRect s).set := halves_of _ (fun y => (y 0).val) (fun y => (y 0).isLt) fun s y => mem_slot 768 2048 s y
theorem oHalves : Halves (b := cc0_scoped5) fun s => (oRect s).set := halves_of _ (fun y => (y 0).val) (fun y => (y 0).isLt) fun s y => mem_slot 1024 768 s y

/-! ### The result's blocks -/

/-- The result's array. -/
abbrev outM : Memref sig .tc .hbm S32768x9984 .f32 := Memref.whole main_v0

/-- The block of the result that holds element `y`. -/
def blkOf (y : S32768x9984.Idx) : Fin 416 :=
  ⟨(y 0).val / 1024 * 13 + (y 1).val / 768, by
    have h0 : (y 0).val < 32768 := (y 0).isLt
    have h1 : (y 1).val < 9984 := (y 1).isLt
    omega⟩

theorem mem_oBlk (t : Fin 416) (y : S32768x9984.Idx) : y ∈ (oBlk outM t).view.set ↔ blkOf y = t := by
  refine (Iff.of_eq (congrArg (fun S : Finset S32768x9984.Idx => y ∈ S) (View.set_slice_whole main_v0
    (Rect.unit (s := S32768x9984) ![1024 * (t.val / 13), 768 * (t.val % 13)] S1024x768.size (by revert t; decide +kernel))))).trans ?_
  rw [Rect.mem_set_unit, Fin.ext_iff]
  have h0 : (y 0).val < 32768 := (y 0).isLt
  have h1 : (y 1).val < 9984 := (y 1).isLt
  have ht := t.isLt
  constructor
  · intro H
    have a0 : 1024 * (t.val / 13) ≤ (y 0).val ∧ (y 0).val < 1024 * (t.val / 13) + 1024 := H 0
    have a1 : 768 * (t.val % 13) ≤ (y 1).val ∧ (y 1).val < 768 * (t.val % 13) + 768 := H 1
    show (y 0).val / 1024 * 13 + (y 1).val / 768 = t.val
    omega
  · intro H i
    have H : (y 0).val / 1024 * 13 + (y 1).val / 768 = t.val := H
    fin_cases i
    · show 1024 * (t.val / 13) ≤ (y 0).val ∧ (y 0).val < 1024 * (t.val / 13) + 1024; omega
    · show 768 * (t.val % 13) ≤ (y 1).val ∧ (y 1).val < 768 * (t.val % 13) + 768; omega

theorem out_apart : oApart outM := fun a b hne => Finset.disjoint_left.mpr fun y hy hy' => hne (((mem_oBlk a y).mp hy).symm.trans ((mem_oBlk b y).mp hy'))

theorem oSet_all (p : Fin 416 → Prop) [DecidablePred p] (h : ∀ t, p t) : oSet outM p = Finset.univ := by
  ext y
  refine ⟨fun _ => Finset.mem_univ _, fun _ => ?_⟩
  unfold oSet
  exact Finset.mem_biUnion.mpr ⟨blkOf y, Finset.mem_filter.mpr ⟨Finset.mem_univ _, h _⟩, (mem_oBlk _ y).mpr rfl⟩

theorem oSet_none (p : Fin 416 → Prop) [DecidablePred p] (h : ∀ t, ¬ p t) : oSet outM p = ∅ := by
  unfold oSet
  rw [Finset.filter_false_of_mem fun t _ => h t]
  exact Finset.biUnion_empty

end Cert.Proof.KI

end
-- ==== Proof.KI.Launch.lean ====
/-
  The launch: from any memory with zero counters the program runs to the end, its three arguments are unchanged, the result
  holds what the trips compute, the two caches are cut out of it, and every counter reads zero again — over any float values.
-/
module

public import proofs.«01_k».proof.Proof.KI.Layout
public import proofs.«01_k».proof.Proof.Gen.KernelIdeal.Launch
public import proofs.«01_k».proof.Proof.Gen.KernelIdeal.Points
public import Idealize.ShloMosaic.Lib.Pipeline.Quiescent
public import Idealize.ShloMosaic.Lib.Pipeline.FrameSuffix
public import Idealize.ShloMosaic.Lib.StableHlo.Run
public import Idealize.ShloMosaic.Lib.Tactic

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

abbrev xM : Memref sig .tc .hbm S32768x2048 .f32 := Memref.whole main_arg0
abbrev gM : Memref sig .tc .hbm S1x2048 .f32 := Memref.whole main_arg1
abbrev wM : Memref sig .tc .hbm S9984x2048 .bf16 := Memref.whole main_arg2
abbrev hM : Memref sig .tc .vmem S1024x2048 .bf16 := Memref.whole cc0_scratch0
abbrev xR : Memref sig .tc .vmem S2x1024x2048 .f32 := Memref.whole cc0_scoped0
abbrev gR : Memref sig .tc .vmem S1x2048 .f32 := Memref.whole cc0_scoped2
abbrev wR : Memref sig .tc .vmem S2x768x2048 .bf16 := Memref.whole cc0_scoped3
abbrev oR : Memref sig .tc .vmem S2x1024x768 .f32 := Memref.whole cc0_scoped5

variable (m : (ℓ : Loc nD τ sig) → Buf (Elt F) ℓ) (ρ : Dev nD → PrngReg) (c : Dev nD)

/-! ### The result -/

/-- The place of element `y` in its block. -/
def locOf (y : S32768x9984.Idx) : S1024x768.Idx
  | ⟨0, _⟩ => ⟨(y 0).val % 1024, Nat.mod_lt _ (by decide)⟩
  | ⟨1, _⟩ => ⟨(y 1).val % 768, Nat.mod_lt _ (by decide)⟩

/-- Block `t` of the result. -/
def outVal (t : ℕ) : S1024x768.Idx → Elt F .f32 :=
  unslotVal (oRect (sl t)) squeezes_S1x1024x768_S1024x768
    (O c xM wM (m ((c : Thread nD τ).loc main_arg0)) (m ((c : Thread nD τ).loc main_arg2)) (gM.view.read (Elt F) (m ((c : Thread nD τ).loc main_arg1))) t)

/-- The whole result. -/
def result : Buf (Elt F) ((c : Thread nD τ).loc main_v0) := fun y : S32768x9984.Idx => outVal m c (blkOf y) (locOf y)

theorem result_computes : computes c xM wM outM (m ((c : Thread nD τ).loc main_arg0)) (m ((c : Thread nD τ).loc main_arg2))
    (gM.view.read (Elt F) (m ((c : Thread nD τ).loc main_arg1))) (result m c) := fun t => by
  funext y
  have ht := t.isLt
  have h0 : (y 0).val < 1024 := (y 0).isLt
  have h1 : (y 1).val < 768 := (y 1).isLt
  have key : ∀ z : S32768x9984.Idx, (z 0).val = 1024 * (t.val / 13) + 1 * (y 0).val → (z 1).val = 768 * (t.val % 13) + 1 * (y 1).val → outVal m c (blkOf z) (locOf z) = outVal m c t y := by
    intro z e0 e1
    have hb : blkOf z = t := by
      refine Fin.ext ?_
      show (z 0).val / 1024 * 13 + (z 1).val / 768 = t.val
      omega
    have hl : locOf z = y := by
      funext a
      fin_cases a
      · refine Fin.ext ?_
        show (z 0).val % 1024 = (y 0).val
        omega
      · refine Fin.ext ?_
        show (z 1).val % 768 = (y 1).val
        omega
    rw [hb, hl]
  exact key ((oBlk outM t).view.emb y) rfl rfl

/-! ### What the launch hands the body, and gets back -/

omit [FloatOps F] in
theorem x_slot (s : Fin 2) : slotAny c xR (xRect s)
    = (iprop(∃ f : Buf (Elt F) ((c : Thread nD τ).loc cc0_scoped0), ((c : Thread nD τ).loc cc0_scoped0) ↦[(xRect s).set]{fullShare} f) : sProp 𝕄) :=
  congrArg (fun S => iprop(∃ f : Buf (Elt F) ((c : Thread nD τ).loc cc0_scoped0), ((c : Thread nD τ).loc cc0_scoped0) ↦[S]{fullShare} f)) (View.set_slice_whole cc0_scoped0 (xRect s))
omit [FloatOps F] in
theorem w_slot (s : Fin 2) : slotAny c wR (wRect s)
    = (iprop(∃ f : Buf (Elt F) ((c : Thread nD τ).loc cc0_scoped3), ((c : Thread nD τ).loc cc0_scoped3) ↦[(wRect s).set]{fullShare} f) : sProp 𝕄) :=
  congrArg (fun S => iprop(∃ f : Buf (Elt F) ((c : Thread nD τ).loc cc0_scoped3), ((c : Thread nD τ).loc cc0_scoped3) ↦[S]{fullShare} f)) (View.set_slice_whole cc0_scoped3 (wRect s))
omit [FloatOps F] in
theorem o_slot (s : Fin 2) : slotAny c oR (oRect s)
    = (iprop(∃ f : Buf (Elt F) ((c : Thread nD τ).loc cc0_scoped5), ((c : Thread nD τ).loc cc0_scoped5) ↦[(oRect s).set]{fullShare} f) : sProp 𝕄) :=
  congrArg (fun S => iprop(∃ f : Buf (Elt F) ((c : Thread nD τ).loc cc0_scoped5), ((c : Thread nD τ).loc cc0_scoped5) ↦[S]{fullShare} f)) (View.set_slice_whole cc0_scoped5 (oRect s))

/-- A rectangle of two axes from the origin over everything is everything. -/
theorem full_set (n k : ℕ) {inb} : (Rect.unit (s := ⟨2, ![n, k]⟩) ![0, 0] ![n, k] inb).set = Finset.univ := by
  ext y
  rw [Rect.mem_set_unit]
  refine ⟨fun _ => Finset.mem_univ _, fun _ a => ?_⟩
  have h0 : (y 0).val < n := (y 0).isLt
  have h1 : (y 1).val < k := (y 1).isLt
  fin_cases a
  · show 0 ≤ (y 0).val ∧ (y 0).val < 0 + n; omega
  · show 0 ≤ (y 1).val ∧ (y 1).val < 0 + k; omega

omit [FloatOps F] in
theorem h_slot : slotAny c hM hRect
    = (iprop(∃ f : Buf (Elt F) ((c : Thread nD τ).loc cc0_scratch0), ((c : Thread nD τ).loc cc0_scratch0) ↦{fullShare} f) : sProp 𝕄) :=
  congrArg (fun S => iprop(∃ f : Buf (Elt F) ((c : Thread nD τ).loc cc0_scratch0), ((c : Thread nD τ).loc cc0_scratch0) ↦[S]{fullShare} f))
    ((View.set_slice_whole cc0_scratch0 hRect).trans (full_set 1024 2048))
omit [FloatOps F] in
theorem g_slot : slotAny c gR gRect
    = (iprop(∃ f : Buf (Elt F) ((c : Thread nD τ).loc cc0_scoped2), ((c : Thread nD τ).loc cc0_scoped2) ↦{fullShare} f) : sProp 𝕄) :=
  congrArg (fun S => iprop(∃ f : Buf (Elt F) ((c : Thread nD τ).loc cc0_scoped2), ((c : Thread nD τ).loc cc0_scoped2) ↦[S]{fullShare} f))
    ((View.set_slice_whole cc0_scoped2 gRect).trans (full_set 1 2048))

omit [FloatOps F] in
/-- The scale's array, held by the elements of its view, is held whole. -/
theorem g_whole (f : Buf (Elt F) ((c : Thread nD τ).loc main_arg1)) :
    (iprop(gM.view.loc (c : Thread nD τ) ↦[gM.view.set]{fullShare} f) : sProp 𝕄) = iprop(((c : Thread nD τ).loc main_arg1) ↦{fullShare} f) :=
  congrArg (fun S => iprop(((c : Thread nD τ).loc main_arg1) ↦[S]{fullShare} f)) (View.set_whole main_arg1)

/-- The kernel's own counters. -/
abbrev osem : Fin 7 → SemLoc sig
  | 0 => .dma (ringCell cc0_scoped1 0).sem | 1 => .dma (ringCell cc0_scoped1 1).sem
  | 2 => .dma (ringCell cc0_scoped4 0).sem | 3 => .dma (ringCell cc0_scoped4 1).sem
  | 4 => .dma (ringCell cc0_scoped6 0).sem | 5 => .dma (ringCell cc0_scoped6 1).sem
  | 6 => .dma cc0_scoped7.sem
theorem ownSemFacts : Pipeline.OwnSemFacts ((cfgs (F := F) 0).spec) osem := ⟨by decide, by decide, fun _ w => w.elim0⟩

omit [FloatOps F] in
theorem ownSems0_eq : (Pipeline.ownSems0 (Ix := Unit) (Name := ℕ) (U := UU nD τ) (Lvl := ℕ) (Val := Elt F) (τ := τ) osem c : sProp 𝕄)
    = iprop(cellZ c (ringCell cc0_scoped1 0) ∗ cellZ c (ringCell cc0_scoped1 1) ∗ cellZ c (ringCell cc0_scoped4 0) ∗ cellZ c (ringCell cc0_scoped4 1)
        ∗ cellZ c (ringCell cc0_scoped6 0) ∗ cellZ c (ringCell cc0_scoped6 1) ∗ cellZ c cc0_scoped7) := by
  unfold Pipeline.ownSems0
  exact bigSep_univ_eq_bigSepL [(0 : Fin 7), 1, 2, 3, 4, 5, 6] (by decide) (by decide) _

/-- The arrays, the result at `f`. -/
def arrays (f : Buf (Elt F) ((c : Thread nD τ).loc main_v0)) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_arg2) ↦{fullShare} m ((c : Thread nD τ).loc main_arg2)) ∗ (((c : Thread nD τ).loc main_v0) ↦{fullShare} f))

/-- What the body holds around its run. -/
abbrev aroundAt : sProp 𝕄 := around c xM gM wM hM xR cc0_scoped1 gR wR cc0_scoped4 oR cc0_scoped6 cc0_scoped7
  (m ((c : Thread nD τ).loc main_arg0)) (m ((c : Thread nD τ).loc main_arg2)) (m ((c : Thread nD τ).loc main_arg1))

/-- The region's invariant: the body's surroundings and the result at `f`. -/
def Φ (f : Buf (Elt F) ((c : Thread nD τ).loc main_v0)) : sProp 𝕄 := iprop(aroundAt m c ∗ ((c : Thread nD τ).loc main_v0) ↦{fullShare} f)

/-- The core's scoped buffers, each at anything. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scoped0), ((c : Thread nD τ).loc cc0_scoped0) ↦{fullShare} f)
    ∗ (∃ f : Buf (Elt F) ((c : Thread nD τ).loc cc0_scoped2), ((c : Thread nD τ).loc cc0_scoped2) ↦{fullShare} f)
    ∗ (∃ f : Buf (Elt F) ((c : Thread nD τ).loc cc0_scoped3), ((c : Thread nD τ).loc cc0_scoped3) ↦{fullShare} f)
    ∗ (∃ f : Buf (Elt F) ((c : Thread nD τ).loc cc0_scoped5), ((c : Thread nD τ).loc cc0_scoped5) ↦{fullShare} f))

theorem Φ_in (f : Buf (Elt F) ((c : Thread nD τ).loc main_v0)) :
    iprop((arrays m c f ∗ Pipeline.ownSems0 (Ix := Unit) (Name := ℕ) (U := UU nD τ) (Lvl := ℕ) (Val := Elt F) (τ := τ) osem c) ∗ scratch c) ⊢ Φ m c f := by
  unfold Φ aroundAt around xFree wFree oFree arrays scratch
  rw [ownSems0_eq, x_slot, x_slot, w_slot, w_slot, o_slot, o_slot, h_slot, g_slot]
  iintro ⟨⟨⟨HX, HG, HW, HV⟩, C0, C1, C2, C3, C4, C5, C6⟩, BH, BX, BG, BW, BO⟩
  ihave BX := (ring_split c xHalves) $$ BX
  icases BX with ⟨BX0, BX1⟩
  ihave BW := (ring_split c wHalves) $$ BW
  icases BW with ⟨BW0, BW1⟩
  ihave BO := (ring_split c oHalves) $$ BO
  icases BO with ⟨BO0, BO1⟩
  ihave HX := (pointsTo_share (PosShare.mem_left_op_right fullShare)).1 $$ HX
  icases HX with ⟨HX0, HX1⟩
  ihave HW := (pointsTo_share (PosShare.mem_left_op_right fullShare)).1 $$ HW
  icases HW with ⟨HW0, HW1⟩
  isplitr [HV]
  rotate_left
  · iexact HV
  isplitl [BX0 C0 HX0]
  · isplitl [BX0]; · iexact BX0
    isplitl [C0]; · iexact C0
    iexact HX0
  isplitl [BX1 C1 HX1]
  · isplitl [BX1]; · iexact BX1
    isplitl [C1]; · iexact C1
    iexact HX1
  isplitl [BW0 C2 HW0]
  · isplitl [BW0]; · iexact BW0
    isplitl [C2]; · iexact C2
    iexact HW0
  isplitl [BW1 C3 HW1]
  · isplitl [BW1]; · iexact BW1
    isplitl [C3]; · iexact C3
    iexact HW1
  isplitl [BH]; · iexact BH
  isplitl [BG]; · iexact BG
  isplitl [BO0 C4]
  · isplitl [BO0]; · iexact BO0
    iexact C4
  isplitl [BO1 C5]
  · isplitl [BO1]; · iexact BO1
    iexact C5
  isplitl [C6]; · iexact C6
  iapply (entails_of_eq (g_whole c _).symm) $$ HG

theorem Φ_out (f : Buf (Elt F) ((c : Thread nD τ).loc main_v0)) :
    Φ m c f ⊢ iprop(arrays m c f ∗ Pipeline.ownSems0 (Ix := Unit) (Name := ℕ) (U := UU nD τ) (Lvl := ℕ) (Val := Elt F) (τ := τ) osem c ∗ scratch c) := by
  unfold Φ aroundAt around xFree wFree oFree arrays scratch
  rw [ownSems0_eq, x_slot, x_slot, w_slot, w_slot, o_slot, o_slot, h_slot, g_slot]
  iintro ⟨⟨⟨BX0, C0, HX0⟩, ⟨BX1, C1, HX1⟩, ⟨BW0, C2, HW0⟩, ⟨BW1, C3, HW1⟩, BH, BG, ⟨BO0, C4⟩, ⟨BO1, C5⟩, C6, HG⟩, HV⟩
  isplitl [HX0 HX1 HW0 HW1 HG HV]
  · isplitl [HX0 HX1]
    · iapply (pointsTo_share (PosShare.mem_left_op_right fullShare)).2
      isplitl [HX0]; · iexact HX0
      iexact HX1
    isplitl [HG]
    · iapply (entails_of_eq (g_whole c _)) $$ HG
    isplitl [HW0 HW1]
    · iapply (pointsTo_share (PosShare.mem_left_op_right fullShare)).2
      isplitl [HW0]; · iexact HW0
      iexact HW1
    iexact HV
  isplitl [C0 C1 C2 C3 C4 C5 C6]
  · isplitl [C0]; · iexact C0
    isplitl [C1]; · iexact C1
    isplitl [C2]; · iexact C2
    isplitl [C3]; · iexact C3
    isplitl [C4]; · iexact C4
    isplitl [C5]; · iexact C5
    iexact C6
  isplitl [BH]; · iexact BH
  isplitl [BX0 BX1]
  · iapply (ring_join c xHalves)
    isplitl [BX0]; · iexact BX0
    iexact BX1
  isplitl [BG]; · iexact BG
  isplitl [BW0 BW1]
  · iapply (ring_join c wHalves)
    isplitl [BW0]; · iexact BW0
    iexact BW1
  iapply (ring_join c oHalves)
  isplitl [BO0]; · iexact BO0
  iexact BO1

/-! ### The pipeline's proof data and the body's obligation -/

theorem todo_all (f : Buf (Elt F) ((c : Thread nD τ).loc main_v0)) :
    (iprop(((c : Thread nD τ).loc main_v0) ↦{fullShare} f) : sProp 𝕄) = oTodo c outM f 0 :=
  congrArg (fun S => iprop(((c : Thread nD τ).loc main_v0) ↦[S]{fullShare} f)) (oSet_all _ fun _ => Nat.zero_le _).symm
theorem done_none (f : Buf (Elt F) ((c : Thread nD τ).loc main_v0)) : (iprop(emp) : sProp 𝕄) = oDone c outM f 0 :=
  pointsTo_empty.symm.trans (congrArg (fun S => iprop(((c : Thread nD τ).loc main_v0) ↦[S]{fullShare} f)) (oSet_none _ fun _ => Nat.not_lt_zero _).symm)
theorem done_all (f : Buf (Elt F) ((c : Thread nD τ).loc main_v0)) :
    oDone c outM f 417 = (iprop(((c : Thread nD τ).loc main_v0) ↦{fullShare} f) : sProp 𝕄) :=
  congrArg (fun S => iprop(((c : Thread nD τ).loc main_v0) ↦[S]{fullShare} f)) (oSet_all _ fun t => by have := t.isLt; omega)

/-- The body on the launch's buffers takes the invariant with the result at anything to the invariant with the result computed. -/
theorem body_at (t : Fin (cfg0 (F := F)).N) (f : Buf (Elt F) ((c : Thread nD τ).loc main_v0)) {Q : PUnit → sProp 𝕄} :
    iprop(Φ m c f ∗ (∃ W, owes (c : Thread nD τ) 0 W))
      ⊢ iprop((iprop(Φ m c (result m c) ∗ (∃ W, owes (c : Thread nD τ) 0 W)) -∗ Q ⟨⟩)
        -∗ wp frame (wpE (defs₀ (F := F)) 𝒱₀ (c : Thread nD τ) none) Set.univ (bodyAt0 t) Q) := by
  unfold Φ
  iintro ⟨⟨HA, HV⟩, HW⟩ Hk
  iapply (body c xM (Memref.isWhole_whole _) gM (Memref.isWhole_whole _) wM (Memref.isWhole_whole _) outM (Memref.isWhole_whole _) hM (Memref.isWhole_whole _)
    xR (Memref.isWhole_whole _) cc0_scoped1 gR (Memref.isWhole_whole _) wR (Memref.isWhole_whole _) cc0_scoped4 oR (Memref.isWhole_whole _) cc0_scoped6 cc0_scoped7
    _ _ f (result m c) _ out_apart (result_computes m c)) $$ [HA HV HW]
  · isplitl [HA]; · iexact HA
    isplitl [HV]; · iapply (entails_of_eq (todo_all c f)) $$ HV
    isplitr
    · iapply (entails_of_eq (done_none c (result m c)))
      iempintro
    iexact HW
  iintro ⟨HA, HV, HW⟩
  iapply Hk
  isplitr [HW]
  · isplitl [HA]; · iexact HA
    iapply (entails_of_eq (done_all c (result m c))) $$ HV
  iexact HW

def dats (_ : Fin 1) (c : Dev nD) : Pipeline.Dat τ (Elt F) Unit ℕ (UU nD τ) ℕ (cfg0 (F := F)) c where
  A w := w.elim0
  after w _ := w.elim0
  Φ t := Φ m c (if t.val = 0 then m ((c : Thread nD τ).loc main_v0) else result m c)
  q _ := fullShare
  owed _ := 0

theorem defs_tc : (defs₀ (F := F)) .tc (cfg0 (F := F)).body = fun _ => bodyAt0 t0_0 := rfl
theorem prog_eq (t : Fin (cfg0 (F := F)).N) : (defs₀ (F := F)) .tc (cfg0 (F := F)).body ((cfg0 (F := F)).bodyArgs t ((cfg0 (F := F)).slots t)) = bodyAt0 t := (congrFun defs_tc _).trans rfl

set_option backward.isDefEq.respectTransparency.types false in
theorem body_obligation : Pipeline.BodyObligation (dats (F := F) m 0 c) (defs₀ (F := F)) 𝒱₀ () Set.univ := fun t => by
  obtain rfl := fin_N0 t
  rw [show (dats m 0 c).Φ (t0_0 : Fin (cfg0 (F := F)).N).castSucc = Φ m c (m ((c : Thread nD τ).loc main_v0)) from rfl,
    show (dats m 0 c).Φ (t0_0 : Fin (cfg0 (F := F)).N).succ = Φ m c (result m c) from rfl]
  unfold Pipeline.Dat.owesAt Pipeline.owesWithin
  rw [show (dats m 0 c).owed (t0_0 : Fin (cfg0 (F := F)).N).castSucc = 0 from rfl, show (dats m 0 c).owed (t0_0 : Fin (cfg0 (F := F)).N).succ = 0 from rfl]
  iintro ⟨HΦ, ⟨%W, -, HW⟩, HB⟩
  sl_rw [prog_eq t0_0]
  iapply (body_at m c t0_0 _) $$ [HΦ HW]
  · isplitl [HΦ]; · iexact HΦ
    iexists W; iexact HW
  iintro ⟨HΦ, ⟨%W', HW⟩⟩
  isplitl [HΦ]; · iexact HΦ
  isplitl [HW]
  · iexists W'; isplitr; · ipureintro; exact fun _ _ => Or.inl trivial
    iexact HW
  iexact HB

/-! ### The run -/

/-- The projection with its rows grouped by sequence. -/
abbrev bySequence (P : S32768x9984.Idx → Elt F .f32) : S16x2048x9984.Idx → Elt F .f32 := shapeCast _ P shapeCasts_S32768x9984_S16x2048x9984

/-- The last three rows of every sequence, the channels of the short convolution: its new state. -/
abbrev convState (P : S32768x9984.Idx → Elt F .f32) : S16x3x3072.Idx → Elt F .f32 :=
  extractStridedSlice S16x3x3072 ![0, 2045, 0] (bySequence P) slices_S16x2048x9984_S16x3x3072_0_2045_0

/-- The last 128 rows of every sequence, the values of the sliding-window attention head by head: its new cache of values. -/
abbrev valueCache (P : S32768x9984.Idx → Elt F .f32) : S16x128x4x64.Idx → Elt F .f32 :=
  shapeCast _ (extractStridedSlice S16x128x256 ![0, 1920, 9472] (bySequence P) slices_S16x2048x9984_S16x128x256_0_1920_9472)
    shapeCasts_S16x128x256_S16x128x4x64

/-- What core `c`'s buffers hold when the call ends: the result in its array, the launch's contents elsewhere. -/
def atExit : Valuation τ sig (Elt F) :=
  Function.update (StableHlo.launchContents m c) (Proc.devRef .tc main_v0) (result m c)

theorem atExit_result : atExit m c (Proc.devRef .tc main_v0) = result m c := Function.update_self ..
theorem atExit_other (b : Ref sig .tc) (h : Proc.devRef (τ := τ) .tc b ≠ Proc.devRef .tc main_v0) :
    atExit m c (Proc.devRef .tc b) = m ((c : Thread nD τ).loc b) := Function.update_of_ne h ..

/-- What the buffers hold after the lines that cut the two caches out of the result. -/
def atEnd (b : Ref sig .tc) : Buf (Elt F) ((c : Thread nD τ).loc b) := StableHlo.after hostOps1 (atExit m c) (Proc.devRef .tc b)

theorem atEnd_result : atEnd m c main_v0 = result m c := by
  refine Eq.trans ?_ (atExit_result m c)
  unfold atEnd; after_results <;> rfl
theorem atEnd_conv : atEnd m c main_v2 = convState (result m c) := by
  rw [← atExit_result m c]
  unfold atEnd; after_results <;> rfl
theorem atEnd_values : atEnd m c main_v4 = valueCache (result m c) := by
  rw [← atExit_result m c]
  unfold atEnd; after_results <;> rfl
theorem atEnd_arg0 : atEnd m c main_arg0 = m ((c : Thread nD τ).loc main_arg0) := by
  refine Eq.trans ?_ (atExit_other m c main_arg0 (by decide))
  unfold atEnd; after_results <;> rfl
theorem atEnd_arg1 : atEnd m c main_arg1 = m ((c : Thread nD τ).loc main_arg1) := by
  refine Eq.trans ?_ (atExit_other m c main_arg1 (by decide))
  unfold atEnd; after_results <;> rfl
theorem atEnd_arg2 : atEnd m c main_arg2 = m ((c : Thread nD τ).loc main_arg2) := by
  refine Eq.trans ?_ (atExit_other m c main_arg2 (by decide))
  unfold atEnd; after_results <;> rfl

/-- The arguments unchanged, the result computed and the two caches cut out of it, on core `c`. -/
def Ends (s : MemSt nD τ sig (Elt F)) : Prop :=
  (s.mem ((c : Thread nD τ).loc main_v0) = result m c
  ∧ s.mem ((c : Thread nD τ).loc main_v2) = convState (result m c)
  ∧ s.mem ((c : Thread nD τ).loc main_v4) = valueCache (result m c))
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)

def intoΦ (c : Dev nD) : sProp 𝕄 := iprop(arrays m c (m ((c : Thread nD τ).loc main_v0)) ∗ Pipeline.ownSems0 osem c)
/-- The buffers of the lines after the call, which the call leaves alone. -/
def aside (c : Dev nD) : sProp 𝕄 :=
  iprop((((c : Thread nD τ).loc main_v1) ↦{fullShare} m ((c : Thread nD τ).loc main_v1)) ∗ (((c : Thread nD τ).loc main_v2) ↦{fullShare} m ((c : Thread nD τ).loc main_v2))
    ∗ (((c : Thread nD τ).loc main_v3) ↦{fullShare} m ((c : Thread nD τ).loc main_v3)) ∗ (((c : Thread nD τ).loc main_v4) ↦{fullShare} m ((c : Thread nD τ).loc main_v4)))
def u₀ (F : FTy → Type) [FloatOps F] : UU nD τ :=
  (initOf (Pipeline.cells (cfgs (F := F)) cellOf_inj) (Pipeline.launchToks (cfgs (F := F)) cellOf_inj), 1)

/-- With no window, the contents at the call's exit are the ones given. -/
theorem withArrays_eq (V : Valuation τ sig (Elt F)) (A : (w : Fin (cfg0 (F := F)).W) → Buf (Elt F) ((((cfg0 (F := F)).spec) w).arr.view.loc (c : Thread nD τ))) :
    Pipeline.withArrays ((cfg0 (F := F)).spec) c V A = V := funext fun _ => dif_neg fun ⟨w, _⟩ => w.elim0

/-- The arrays and the lines' buffers are all the buffers, as the call leaves them. -/
theorem rest_eq : iprop(arrays m c (result m c) ∗ aside m c)
    ⊢ (Pipeline.unscopedRest ((cfg0 (F := F)).spec) c (fun b => atExit m c (Proc.devRef .tc b)) : sProp 𝕄) := by
  rw [unscopedRest0_eq, atExit_result, atExit_other m c main_arg0 (by decide), atExit_other m c main_arg1 (by decide), atExit_other m c main_arg2 (by decide),
    atExit_other m c main_v1 (by decide), atExit_other m c main_v2 (by decide), atExit_other m c main_v3 (by decide), atExit_other m c main_v4 (by decide)]
  unfold arrays aside
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- The lines after the call: from the buffers as it leaves them to the buffers at the end. -/
theorem lines_run (Q : PUnit → sProp 𝕄) :
    iprop((iprop(boundary (c : Thread nD τ) ∗ Pipeline.unscopedRest ((cfg0 (F := F)).spec) c (atEnd m c)) -∗ Q ⟨⟩)
        ∗ boundary (c : Thread nD τ) ∗ Pipeline.unscopedRest ((cfg0 (F := F)).spec) c (fun b => atExit m c (Proc.devRef .tc b)))
      ⊢ wp frame (wpE defs (Variants.lift 𝒱₀) (c : Thread nD τ) none) Set.univ (Pipeline.chain [StableHlo.seq hostOps1]) Q := by
  have h := Pipeline.tail_seqs_bufs_b (pcfgs (F := F)) defs₀ 𝒱₀ .none ((cfg0 (F := F)).spec) c (atExit m c) (fun w => w.elim0) [hostOps1]
    (Ix := Unit) (Name := ℕ) (U := UU nD τ) (Lvl := ℕ)
    (fun ops ho op hop => by
      rw [List.mem_singleton.mp ho] at hop
      exact Pipeline.sub_tailRefs .none _ op (List.forall_iff_forall_mem.mp hostOps1_sub op hop) fun k => k.elim0)
    (fun ops ho op hop => by
      rw [List.mem_singleton.mp ho] at hop
      fin_cases hop <;> rfl)
    (fun _ _ _ _ w => w.elim0) Q
  rw [withArrays_eq, Pipeline.unscopedRestP_none, Pipeline.unscopedRestP_none] at h
  refine BIBase.Entails.trans ?_ h
  have he : ∀ V, (Pipeline.arrBufs ((cfg0 (F := F)).spec) c V : sProp 𝕄) = iprop(emp) := fun V => rfl
  rw [he]
  iintro ⟨Hk, Hb, Hr⟩
  isplitl [Hk]
  · iintro ⟨Hb, -, Hr⟩
    iapply Hk
    isplitl [Hb]; · iexact Hb
    iexact Hr
  isplitl [Hb]; · iexact Hb
  isplitr; · iempintro
  iexact Hr

set_option backward.isDefEq.respectTransparency.types false in
/-- From any memory with zero counters, every weakly fair execution of the program ends, and every final state has the result
    computed, the two caches cut out of it, the arguments unchanged and every counter at zero. -/
theorem run_main : θ_run defs (onTc (τ := τ) (main (F := F))) ⟨m, fun _ => 0, ρ⟩ (fun r => (∀ c : Dev nD, Ends m c r.2) ∧ r.2.sem = fun _ => 0) :=
  Pipeline.θ_run_region_pf_tail'_quiescent (pcfgs (F := F)) (fun p => (cfgs p).toPCfg_adm) (dats m) () launch0.cellOf_inj (0 : Fin 1) launch0.win.to₀ ownSemFacts
    (Pipeline.PreFacts.none _) EP defs₀ 𝒱₀ m ρ main (fun _ => Pipeline.chain [StableHlo.seq hostOps1])
    (hbody := fun c => (body_obligation m c).loose) (hne := launch0.block_pos) (harr := launch0.arr_whole) (hstage := launch0.stage_whole)
    (howed := fun _ _ => rfl)
    (G := fun _ => iprop(emp)) (u₀ := u₀ F)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      rw [main_chain]
      iintro ⟨Hk, Hb⟩; iapply Hk; iexact Hb)
    (hsplit := fun c => Entails.of_eq rfl)
    (hpf := fun _ k => k.elim0)
    (X := intoΦ m) (Y := fun c => arrays m c (result m c)) (Z := aside m)
    (Y' := fun c => Pipeline.unscopedRest ((cfg0 (F := F)).spec) c (atEnd m c)) (Z' := fun _ => iprop(emp))
    (hX := fun c => by
      rw [Pipeline.unscopedRestP_none, unscopedRest0_eq]
      unfold intoΦ arrays aside
      iintro ⟨⟨H0, H1, H2, H3, H4⟩, HS, -, -, -⟩; imodintro
      isplitl [H0 H1 H2 H3 HS]
      · isplitl [H0 H1 H2 H3]
        · isplitl [H0]; · iexact H0
          isplitl [H1]; · iexact H1
          isplitl [H2]; · iexact H2
          iexact H3
        iexact HS
      iexact H4)
    (hin := fun c => by
      rw [scopedRest0_eq, show (dats m 0 c).Φ 0 = Φ m c (m ((c : Thread nD τ).loc main_v0)) from rfl]
      refine BIBase.Entails.trans ?_ (Φ_in m c _)
      unfold intoΦ scratch
      iintro ⟨HX, -, HR⟩
      isplitl [HX]; · iexact HX
      iexact HR)
    (hout := fun c => by
      rw [scopedRest0_eq, show (dats m 0 c).Φ (Fin.last (cfg0 (F := F)).N) = Φ m c (result m c) from rfl]
      exact Φ_out m c _)
    (htail := fun c Q => by
      iintro ⟨Hk, Hb, HA, HY, HZ⟩
      iapply (lines_run m c Q)
      isplitl [Hk HA]
      · iintro ⟨Hb, Hr⟩
        iapply Hk
        isplitl [Hb]; · iexact Hb
        isplitl [HA]; · iexact HA
        isplitl [Hr]; · iexact Hr
        iempintro
      isplitl [Hb]; · iexact Hb
      iapply (rest_eq m c)
      isplitl [HY]; · iexact HY
      iexact HZ)
    (QY := Ends m)
    (hY := fun c s' => by
      rw [unscopedRest0_eq, atEnd_result, atEnd_conv, atEnd_values, atEnd_arg0, atEnd_arg1, atEnd_arg2]
      iintro ⟨⟨H0, H1, H2, H3, -, H5, -, H7⟩, -, HSI⟩
      icombine HSI H0 gives %h0
      icombine HSI H1 gives %h1
      icombine HSI H2 gives %h2
      icombine HSI H3 gives %h3
      icombine HSI H5 gives %h5
      icombine HSI H7 gives %h7
      imodintro
      isplitr
      · ipureintro
        exact ⟨⟨Buf.eq_of_forall_mem_univ h3, Buf.eq_of_forall_mem_univ h5, Buf.eq_of_forall_mem_univ h7⟩,
          Buf.eq_of_forall_mem_univ h0, Buf.eq_of_forall_mem_univ h1, Buf.eq_of_forall_mem_univ h2⟩
      iexact HSI)
    (hQ := fun _ hh hz => ⟨fun c => (hh c).2.2, hz⟩)

end Cert.Proof.KI

end
-- ==== Proof.Value.Kernel.lean ====
/-
  The kernel's result read at an index, at the exact values: every entry is the normalised row of the activations against
  the row of the weight.
-/
module

public import proofs.«01_k».proof.Proof.KI.Launch
public import Idealize.ShloMosaic.PureOps.Ideal.Laws
public import Idealize.ShloMosaic.Lib.ValueIdx
public import Idealize.ShloMosaic.Lib.ValueLayout
public import Idealize.ShloMosaic.Lib.Pipeline.Value

@[expose] public section

noncomputable section

namespace Cert.Proof.Value

open Idealize.ShloMosaic Idealize.ShloMosaic.ValueIdx Idealize.ShloMosaic.TcCoe

/-- A row over the root of its mean square, times the scale: entry `k`. -/
def rowNorm (x g : Fin 2048 → EReal) (k : Fin 2048) : EReal :=
  x k * Ideal.rsqrt (Ideal.div (∑ j, x j * x j) (Ideal.ofBits .f32 0x45000000#32) + Ideal.ofBits .f32 0x358637BD#32) * g k

/-- The projection of `R` rows: each row normalised, then its products with the rows of the weight. -/
def proj {R : ℕ} (X : (⟨2, ![R, 2048]⟩ : Shape).Idx → EReal) (G : (⟨2, ![1, 2048]⟩ : Shape).Idx → EReal)
    (W : (⟨2, ![9984, 2048]⟩ : Shape).Idx → EReal) (y : (⟨2, ![R, 9984]⟩ : Shape).Idx) : EReal :=
  ∑ k, rowNorm (fun j => X (ix2 (y 0) j)) (fun j => G (ix2 0 j)) k * W (ix2 (y 1) k)

open Cert.KernelIdeal Cert.KernelIdeal.Gen Cert.Proof.KI

/-- A leading axis of one leaves the row-major places alone. -/
theorem place_unit (a b : ℕ) (r : Fin a) (j : Fin b) :
    ((⟨2, ![a, b]⟩ : Shape).rowMajor (ix2 r j)).val = ((⟨3, ![1, a, b]⟩ : Shape).rowMajor (ix3 0 r j)).val := by
  rw [Shape.rowMajor_val_three, Shape.rowMajor_val_two]
  show r.val * b + j.val = (0 * a + r.val) * b + j.val
  rw [Nat.zero_mul, Nat.zero_add]

/-- A body's normalisation of `n` rows: every row by its own mean square, times the gain. -/
theorem normRows_apply {n : ℕ} (X : (⟨2, ![n, 2048]⟩ : Shape).Idx → EReal) (g : (⟨2, ![1, 2048]⟩ : Shape).Idx → EReal)
    (hsum : (⟨2, ![n, 2048]⟩ : Shape).Reduces [1] ⟨1, ![n]⟩) (hcol : (⟨1, ![n]⟩ : Shape).ShapeCasts ⟨2, ![n, 1]⟩)
    (hwide : (⟨2, ![n, 1]⟩ : Shape).Broadcasts ⟨2, ![n, 2048]⟩) (hgain : (⟨2, ![1, 2048]⟩ : Shape).Broadcasts ⟨2, ![n, 2048]⟩) (r : Fin n) (k : Fin 2048) :
    mulf (F := Ideal) (φ := .f32) (mulf X (broadcastTo ⟨2, ![n, 2048]⟩ (rsqrt (addf (divf (shapeCast ⟨2, ![n, 1]⟩ (multiReduction (F := Ideal) (φ := .f32) .add [1] ⟨1, ![n]⟩ (mulf X X) 0x00000000#32 hsum (.inl rfl) rfl) hcol)
      (broadcast ⟨2, ![n, 1]⟩ (Scalar.ofBits .f32 0x45000000#32))) (broadcast ⟨2, ![n, 1]⟩ (Scalar.ofBits .f32 0x358637BD#32)))) hwide)) (broadcastTo ⟨2, ![n, 2048]⟩ g hgain) (ix2 r k)
      = rowNorm (fun j => X (ix2 r j)) (fun j => g (ix2 0 j)) k := by
  unfold rowNorm
  have hrow : r.val = if n = 1 then 0 else r.val := by split <;> omega
  have hg : broadcastTo ⟨2, ![n, 2048]⟩ g hgain (ix2 r k) = g (ix2 0 k) :=
    broadcastTo_apply _ _ _ _ (fun a => by fin_cases a <;> rfl)
  refine congrArg₂ (· * ·) (congrArg₂ (· * ·) rfl ?_) hg
  refine (broadcastTo_apply _ _ _ (ix2 r 0) (fun a => by
    fin_cases a
    · exact hrow
    · rfl)).trans ?_
  refine congrArg Ideal.rsqrt (congrArg (· + _) (congrArg (Ideal.div · _) ?_))
  refine (shapeCast_apply _ _ _ (ix1 r) (by rw [Shape.rowMajor_val_two, Shape.rowMajor_val_one]; show r.val = r.val * 1 + 0; omega)).trans ?_
  refine (Ideal.multiReduction_add_single _ _ _ _ _ _).trans ?_
  refine Finset.sum_congr rfl fun j _ => ?_
  have hl : hsum.lift (ix1 r) j = ix2 r j := by funext a; fin_cases a <;> rfl
  rw [hl]
  rfl

/-- A plain product into zero, entry by entry. -/
theorem product_apply {M K N : ℕ} (a : (⟨2, ![M, K]⟩ : Shape).Idx → EReal) (b : (⟨2, ![K, N]⟩ : Shape).Idx → EReal) (r : Fin M) (d : Fin N) :
    matmul (F := Ideal) (φ₁ := .bf16) (φ₂ := .bf16) (DotDims.plain M K N) none a b (constant ⟨2, ![M, N]⟩ .f32 0x00000000#32) (ix2 r d)
      = ∑ k : Fin K, a (ix2 r k) * b (ix2 k d) := by
  refine (Ideal.matmul_constant_zero_apply (φ₁ := .bf16) (φ₂ := .bf16) _ none _ _ _).trans ?_
  refine (Equiv.sum_comp (contrEquiv1 (DotDims.plain M K N) K rfl rfl).symm _).symm.trans ?_
  refine Finset.sum_congr rfl fun k _ => congrArg₂ (· * ·) (congrArg a ?_) (congrArg b ?_)
  · funext ax; fin_cases ax <;> rfl
  · funext ax; fin_cases ax <;> rfl

/-- A block's normalised activations, entry by entry. -/
theorem pay1_apply (x : S1x1024x2048.Idx → EReal) (g : S1x2048.Idx → EReal) (r : Fin 1024) (k : Fin 2048) :
    k0_pay1 (F := Ideal) x g (ix2 r k) = rowNorm (fun j => x (ix3 0 r j)) (fun j => g (ix2 0 j)) k := by
  unfold k0_pay1
  dsimp only
  rw [shapeCast_apply _ _ (ix2 r k) (ix2 r k) rfl]
  refine (normRows_apply (shapeCast S1024x2048 x shapeCasts_S1x1024x2048_S1024x2048) g _ _ _ _ r k).trans ?_
  exact congrArg (rowNorm · _ k) (funext fun j => shapeCast_apply _ _ _ _ (place_unit _ _ r j).symm)

/-- A block of the product, entry by entry. -/
theorem pay2_apply (h : S1024x2048.Idx → EReal) (w : S1x768x2048.Idx → EReal) (r : Fin 1024) (n : Fin 768) :
    k0_pay2 (F := Ideal) h w (ix3 0 r n) = ∑ k : Fin 2048, h (ix2 r k) * w (ix3 0 n k) := by
  unfold k0_pay2
  refine (shapeCast_apply _ _ _ (ix2 r n) (place_unit _ _ r n)).trans ?_
  refine (Ideal.matmul_constant_zero_apply _ none _ _ _).trans ?_
  refine (Equiv.sum_comp (contrEquiv1 dot_S1024x2048_S768x2048_S1024x768_1_1_0_0_n_n 2048 rfl rfl).symm _).symm.trans ?_
  refine Finset.sum_congr rfl fun k _ => ?_
  refine congrArg₂ (· * ·) (congrArg h ?_) ?_
  · funext a; fin_cases a <;> rfl
  · exact shapeCast_apply _ _ _ _ ((place_unit _ _ n k).symm.trans (congrArg (fun z => (S768x2048.rowMajor z).val) (by funext a; fin_cases a <;> rfl)))

/-! ### The blocks of the arrays -/

/-- What a slot receives and what it sends, read at an index: the element at the same place in row-major order. -/
theorem slotVal_apply {s s' : Shape} {e : EltTy} (r : Rect s) (hq : r.shape.Squeezes s') (x : s'.Idx → Elt Ideal e) (y : r.shape.Idx) (z : s'.Idx)
    (hz : (s'.rowMajor z).val = (r.shape.rowMajor y).val) : slotVal (F := Ideal) r hq x y = x z := by
  unfold slotVal
  rw [Shape.reshapeEquiv_symm]
  exact congrArg x (Shape.reshapeEquiv_eq_of_rowMajor _ hz)

@[inherit_doc slotVal_apply]
theorem unslotVal_apply {s s' : Shape} {e : EltTy} (r : Rect s) (hq : r.shape.Squeezes s') (v : r.shape.Idx → Elt Ideal e) (y : s'.Idx) (z : r.shape.Idx)
    (hz : (r.shape.rowMajor z).val = (s'.rowMajor y).val) : unslotVal (F := Ideal) r hq v y = v z :=
  congrArg v (Shape.reshapeEquiv_eq_of_rowMajor _ hz)

variable (c : Dev nD) (X : S32768x2048.Idx → EReal) (W : S9984x2048.Idx → EReal)

/-- The block fetched to the activations' ring holds the rows from `1024 i` on. -/
theorem xVal_apply (i : Fin 32) (r : Fin 1024) (j : Fin 2048) (R : Fin 32768) (hR : R.val = 1024 * i.val + r.val) :
    xVal (F := Ideal) c xM X i (ix3 0 r j) = X (ix2 R j) := by
  refine (slotVal_apply _ _ _ _ (ix2 r j) (place_unit _ _ r j)).trans ?_
  refine congrArg X (funext fun a => Fin.ext ?_)
  fin_cases a
  · show 1024 * i.val + 1 * r.val = R.val; omega
  · show 0 + 1 * j.val = j.val; omega

/-- The block fetched to the weight's ring holds the rows from `768 i` on. -/
theorem wVal_apply (i : Fin 13) (n : Fin 768) (j : Fin 2048) (N : Fin 9984) (hN : N.val = 768 * i.val + n.val) :
    wVal (F := Ideal) c wM W i (ix3 0 n j) = W (ix2 N j) := by
  refine (slotVal_apply _ _ _ _ (ix2 n j) (place_unit _ _ n j)).trans ?_
  refine congrArg W (funext fun a => Fin.ext ?_)
  fin_cases a
  · show 768 * i.val + 1 * n.val = N.val; omega
  · show 0 + 1 * j.val = j.val; omega

/-- Every entry of the kernel's result is the projection's. -/
theorem result_apply (m : (ℓ : Loc nD τ sig) → Buf (Elt Ideal) ℓ) (y : S32768x9984.Idx) :
    result m c y = proj (m ((c : Thread nD τ).loc main_arg0)) (m ((c : Thread nD τ).loc main_arg1)) (m ((c : Thread nD τ).loc main_arg2)) y := by
  have h0 : (y 0).val < 32768 := (y 0).isLt
  have h1 : (y 1).val < 9984 := (y 1).isLt
  unfold result outVal
  refine (unslotVal_apply _ _ _ _ (ix3 0 (⟨(y 0).val % 1024, Nat.mod_lt _ (by decide)⟩ : Fin 1024) (⟨(y 1).val % 768, Nat.mod_lt _ (by decide)⟩ : Fin 768))
    (((Shape.rowMajor_val_three _).trans (by
      show (0 * 1024 + (y 0).val % 1024) * 768 + (y 1).val % 768 = (y 0).val % 1024 * 768 + (y 1).val % 768
      omega)).trans (Shape.rowMajor_val_two (d := ![1024, 768]) (locOf y)).symm)).trans ?_
  unfold O
  refine (pay2_apply _ _ _ _).trans ?_
  refine Finset.sum_congr rfl fun k _ => congrArg₂ (· * ·) ?_ ?_
  · unfold H
    rw [pay1_apply]
    refine congrArg₂ (fun x g => rowNorm x g k) (funext fun j => ?_) (funext fun j => ?_)
    · refine xVal_apply c _ _ _ _ _ ?_
      show (y 0).val = 1024 * (((y 0).val / 1024 * 13 + (y 1).val / 768) / 13 % 32) + (y 0).val % 1024
      omega
    · rfl
  · refine wVal_apply c _ _ _ _ _ ?_
    show (y 1).val = 768 * (((y 0).val / 1024 * 13 + (y 1).val / 768) % 13) + (y 1).val % 768
    omega

end Cert.Proof.Value
-- ==== Proof.Value.Reference.lean ====
/-
  The reference's result read at an index, at the exact values: the same normalised rows against the rows of the weight.
-/
module

public import proofs.«01_k».proof.Proof.Value.Kernel
public import proofs.«01_k».proof.Proof.Gen.ReferenceIdeal.Run

@[expose] public section

noncomputable section

namespace Cert.Proof.Value

open Idealize.ShloMosaic Idealize.ShloMosaic.ValueIdx Idealize.ShloMosaic.TcCoe
open Cert.ReferenceIdeal Cert.ReferenceIdeal.Facts₀ Cert.ReferenceIdeal.Facts

/-- The shapes that the normalisation of an array of `R` rows goes through fit together. -/
structure RowFacts (R : ℕ) : Prop where
  /-- A row sums to one entry. -/
  sum : (⟨2, ![R, 2048]⟩ : Shape).ReducesTo [1] ⟨1, ![R]⟩
  /-- Summing over the columns leaves the rows. -/
  lift : (⟨2, ![R, 2048]⟩ : Shape).Reduces [1] ⟨1, ![R]⟩
  /-- The sums stand as a column. -/
  col : (⟨1, ![R]⟩ : Shape).BroadcastsInDim ⟨2, ![R, 1]⟩ (![0] : Fin 1 → Fin 2)
  /-- A number fills the column. -/
  fill : S_.BroadcastsInDim ⟨2, ![R, 1]⟩ (![] : Fin 0 → Fin 2)
  /-- The column widens to the whole array. -/
  wide : (⟨2, ![R, 1]⟩ : Shape).BroadcastsInDim ⟨2, ![R, 2048]⟩ (![0, 1] : Fin 2 → Fin 2)
  /-- The gain repeats over the rows. -/
  gain : S1x2048.BroadcastsInDim ⟨2, ![R, 2048]⟩ (![0, 1] : Fin 2 → Fin 2)

/-- The normalised rows of an array, as the references spell them. -/
def hostNorm {R : ℕ} (h : RowFacts R) (X : FVec Ideal ⟨2, ![R, 2048]⟩ .f32) (G : FVec Ideal S1x2048 .f32) : FVec Ideal ⟨2, ![R, 2048]⟩ .f32 :=
  mulf (mulf X (broadcastInDim ⟨2, ![R, 2048]⟩ ![0, 1] h.wide (Host.rsqrt (addf (Host.divf (broadcastInDim ⟨2, ![R, 1]⟩ ![0] h.col
    (Host.reduceAdd (mulf X X) (constant S_ .f32 0x00000000#32) h.sum h_S_)) (broadcastInDim ⟨2, ![R, 1]⟩ ![] h.fill (constant S_ .f32 0x45000000#32)))
    (broadcastInDim ⟨2, ![R, 1]⟩ ![] h.fill (constant S_ .f32 0x358637BD#32)))))) (broadcastInDim ⟨2, ![R, 2048]⟩ ![0, 1] h.gain G)

/-- An entry of the normalised rows. -/
theorem hostNorm_apply {R : ℕ} (h : RowFacts R) (X : FVec Ideal ⟨2, ![R, 2048]⟩ .f32) (G : FVec Ideal S1x2048 .f32) (r : Fin R) (k : Fin 2048) :
    hostNorm h X G (ix2 r k) = rowNorm (fun j => X (ix2 r j)) (fun j => G (ix2 0 j)) k := by
  unfold hostNorm rowNorm
  have hrow : r.val = if R = 1 then 0 else r.val := by split <;> omega
  have hg : broadcastInDim ⟨2, ![R, 2048]⟩ ![0, 1] h.gain G (ix2 r k) = G (ix2 0 k) :=
    broadcastInDim_apply _ _ _ _ _ (fun a => by fin_cases a <;> rfl)
  refine congrArg₂ (· * ·) (congrArg₂ (· * ·) rfl ?_) hg
  refine (broadcastInDim_apply _ _ _ _ (ix2 r 0) (fun a => by
    fin_cases a
    · exact hrow
    · rfl)).trans ?_
  refine congrArg Ideal.rsqrt (congrArg (· + _) (congrArg (Ideal.div · _) ?_))
  refine (broadcastInDim_apply _ _ _ _ (ix1 r) (fun a => by fin_cases a; exact hrow)).trans ?_
  refine (Ideal.hostReduceAdd_single h.sum h.lift _ _ _).trans ?_
  rw [show (constant (F := Ideal) S_ .f32 0x00000000#32 _ : EReal) = 0 from Ideal.ofBits_zero_f32, zero_add]
  refine Finset.sum_congr rfl fun j _ => ?_
  have hl : h.lift.lift (ix1 r) j = ix2 r j := by funext a; fin_cases a <;> rfl
  rw [hl]
  rfl

/-- The shapes of the document's 32768 rows. -/
theorem rowFacts : RowFacts 32768 :=
  ⟨reducesTo_S32768x2048_S32768_d1, by decide, bcast_S32768_S32768x1_0, bcast_S_S32768x1, bcast_S32768x1_S32768x2048_0_1, bcast_S1x2048_S32768x2048_0_1⟩

variable (X : FVec Ideal S32768x2048 .f32) (G : FVec Ideal S1x2048 .f32) (W : FVec Ideal S9984x2048 .bf16)

/-- The reference's normalised activations. -/
def refNorm : FVec Ideal S32768x2048 .f32 := hostNorm rowFacts X G

/-- An entry of the reference's normalised activations. -/
theorem refNorm_apply (r : Fin 32768) (k : Fin 2048) :
    refNorm X G (ix2 r k) = rowNorm (fun j => X (ix2 r j)) (fun j => G (ix2 0 j)) k := hostNorm_apply rowFacts X G r k

/-- Every entry of the reference's result is the projection's. -/
theorem reference_apply (y : S32768x9984.Idx) :
    Host.dotGeneral dot_S32768x2048_S9984x2048_S32768x9984_1_1_0_0_n_n none (refNorm X G) (extf .f32 W bitsLt_bf16_f32) y = proj X G W y := by
  refine (Ideal.dotGeneral_apply _ _ _ _ _ _).trans ?_
  refine (Equiv.sum_comp (contrEquiv1 dot_S32768x2048_S9984x2048_S32768x9984_1_1_0_0_n_n 2048 rfl rfl).symm _).symm.trans ?_
  unfold proj
  refine Finset.sum_congr rfl fun k _ => congrArg₂ (· * ·) ?_ (congrArg W ?_)
  · refine Eq.trans (congrArg (refNorm X G) ?_) (refNorm_apply X G (y 0) k)
    funext a; fin_cases a <;> rfl
  · funext a; fin_cases a <;> rfl

end Cert.Proof.Value
-- ==== Proof.Ffn.Same.lean ====
/-
  The feed-forward call as written and at the exact values has one text: its frame, which holds for any float values,
  serves both.
-/
module

public import proofs.«01_k».proof.Proof.Gen.Kernel2
public import proofs.«01_k».proof.Proof.Gen.Kernel2Ideal.Frame

@[expose] public section

noncomputable section

namespace Cert.Proof.Ffn

open Idealize.ShloMosaic Idealize.SL.Sem

variable {F : FTy → Type} [FloatOps F]

/-- The two programs have one table of bodies. -/
theorem bodies_eq : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc (funext fun l => funext fun x => ?_)
  match l, x with
  | 0, (t, s) => rfl
  | ⟨_ + 1, h⟩, _ => exact absurd h (Nat.not_lt.2 (Nat.le_add_left _ _))

/-- The call as written runs to the end, leaves its arguments alone, and every counter reads zero. -/
theorem frame_written (m : (ℓ : Loc Cert.Kernel2.nD Cert.Kernel2.τ Cert.Kernel2.sig) → Buf (Elt F) ℓ) (ρ : Dev Cert.Kernel2.nD → PrngReg) :
    θ_run (Cert.Kernel2.defs (F := F)) (onTc (τ := Cert.Kernel2.τ) (Cert.Kernel2.main (F := F))) ⟨m, fun _ => 0, ρ⟩ fun r =>
      (∀ c : Dev Cert.Kernel2.nD,
        r.2.mem ((c.tc : Thread Cert.Kernel2.nD Cert.Kernel2.τ).loc Cert.Kernel2.main_arg0) = m ((c.tc : Thread Cert.Kernel2.nD Cert.Kernel2.τ).loc Cert.Kernel2.main_arg0)
        ∧ r.2.mem ((c.tc : Thread Cert.Kernel2.nD Cert.Kernel2.τ).loc Cert.Kernel2.main_arg1) = m ((c.tc : Thread Cert.Kernel2.nD Cert.Kernel2.τ).loc Cert.Kernel2.main_arg1)
        ∧ r.2.mem ((c.tc : Thread Cert.Kernel2.nD Cert.Kernel2.τ).loc Cert.Kernel2.main_arg2) = m ((c.tc : Thread Cert.Kernel2.nD Cert.Kernel2.τ).loc Cert.Kernel2.main_arg2)
        ∧ r.2.mem ((c.tc : Thread Cert.Kernel2.nD Cert.Kernel2.τ).loc Cert.Kernel2.main_arg3) = m ((c.tc : Thread Cert.Kernel2.nD Cert.Kernel2.τ).loc Cert.Kernel2.main_arg3)
        ∧ r.2.mem ((c.tc : Thread Cert.Kernel2.nD Cert.Kernel2.τ).loc Cert.Kernel2.main_arg4) = m ((c.tc : Thread Cert.Kernel2.nD Cert.Kernel2.τ).loc Cert.Kernel2.main_arg4)
        ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0 := by
  unfold Cert.Kernel2.defs
  rw [bodies_eq]
  exact Cert.Kernel2Ideal.Gen.frame (F := F) m ρ

end Cert.Proof.Ffn
-- ==== Proof.Ffn.Slabs.lean ====
/-
  Blocks of rows filled slab by slab, 64 rows at a time, and what the feed-forward body computes on a block, for any number
  of rows and any float values.
-/
module

public import proofs.«01_k».proof.Proof.Gen.Kernel2Ideal.Value

@[expose] public section

noncomputable section

namespace Cert.Proof.Ffn

open Idealize.ShloMosaic Idealize.ShloMosaic.TcCoe
open Cert.Kernel2Ideal Cert.Kernel2Ideal.Gen

variable {F : FTy → Type} [FloatOps F]

/-- The shape of a block of `n` rows. -/
abbrev Blk (n : ℕ) : Shape := ⟨2, ![n, 2048]⟩

/-- The offsets of a whole block are zero. -/
theorem hz : (![0, 0] : Fin 2 → Nat) = fun _ => 0 := funext fun a => by fin_cases a <;> rfl

/-- The left and the right half of a block of columns, the upper and the lower half of a block of rows. -/
def leftCols (w : Vec F S2048x512 .bf16) : Vec F S2048x256 .bf16 := View.ld w (Rect.unit (s := S2048x512) ![0, 0] S2048x256.size inb_S2048x512_S2048x256_0_0)
@[inherit_doc leftCols]
def rightCols (w : Vec F S2048x512 .bf16) : Vec F S2048x256 .bf16 := View.ld w (Rect.unit (s := S2048x512) ![0, 256] S2048x256.size inb_S2048x512_S2048x256_0_256)
@[inherit_doc leftCols]
def upperRows (w : Vec F S512x2048 .bf16) : Vec F S256x2048 .bf16 := View.ld w (Rect.unit (s := S512x2048) ![0, 0] S256x2048.size inb_S512x2048_S256x2048_0_0)
@[inherit_doc leftCols]
def lowerRows (w : Vec F S512x2048 .bf16) : Vec F S256x2048 .bf16 := View.ld w (Rect.unit (s := S512x2048) ![256, 0] S256x2048.size inb_S512x2048_S256x2048_256_0)

section Blocks

variable {n : ℕ}

/-- One half of a stretch's hidden entries: 256 columns of the gated products. -/
def halfHidden (h : Vec F (Blk n) .bf16) (u v : Vec F S2048x256 .bf16) : FVec F ⟨2, ![n, 256]⟩ .bf16 :=
  truncf .bf16 (mulf (mulf (matmul (DotDims.plain n 2048 256) none h u (constant ⟨2, ![n, 256]⟩ .f32 0x00000000#32))
    (logistic (matmul (DotDims.plain n 2048 256) none h u (constant ⟨2, ![n, 256]⟩ .f32 0x00000000#32))))
    (matmul (DotDims.plain n 2048 256) none h v (constant ⟨2, ![n, 256]⟩ .f32 0x00000000#32))) bitsLt_bf16_f32

/-- The products of one half of a stretch: 256 hidden entries against their rows of the second weight. -/
def halfProd (h : Vec F (Blk n) .bf16) (u v : Vec F S2048x256 .bf16) (w : Vec F S256x2048 .bf16) : FVec F (Blk n) .f32 :=
  matmul (DotDims.plain n 256 2048) none (halfHidden h u v) w (constant (Blk n) .f32 0x00000000#32)

/-- One step's contribution to the block: the products of one stretch of 512 hidden entries, in two halves. -/
def stepProd (h : Vec F (Blk n) .bf16) (w1 w3 : Vec F S2048x512 .bf16) (w2 : Vec F S512x2048 .bf16) : FVec F (Blk n) .f32 :=
  addf (halfProd h (leftCols w1) (leftCols w3) (upperRows w2)) (halfProd h (rightCols w1) (rightCols w3) (lowerRows w2))

/-- The writes fill the rows below `64 k` with `G` and leave the others alone. -/
def Slabs {e : EltTy} (G : (Blk n).Idx → Elt F e) (k : ℕ) (L : List (View.Piece (Elt F) (Blk n) e)) : Prop :=
  ∀ (sg : RefSig) (κ : Kind) (sp : Space) (v : View sg κ sp (Blk n) e) (f : v.ty.Contents (Elt F)) (y : (Blk n).Idx),
    v.read (Elt F) (v.writes (Elt F) f L) y = if (y 0).val < 64 * k then G y else v.read (Elt F) f y

variable [NeZero n]

/-- The row and column of a slab's entry in the whole block. -/
def inSlab (k : ℕ) (z : S64x2048.Idx) : (Blk n).Idx := fun a => match a with
  | ⟨0, _⟩ => (⟨(64 * k + (z 0).val) % n, Nat.mod_lt _ (Nat.pos_of_neZero n)⟩ : Fin n)
  | ⟨1, _⟩ => (⟨(z 1).val, (z 1).isLt⟩ : Fin 2048)

/-- The row of a slab's entry, for a slab within the block. -/
theorem inSlab_row (k : ℕ) (hk : 64 * k + 64 ≤ n) (z : S64x2048.Idx) : (inSlab (n := n) k z 0).val = 64 * k + (z 0).val :=
  Nat.mod_eq_of_lt (by have : (z 0).val < 64 := (z 0).isLt; omega)

/-- No write fills nothing. -/
theorem Slabs.nil {e : EltTy} (G : (Blk n).Idx → Elt F e) : Slabs G 0 [] := fun _ _ _ v f y => by
  rw [if_neg (by omega)]; rfl

/-- A write of slab `k` over the slabs before it. -/
theorem Slabs.cons {e : EltTy} {G : (Blk n).Idx → Elt F e} {k : ℕ} {L : List (View.Piece (Elt F) (Blk n) e)} (hL : Slabs G k L) (hk : 64 * k + 64 ≤ n)
    (off : Fin 2 → ℕ) (hoff : off = ![64 * k, 0]) (inb : ∀ a, off a + S64x2048.size a ≤ (Blk n).size a) (w : S64x2048.Idx → Elt F e)
    (hw : ∀ z, w z = G (inSlab k z)) :
    Slabs G (k + 1) ((⟨Rect.unit (s := Blk n) off S64x2048.size inb, w⟩ : View.Piece (Elt F) (Blk n) e) :: L) := by
  intro sg κ sp v f y
  subst hoff
  by_cases hy : (y 0).val < 64 * k ∨ 64 * k + 64 ≤ (y 0).val
  · refine (View.read_writes_cons_miss_of_axis v f ⟨Rect.unit (s := Blk n) ![64 * k, 0] S64x2048.size inb, w⟩ L y 0 (64 * k) 64 rfl rfl rfl hy).trans ?_
    rw [hL sg κ sp v f y]
    by_cases h' : (y 0).val < 64 * k
    · rw [if_pos h', if_pos (by omega)]
    · rw [if_neg h', if_neg (by omega)]
  · have hz0 : (y 0).val - 64 * k < 64 := by omega
    let z : S64x2048.Idx := fun a => match a with
      | ⟨0, _⟩ => (⟨(y 0).val - 64 * k, hz0⟩ : Fin 64)
      | ⟨1, _⟩ => (⟨(y 1).val, (y 1).isLt⟩ : Fin 2048)
    refine (View.read_writes_cons_hit_of_coords v f (Rect.unit (s := Blk n) ![64 * k, 0] S64x2048.size inb) w L z y ?_).trans ?_
    · intro a
      fin_cases a
      · show (y 0).val = 64 * k + 1 * ((y 0).val - 64 * k); omega
      · show (y 1).val = 0 + 1 * (y 1).val; omega
    · rw [if_pos (by omega), hw]
      refine congrArg G (funext fun a => Fin.ext ?_)
      fin_cases a
      · exact (inSlab_row k hk z).trans (by show 64 * k + ((y 0).val - 64 * k) = (y 0).val; omega)
      · rfl

/-- Slabs up to the last row fill the block. -/
theorem Slabs.read_all {e : EltTy} {G : (Blk n).Idx → Elt F e} {k : ℕ} {L : List (View.Piece (Elt F) (Blk n) e)} (hL : Slabs G k L) (hk : n ≤ 64 * k)
    {sg : RefSig} {κ : Kind} {sp : Space} (v : View sg κ sp (Blk n) e) (f : v.ty.Contents (Elt F)) : v.read (Elt F) (v.writes (Elt F) f L) = G :=
  funext fun y => (hL sg κ sp v f y).trans (if_pos (by have : (y 0).val < n := (y 0).isLt; omega))

/-- Slab `k` of a block. -/
def slab {e : EltTy} (X : (Blk n).Idx → Elt F e) (k : ℕ) : S64x2048.Idx → Elt F e := fun z => X (inSlab k z)

/-- A block made slab by slab. -/
def bySlab {e : EltTy} (P : ℕ → S64x2048.Idx → Elt F e) : (Blk n).Idx → Elt F e := fun y =>
  P ((y 0).val / 64) fun a => match a with
    | ⟨0, _⟩ => (⟨(y 0).val % 64, Nat.mod_lt _ (by decide)⟩ : Fin 64)
    | ⟨1, _⟩ => (⟨(y 1).val, (y 1).isLt⟩ : Fin 2048)

/-- A slab of a block made slab by slab. -/
theorem bySlab_inSlab {e : EltTy} (P : ℕ → S64x2048.Idx → Elt F e) (k : ℕ) (hk : 64 * k + 64 ≤ n) (z : S64x2048.Idx) :
    bySlab (n := n) P (inSlab k z) = P k z := by
  have hz : (z 0).val < 64 := (z 0).isLt
  have hr := inSlab_row k hk z
  refine congrArg₂ P ?_ (funext fun a => Fin.ext ?_)
  · rw [hr]; omega
  · fin_cases a
    · show (inSlab (n := n) k z 0).val % 64 = (z 0).val; rw [hr]; omega
    · rfl

/-- A read of 64 rows from row `64 k` on is slab `k`. -/
theorem ld_slab {e : EltTy} (X : (Blk n).Idx → Elt F e) (k : ℕ) (hk : 64 * k + 64 ≤ n) (off : Fin 2 → ℕ) (hoff : off = ![64 * k, 0])
    (inb : ∀ a, off a + S64x2048.size a ≤ (Blk n).size a) :
    View.ld X (Rect.unit (s := Blk n) off S64x2048.size inb) = slab X k := by
  subst hoff
  funext z
  refine congrArg X (funext fun a => Fin.ext ?_)
  fin_cases a
  · exact Eq.trans (by show 64 * k + 1 * (z 0).val = 64 * k + (z 0).val; omega) (inSlab_row k hk z).symm
  · show 0 + 1 * (z 1).val = (z 1).val; omega

/-- The block of normalised activations, slab by slab. -/
def normBlock (x : Vec F (Blk n) .f32) (g : Vec F S1x2048 .f32) : Vec F (Blk n) .bf16 := bySlab fun k => k0_pay3 (slab x k) g

/-- The zero block. -/
def zeroBlock : Vec F (Blk n) .f32 := bySlab fun _ => k0_pay4 (F := F)

/-- The finished block: the residual added and the rows normalised, slab by slab. -/
def finalBlock (x : Vec F (Blk n) .f32) (gf : Vec F S1x2048 .f32) (o : Vec F (Blk n) .f32) : Vec F (Blk n) .f32 :=
  bySlab fun k => k0_pay2 (slab x k) (slab o k) gf

end Blocks

end Cert.Proof.Ffn
-- ==== Proof.Ffn.Step.lean ====
/-
  What one step of the feed-forward body leaves, for any float values: the block of normalised activations that the first
  step of a row of steps stores, the sum that every step adds to, and the finished block that the last step stores. The
  loops over slabs of 64 rows are read off their lists of writes.
-/
module

public import proofs.«01_k».proof.Proof.Ffn.Slabs

@[expose] public section

noncomputable section

namespace Cert.Proof.Ffn

open Idealize.ShloMosaic Idealize.ShloMosaic.TcCoe
open Cert.Kernel2Ideal Cert.Kernel2Ideal.Gen

variable {F : FTy → Type} [FloatOps F]
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S1x2048 .f32) (h7 : a7.IsWhole)
  (a8 : Memref sig .tc .vmem S1024x2048 .f32) (h8 : a8.IsWhole) (a9 : Memref sig .tc .vmem S1024x2048 .bf16) (h9 : a9.IsWhole)
  (x : Vec F S1024x2048 .f32) (g : Vec F S1x2048 .f32) (w1 : Vec F S2048x512 .bf16) (w3 : Vec F S2048x512 .bf16)
  (w2 : Vec F S512x2048 .bf16) (gf : Vec F S1x2048 .f32) (o : Vec F S1024x2048 .f32) (h : Vec F S1024x2048 .bf16)

/-- A middle step adds its contribution to the output block. -/
theorem out_B (hc0 : ¬cond0_0 i) (hc1 : ¬cond0_1 i) :
    out0_B_6 c i a2 h2 a3 h3 a4 h4 a5 h5 a6 h6 a7 h7 a8 h8 a9 h9 hc0 hc1 x g w1 w3 w2 gf o h = addf o (stepProd h w1 w3 w2) := by
  unfold out0_B_6
  rw [View.read_writes_eq_canon _ _ _ (fun y => cover0_B_6 _ _ _ _ _ _ _ _ _ _ _ _ _ _ _ _ _ _ _ _ _ _ _ _ _ _ _ _ y)]
  unfold kernelRun0_B
  dsimp only
  sl_unfold_words
  rw [View.canon_unit_zero hz]
  unfold k0_pay1 k0_pay5 k0_pay6 stepProd halfProd halfHidden leftCols rightCols upperRows lowerRows
  simp only [View.readAt_eq_ld, h4.read_unread, h5.read_unread, h6.read_unread, h8.read_unread, h9.read_unread, View.ld_unit_zero (S := S1024x2048) hz, shapeCast_self]
  rfl

/-- Where trip `k` of the first loop reads and writes. -/
theorem off1_eq : ∀ k : Fin k0_t1_loop.trips, k0_off1 k = ![64 * k.val, 0] := by decide +kernel
/-- Where trip `k` of the second loop reads and writes. -/
theorem off2_eq : ∀ k : Fin k0_t2_loop.trips, k0_off2 k = ![64 * k.val, 0] := by decide +kernel

/-- The first loop: after `k` trips the output block is zero and the scratch normalised in the first `k` slabs. -/
theorem fill_t1 (hc0 : cond0_0 i) : ∀ k : ℕ, k ≤ 16 →
    Slabs (F := F) zeroBlock k (pb_k0_t1 Variants.none c none i a2 h2 a3 h3 a4 h4 a5 h5 a6 h6 a7 h7 a8 h8 a9 h9 hc0 (h2.unread x) (h3.unread g) k).1 ∧
    Slabs (normBlock x g) k (pb_k0_t1 Variants.none c none i a2 h2 a3 h3 a4 h4 a5 h5 a6 h6 a7 h7 a8 h8 a9 h9 hc0 (h2.unread x) (h3.unread g) k).2
  | 0, _ => ⟨Slabs.nil _, Slabs.nil _⟩
  | k + 1, hk => by
    have ih := fill_t1 hc0 k (by omega)
    have e := pb_k0_t1_succ (F := F) Variants.none c none i a2 h2 a3 h3 a4 h4 a5 h5 a6 h6 a7 h7 a8 h8 a9 h9 hc0 (h2.unread x) (h3.unread g) ⟨k, hk⟩
    dsimp only at e
    rw [e]
    unfold trip_k0_t1
    dsimp only
    constructor
    · refine ih.1.cons (by omega) _ (off1_eq ⟨k, hk⟩) _ _ fun z => (bySlab_inSlab (F := F) (e := .f32) (fun _ => k0_pay4) k (by omega) z).symm
    · refine ih.2.cons (by omega) _ (off1_eq ⟨k, hk⟩) _ _ fun z => ?_
      refine Eq.trans ?_ (bySlab_inSlab _ k (by omega) z).symm
      simp only [View.readAt_eq_ld, h2.read_unread, h3.read_unread, View.ld_unit_zero (S := S1x2048) hz]
      rw [ld_slab x k (by omega) _ (off1_eq ⟨k, hk⟩)]

/-- The second loop: after `k` trips the first `k` slabs of the output block are finished. -/
theorem fill_t2 (hc1 : cond0_1 i) (G0 : a8.view.ty.Contents (Elt F)) (hG0 : a8.view.read (Elt F) G0 = o) : ∀ k : ℕ, k ≤ 16 →
    Slabs (finalBlock x gf o) k (pb_k0_t2 Variants.none c none i a2 h2 a3 h3 a4 h4 a5 h5 a6 h6 a7 h7 a8 h8 a9 h9 hc1 (h2.unread x) (h7.unread gf) G0 k)
  | 0, _ => Slabs.nil _
  | k + 1, hk => by
    have ih := fill_t2 hc1 G0 hG0 k (by omega)
    have e := pb_k0_t2_succ (F := F) Variants.none c none i a2 h2 a3 h3 a4 h4 a5 h5 a6 h6 a7 h7 a8 h8 a9 h9 hc1 (h2.unread x) (h7.unread gf) G0 ⟨k, hk⟩
    dsimp only at e
    rw [e]
    unfold tripL_k0_t2 trip_k0_t2
    dsimp only
    refine ih.cons (by omega) _ (off2_eq ⟨k, hk⟩) _ _ fun z => ?_
    refine Eq.trans ?_ (bySlab_inSlab _ k (by omega) z).symm
    simp only [View.readAt_eq_ld, h2.read_unread, h7.read_unread, View.ld_unit_zero (S := S1x2048) hz]
    rw [ld_slab x k (by omega) _ (off2_eq ⟨k, hk⟩), ld_slab _ k (by omega) _ (off2_eq ⟨k, hk⟩)]
    have hs : slab (a8.view.read (Elt F) (a8.view.writes (Elt F) G0 (pb_k0_t2 Variants.none c none i a2 h2 a3 h3 a4 h4 a5 h5 a6 h6 a7 h7 a8 h8 a9 h9 hc1 (h2.unread x) (h7.unread gf) G0 k))) k = slab o k := by
      funext z'
      refine (ih _ _ _ a8.view G0 _).trans ?_
      rw [if_neg (by rw [inSlab_row k (by omega) z']; omega), hG0]
      rfl
    rw [hs]

/-- The first step leaves the normalised activations in the scratch. -/
theorem sout_A (hc0 : cond0_0 i) (hc1 : ¬cond0_1 i) :
    sout0_A_0 c i a2 h2 a3 h3 a4 h4 a5 h5 a6 h6 a7 h7 a8 h8 a9 h9 hc0 hc1 x g w1 w3 w2 gf = normBlock x g := by
  unfold sout0_A_0
  unfold kernelRun0_A
  dsimp only
  exact (fill_t1 c i a2 h2 a3 h3 a4 h4 a5 h5 a6 h6 a7 h7 a8 h8 a9 h9 x g hc0 16 le_rfl).2.read_all (by omega) _ _

/-- The first step leaves its contribution, over zero, in the output block. -/
theorem out_A (hc0 : cond0_0 i) (hc1 : ¬cond0_1 i) :
    out0_A_6 c i a2 h2 a3 h3 a4 h4 a5 h5 a6 h6 a7 h7 a8 h8 a9 h9 hc0 hc1 x g w1 w3 w2 gf = addf zeroBlock (stepProd (normBlock x g) w1 w3 w2) := by
  unfold out0_A_6
  rw [View.read_writes_eq_canon _ _ _ (fun y => cover0_A_6 _ _ _ _ _ _ _ _ _ _ _ _ _ _ _ _ _ _ _ _ _ _ _ _ _ _ y)]
  unfold kernelRun0_A
  dsimp only
  sl_unfold_words
  rw [View.canon_cons_unit_zero (S := S1024x2048) hz]
  have hf := fill_t1 c i a2 h2 a3 h3 a4 h4 a5 h5 a6 h6 a7 h7 a8 h8 a9 h9 x g hc0 16 le_rfl
  have e8 : a8.view.readCov (pb_k0_t1 (F := F) Variants.none c none i a2 h2 a3 h3 a4 h4 a5 h5 a6 h6 a7 h7 a8 h8 a9 h9 hc0 (h2.unread x) (h3.unread g) (Scf.trips k0_t1_loop.lb k0_t1_loop.ub k0_t1_loop.st)).1
      (Rect.unit (s := S1024x2048) ![0, 0] S1024x2048.size inb_S1024x2048_S1024x2048_0_0).toLoadRect = zeroBlock := by
    unfold View.readCov
    rw [View.readAt_eq_ld, View.ld_unit_zero (S := S1024x2048) hz]
    exact hf.1.read_all (by omega) _ _
  have e9 : a9.view.readCov (pb_k0_t1 (F := F) Variants.none c none i a2 h2 a3 h3 a4 h4 a5 h5 a6 h6 a7 h7 a8 h8 a9 h9 hc0 (h2.unread x) (h3.unread g) (Scf.trips k0_t1_loop.lb k0_t1_loop.ub k0_t1_loop.st)).2
      (Rect.unit (s := S1024x2048) ![0, 0] S1024x2048.size inb_S1024x2048_S1024x2048_0_0).toLoadRect = normBlock x g := by
    unfold View.readCov
    rw [View.readAt_eq_ld, View.ld_unit_zero (S := S1024x2048) hz]
    exact hf.2.read_all (by omega) _ _
  rw [e8, e9]
  unfold k0_pay1 k0_pay5 k0_pay6 stepProd halfProd halfHidden leftCols rightCols upperRows lowerRows
  simp only [View.readAt_eq_ld, h4.read_unread, h5.read_unread, h6.read_unread, shapeCast_self]
  rfl

/-- The last step leaves the finished block. -/
theorem out_C (hc0 : ¬cond0_0 i) (hc1 : cond0_1 i) :
    out0_C_6 c i a2 h2 a3 h3 a4 h4 a5 h5 a6 h6 a7 h7 a8 h8 a9 h9 hc0 hc1 x g w1 w3 w2 gf o h = finalBlock x gf (addf o (stepProd h w1 w3 w2)) := by
  unfold out0_C_6
  unfold kernelRun0_C
  dsimp only
  sl_unfold_words
  rw [View.writes_append]
  refine (fill_t2 c i a2 h2 a3 h3 a4 h4 a5 h5 a6 h6 a7 h7 a8 h8 a9 h9 x gf (addf o (stepProd h w1 w3 w2)) hc1 _ ?_ 16 le_rfl).read_all (by omega) VO0_6 _
  · funext y'
    refine (View.read_writes_cons_hit_of_coords _ _ _ _ _ y' y' ?_).trans ?_
    · intro a
      fin_cases a
      · show (y' 0).val = 0 + 1 * (y' 0).val; omega
      · show (y' 1).val = 0 + 1 * (y' 1).val; omega
    · unfold k0_pay1 k0_pay5 k0_pay6 stepProd halfProd halfHidden leftCols rightCols upperRows lowerRows
      simp only [View.readAt_eq_ld, h4.read_unread, h5.read_unread, h6.read_unread, h8.read_unread, h9.read_unread, View.ld_unit_zero (S := S1024x2048) hz, shapeCast_self]
      rfl

end Cert.Proof.Ffn
-- ==== Proof.Ffn.Spec.lean ====
/-
  The feed-forward layer as a plain function of its arrays, for any number of rows, at the exact values: what both the kernel's run and the
  reference's are shown to compute.
-/
module

public import proofs.«01_k».proof.Proof.Value.Kernel

@[expose] public section

noncomputable section

namespace Cert.Proof.Ffn

open Idealize.ShloMosaic
open Cert.Proof.Value (rowNorm)

/-- The gate of one hidden entry: `a · σ(a) · b`. -/
def gate (a b : EReal) : EReal := a * Ideal.logistic a * b

/-- The weight of the branch that is added to the activations. -/
def half : EReal := Ideal.ofBits .f32 0x3F000000#32

section Layer

variable {N : ℕ} (X : Fin N → Fin 2048 → EReal) (G : Fin 2048 → EReal) (W1 W3 : Fin 2048 → Fin 5632 → EReal) (W2 : Fin 5632 → Fin 2048 → EReal) (Gf : Fin 2048 → EReal)

/-- The term that hidden entry `n` of row `R` adds to entry `d` of the branch; nothing from entry 5632 on. -/
def term (R : Fin N) (d : Fin 2048) (n : ℕ) : EReal :=
  if h : n < 5632 then
    gate (∑ k, rowNorm (X R) G k * W1 k ⟨n, h⟩) (∑ k, rowNorm (X R) G k * W3 k ⟨n, h⟩) * W2 ⟨n, h⟩ d
  else 0

/-- The residual stream after the layer. -/
def residual (R : Fin N) (d : Fin 2048) : EReal := X R d + half * ∑ n ∈ Finset.range 5632, term X G W1 W3 W2 R d n

/-- The layer followed by the final normalisation. -/
def layer (R : Fin N) (d : Fin 2048) : EReal := rowNorm (residual X G W1 W3 W2 R) Gf d

end Layer

end Cert.Proof.Ffn
-- ==== Proof.Ffn.Payloads.lean ====
/-
  What the feed-forward body computes on its blocks of any number of rows, entry by entry, at the exact values.
-/
module

public import proofs.«01_k».proof.Proof.Ffn.Step
public import proofs.«01_k».proof.Proof.Ffn.Spec

@[expose] public section

noncomputable section

namespace Cert.Proof.Ffn

open Idealize.ShloMosaic Idealize.ShloMosaic.ValueIdx Idealize.ShloMosaic.TcCoe
open Cert.Kernel2Ideal Cert.Kernel2Ideal.Gen
open Cert.Proof.Value (rowNorm normRows_apply product_apply)

/-- A slab of the first normalisation. -/
theorem pay3_apply (X : S64x2048.Idx → EReal) (g : S1x2048.Idx → EReal) (r : Fin 64) (k : Fin 2048) :
    k0_pay3 (F := Ideal) X g (ix2 r k) = rowNorm (fun j => X (ix2 r j)) (fun j => g (ix2 0 j)) k := by
  unfold k0_pay3
  dsimp only
  rw [shapeCast_apply _ _ (ix2 r k) (ix2 r k) rfl, shapeCast_self]
  exact normRows_apply X g _ _ _ _ r k

/-- A slab of the result: the residual added, then the second normalisation. -/
theorem pay2_apply (X O : S64x2048.Idx → EReal) (g : S1x2048.Idx → EReal) (r : Fin 64) (k : Fin 2048) :
    k0_pay2 (F := Ideal) X O g (ix2 r k) = rowNorm (fun j => X (ix2 r j) + half * O (ix2 r j)) (fun j => g (ix2 0 j)) k := by
  unfold k0_pay2
  dsimp only
  rw [shapeCast_self, shapeCast_self]
  exact normRows_apply _ g _ _ _ _ r k

section Blocks

variable {n : ℕ}

/-- An entry of the gated product of two arrays. -/
theorem gate_apply {S : Shape} (A B : FVec Ideal S .f32) (y : S.Idx) :
    truncf (F := Ideal) .bf16 (mulf (mulf A (logistic A)) B) bitsLt_bf16_f32 y = gate (A y) (B y) := rfl

/-- One half of a stretch's hidden entries. -/
theorem halfHidden_apply (h : (Blk n).Idx → EReal) (u v : S2048x256.Idx → EReal) (r : Fin n) (i : Fin 256) :
    halfHidden (F := Ideal) h u v (ix2 r i) = gate (∑ k : Fin 2048, h (ix2 r k) * u (ix2 k i)) (∑ k : Fin 2048, h (ix2 r k) * v (ix2 k i)) := by
  unfold halfHidden
  refine (gate_apply _ _ _).trans ?_
  rw [product_apply, product_apply]

/-- The products of one half of a stretch of hidden entries. -/
theorem halfProd_apply (h : (Blk n).Idx → EReal) (u v : S2048x256.Idx → EReal) (w : S256x2048.Idx → EReal) (r : Fin n) (d : Fin 2048) :
    halfProd (F := Ideal) h u v w (ix2 r d)
      = ∑ i : Fin 256, gate (∑ k : Fin 2048, h (ix2 r k) * u (ix2 k i)) (∑ k : Fin 2048, h (ix2 r k) * v (ix2 k i)) * w (ix2 i d) := by
  refine (product_apply (halfHidden (F := Ideal) h u v) w r d).trans (Finset.sum_congr rfl fun i _ => ?_)
  rw [halfHidden_apply]

/-! ### The blocks -/

variable [NeZero n]

/-- A slab's entry by its row and column. -/
theorem bySlab_apply (P : ℕ → S64x2048.Idx → EReal) (r : Fin n) (d : Fin 2048) :
    bySlab (F := Ideal) (e := .f32) P (ix2 r d) = P (r.val / 64) (ix2 (⟨r.val % 64, Nat.mod_lt _ (by decide)⟩ : Fin 64) d) := by
  refine congrArg (P _) (funext fun a => ?_)
  fin_cases a <;> rfl

/-- The slab an entry lies in, read at the entry's place in it. -/
theorem slab_apply (X : (Blk n).Idx → EReal) (r : Fin n) (d : Fin 2048) :
    slab (F := Ideal) (e := .f32) X (r.val / 64) (ix2 (⟨r.val % 64, Nat.mod_lt _ (by decide)⟩ : Fin 64) d) = X (ix2 r d) := by
  refine congrArg X (funext fun a => Fin.ext ?_)
  fin_cases a
  · exact Eq.trans (congrArg (· % n) (Nat.div_add_mod r.val 64)) (Nat.mod_eq_of_lt r.isLt)
  · rfl

/-- The first normalisation of a block. -/
theorem normBlock_apply (X : (Blk n).Idx → EReal) (g : S1x2048.Idx → EReal) (r : Fin n) (d : Fin 2048) :
    normBlock (F := Ideal) X g (ix2 r d) = rowNorm (fun j => X (ix2 r j)) (fun j => g (ix2 0 j)) d := by
  refine (bySlab_apply (fun k => k0_pay3 (F := Ideal) (slab (F := Ideal) (e := .f32) X k) g) r d).trans ?_
  rw [pay3_apply]
  refine congrArg (rowNorm · _ d) (funext fun j => slab_apply X r j)

/-- The block that a row of steps starts from is zero. -/
theorem zeroBlock_apply (r : Fin n) (d : Fin 2048) : zeroBlock (F := Ideal) (n := n) (ix2 r d) = (0 : EReal) :=
  (bySlab_apply (fun _ => k0_pay4 (F := Ideal)) r d).trans Ideal.ofBits_zero_f32

/-- The block written back: the residual added, then the second normalisation. -/
theorem finalBlock_apply (X O : (Blk n).Idx → EReal) (g : S1x2048.Idx → EReal) (r : Fin n) (d : Fin 2048) :
    finalBlock (F := Ideal) X g O (ix2 r d) = rowNorm (fun j => X (ix2 r j) + half * O (ix2 r j)) (fun j => g (ix2 0 j)) d := by
  refine (bySlab_apply (fun k => k0_pay2 (F := Ideal) (slab (F := Ideal) (e := .f32) X k) (slab (F := Ideal) (e := .f32) O k) g) r d).trans ?_
  rw [pay2_apply]
  refine congrArg (rowNorm · _ d) (funext fun j => ?_)
  rw [slab_apply X r j, slab_apply O r j]

omit [NeZero n] in
/-- One step's contribution: the products of a stretch of 512 hidden entries, the first 256 and the last 256. -/
theorem stepProd_apply (h : (Blk n).Idx → EReal) (w1 w3 : S2048x512.Idx → EReal) (w2 : S512x2048.Idx → EReal) (r : Fin n) (d : Fin 2048)
    (T : ℕ → EReal) (hT : ∀ i : Fin 512, gate (∑ k : Fin 2048, h (ix2 r k) * w1 (ix2 k i)) (∑ k : Fin 2048, h (ix2 r k) * w3 (ix2 k i)) * w2 (ix2 i d) = T i.val) :
    stepProd (F := Ideal) h w1 w3 w2 (ix2 r d) = ∑ i ∈ Finset.range 512, T i := by
  unfold stepProd
  refine (congrArg₂ (· + ·) (halfProd_apply _ _ _ _ r d) (halfProd_apply _ _ _ _ r d)).trans ?_
  rw [show (512 : ℕ) = 256 + 256 from rfl, Finset.sum_range_add, Finset.sum_range, Finset.sum_range]
  have hcol : ∀ (o : ℕ) (ho : o = 0 ∨ o = 256) (inb : ∀ a, (![0, o] : Fin 2 → ℕ) a + S2048x256.size a ≤ S2048x512.size a) (w : S2048x512.Idx → EReal) (k : Fin 2048) (i : Fin 256),
      View.ld (Val := Elt Ideal) (e' := .bf16) w (Rect.unit (s := S2048x512) ![0, o] S2048x256.size inb) (ix2 k i) = w (ix2 k (⟨o + i.val, by rcases ho with h | h <;> omega⟩ : Fin 512)) := by
    intro o ho inb w k i
    refine congrArg w (funext fun a => Fin.ext ?_)
    fin_cases a
    · show 0 + 1 * k.val = k.val; omega
    · show o + 1 * i.val = o + i.val; omega
  have hrow : ∀ (o : ℕ) (ho : o = 0 ∨ o = 256) (inb : ∀ a, (![o, 0] : Fin 2 → ℕ) a + S256x2048.size a ≤ S512x2048.size a) (i : Fin 256),
      View.ld (Val := Elt Ideal) (e' := .bf16) w2 (Rect.unit (s := S512x2048) ![o, 0] S256x2048.size inb) (ix2 i d) = w2 (ix2 (⟨o + i.val, by rcases ho with h | h <;> omega⟩ : Fin 512) d) := by
    intro o ho inb i
    refine congrArg w2 (funext fun a => Fin.ext ?_)
    fin_cases a
    · show o + 1 * i.val = o + i.val; omega
    · show 0 + 1 * d.val = d.val; omega
  refine congrArg₂ (· + ·) (Finset.sum_congr rfl fun i _ => ?_) (Finset.sum_congr rfl fun i _ => ?_)
  · refine Eq.trans ?_ ((hT ⟨0 + i.val, by omega⟩).trans (congrArg T (Nat.zero_add _)))
    unfold leftCols upperRows
    refine congrArg₂ (· * ·) (congrArg₂ gate ?_ ?_) (hrow 0 (.inl rfl) _ i)
    · exact Finset.sum_congr rfl fun k _ => congrArg (_ * ·) (hcol 0 (.inl rfl) _ w1 k i)
    · exact Finset.sum_congr rfl fun k _ => congrArg (_ * ·) (hcol 0 (.inl rfl) _ w3 k i)
  · refine Eq.trans ?_ (hT ⟨256 + i.val, by omega⟩)
    unfold rightCols lowerRows
    refine congrArg₂ (· * ·) (congrArg₂ gate ?_ ?_) (hrow 256 (.inr rfl) _ i)
    · exact Finset.sum_congr rfl fun k _ => congrArg (_ * ·) (hcol 256 (.inr rfl) _ w1 k i)
    · exact Finset.sum_congr rfl fun k _ => congrArg (_ * ·) (hcol 256 (.inr rfl) _ w3 k i)

end Blocks

end Cert.Proof.Ffn
-- ==== Proof.Ffn.Fold.lean ====
/-
  What a feed-forward call leaves after each grid point, at the exact values: the carried scratch holds the block's
  normalised activations, the output block the sum of the terms of the hidden entries so far, and at the last point of a
  row of eleven points the finished block. The feed-forward calls differ in the number of rows and in how that last point
  finishes the block only, so the fold is stated for any number of rows and any way of finishing.
-/
module

public import proofs.«01_k».proof.Proof.Ffn.Payloads

@[expose] public section

noncomputable section

namespace Cert.Proof.Ffn

open Idealize.ShloMosaic Idealize.ShloMosaic.ValueIdx Idealize.ShloMosaic.TcCoe
open Cert.Kernel2Ideal
open Cert.Proof.Value (rowNorm)

/-- A feed-forward call's arrays of `N` rows, the blocks of `n` rows that its `P` points are given, and where each block
    lies in its array: the activations move on after eleven points, the weights with every point. -/
structure Staged (n N P : ℕ) where
  /-- The activations. -/
  X : Fin N → Fin 2048 → EReal
  /-- The first normalisation's gain. -/
  G : Fin 2048 → EReal
  /-- The gated up-projection's weight. -/
  W1 : Fin 2048 → Fin 5632 → EReal
  /-- The other up-projection's weight. -/
  W3 : Fin 2048 → Fin 5632 → EReal
  /-- The down-projection's weight. -/
  W2 : Fin 5632 → Fin 2048 → EReal
  /-- The final normalisation's gain. -/
  Gf : Fin 2048 → EReal
  /-- The blocks of activations. -/
  xB : Fin P → Vec Ideal (Blk n) .f32
  /-- The first gain as each point is given it. -/
  gB : Fin P → Vec Ideal S1x2048 .f32
  /-- The blocks of the gated weight. -/
  w1B : Fin P → Vec Ideal S2048x512 .bf16
  /-- The blocks of the other up-projection's weight. -/
  w3B : Fin P → Vec Ideal S2048x512 .bf16
  /-- The blocks of the down-projection's weight. -/
  w2B : Fin P → Vec Ideal S512x2048 .bf16
  /-- The final gain as each point is given it. -/
  gfB : Fin P → Vec Ideal S1x2048 .f32
  /-- A block of activations is the rows from `n (t / 11)` on. -/
  x_eq : ∀ (t : Fin P) (r : Fin n) (d : Fin 2048) (R : Fin N), R.val = n * (t.val / 11) + r.val → (xB t : (Blk n).Idx → EReal) (ix2 r d) = X R d
  /-- The first gain is given whole. -/
  g_eq : ∀ (t : Fin P) (d : Fin 2048), (gB t : S1x2048.Idx → EReal) (ix2 0 d) = G d
  /-- A block of the gated weight is the columns from `512 (t % 11)` on. -/
  w1_eq : ∀ (t : Fin P) (k : Fin 2048) (i : Fin 512) (I : Fin 5632), I.val = 512 * (t.val % 11) + i.val → (w1B t : S2048x512.Idx → EReal) (ix2 k i) = W1 k I
  /-- A block of the other up-projection's weight is the columns from `512 (t % 11)` on. -/
  w3_eq : ∀ (t : Fin P) (k : Fin 2048) (i : Fin 512) (I : Fin 5632), I.val = 512 * (t.val % 11) + i.val → (w3B t : S2048x512.Idx → EReal) (ix2 k i) = W3 k I
  /-- A block of the down-projection's weight is the rows from `512 (t % 11)` on. -/
  w2_eq : ∀ (t : Fin P) (i : Fin 512) (d : Fin 2048) (I : Fin 5632), I.val = 512 * (t.val % 11) + i.val → (w2B t : S512x2048.Idx → EReal) (ix2 i d) = W2 I d
  /-- The final gain is given whole. -/
  gf_eq : ∀ (t : Fin P) (d : Fin 2048), (gfB t : S1x2048.Idx → EReal) (ix2 0 d) = Gf d

/-- The terms so far and those of the next stretch. -/
theorem add_stretch (f : ℕ → EReal) (j : ℕ) :
    (∑ n ∈ Finset.range (512 * j), f n) + ∑ n ∈ Finset.range 512, f (512 * j + n) = ∑ n ∈ Finset.range (512 * (j + 1)), f n := by
  rw [Nat.mul_succ, Finset.sum_range_add]

namespace Staged

variable {n N P : ℕ} (S : Staged n N P)

/-- The term that a hidden entry adds to an entry of the branch. -/
def argTerm : Fin N → Fin 2048 → ℕ → EReal := term S.X S.G S.W1 S.W3 S.W2

/-- What one step adds at point `t`, over the normalised activations: the terms of 512 hidden entries. -/
theorem stepProd_point (t : Fin P) (h : (Blk n).Idx → EReal)
    (hh : ∀ r d R, R.val = n * (t.val / 11) + r.val → h (ix2 r d) = rowNorm (S.X R) S.G d) (r : Fin n) (d : Fin 2048) (R : Fin N) (hR : R.val = n * (t.val / 11) + r.val) :
    stepProd (F := Ideal) h (S.w1B t) (S.w3B t) (S.w2B t) (ix2 r d) = ∑ i ∈ Finset.range 512, S.argTerm R d (512 * (t.val % 11) + i) := by
  refine stepProd_apply h _ _ _ r d (fun i => S.argTerm R d (512 * (t.val % 11) + i)) fun i => ?_
  have hI : 512 * (t.val % 11) + i.val < 5632 := by omega
  unfold argTerm term
  rw [dif_pos hI]
  refine congrArg₂ (· * ·) (congrArg₂ gate ?_ ?_) (S.w2_eq t i d ⟨_, hI⟩ rfl)
  · exact Finset.sum_congr rfl fun k _ => congrArg₂ (· * ·) (hh r k R hR) (S.w1_eq t k i ⟨_, hI⟩ rfl)
  · exact Finset.sum_congr rfl fun k _ => congrArg₂ (· * ·) (hh r k R hR) (S.w3_eq t k i ⟨_, hI⟩ rfl)

variable [NeZero n]

/-- The activations that the first point of a row of points normalises. -/
theorem normBlock_point (t : Fin P) (r : Fin n) (d : Fin 2048) (R : Fin N) (hR : R.val = n * (t.val / 11) + r.val) :
    normBlock (F := Ideal) (S.xB t) (S.gB t) (ix2 r d) = rowNorm (S.X R) S.G d := by
  rw [normBlock_apply]
  exact congrArg₂ (rowNorm · · d) (funext fun j => S.x_eq t r j R hR) (funext fun j => S.g_eq t j)

/-- What the points leave, output block and scratch, when each point computes as a feed-forward's does and the last point
    of a row of points finishes the block with `fin`. -/
structure Steps (O : (j : ℕ) → j < P → Vec Ideal (Blk n) .f32 × Vec Ideal (Blk n) .bf16)
    (fin : Vec Ideal (Blk n) .f32 → Vec Ideal S1x2048 .f32 → Vec Ideal (Blk n) .f32 → Vec Ideal (Blk n) .f32) : Prop where
  /-- The first point of a row of points starts from zero and keeps the normalised block. -/
  first : ∀ t : Fin P, t.val % 11 = 0 → O t.val t.isLt
    = (addf zeroBlock (stepProd (normBlock (S.xB t) (S.gB t)) (S.w1B t) (S.w3B t) (S.w2B t)), normBlock (S.xB t) (S.gB t))
  /-- A middle point adds to what the point before it left. -/
  middle : ∀ (j : ℕ) (hj : j + 1 < P), ¬ (j + 1) % 11 = 0 → ¬ (j + 1) % 11 = 10 → O (j + 1) hj
    = (addf (O j (Nat.lt_of_succ_lt hj)).1 (stepProd (O j (Nat.lt_of_succ_lt hj)).2 (S.w1B ⟨j + 1, hj⟩) (S.w3B ⟨j + 1, hj⟩) (S.w2B ⟨j + 1, hj⟩)),
        (O j (Nat.lt_of_succ_lt hj)).2)
  /-- The last point adds and finishes. -/
  last : ∀ (j : ℕ) (hj : j + 1 < P), ¬ (j + 1) % 11 = 0 → (j + 1) % 11 = 10 → O (j + 1) hj
    = (fin (S.xB ⟨j + 1, hj⟩) (S.gfB ⟨j + 1, hj⟩)
          (addf (O j (Nat.lt_of_succ_lt hj)).1 (stepProd (O j (Nat.lt_of_succ_lt hj)).2 (S.w1B ⟨j + 1, hj⟩) (S.w3B ⟨j + 1, hj⟩) (S.w2B ⟨j + 1, hj⟩))),
        (O j (Nat.lt_of_succ_lt hj)).2)

/-- Finishing a block that holds all the terms gives the rows of `L`. -/
def Finishes (fin : Vec Ideal (Blk n) .f32 → Vec Ideal S1x2048 .f32 → Vec Ideal (Blk n) .f32 → Vec Ideal (Blk n) .f32)
    (L : Fin N → Fin 2048 → EReal) : Prop :=
  ∀ (t : Fin P) (A : (Blk n).Idx → EReal),
    (∀ r d (R : Fin N), R.val = n * (t.val / 11) + r.val → A (ix2 r d) = ∑ i ∈ Finset.range 5632, S.argTerm R d i) →
    ∀ r d (R : Fin N), R.val = n * (t.val / 11) + r.val → (fin (S.xB t) (S.gfB t) A : (Blk n).Idx → EReal) (ix2 r d) = L R d

/-- The residual added and the rows normalised: a last point that finishes so leaves the layer. -/
theorem finishes_layer : S.Finishes finalBlock (layer S.X S.G S.W1 S.W3 S.W2 S.Gf) := fun t A hA r d R hR => by
  refine (finalBlock_apply (S.xB t) A (S.gfB t) r d).trans ?_
  unfold layer residual
  exact congrArg₂ (rowNorm · · d) (funext fun j => congrArg₂ (· + ·) (S.x_eq t r j R hR) (congrArg (half * ·) (hA r j R hR))) (funext fun j => S.gf_eq t j)

section Fold

variable (O : (j : ℕ) → j < P → Vec Ideal (Blk n) .f32 × Vec Ideal (Blk n) .bf16)
  (fin : Vec Ideal (Blk n) .f32 → Vec Ideal S1x2048 .f32 → Vec Ideal (Blk n) .f32 → Vec Ideal (Blk n) .f32) (L : Fin N → Fin 2048 → EReal)

/-- The state after point `t` as the layer's terms. -/
def After (t : Fin P) : Prop :=
  (∀ r d (R : Fin N), R.val = n * (t.val / 11) + r.val → ((O t.val t.isLt).2 : (Blk n).Idx → EReal) (ix2 r d) = rowNorm (S.X R) S.G d)
  ∧ (¬ t.val % 11 = 10 → ∀ r d (R : Fin N), R.val = n * (t.val / 11) + r.val →
      ((O t.val t.isLt).1 : (Blk n).Idx → EReal) (ix2 r d) = ∑ i ∈ Finset.range (512 * (t.val % 11 + 1)), S.argTerm R d i)
  ∧ (t.val % 11 = 10 → ∀ r d (R : Fin N), R.val = n * (t.val / 11) + r.val → ((O t.val t.isLt).1 : (Blk n).Idx → EReal) (ix2 r d) = L R d)

/-- The first point of a row of points. -/
theorem after_first (hO : S.Steps O fin) (t : Fin P) (h0 : t.val % 11 = 0) : S.After O L t := by
  have h1 : ¬ t.val % 11 = 10 := by omega
  unfold After
  rw [hO.first t h0]
  refine ⟨S.normBlock_point t, fun _ r d R hR => ?_, fun h => absurd h h1⟩
  refine (congrArg₂ (· + ·) (zeroBlock_apply r d) (S.stepProd_point t _ (S.normBlock_point t) r d R hR)).trans ?_
  rw [zero_add, h0]
  exact Finset.sum_congr rfl fun i _ => congrArg _ (by omega)

/-- A later point of a row of points, over the point before it. -/
theorem after_next (hO : S.Steps O fin) (hL : S.Finishes fin L) (j : ℕ) (hj : j + 1 < P) (h0 : ¬ (j + 1) % 11 = 0)
    (hp : S.After O L ⟨j, Nat.lt_of_succ_lt hj⟩) : S.After O L ⟨j + 1, hj⟩ := by
  obtain ⟨hs, ho, -⟩ := hp
  have hmod : j % 11 + 1 = (j + 1) % 11 := by omega
  have hdiv : (j + 1) / 11 = j / 11 := by omega
  have hs' : ∀ r d (R : Fin N), R.val = n * ((j + 1) / 11) + r.val → ((O j (Nat.lt_of_succ_lt hj)).2 : (Blk n).Idx → EReal) (ix2 r d) = rowNorm (S.X R) S.G d :=
    fun r d R hR => hs r d R (by rw [hdiv] at hR; exact hR)
  have hsum : ∀ r d (R : Fin N), R.val = n * ((j + 1) / 11) + r.val →
      addf (F := Ideal) (φ := .f32) (O j (Nat.lt_of_succ_lt hj)).1 (stepProd (O j (Nat.lt_of_succ_lt hj)).2 (S.w1B ⟨j + 1, hj⟩) (S.w3B ⟨j + 1, hj⟩) (S.w2B ⟨j + 1, hj⟩)) (ix2 r d)
        = ∑ k ∈ Finset.range (512 * ((j + 1) % 11 + 1)), S.argTerm R d k := fun r d R hR => by
    refine (congrArg₂ (· + ·) (ho (by show ¬ j % 11 = 10; omega) r d R (by rw [hdiv] at hR; exact hR)) (S.stepProd_point ⟨j + 1, hj⟩ _ hs' r d R hR)).trans ?_
    show (∑ k ∈ Finset.range (512 * (j % 11 + 1)), _) + ∑ k ∈ Finset.range 512, S.argTerm _ d (512 * ((j + 1) % 11) + k) = _
    rw [hmod]
    exact add_stretch _ _
  by_cases h1 : (j + 1) % 11 = 10
  · unfold After
    rw [hO.last j hj h0 h1]
    refine ⟨hs', fun h => absurd h1 h, fun _ => hL ⟨j + 1, hj⟩ _ fun r d R hR => (hsum r d R hR).trans ?_⟩
    rw [h1]
  · unfold After
    rw [hO.middle j hj h0 h1]
    exact ⟨hs', fun _ => hsum, fun h => absurd h h1⟩

/-- The state after every point. -/
theorem after_all (hO : S.Steps O fin) (hL : S.Finishes fin L) : ∀ (j : ℕ) (hj : j < P), S.After O L ⟨j, hj⟩
  | 0, hj => S.after_first O fin L hO ⟨0, hj⟩ rfl
  | j + 1, hj =>
    if h0 : (j + 1) % 11 = 0 then S.after_first O fin L hO ⟨j + 1, hj⟩ h0
    else S.after_next O fin L hO hL j hj h0 (after_all hO hL j (Nat.lt_of_succ_lt hj))

/-- The block that the last point of a row of points leaves is `L`'s rows. -/
theorem last_block (hO : S.Steps O fin) (hL : S.Finishes fin L) (j : ℕ) (hj : j < P) (h : j % 11 = 10) (r : Fin n) (d : Fin 2048) (R : Fin N)
    (hR : R.val = n * (j / 11) + r.val) : ((O j hj).1 : (Blk n).Idx → EReal) (ix2 r d) = L R d :=
  (S.after_all O fin L hO hL j hj).2.2 h r d R hR

end Fold

end Staged

end Cert.Proof.Ffn
-- ==== Proof.Ffn.Blocks.lean ====
/-
  The blocks the feed-forward call stages at each grid point, as entries of the argument arrays, and the grid point that
  writes an entry's block back, at the exact values.
-/
module

public import proofs.«01_k».proof.Proof.Ffn.Fold

@[expose] public section

noncomputable section

namespace Cert.Proof.Ffn

open Idealize.ShloMosaic Idealize.ShloMosaic.ValueIdx Idealize.ShloMosaic.TcCoe Idealize.SL.Sem
open Cert.Kernel2Ideal Cert.Kernel2Ideal.Gen

variable (m : (ℓ : Loc nD τ sig) → Buf (Elt Ideal) ℓ) (c : Dev nD)

/-- The activations' rows. -/
def argX : Fin 32768 → Fin 2048 → EReal := fun r d => (m ((c : Thread nD τ).loc main_arg0) : S32768x2048.Idx → EReal) (ix2 r d)
/-- The first normalisation's gain. -/
def argG : Fin 2048 → EReal := fun d => (m ((c : Thread nD τ).loc main_arg1) : S2048.Idx → EReal) (ix1 d)
/-- The gated up-projection's weight. -/
def argW1 : Fin 2048 → Fin 5632 → EReal := fun k n => (m ((c : Thread nD τ).loc main_arg2) : S2048x5632.Idx → EReal) (ix2 k n)
/-- The other up-projection's weight. -/
def argW3 : Fin 2048 → Fin 5632 → EReal := fun k n => (m ((c : Thread nD τ).loc main_arg3) : S2048x5632.Idx → EReal) (ix2 k n)
/-- The down-projection's weight. -/
def argW2 : Fin 5632 → Fin 2048 → EReal := fun n d => (m ((c : Thread nD τ).loc main_arg4) : S5632x2048.Idx → EReal) (ix2 n d)
/-- The final normalisation's gain. -/
def argGf : Fin 2048 → EReal := fun d => (m ((c : Thread nD τ).loc main_arg5) : S2048.Idx → EReal) (ix1 d)

/-- Where the block of a point lies in each staged array. -/
theorem index_eq : ∀ t : Fin grid0.N,
    (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) ∧ (win0_5.index t 0 = 0 ∧ win0_5.index t 1 = 0) := by
  decide +kernel

/-- The block of activations at point `t`: rows `1024 (t / 11)` on. -/
theorem xBlock (t : Fin cfg0.N) (r : Fin 1024) (d : Fin 2048) (R : Fin 32768) (hR : R.val = 1024 * (t.val / 11) + r.val) :
    (iblk m c 0 t : S1024x2048.Idx → EReal) (ix2 r d) = argX m c R d := by
  unfold iblk argX
  rw [View.read_apply]
  show V m c main_arg0 _ = _
  rw [V_main_arg0]
  congr 1
  funext a
  apply Fin.ext
  obtain ⟨⟨h0, h1⟩, -⟩ := index_eq t
  match a with
  | ⟨0, _⟩ => show win0_0.index t 0 * 1024 + 1 * r.val = R.val; rw [h0]; omega
  | ⟨1, _⟩ => show win0_0.index t 1 * 2048 + 1 * d.val = d.val; rw [h1]; omega

/-- The place of an entry of a one-row array in row-major order. -/
theorem rowMajor_row (y : S1x2048.Idx) : (S1x2048.rowMajor y).val = (y 0).val * 2048 + (y 1).val := by
  rw [Shape.rowMajor_val_two]; rfl

/-- The first gain, staged whole at every point. -/
theorem gBlock (t : Fin cfg0.N) (d : Fin 2048) : (iblk m c 1 t : S1x2048.Idx → EReal) (ix2 0 d) = argG m c d := by
  unfold iblk argG
  rw [View.read_apply]
  show V m c main_v0 _ = _
  entry_read
  obtain ⟨-, ⟨h0, h1⟩, -⟩ := index_eq t
  refine shapeCast_apply _ _ _ (ix1 d) ?_
  rw [Shape.rowMajor_val_one]
  refine Eq.trans ?_ (rowMajor_row _).symm
  show d.val = (win0_1.index t 0 * 1 + 1 * 0) * 2048 + (win0_1.index t 1 * 2048 + 1 * d.val)
  rw [h0, h1]; omega

/-- The final gain, staged whole at every point. -/
theorem gfBlock (t : Fin cfg0.N) (d : Fin 2048) : (iblk m c 5 t : S1x2048.Idx → EReal) (ix2 0 d) = argGf m c d := by
  unfold iblk argGf
  rw [View.read_apply]
  show V m c main_v4 _ = _
  entry_read
  obtain ⟨-, -, -, -, -, h0, h1⟩ := index_eq t
  refine shapeCast_apply _ _ _ (ix1 d) ?_
  rw [Shape.rowMajor_val_one]
  refine Eq.trans ?_ (rowMajor_row _).symm
  show d.val = (win0_5.index t 0 * 1 + 1 * 0) * 2048 + (win0_5.index t 1 * 2048 + 1 * d.val)
  rw [h0, h1]; omega

/-- The block of the gated weight at point `t`: columns `512 (t % 11)` on. -/
theorem w1Block (t : Fin cfg0.N) (k : Fin 2048) (n : Fin 512) (N : Fin 5632) (hN : N.val = 512 * (t.val % 11) + n.val) :
    (iblk m c 2 t : S2048x512.Idx → EReal) (ix2 k n) = argW1 m c k N := by
  unfold iblk argW1
  rw [View.read_apply]
  show V m c main_v1 _ = _
  entry_read
  refine congrArg (m ((c : Thread nD τ).loc main_arg2) : S2048x5632.Idx → EReal) (funext fun a => Fin.ext ?_)
  obtain ⟨-, -, ⟨h0, h1⟩, -⟩ := index_eq t
  match a with
  | ⟨0, _⟩ => show win0_2.index t 0 * 2048 + 1 * k.val = k.val; rw [h0]; omega
  | ⟨1, _⟩ => show win0_2.index t 1 * 512 + 1 * n.val = N.val; rw [h1]; omega

/-- The block of the other up-projection's weight at point `t`: columns `512 (t % 11)` on. -/
theorem w3Block (t : Fin cfg0.N) (k : Fin 2048) (n : Fin 512) (N : Fin 5632) (hN : N.val = 512 * (t.val % 11) + n.val) :
    (iblk m c 3 t : S2048x512.Idx → EReal) (ix2 k n) = argW3 m c k N := by
  unfold iblk argW3
  rw [View.read_apply]
  show V m c main_v2 _ = _
  entry_read
  refine congrArg (m ((c : Thread nD τ).loc main_arg3) : S2048x5632.Idx → EReal) (funext fun a => Fin.ext ?_)
  obtain ⟨-, -, -, ⟨h0, h1⟩, -⟩ := index_eq t
  match a with
  | ⟨0, _⟩ => show win0_3.index t 0 * 2048 + 1 * k.val = k.val; rw [h0]; omega
  | ⟨1, _⟩ => show win0_3.index t 1 * 512 + 1 * n.val = N.val; rw [h1]; omega

/-- The block of the down-projection's weight at point `t`: rows `512 (t % 11)` on. -/
theorem w2Block (t : Fin cfg0.N) (n : Fin 512) (d : Fin 2048) (N : Fin 5632) (hN : N.val = 512 * (t.val % 11) + n.val) :
    (iblk m c 4 t : S512x2048.Idx → EReal) (ix2 n d) = argW2 m c N d := by
  unfold iblk argW2
  rw [View.read_apply]
  show V m c main_v3 _ = _
  entry_read
  refine congrArg (m ((c : Thread nD τ).loc main_arg4) : S5632x2048.Idx → EReal) (funext fun a => Fin.ext ?_)
  obtain ⟨-, -, -, -, ⟨h0, h1⟩, -⟩ := index_eq t
  match a with
  | ⟨0, _⟩ => show win0_4.index t 0 * 512 + 1 * n.val = N.val; rw [h0]; omega
  | ⟨1, _⟩ => show win0_4.index t 1 * 2048 + 1 * d.val = d.val; rw [h1]; omega

/-- The call's arrays and the blocks that its points are given. -/
def staged : Staged 1024 32768 cfg0.N where
  X := argX m c
  G := argG m c
  W1 := argW1 m c
  W3 := argW3 m c
  W2 := argW2 m c
  Gf := argGf m c
  xB t := iblk m c 0 t
  gB t := iblk m c 1 t
  w1B t := iblk m c 2 t
  w3B t := iblk m c 3 t
  w2B t := iblk m c 4 t
  gfB t := iblk m c 5 t
  x_eq := xBlock m c
  g_eq := gBlock m c
  w1_eq := w1Block m c
  w3_eq := w3Block m c
  w2_eq := w2Block m c
  gf_eq := gfBlock m c

/-- The place of an entry of the array: the point that writes its block back, and the entry's index in the block. -/
theorem place (O : (j : ℕ) → j < cfg0.N → Vec Ideal S1024x2048 .f32 × Vec Ideal S1024x2048 .bf16)
    (fin : Vec Ideal S1024x2048 .f32 → Vec Ideal S1x2048 .f32 → Vec Ideal S1024x2048 .f32 → Vec Ideal S1024x2048 .f32) (L : Fin 32768 → Fin 2048 → EReal)
    (hO : (staged m c).Steps O fin) (hL : (staged m c).Finishes fin L) (y : S32768x2048.Idx) (hlt : Cert.Kernel2Ideal.Value.pt6Of y < cfg0.N) :
    ((O (Cert.Kernel2Ideal.Value.pt6Of y) hlt).1 : S1024x2048.Idx → EReal) (Cert.Kernel2Ideal.Value.loc6Of y) = L (y 0) (y 1) := by
  have h0 : (y 0).val < 32768 := (y 0).isLt
  have h1 : (y 1).val < 2048 := (y 1).isLt
  have hp : Cert.Kernel2Ideal.Value.pt6Of y = 11 * ((y 0).val / 1024) + 10 := by
    show 11 * (1 * ((y 0).val / 1024 - 0) + 1 * ((y 1).val / 2048 - 0)) + 10 = _
    omega
  have hy : Cert.Kernel2Ideal.Value.loc6Of y = ix2 (⟨(y 0).val % 1024, Nat.mod_lt _ (by decide)⟩ : Fin 1024) (y 1) := by
    funext a
    apply Fin.ext
    match a with
    | ⟨0, _⟩ => show (y 0).val % 1024 = (y 0).val % 1024; rfl
    | ⟨1, _⟩ => show (y 1).val % 2048 = (y 1).val; omega
  rw [hy]
  refine (staged m c).last_block O fin L hO hL _ hlt (by rw [hp]; omega) _ _ _ ?_
  show (y 0).val = 1024 * (Cert.Kernel2Ideal.Value.pt6Of y / 11) + (y 0).val % 1024
  rw [hp]; omega

/-- The point that writes an entry's block back is a point of the grid. -/
theorem place_lt (y : S32768x2048.Idx) : Cert.Kernel2Ideal.Value.pt6Of y < cfg0.N := by
  have h0 : (y 0).val < 32768 := (y 0).isLt
  have h1 : (y 1).val < 2048 := (y 1).isLt
  refine lt_of_lt_of_eq ?_ N_0.symm
  show 11 * (1 * ((y 0).val / 1024 - 0) + 1 * ((y 1).val / 2048 - 0)) + 10 < 352
  omega

end Cert.Proof.Ffn
-- ==== Proof.Ffn.Last.lean ====
/-
  The last feed-forward: its points compute as a feed-forward's do and its last point normalises, so the array it leaves is
  the layer of its arguments.
-/
module

public import proofs.«01_k».proof.Proof.Ffn.Blocks

@[expose] public section

noncomputable section

namespace Cert.Proof.Ffn

open Idealize.ShloMosaic Idealize.ShloMosaic.ValueIdx Idealize.ShloMosaic.TcCoe Idealize.SL.Sem
open Cert.Kernel2Ideal Cert.Kernel2Ideal.Gen
open Cert.Proof.Value (rowNorm)

variable (m : (ℓ : Loc nD τ sig) → Buf (Elt Ideal) ℓ) (c : Dev nD)

/-- The call's points compute as a feed-forward's do. -/
theorem steps : (staged m c).Steps (outsAt0 m c) finalBlock where
  first t h0 := by
    have h1 : ¬ t.val % 11 = 10 := by omega
    rw [outsAt0_A m c t h0 h1, sout_A, out_A]
    rfl
  middle n hn h0 h1 := by
    rw [show outsAt0 m c (n + 1) hn = _ from outsAt0_B m c ⟨n + 1, hn⟩ h0 h1, out_B]
    rfl
  last n hn h0 h1 := by
    rw [show outsAt0 m c (n + 1) hn = _ from outsAt0_C m c ⟨n + 1, hn⟩ h0 h1, out_C]
    rfl

/-- The array the call leaves is the layer of its arguments. -/
theorem result_apply (y : S32768x2048.Idx) :
    Cert.Kernel2Ideal.Value.G6 m c y = layer (argX m c) (argG m c) (argW1 m c) (argW3 m c) (argW2 m c) (argGf m c) (y 0) (y 1) := by
  have hlt : Cert.Kernel2Ideal.Value.pt6Of y < cfg0.N := place_lt y
  unfold Cert.Kernel2Ideal.Value.G6
  rw [dif_pos hlt, ← Cert.Kernel2Ideal.Value.outsAt0_sweep m c _ hlt]
  exact place m c (outsAt0 m c) _ _ (steps m c) (staged m c).finishes_layer y hlt

end Cert.Proof.Ffn
-- ==== Proof.Ffn.Reference.lean ====
/-
  The feed-forward references' results read at an index, for any number of rows, at the exact values: the layer of their
  arguments.
-/
module

public import proofs.«01_k».proof.Proof.Ffn.Spec
public import proofs.«01_k».proof.Proof.Value.Reference
public import proofs.«01_k».proof.Proof.Gen.Reference2Ideal.Run
public import Idealize.ShloMosaic.Lib.IdealHost
public import Idealize.ShloMosaic.Lib.StackMember

@[expose] public section

noncomputable section

namespace Cert.Proof.Ffn

open Idealize.ShloMosaic Idealize.ShloMosaic.ValueIdx Idealize.ShloMosaic.TcCoe
open Idealize.ShloMosaic.StackMember (dotGeneral_plain_apply)
open Cert.Reference2Ideal Cert.Reference2Ideal.Facts₀ Cert.Reference2Ideal.Facts
open Cert.Proof.Value (rowNorm refNorm RowFacts hostNorm hostNorm_apply rowFacts)

/-- A gain as the one-row array that the normalisation broadcasts. -/
def gainRow (G : FVec Ideal S2048 .f32) : FVec Ideal S1x2048 .f32 := broadcastInDim S1x2048 ![1] bcast_S2048_S1x2048_1 G

/-- An entry of the rows normalised with a gain. -/
theorem hostNorm_gain {R : ℕ} (h : RowFacts R) (X : FVec Ideal ⟨2, ![R, 2048]⟩ .f32) (G : FVec Ideal S2048 .f32) (r : Fin R) (k : Fin 2048) :
    hostNorm h X (gainRow G) (ix2 r k) = rowNorm (fun j => X (ix2 r j)) (fun j => G (ix1 j)) k := by
  refine (hostNorm_apply h X (gainRow G) r k).trans (congrArg (rowNorm _ · k) (funext fun j => ?_))
  exact broadcastInDim_apply _ _ _ _ (ix1 j) (fun a => by fin_cases a; rfl)

/-- The reference's normalisation of the document's rows. -/
theorem norm_apply (X : FVec Ideal S32768x2048 .f32) (G : FVec Ideal S2048 .f32) (r : Fin 32768) (k : Fin 2048) :
    refNorm X (gainRow G) (ix2 r k) = rowNorm (fun j => X (ix2 r j)) (fun j => G (ix1 j)) k := hostNorm_gain rowFacts X G r k

/-- The shapes that a feed-forward of an array of `R` rows goes through fit together. -/
structure LayerFacts (R : ℕ) : Prop extends RowFacts R where
  /-- A number fills the hidden entries. -/
  hidden : S_.BroadcastsInDim ⟨2, ![R, 5632]⟩ (![] : Fin 0 → Fin 2)
  /-- A number fills the activations. -/
  full : S_.BroadcastsInDim ⟨2, ![R, 2048]⟩ (![] : Fin 0 → Fin 2)

section Layer

variable {R : ℕ} (h : LayerFacts R) (X : FVec Ideal ⟨2, ![R, 2048]⟩ .f32) (G : FVec Ideal S2048 .f32) (W1 W3 : FVec Ideal S2048x5632 .f32) (W2 : FVec Ideal S5632x2048 .f32) (Gf : FVec Ideal S2048 .f32)

/-- The product of the normalised activations with an up-projection's weight. -/
def refUp (W : FVec Ideal S2048x5632 .f32) : FVec Ideal ⟨2, ![R, 5632]⟩ .f32 :=
  Host.dotGeneral (DotDims.plain R 2048 5632) none (hostNorm h.toRowFacts X (gainRow G)) W

/-- The reference's hidden entries: the gate of the two products. -/
def refHidden : FVec Ideal ⟨2, ![R, 5632]⟩ .f32 :=
  mulf (mulf (refUp h X G W1) (Host.divf (broadcastInDim ⟨2, ![R, 5632]⟩ ![] h.hidden (constant S_ .f32 0x3F800000#32))
    (addf (broadcastInDim ⟨2, ![R, 5632]⟩ ![] h.hidden (constant S_ .f32 0x3F800000#32)) (Host.exp (Host.negf (refUp h X G W1)))))) (refUp h X G W3)

/-- The reference's residual stream after the layer. -/
def refResidual : FVec Ideal ⟨2, ![R, 2048]⟩ .f32 :=
  addf X (mulf (broadcastInDim ⟨2, ![R, 2048]⟩ ![] h.full (constant S_ .f32 0x3F000000#32))
    (Host.dotGeneral (DotDims.plain R 5632 2048) none (refHidden h X G W1 W3) W2))

/-- An entry of an up-projection. -/
theorem refUp_apply (W : FVec Ideal S2048x5632 .f32) (r : Fin R) (n : Fin 5632) :
    refUp h X G W (ix2 r n) = ∑ k, rowNorm (fun j => X (ix2 r j)) (fun j => G (ix1 j)) k * W (ix2 k n) := by
  unfold refUp
  refine (dotGeneral_plain_apply none _ W r n).trans (Finset.sum_congr rfl fun k _ => congrArg (· * _) ?_)
  exact hostNorm_gain h.toRowFacts X G r k

/-- The quotient that the reference spells is the logistic function, so an entry of the product is the gate's. -/
theorem quotient_apply {S : Shape} (hS : S_.BroadcastsInDim S (![] : Fin 0 → Fin S.rank)) (A B : FVec Ideal S .f32) (i : S.Idx) :
    mulf (mulf A (Host.divf (broadcastInDim S ![] hS (constant S_ .f32 0x3F800000#32))
      (addf (broadcastInDim S ![] hS (constant S_ .f32 0x3F800000#32)) (Host.exp (Host.negf A))))) B i = gate (A i) (B i) := by
  have h1 : broadcastInDim S ![] hS (constant (F := Ideal) S_ .f32 0x3F800000#32) i = (1 : EReal) := Ideal.ofBits_one_f32
  unfold gate
  refine congrArg (· * _) (congrArg (_ * ·) ?_)
  show Ideal.div (broadcastInDim S ![] hS (constant (F := Ideal) S_ .f32 0x3F800000#32) i)
    (broadcastInDim S ![] hS (constant (F := Ideal) S_ .f32 0x3F800000#32) i + Ideal.exp (-(A i))) = _
  rw [h1]
  rfl

/-- A hidden entry is the gate of the two products. -/
theorem refHidden_apply (i : (⟨2, ![R, 5632]⟩ : Shape).Idx) : refHidden h X G W1 W3 i = gate (refUp h X G W1 i) (refUp h X G W3 i) :=
  quotient_apply h.hidden (refUp h X G W1) (refUp h X G W3) i

/-- An entry of the reference's residual stream. -/
theorem refResidual_apply (r : Fin R) (d : Fin 2048) :
    refResidual h X G W1 W3 W2 (ix2 r d)
      = residual (fun r d => X (ix2 r d)) (fun d => G (ix1 d)) (fun k n => W1 (ix2 k n)) (fun k n => W3 (ix2 k n)) (fun n d => W2 (ix2 n d)) r d := by
  unfold refResidual residual
  refine congrArg (_ + ·) (congrArg (half * ·) ?_)
  rw [Finset.sum_range]
  refine (dotGeneral_plain_apply none _ W2 r d).trans (Finset.sum_congr rfl fun n _ => ?_)
  unfold term
  rw [dif_pos n.isLt, refHidden_apply, refUp_apply, refUp_apply]

/-- Every entry of the reference's result is the layer's. -/
theorem reference_apply (y : (⟨2, ![R, 2048]⟩ : Shape).Idx) :
    hostNorm h.toRowFacts (refResidual h X G W1 W3 W2) (gainRow Gf) y
      = layer (fun r d => X (ix2 r d)) (fun d => G (ix1 d)) (fun k n => W1 (ix2 k n)) (fun k n => W3 (ix2 k n)) (fun n d => W2 (ix2 n d)) (fun d => Gf (ix1 d)) (y 0) (y 1) := by
  have hy : y = ix2 (y 0) (y 1) := by funext a; fin_cases a <;> rfl
  rw [hy]
  refine (hostNorm_gain h.toRowFacts (refResidual h X G W1 W3 W2) Gf (y 0) (y 1)).trans ?_
  exact congrArg (rowNorm · _ (y 1)) (funext fun j => refResidual_apply h X G W1 W3 W2 (y 0) j)

end Layer

/-- The shapes of the document's 32768 rows. -/
theorem layerFacts : LayerFacts 32768 := ⟨rowFacts, bcast_S_S32768x5632, bcast_S_S32768x2048⟩

/-- The result that the reference's run ends with, as the term above. -/
theorem result_eq (m : (ℓ : Loc nD τ sig) → Buf (Elt Ideal) ℓ) (c : Dev nD) :
    Cert.Reference2Ideal.Value.res_main_v33 m c
      = hostNorm rowFacts (refResidual layerFacts (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) (gainRow (m ((c.tc : Thread nD τ).loc main_arg5))) := rfl

end Cert.Proof.Ffn
-- ==== Proof.Ffn.First.Same.lean ====
/-
  The first feed-forward call as written and at the exact values has one text: its frame, which holds for any float values,
  serves both.
-/
module

public import proofs.«01_k».proof.Proof.Gen.Kernel3
public import proofs.«01_k».proof.Proof.Gen.Kernel3Ideal.Frame

@[expose] public section

noncomputable section

namespace Cert.Proof.Ffn.First

open Idealize.ShloMosaic Idealize.SL.Sem

variable {F : FTy → Type} [FloatOps F]

/-- The two programs have one table of bodies. -/
theorem bodies_eq : @Cert.Kernel3.defs₀ F _ Cert.Kernel3.Gen.facts = @Cert.Kernel3Ideal.defs₀ F _ Cert.Kernel3Ideal.Gen.facts := by
  unfold Cert.Kernel3.defs₀ Cert.Kernel3Ideal.defs₀
  refine congrArg Defs.onTc (funext fun l => funext fun x => ?_)
  match l, x with
  | 0, (t, s) => rfl
  | ⟨_ + 1, h⟩, _ => exact absurd h (Nat.not_lt.2 (Nat.le_add_left _ _))

/-- The call as written runs to the end, leaves its arguments alone, and every counter reads zero. -/
theorem frame_written (m : (ℓ : Loc Cert.Kernel3.nD Cert.Kernel3.τ Cert.Kernel3.sig) → Buf (Elt F) ℓ) (ρ : Dev Cert.Kernel3.nD → PrngReg) :
    θ_run (Cert.Kernel3.defs (F := F)) (onTc (τ := Cert.Kernel3.τ) (Cert.Kernel3.main (F := F))) ⟨m, fun _ => 0, ρ⟩ fun r =>
      (∀ c : Dev Cert.Kernel3.nD,
        r.2.mem ((c.tc : Thread Cert.Kernel3.nD Cert.Kernel3.τ).loc Cert.Kernel3.main_arg0) = m ((c.tc : Thread Cert.Kernel3.nD Cert.Kernel3.τ).loc Cert.Kernel3.main_arg0)
        ∧ r.2.mem ((c.tc : Thread Cert.Kernel3.nD Cert.Kernel3.τ).loc Cert.Kernel3.main_arg1) = m ((c.tc : Thread Cert.Kernel3.nD Cert.Kernel3.τ).loc Cert.Kernel3.main_arg1)
        ∧ r.2.mem ((c.tc : Thread Cert.Kernel3.nD Cert.Kernel3.τ).loc Cert.Kernel3.main_arg2) = m ((c.tc : Thread Cert.Kernel3.nD Cert.Kernel3.τ).loc Cert.Kernel3.main_arg2)
        ∧ r.2.mem ((c.tc : Thread Cert.Kernel3.nD Cert.Kernel3.τ).loc Cert.Kernel3.main_arg3) = m ((c.tc : Thread Cert.Kernel3.nD Cert.Kernel3.τ).loc Cert.Kernel3.main_arg3)
        ∧ r.2.mem ((c.tc : Thread Cert.Kernel3.nD Cert.Kernel3.τ).loc Cert.Kernel3.main_arg4) = m ((c.tc : Thread Cert.Kernel3.nD Cert.Kernel3.τ).loc Cert.Kernel3.main_arg4)
        ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0 := by
  unfold Cert.Kernel3.defs
  rw [bodies_eq]
  exact Cert.Kernel3Ideal.Gen.frame (F := F) m ρ

end Cert.Proof.Ffn.First
-- ==== Proof.Ffn.First.Step.lean ====
/-
  What one step of the first feed-forward's body leaves, for any float values. It is a program of its own, whose last step
  only adds the residual; the blocks are those of the last feed-forward: the block of normalised activations that the first
  step of a row of steps stores, the sum that every step adds to, and the finished block that the last step stores. The
  loops over slabs of 64 rows are read off their lists of writes.
-/
module

public import proofs.«01_k».proof.Proof.Ffn.Slabs
public import proofs.«01_k».proof.Proof.Gen.Kernel3Ideal.Value

@[expose] public section

noncomputable section

namespace Cert.Proof.Ffn.First

open Idealize.ShloMosaic Idealize.ShloMosaic.TcCoe
open Cert.Kernel3Ideal Cert.Kernel3Ideal.Gen

variable {F : FTy → Type} [FloatOps F]
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S1x2048 .f32) (h7 : a7.IsWhole)
  (a8 : Memref sig .tc .vmem S1024x2048 .f32) (h8 : a8.IsWhole) (a9 : Memref sig .tc .vmem S1024x2048 .bf16) (h9 : a9.IsWhole)
  (x : Vec F S1024x2048 .f32) (g : Vec F S1x2048 .f32) (w1 : Vec F S2048x512 .bf16) (w3 : Vec F S2048x512 .bf16)
  (w2 : Vec F S512x2048 .bf16) (gf : Vec F S1x2048 .f32) (o : Vec F S1024x2048 .f32) (h : Vec F S1024x2048 .bf16)

/-- A middle step adds its contribution to the output block. -/
theorem out_B (hc0 : ¬cond0_0 i) (hc1 : ¬cond0_1 i) :
    out0_B_6 c i a2 h2 a3 h3 a4 h4 a5 h5 a6 h6 a7 h7 a8 h8 a9 h9 hc0 hc1 x g w1 w3 w2 gf o h = addf o (stepProd h w1 w3 w2) := by
  unfold out0_B_6
  rw [View.read_writes_eq_canon _ _ _ (fun y => cover0_B_6 _ _ _ _ _ _ _ _ _ _ _ _ _ _ _ _ _ _ _ _ _ _ _ _ _ _ _ _ y)]
  unfold kernelRun0_B
  dsimp only
  sl_unfold_words
  rw [View.canon_unit_zero hz]
  unfold k0_pay1 k0_pay5 k0_pay6 stepProd halfProd halfHidden leftCols rightCols upperRows lowerRows
  simp only [View.readAt_eq_ld, h4.read_unread, h5.read_unread, h6.read_unread, h8.read_unread, h9.read_unread, View.ld_unit_zero (S := S1024x2048) hz, shapeCast_self]
  rfl

/-- Where trip `k` of the first loop reads and writes. -/
theorem off1_eq : ∀ k : Fin k0_t1_loop.trips, k0_off1 k = ![64 * k.val, 0] := by decide +kernel
/-- Where trip `k` of the second loop reads and writes. -/
theorem off2_eq : ∀ k : Fin k0_t2_loop.trips, k0_off2 k = ![64 * k.val, 0] := by decide +kernel

/-- The finished block: the residual added, slab by slab. -/
def residualBlock (x o : Vec F S1024x2048 .f32) : Vec F S1024x2048 .f32 := bySlab fun k => k0_pay2 (slab x k) (slab o k)

/-- The first loop: after `k` trips the output block is zero and the scratch normalised in the first `k` slabs. -/
theorem fill_t1 (hc0 : cond0_0 i) : ∀ k : ℕ, k ≤ 16 →
    Slabs (F := F) zeroBlock k (pb_k0_t1 Variants.none c none i a2 h2 a3 h3 a4 h4 a5 h5 a6 h6 a7 h7 a8 h8 a9 h9 hc0 (h2.unread x) (h3.unread g) k).1 ∧
    Slabs (normBlock x g) k (pb_k0_t1 Variants.none c none i a2 h2 a3 h3 a4 h4 a5 h5 a6 h6 a7 h7 a8 h8 a9 h9 hc0 (h2.unread x) (h3.unread g) k).2
  | 0, _ => ⟨Slabs.nil _, Slabs.nil _⟩
  | k + 1, hk => by
    have ih := fill_t1 hc0 k (by omega)
    have e := pb_k0_t1_succ (F := F) Variants.none c none i a2 h2 a3 h3 a4 h4 a5 h5 a6 h6 a7 h7 a8 h8 a9 h9 hc0 (h2.unread x) (h3.unread g) ⟨k, hk⟩
    dsimp only at e
    rw [e]
    unfold trip_k0_t1
    dsimp only
    constructor
    · refine ih.1.cons (by omega) _ (off1_eq ⟨k, hk⟩) _ _ fun z => (bySlab_inSlab (F := F) (e := .f32) (fun _ => k0_pay4) k (by omega) z).symm
    · refine ih.2.cons (by omega) _ (off1_eq ⟨k, hk⟩) _ _ fun z => ?_
      refine Eq.trans ?_ (bySlab_inSlab _ k (by omega) z).symm
      simp only [View.readAt_eq_ld, h2.read_unread, h3.read_unread, View.ld_unit_zero (S := S1x2048) hz]
      rw [ld_slab x k (by omega) _ (off1_eq ⟨k, hk⟩)]
      rfl

/-- The second loop: after `k` trips the first `k` slabs of the output block are finished. -/
theorem fill_t2 (hc1 : cond0_1 i) (G0 : a8.view.ty.Contents (Elt F)) (hG0 : a8.view.read (Elt F) G0 = o) : ∀ k : ℕ, k ≤ 16 →
    Slabs (residualBlock x o) k (pb_k0_t2 Variants.none c none i a2 h2 a3 h3 a4 h4 a5 h5 a6 h6 a7 h7 a8 h8 a9 h9 hc1 (h2.unread x) G0 k)
  | 0, _ => Slabs.nil _
  | k + 1, hk => by
    have ih := fill_t2 hc1 G0 hG0 k (by omega)
    have e := pb_k0_t2_succ (F := F) Variants.none c none i a2 h2 a3 h3 a4 h4 a5 h5 a6 h6 a7 h7 a8 h8 a9 h9 hc1 (h2.unread x) G0 ⟨k, hk⟩
    dsimp only at e
    rw [e]
    unfold tripL_k0_t2 trip_k0_t2
    dsimp only
    refine ih.cons (by omega) _ (off2_eq ⟨k, hk⟩) _ _ fun z => ?_
    refine Eq.trans ?_ (bySlab_inSlab _ k (by omega) z).symm
    simp only [View.readAt_eq_ld, h2.read_unread, View.ld_unit_zero (S := S1x2048) hz]
    rw [ld_slab x k (by omega) _ (off2_eq ⟨k, hk⟩), ld_slab _ k (by omega) _ (off2_eq ⟨k, hk⟩)]
    have hs : slab (a8.view.read (Elt F) (a8.view.writes (Elt F) G0 (pb_k0_t2 Variants.none c none i a2 h2 a3 h3 a4 h4 a5 h5 a6 h6 a7 h7 a8 h8 a9 h9 hc1 (h2.unread x) G0 k))) k = slab o k := by
      funext z'
      refine (ih _ _ _ a8.view G0 _).trans ?_
      rw [if_neg (by rw [inSlab_row k (by omega) z']; omega), hG0]
      rfl
    rw [hs]

/-- The first step leaves the normalised activations in the scratch. -/
theorem sout_A (hc0 : cond0_0 i) (hc1 : ¬cond0_1 i) :
    sout0_A_0 c i a2 h2 a3 h3 a4 h4 a5 h5 a6 h6 a7 h7 a8 h8 a9 h9 hc0 hc1 x g w1 w3 w2 gf = normBlock x g := by
  unfold sout0_A_0
  unfold kernelRun0_A
  dsimp only
  exact (fill_t1 c i a2 h2 a3 h3 a4 h4 a5 h5 a6 h6 a7 h7 a8 h8 a9 h9 x g hc0 16 le_rfl).2.read_all (by omega) _ _

/-- The first step leaves its contribution, over zero, in the output block. -/
theorem out_A (hc0 : cond0_0 i) (hc1 : ¬cond0_1 i) :
    out0_A_6 c i a2 h2 a3 h3 a4 h4 a5 h5 a6 h6 a7 h7 a8 h8 a9 h9 hc0 hc1 x g w1 w3 w2 gf = addf zeroBlock (stepProd (normBlock x g) w1 w3 w2) := by
  unfold out0_A_6
  rw [View.read_writes_eq_canon _ _ _ (fun y => cover0_A_6 _ _ _ _ _ _ _ _ _ _ _ _ _ _ _ _ _ _ _ _ _ _ _ _ _ _ y)]
  unfold kernelRun0_A
  dsimp only
  sl_unfold_words
  rw [View.canon_cons_unit_zero (S := S1024x2048) hz]
  have hf := fill_t1 c i a2 h2 a3 h3 a4 h4 a5 h5 a6 h6 a7 h7 a8 h8 a9 h9 x g hc0 16 le_rfl
  have e8 : a8.view.readCov (pb_k0_t1 (F := F) Variants.none c none i a2 h2 a3 h3 a4 h4 a5 h5 a6 h6 a7 h7 a8 h8 a9 h9 hc0 (h2.unread x) (h3.unread g) (Scf.trips k0_t1_loop.lb k0_t1_loop.ub k0_t1_loop.st)).1
      (Rect.unit (s := S1024x2048) ![0, 0] S1024x2048.size inb_S1024x2048_S1024x2048_0_0).toLoadRect = zeroBlock := by
    unfold View.readCov
    rw [View.readAt_eq_ld, View.ld_unit_zero (S := S1024x2048) hz]
    exact hf.1.read_all (by omega) _ _
  have e9 : a9.view.readCov (pb_k0_t1 (F := F) Variants.none c none i a2 h2 a3 h3 a4 h4 a5 h5 a6 h6 a7 h7 a8 h8 a9 h9 hc0 (h2.unread x) (h3.unread g) (Scf.trips k0_t1_loop.lb k0_t1_loop.ub k0_t1_loop.st)).2
      (Rect.unit (s := S1024x2048) ![0, 0] S1024x2048.size inb_S1024x2048_S1024x2048_0_0).toLoadRect = normBlock x g := by
    unfold View.readCov
    rw [View.readAt_eq_ld, View.ld_unit_zero (S := S1024x2048) hz]
    exact hf.2.read_all (by omega) _ _
  rw [e8, e9]
  unfold k0_pay1 k0_pay5 k0_pay6 stepProd halfProd halfHidden leftCols rightCols upperRows lowerRows
  simp only [View.readAt_eq_ld, h4.read_unread, h5.read_unread, h6.read_unread, shapeCast_self]
  rfl

/-- The last step leaves the finished block. -/
theorem out_C (hc0 : ¬cond0_0 i) (hc1 : cond0_1 i) :
    out0_C_6 c i a2 h2 a3 h3 a4 h4 a5 h5 a6 h6 a7 h7 a8 h8 a9 h9 hc0 hc1 x g w1 w3 w2 gf o h = residualBlock x (addf o (stepProd h w1 w3 w2)) := by
  unfold out0_C_6
  unfold kernelRun0_C
  dsimp only
  sl_unfold_words
  rw [View.writes_append]
  refine (fill_t2 c i a2 h2 a3 h3 a4 h4 a5 h5 a6 h6 a7 h7 a8 h8 a9 h9 x (addf o (stepProd h w1 w3 w2)) hc1 _ ?_ 16 le_rfl).read_all (by omega) VO0_6 _
  · funext y'
    refine (View.read_writes_cons_hit_of_coords _ _ _ _ _ y' y' ?_).trans ?_
    · intro a
      fin_cases a
      · show (y' 0).val = 0 + 1 * (y' 0).val; omega
      · show (y' 1).val = 0 + 1 * (y' 1).val; omega
    · unfold k0_pay1 k0_pay5 k0_pay6 stepProd halfProd halfHidden leftCols rightCols upperRows lowerRows
      simp only [View.readAt_eq_ld, h4.read_unread, h5.read_unread, h6.read_unread, h8.read_unread, h9.read_unread, View.ld_unit_zero (S := S1024x2048) hz, shapeCast_self]
      rfl

end Cert.Proof.Ffn.First
-- ==== Proof.Ffn.First.Fold.lean ====
/-
  The first feed-forward: its points compute as a feed-forward's do and its last point only adds the residual, so the array
  it leaves is the residual stream after the layer.
-/
module

public import proofs.«01_k».proof.Proof.Ffn.Blocks
public import proofs.«01_k».proof.Proof.Ffn.First.Step

@[expose] public section

noncomputable section

namespace Cert.Proof.Ffn.First

open Idealize.ShloMosaic Idealize.ShloMosaic.ValueIdx Idealize.ShloMosaic.TcCoe Idealize.SL.Sem
open Cert.Kernel3Ideal Cert.Kernel3Ideal.Gen
open Cert.Proof.Value (rowNorm)

variable (m : (ℓ : Loc nD τ sig) → Buf (Elt Ideal) ℓ) (c : Dev nD)

/-- The call's points compute as a feed-forward's do. -/
theorem steps : (staged m c).Steps (outsAt0 m c) (fun x _ o => residualBlock x o) where
  first t h0 := by
    have h1 : ¬ t.val % 11 = 10 := by omega
    rw [outsAt0_A m c t h0 h1, sout_A, out_A]
    rfl
  middle n hn h0 h1 := by
    rw [show outsAt0 m c (n + 1) hn = _ from outsAt0_B m c ⟨n + 1, hn⟩ h0 h1, out_B]
    rfl
  last n hn h0 h1 := by
    rw [show outsAt0 m c (n + 1) hn = _ from outsAt0_C m c ⟨n + 1, hn⟩ h0 h1, out_C]
    rfl

/-- The finished block: the residual added. -/
theorem residualBlock_apply (X O : S1024x2048.Idx → EReal) (r : Fin 1024) (d : Fin 2048) :
    residualBlock (F := Ideal) X O (ix2 r d) = X (ix2 r d) + half * O (ix2 r d) := by
  refine (bySlab_apply (fun k => k0_pay2 (F := Ideal) (slab (F := Ideal) (e := .f32) X k) (slab (F := Ideal) (e := .f32) O k)) r d).trans ?_
  unfold k0_pay2
  rw [shapeCast_self]
  exact congrArg₂ (· + ·) (slab_apply X r d) (congrArg (half * ·) (slab_apply O r d))

/-- The last point adds the residual: its block is the residual stream's. -/
theorem finishes : (staged m c).Finishes (fun x _ o => residualBlock x o) (residual (argX m c) (argG m c) (argW1 m c) (argW3 m c) (argW2 m c)) := fun t A hA r d R hR => by
  refine (residualBlock_apply (iblk m c 0 t) A r d).trans ?_
  unfold residual
  exact congrArg₂ (· + ·) (xBlock m c t r d R hR) (congrArg (half * ·) (hA r d R hR))

/-- The array the call leaves is the residual stream after the layer of its arguments. -/
theorem result_apply (y : S32768x2048.Idx) :
    Cert.Kernel3Ideal.Value.G6 m c y = residual (argX m c) (argG m c) (argW1 m c) (argW3 m c) (argW2 m c) (y 0) (y 1) := by
  have hlt : Cert.Kernel3Ideal.Value.pt6Of y < cfg0.N := place_lt y
  unfold Cert.Kernel3Ideal.Value.G6
  rw [dif_pos hlt, ← Cert.Kernel3Ideal.Value.outsAt0_sweep m c _ hlt]
  exact place m c (outsAt0 m c) _ _ (steps m c) (finishes m c) y hlt

end Cert.Proof.Ffn.First
-- ==== Proof.Ffn.First.Reference.lean ====
/-
  The first feed-forward's reference: its result is the residual stream after the layer, the term that the last
  feed-forward's reference normalises.
-/
module

public import proofs.«01_k».proof.Proof.Ffn.Reference
public import proofs.«01_k».proof.Proof.Gen.Reference3Ideal.Run

@[expose] public section

noncomputable section

namespace Cert.Proof.Ffn.First

open Idealize.ShloMosaic Idealize.ShloMosaic.ValueIdx Idealize.ShloMosaic.TcCoe Idealize.SL.Sem
open Cert.Reference3Ideal

/-- Every entry of the residual stream that the reference computes. -/
theorem reference_apply (X : FVec Ideal S32768x2048 .f32) (G : FVec Ideal S2048 .f32) (W1 W3 : FVec Ideal S2048x5632 .f32) (W2 : FVec Ideal S5632x2048 .f32) (y : S32768x2048.Idx) :
    refResidual layerFacts X G W1 W3 W2 y
      = residual (fun r d => X (ix2 r d)) (fun d => G (ix1 d)) (fun k n => W1 (ix2 k n)) (fun k n => W3 (ix2 k n)) (fun n d => W2 (ix2 n d)) (y 0) (y 1) := by
  have hy : y = ix2 (y 0) (y 1) := by funext a; fin_cases a <;> rfl
  rw [hy]
  exact refResidual_apply layerFacts X G W1 W3 W2 (y 0) (y 1)

/-- The reference ends with that residual stream and leaves its arguments alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
        = refResidual layerFacts (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference3Ideal.Value.run m ρ

end Cert.Proof.Ffn.First
-- ==== Proof.Ffn.Sample.Same.lean ====
/-
  The sample's last feed-forward as written and at the exact values has one text: its frame, which holds for any float values,
  serves both.
-/
module

public import proofs.«01_k».proof.Proof.Gen.Kernel5
public import proofs.«01_k».proof.Proof.Gen.Kernel5Ideal.Frame

@[expose] public section

noncomputable section

namespace Cert.Proof.Ffn.Sample

open Idealize.ShloMosaic Idealize.SL.Sem

variable {F : FTy → Type} [FloatOps F]

/-- The two programs have one table of bodies. -/
theorem bodies_eq : @Cert.Kernel5.defs₀ F _ Cert.Kernel5.Gen.facts = @Cert.Kernel5Ideal.defs₀ F _ Cert.Kernel5Ideal.Gen.facts := by
  unfold Cert.Kernel5.defs₀ Cert.Kernel5Ideal.defs₀
  refine congrArg Defs.onTc (funext fun l => funext fun x => ?_)
  match l, x with
  | 0, (t, s) => rfl
  | ⟨_ + 1, h⟩, _ => exact absurd h (Nat.not_lt.2 (Nat.le_add_left _ _))

/-- The call as written runs to the end, leaves its arguments alone, and every counter reads zero. -/
theorem frame_written (m : (ℓ : Loc Cert.Kernel5.nD Cert.Kernel5.τ Cert.Kernel5.sig) → Buf (Elt F) ℓ) (ρ : Dev Cert.Kernel5.nD → PrngReg) :
    θ_run (Cert.Kernel5.defs (F := F)) (onTc (τ := Cert.Kernel5.τ) (Cert.Kernel5.main (F := F))) ⟨m, fun _ => 0, ρ⟩ fun r =>
      (∀ c : Dev Cert.Kernel5.nD,
        r.2.mem ((c.tc : Thread Cert.Kernel5.nD Cert.Kernel5.τ).loc Cert.Kernel5.main_arg0) = m ((c.tc : Thread Cert.Kernel5.nD Cert.Kernel5.τ).loc Cert.Kernel5.main_arg0)
        ∧ r.2.mem ((c.tc : Thread Cert.Kernel5.nD Cert.Kernel5.τ).loc Cert.Kernel5.main_arg1) = m ((c.tc : Thread Cert.Kernel5.nD Cert.Kernel5.τ).loc Cert.Kernel5.main_arg1)
        ∧ r.2.mem ((c.tc : Thread Cert.Kernel5.nD Cert.Kernel5.τ).loc Cert.Kernel5.main_arg2) = m ((c.tc : Thread Cert.Kernel5.nD Cert.Kernel5.τ).loc Cert.Kernel5.main_arg2)
        ∧ r.2.mem ((c.tc : Thread Cert.Kernel5.nD Cert.Kernel5.τ).loc Cert.Kernel5.main_arg3) = m ((c.tc : Thread Cert.Kernel5.nD Cert.Kernel5.τ).loc Cert.Kernel5.main_arg3)
        ∧ r.2.mem ((c.tc : Thread Cert.Kernel5.nD Cert.Kernel5.τ).loc Cert.Kernel5.main_arg4) = m ((c.tc : Thread Cert.Kernel5.nD Cert.Kernel5.τ).loc Cert.Kernel5.main_arg4)
        ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0 := by
  unfold Cert.Kernel5.defs
  rw [bodies_eq]
  exact Cert.Kernel5Ideal.Gen.frame (F := F) m ρ

end Cert.Proof.Ffn.Sample
-- ==== Proof.Ffn.Sample.Step.lean ====
/-
  What one step of the sample's last feed-forward leaves, for any float values. It is a program of its own, on a block of
  128 rows, whose two slabs of 64 rows are stored one after the other; the blocks are those of the last feed-forward.
-/
module

public import proofs.«01_k».proof.Proof.Ffn.Slabs
public import proofs.«01_k».proof.Proof.Gen.Kernel5Ideal.Value

@[expose] public section

noncomputable section

namespace Cert.Proof.Ffn.Sample

open Idealize.ShloMosaic Idealize.ShloMosaic.TcCoe
open Cert.Kernel5Ideal Cert.Kernel5Ideal.Gen

variable {F : FTy → Type} [FloatOps F]
variable (c : Dev nD) (i : grid0.Coords)
  (a2 : Memref sig .tc .vmem S128x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S1x2048 .f32) (h7 : a7.IsWhole)
  (a8 : Memref sig .tc .vmem S128x2048 .f32) (h8 : a8.IsWhole) (a9 : Memref sig .tc .vmem S128x2048 .bf16) (h9 : a9.IsWhole)
  (x : Vec F S128x2048 .f32) (g : Vec F S1x2048 .f32) (w1 : Vec F S2048x512 .bf16) (w3 : Vec F S2048x512 .bf16)
  (w2 : Vec F S512x2048 .bf16) (gf : Vec F S1x2048 .f32) (o : Vec F S128x2048 .f32) (h : Vec F S128x2048 .bf16)

/-- A step's sum as the body forms it. -/
theorem sum_eq : k0_pay1 (F := F) (k0_pay13 o) (k0_pay14 h (leftCols w1) (leftCols w3) (upperRows w2) (rightCols w1) (rightCols w3) (lowerRows w2))
    = addf o (stepProd h w1 w3 w2) := by
  unfold k0_pay1 k0_pay13 k0_pay14 stepProd halfProd halfHidden
  simp only [shapeCast_self]
  rfl

/-- A middle step adds its contribution to the output block. -/
theorem out_B (hc0 : ¬cond0_0 i) (hc1 : ¬cond0_1 i) :
    out0_B_6 c i a2 h2 a3 h3 a4 h4 a5 h5 a6 h6 a7 h7 a8 h8 a9 h9 hc0 hc1 x g w1 w3 w2 gf o h = addf o (stepProd h w1 w3 w2) := by
  unfold out0_B_6
  rw [View.read_writes_eq_canon _ _ _ (fun y => cover0_B_6 _ _ _ _ _ _ _ _ _ _ _ _ _ _ _ _ _ _ _ _ _ _ _ _ _ _ _ _ y)]
  unfold kernelRun0_B
  dsimp only
  sl_unfold_words
  rw [View.canon_unit_zero hz]
  simp only [View.readAt_eq_ld, h4.read_unread, h5.read_unread, h6.read_unread, h8.read_unread, h9.read_unread, View.ld_unit_zero (S := S128x2048) hz]
  exact sum_eq w1 w3 w2 o h

/-- The two slabs that the first step normalises fill the scratch. -/
theorem fill_norm (inb0 : ∀ a, (![0, 0] : Fin 2 → ℕ) a + S64x2048.size a ≤ S128x2048.size a) (inb1 : ∀ a, (![64, 0] : Fin 2 → ℕ) a + S64x2048.size a ≤ S128x2048.size a) :
    Slabs (F := F) (e := .bf16) (normBlock x g) 2
      [⟨Rect.unit (s := S128x2048) ![64, 0] S64x2048.size inb1, k0_pay11 (View.ld x (Rect.unit (s := S128x2048) ![64, 0] S64x2048.size inb1)) (k0_pay5 g) (k0_pay6 (View.ld x (Rect.unit (s := S128x2048) ![64, 0] S64x2048.size inb1)))⟩,
       ⟨Rect.unit (s := S128x2048) ![0, 0] S64x2048.size inb0, k0_pay3 (View.ld x (Rect.unit (s := S128x2048) ![0, 0] S64x2048.size inb0)) g⟩] := by
  rw [ld_slab x 0 (by omega) _ rfl, ld_slab x 1 (by omega) _ rfl]
  refine Slabs.cons (k := 1) (Slabs.cons (k := 0) (Slabs.nil _) (by decide) _ rfl _ _ fun z => ?_) (by decide) _ rfl _ _ fun z => ?_
  · exact (bySlab_inSlab (F := F) (e := .bf16) (n := 128) (fun k => Cert.Kernel2Ideal.Gen.k0_pay3 (slab x k) g) 0 (by decide) z).symm
  · exact (bySlab_inSlab (F := F) (e := .bf16) (n := 128) (fun k => Cert.Kernel2Ideal.Gen.k0_pay3 (slab x k) g) 1 (by decide) z).symm

/-- The two slabs of zeros fill the output block. -/
theorem fill_zero (inb0 : ∀ a, (![0, 0] : Fin 2 → ℕ) a + S64x2048.size a ≤ S128x2048.size a) (inb1 : ∀ a, (![64, 0] : Fin 2 → ℕ) a + S64x2048.size a ≤ S128x2048.size a) :
    Slabs (F := F) (e := .f32) (zeroBlock (n := 128)) 2
      [⟨Rect.unit (s := S128x2048) ![64, 0] S64x2048.size inb1, k0_pay12⟩, ⟨Rect.unit (s := S128x2048) ![0, 0] S64x2048.size inb0, k0_pay4⟩] := by
  refine Slabs.cons (k := 1) (Slabs.cons (k := 0) (Slabs.nil _) (by decide) _ rfl _ _ fun z => ?_) (by decide) _ rfl _ _ fun z => ?_
  · exact (bySlab_inSlab (F := F) (e := .f32) (n := 128) (fun _ => Cert.Kernel2Ideal.Gen.k0_pay4) 0 (by omega) z).symm
  · exact (bySlab_inSlab (F := F) (e := .f32) (n := 128) (fun _ => Cert.Kernel2Ideal.Gen.k0_pay4) 1 (by omega) z).symm

/-- The first step leaves the normalised activations in the scratch. -/
theorem sout_A (hc0 : cond0_0 i) (hc1 : ¬cond0_1 i) :
    sout0_A_0 c i a2 h2 a3 h3 a4 h4 a5 h5 a6 h6 a7 h7 a8 h8 a9 h9 hc0 hc1 x g w1 w3 w2 gf = normBlock x g := by
  unfold sout0_A_0
  unfold kernelRun0_A
  dsimp only
  sl_unfold_words
  simp only [View.readAt_eq_ld, h2.read_unread, h3.read_unread, View.ld_unit_zero (S := S1x2048) hz]
  exact (fill_norm x g _ _).read_all (by omega) _ _

/-- The first step leaves its contribution, over zero, in the output block. -/
theorem out_A (hc0 : cond0_0 i) (hc1 : ¬cond0_1 i) :
    out0_A_6 c i a2 h2 a3 h3 a4 h4 a5 h5 a6 h6 a7 h7 a8 h8 a9 h9 hc0 hc1 x g w1 w3 w2 gf = addf zeroBlock (stepProd (normBlock x g) w1 w3 w2) := by
  unfold out0_A_6
  rw [View.read_writes_eq_canon _ _ _ (fun y => cover0_A_6 _ _ _ _ _ _ _ _ _ _ _ _ _ _ _ _ _ _ _ _ _ _ _ _ _ _ y)]
  unfold kernelRun0_A
  dsimp only
  sl_unfold_words
  rw [View.canon_cons_unit_zero (S := S128x2048) hz]
  unfold View.readCov
  simp only [View.readAt_eq_ld, h2.read_unread, h3.read_unread, h4.read_unread, h5.read_unread, h6.read_unread, View.ld_unit_zero (S := S1x2048) hz, View.ld_unit_zero (S := S128x2048) hz]
  exact (congrArg₂ (fun (a : Vec F S128x2048 .f32) (b : Vec F S128x2048 .bf16) =>
      k0_pay1 (k0_pay13 a) (k0_pay14 b (leftCols w1) (leftCols w3) (upperRows w2) (rightCols w1) (rightCols w3) (lowerRows w2)))
    ((fill_zero _ _).read_all (by decide) a8.view _) ((fill_norm x g _ _).read_all (by decide) a9.view _)).trans (sum_eq w1 w3 w2 _ _)

/-- A write of the whole block is what a read finds. -/
theorem read_whole {sg : RefSig} {κ : Kind} {sp : Space} (v : View sg κ sp S128x2048 .f32) (f : v.ty.Contents (Elt F)) (inb : ∀ a, (![0, 0] : Fin 2 → ℕ) a + S128x2048.size a ≤ S128x2048.size a) :
    v.read (Elt F) (v.writes (Elt F) f [⟨Rect.unit (s := S128x2048) ![0, 0] S128x2048.size inb, o⟩]) = o := by
  funext y
  refine View.read_writes_cons_hit_of_coords v f (Rect.unit (s := S128x2048) ![0, 0] S128x2048.size inb) o [] y y fun a => ?_
  fin_cases a
  · show (y 0).val = 0 + 1 * (y 0).val; omega
  · show (y 1).val = 0 + 1 * (y 1).val; omega

/-- The upper slab is still the whole block's after the lower one is written over it. -/
theorem read_second {sg : RefSig} {κ : Kind} {sp : Space} (v : View sg κ sp S128x2048 .f32) (f : v.ty.Contents (Elt F)) (u : Vec F S64x2048 .f32)
    (inb : ∀ a, (![0, 0] : Fin 2 → ℕ) a + S128x2048.size a ≤ S128x2048.size a) (inb0 : ∀ a, (![0, 0] : Fin 2 → ℕ) a + S64x2048.size a ≤ S128x2048.size a)
    (inb1 : ∀ a, (![64, 0] : Fin 2 → ℕ) a + S64x2048.size a ≤ S128x2048.size a) :
    View.ld (v.read (Elt F) (v.writes (Elt F) f [⟨Rect.unit (s := S128x2048) ![0, 0] S64x2048.size inb0, u⟩, ⟨Rect.unit (s := S128x2048) ![0, 0] S128x2048.size inb, o⟩]))
      (Rect.unit (s := S128x2048) ![64, 0] S64x2048.size inb1) = slab o 1 := by
  rw [ld_slab _ 1 (by omega) _ rfl]
  funext z
  have hr := inSlab_row (n := 128) 1 (by omega) z
  refine (View.read_writes_cons_miss_of_axis v f ⟨Rect.unit (s := S128x2048) ![0, 0] S64x2048.size inb0, u⟩ _ (inSlab 1 z) 0 0 64 rfl rfl rfl (.inr (by omega))).trans ?_
  rw [read_whole]
  rfl

/-- The two slabs that the last step finishes fill the output block, over the whole sum. -/
theorem fill_final (o0 o1 : Vec F S64x2048 .f32) (h0 : o0 = slab o 0) (h1 : o1 = slab o 1) (inb0 : ∀ a, (![0, 0] : Fin 2 → ℕ) a + S64x2048.size a ≤ S128x2048.size a) (inb1 : ∀ a, (![64, 0] : Fin 2 → ℕ) a + S64x2048.size a ≤ S128x2048.size a) :
    Slabs (F := F) (e := .f32) (finalBlock x gf o) 2
      [⟨Rect.unit (s := S128x2048) ![64, 0] S64x2048.size inb1,
          k0_pay2 (k0_pay8 (View.ld x (Rect.unit (s := S128x2048) ![64, 0] S64x2048.size inb1)) o1) (k0_pay9 gf) (k0_pay10 (View.ld x (Rect.unit (s := S128x2048) ![64, 0] S64x2048.size inb1)) o1)⟩,
       ⟨Rect.unit (s := S128x2048) ![0, 0] S64x2048.size inb0,
          k0_pay7 (View.ld x (Rect.unit (s := S128x2048) ![0, 0] S64x2048.size inb0)) o0 gf⟩] := by
  rw [ld_slab x 0 (by omega) _ rfl, ld_slab x 1 (by omega) _ rfl, h0, h1]
  refine Slabs.cons (k := 1) (Slabs.cons (k := 0) (Slabs.nil _) (by decide) _ rfl _ _ fun z => ?_) (by decide) _ rfl _ _ fun z => ?_
  · exact (bySlab_inSlab (F := F) (e := .f32) (n := 128) (fun k => Cert.Kernel2Ideal.Gen.k0_pay2 (slab x k) (slab o k) gf) 0 (by decide) z).symm
  · exact (bySlab_inSlab (F := F) (e := .f32) (n := 128) (fun k => Cert.Kernel2Ideal.Gen.k0_pay2 (slab x k) (slab o k) gf) 1 (by decide) z).symm

/-- Two slabs that fill a block are what a read finds, whatever was written before them. -/
theorem read_pair {sg : RefSig} {κ : Kind} {sp : Space} (v : View sg κ sp S128x2048 .f32) (f : v.ty.Contents (Elt F)) {p q : View.Piece (Elt F) S128x2048 .f32}
    (L : List (View.Piece (Elt F) S128x2048 .f32)) (hp : Slabs o 2 [p, q]) : v.read (Elt F) (v.writes (Elt F) f (p :: q :: L)) = o :=
  hp.read_all (by decide) v (v.writes (Elt F) f L)

/-- The last step leaves the finished block. -/
theorem out_C (hc0 : ¬cond0_0 i) (hc1 : cond0_1 i) :
    out0_C_6 c i a2 h2 a3 h3 a4 h4 a5 h5 a6 h6 a7 h7 a8 h8 a9 h9 hc0 hc1 x g w1 w3 w2 gf o h = finalBlock x gf (addf o (stepProd h w1 w3 w2)) := by
  unfold out0_C_6
  unfold kernelRun0_C
  dsimp only
  sl_unfold_words
  unfold View.readCov
  simp only [View.readAt_eq_ld, h2.read_unread, h4.read_unread, h5.read_unread, h6.read_unread, h7.read_unread, h8.read_unread, h9.read_unread, View.ld_unit_zero (S := S1x2048) hz, View.ld_unit_zero (S := S128x2048) hz]
  have e := sum_eq w1 w3 w2 o h
  unfold leftCols rightCols upperRows lowerRows at e
  rw [e]
  refine read_pair _ VO0_6 _ _ (fill_final x gf (addf o (stepProd h w1 w3 w2)) _ _ ?_ ?_ _ _)
  · exact (congrArg (View.ld · _) (read_whole _ a8.view _ _)).trans (ld_slab _ 0 (by omega) _ rfl _)
  · exact read_second _ a8.view _ _ _ _ _

end Cert.Proof.Ffn.Sample
-- ==== Proof.Ffn.Sample.Result.lean ====
/-
  The sample's last feed-forward: the blocks it stages at each of its eleven grid points are entries of its arguments, its
  points compute as a feed-forward's do and its last point normalises, so the array it leaves is the layer of its arguments.
-/
module

public import proofs.«01_k».proof.Proof.Ffn.Fold
public import proofs.«01_k».proof.Proof.Ffn.Sample.Step

@[expose] public section

noncomputable section

namespace Cert.Proof.Ffn.Sample

open Idealize.ShloMosaic Idealize.ShloMosaic.ValueIdx Idealize.ShloMosaic.TcCoe Idealize.SL.Sem
open Cert.Kernel5Ideal Cert.Kernel5Ideal.Gen

variable (m : (ℓ : Loc nD τ sig) → Buf (Elt Ideal) ℓ) (c : Dev nD)

/-- The activations' rows. -/
def argX : Fin 128 → Fin 2048 → EReal := fun r d => (m ((c : Thread nD τ).loc main_arg0) : S128x2048.Idx → EReal) (ix2 r d)
/-- The first normalisation's gain. -/
def argG : Fin 2048 → EReal := fun d => (m ((c : Thread nD τ).loc main_arg1) : S2048.Idx → EReal) (ix1 d)
/-- The gated up-projection's weight. -/
def argW1 : Fin 2048 → Fin 5632 → EReal := fun k n => (m ((c : Thread nD τ).loc main_arg2) : S2048x5632.Idx → EReal) (ix2 k n)
/-- The other up-projection's weight. -/
def argW3 : Fin 2048 → Fin 5632 → EReal := fun k n => (m ((c : Thread nD τ).loc main_arg3) : S2048x5632.Idx → EReal) (ix2 k n)
/-- The down-projection's weight. -/
def argW2 : Fin 5632 → Fin 2048 → EReal := fun n d => (m ((c : Thread nD τ).loc main_arg4) : S5632x2048.Idx → EReal) (ix2 n d)
/-- The final normalisation's gain. -/
def argGf : Fin 2048 → EReal := fun d => (m ((c : Thread nD τ).loc main_arg5) : S2048.Idx → EReal) (ix1 d)

/-- Where the block of a point lies in each staged array. -/
theorem index_eq : ∀ t : Fin grid0.N,
    (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) ∧ (win0_5.index t 0 = 0 ∧ win0_5.index t 1 = 0) := by
  decide +kernel

/-- The block of activations at point `t`: all 128 rows. -/
theorem xBlock (t : Fin cfg0.N) (r : Fin 128) (d : Fin 2048) (R : Fin 128) (hR : R.val = 128 * (t.val / 11) + r.val) :
    (iblk m c 0 t : S128x2048.Idx → EReal) (ix2 r d) = argX m c R d := by
  unfold iblk argX
  rw [View.read_apply]
  show V m c main_arg0 _ = _
  rw [V_main_arg0]
  congr 1
  funext a
  apply Fin.ext
  obtain ⟨⟨h0, h1⟩, -⟩ := index_eq t
  match a with
  | ⟨0, _⟩ => show win0_0.index t 0 * 128 + 1 * r.val = R.val; rw [h0]; omega
  | ⟨1, _⟩ => show win0_0.index t 1 * 2048 + 1 * d.val = d.val; rw [h1]; omega

/-- The place of an entry of a one-row array in row-major order. -/
theorem rowMajor_row (y : S1x2048.Idx) : (S1x2048.rowMajor y).val = (y 0).val * 2048 + (y 1).val := by
  rw [Shape.rowMajor_val_two]; rfl

/-- The first gain, staged whole at every point. -/
theorem gBlock (t : Fin cfg0.N) (d : Fin 2048) : (iblk m c 1 t : S1x2048.Idx → EReal) (ix2 0 d) = argG m c d := by
  unfold iblk argG
  rw [View.read_apply]
  show V m c main_v0 _ = _
  entry_read
  obtain ⟨-, ⟨h0, h1⟩, -⟩ := index_eq t
  refine shapeCast_apply _ _ _ (ix1 d) ?_
  rw [Shape.rowMajor_val_one]
  refine Eq.trans ?_ (rowMajor_row _).symm
  show d.val = (win0_1.index t 0 * 1 + 1 * 0) * 2048 + (win0_1.index t 1 * 2048 + 1 * d.val)
  rw [h0, h1]; omega

/-- The final gain, staged whole at every point. -/
theorem gfBlock (t : Fin cfg0.N) (d : Fin 2048) : (iblk m c 5 t : S1x2048.Idx → EReal) (ix2 0 d) = argGf m c d := by
  unfold iblk argGf
  rw [View.read_apply]
  show V m c main_v4 _ = _
  entry_read
  obtain ⟨-, -, -, -, -, h0, h1⟩ := index_eq t
  refine shapeCast_apply _ _ _ (ix1 d) ?_
  rw [Shape.rowMajor_val_one]
  refine Eq.trans ?_ (rowMajor_row _).symm
  show d.val = (win0_5.index t 0 * 1 + 1 * 0) * 2048 + (win0_5.index t 1 * 2048 + 1 * d.val)
  rw [h0, h1]; omega

/-- The block of the gated weight at point `t`: columns `512 (t % 11)` on. -/
theorem w1Block (t : Fin cfg0.N) (k : Fin 2048) (n : Fin 512) (N : Fin 5632) (hN : N.val = 512 * (t.val % 11) + n.val) :
    (iblk m c 2 t : S2048x512.Idx → EReal) (ix2 k n) = argW1 m c k N := by
  unfold iblk argW1
  rw [View.read_apply]
  show V m c main_v1 _ = _
  entry_read
  refine congrArg (m ((c : Thread nD τ).loc main_arg2) : S2048x5632.Idx → EReal) (funext fun a => Fin.ext ?_)
  obtain ⟨-, -, ⟨h0, h1⟩, -⟩ := index_eq t
  match a with
  | ⟨0, _⟩ => show win0_2.index t 0 * 2048 + 1 * k.val = k.val; rw [h0]; omega
  | ⟨1, _⟩ => show win0_2.index t 1 * 512 + 1 * n.val = N.val; rw [h1]; omega

/-- The block of the other up-projection's weight at point `t`: columns `512 (t % 11)` on. -/
theorem w3Block (t : Fin cfg0.N) (k : Fin 2048) (n : Fin 512) (N : Fin 5632) (hN : N.val = 512 * (t.val % 11) + n.val) :
    (iblk m c 3 t : S2048x512.Idx → EReal) (ix2 k n) = argW3 m c k N := by
  unfold iblk argW3
  rw [View.read_apply]
  show V m c main_v2 _ = _
  entry_read
  refine congrArg (m ((c : Thread nD τ).loc main_arg3) : S2048x5632.Idx → EReal) (funext fun a => Fin.ext ?_)
  obtain ⟨-, -, -, ⟨h0, h1⟩, -⟩ := index_eq t
  match a with
  | ⟨0, _⟩ => show win0_3.index t 0 * 2048 + 1 * k.val = k.val; rw [h0]; omega
  | ⟨1, _⟩ => show win0_3.index t 1 * 512 + 1 * n.val = N.val; rw [h1]; omega

/-- The block of the down-projection's weight at point `t`: rows `512 (t % 11)` on. -/
theorem w2Block (t : Fin cfg0.N) (n : Fin 512) (d : Fin 2048) (N : Fin 5632) (hN : N.val = 512 * (t.val % 11) + n.val) :
    (iblk m c 4 t : S512x2048.Idx → EReal) (ix2 n d) = argW2 m c N d := by
  unfold iblk argW2
  rw [View.read_apply]
  show V m c main_v3 _ = _
  entry_read
  refine congrArg (m ((c : Thread nD τ).loc main_arg4) : S5632x2048.Idx → EReal) (funext fun a => Fin.ext ?_)
  obtain ⟨-, -, -, -, ⟨h0, h1⟩, -⟩ := index_eq t
  match a with
  | ⟨0, _⟩ => show win0_4.index t 0 * 512 + 1 * n.val = N.val; rw [h0]; omega
  | ⟨1, _⟩ => show win0_4.index t 1 * 2048 + 1 * d.val = d.val; rw [h1]; omega

/-- The call's arrays and the blocks that its points are given. -/
def staged : Staged 128 128 cfg0.N where
  X := argX m c
  G := argG m c
  W1 := argW1 m c
  W3 := argW3 m c
  W2 := argW2 m c
  Gf := argGf m c
  xB t := iblk m c 0 t
  gB t := iblk m c 1 t
  w1B t := iblk m c 2 t
  w3B t := iblk m c 3 t
  w2B t := iblk m c 4 t
  gfB t := iblk m c 5 t
  x_eq := xBlock m c
  g_eq := gBlock m c
  w1_eq := w1Block m c
  w3_eq := w3Block m c
  w2_eq := w2Block m c
  gf_eq := gfBlock m c

/-- The call's points compute as a feed-forward's do. -/
theorem steps : (staged m c).Steps (outsAt0 m c) finalBlock where
  first t h0 := by
    have h1 : ¬ t.val % 11 = 10 := by omega
    rw [outsAt0_A m c t h0 h1, sout_A, out_A]
    rfl
  middle n hn h0 h1 := by
    rw [show outsAt0 m c (n + 1) hn = _ from outsAt0_B m c ⟨n + 1, hn⟩ h0 h1, out_B]
    rfl
  last n hn h0 h1 := by
    rw [show outsAt0 m c (n + 1) hn = _ from outsAt0_C m c ⟨n + 1, hn⟩ h0 h1, out_C]
    rfl

/-- The array the call leaves is the layer of its arguments. -/
theorem result_apply (y : S128x2048.Idx) :
    Cert.Kernel5Ideal.Value.G6 m c y = layer (argX m c) (argG m c) (argW1 m c) (argW3 m c) (argW2 m c) (argGf m c) (y 0) (y 1) := by
  have h0 : (y 0).val < 128 := (y 0).isLt
  have h1 : (y 1).val < 2048 := (y 1).isLt
  have hp : Cert.Kernel5Ideal.Value.pt6Of y = 10 := by
    show 11 * (1 * ((y 0).val / 128 - 0) + 1 * ((y 1).val / 2048 - 0)) + 10 = _
    omega
  have hlt : Cert.Kernel5Ideal.Value.pt6Of y < cfg0.N := by rw [hp]; exact lt_of_lt_of_eq (by decide) N_0.symm
  have hy : Cert.Kernel5Ideal.Value.loc6Of y = ix2 (y 0) (y 1) := by
    funext a
    apply Fin.ext
    match a with
    | ⟨0, _⟩ => show (y 0).val % 128 = (y 0).val; omega
    | ⟨1, _⟩ => show (y 1).val % 2048 = (y 1).val; omega
  unfold Cert.Kernel5Ideal.Value.G6
  rw [dif_pos hlt, ← Cert.Kernel5Ideal.Value.outsAt0_sweep m c _ hlt, hy]
  refine (staged m c).last_block (outsAt0 m c) _ _ (steps m c) (staged m c).finishes_layer _ hlt (by rw [hp]) _ _ _ ?_
  show (y 0).val = 128 * (Cert.Kernel5Ideal.Value.pt6Of y / 11) + (y 0).val
  rw [hp]; omega

end Cert.Proof.Ffn.Sample
-- ==== Proof.Ffn.Sample.Reference.lean ====
/-
  The reference's last feed-forward of the sample: the same term as the document's, for 128 rows.
-/
module

public import proofs.«01_k».proof.Proof.Ffn.Reference
public import proofs.«01_k».proof.Proof.Gen.Reference5Ideal.Run

@[expose] public section

noncomputable section

namespace Cert.Proof.Ffn.Sample

open Idealize.ShloMosaic Idealize.ShloMosaic.ValueIdx Idealize.ShloMosaic.TcCoe
open Cert.Reference5Ideal Cert.Reference5Ideal.Facts₀ Cert.Reference5Ideal.Facts
open Cert.Proof.Value (RowFacts hostNorm)

/-- The shapes of the sample's 128 rows. -/
theorem rowFacts : RowFacts 128 :=
  ⟨reducesTo_S128x2048_S128_d1, by decide, bcast_S128_S128x1_0, bcast_S_S128x1, bcast_S128x1_S128x2048_0_1, bcast_S1x2048_S128x2048_0_1⟩

/-- The shapes of the sample's feed-forward. -/
theorem layerFacts : LayerFacts 128 := ⟨rowFacts, bcast_S_S128x5632, bcast_S_S128x2048⟩

/-- The result that the reference's run ends with, as the term of any number of rows. -/
theorem result_eq (m : (ℓ : Loc nD τ sig) → Buf (Elt Ideal) ℓ) (c : Dev nD) :
    Cert.Reference5Ideal.Value.res_main_v33 m c
      = hostNorm rowFacts (refResidual layerFacts (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) (gainRow (m ((c.tc : Thread nD τ).loc main_arg5))) := rfl

end Cert.Proof.Ffn.Sample
-- ==== Proof.Merge.Same.lean ====
/-
  The merge as written and at the exact values has one text: its frame, which holds for any float values,
  serves both.
-/
module

public import proofs.«01_k».proof.Proof.Gen.Kernel4
public import proofs.«01_k».proof.Proof.Gen.Kernel4Ideal.Frame

@[expose] public section

noncomputable section

namespace Cert.Proof.Merge

open Idealize.ShloMosaic Idealize.SL.Sem

variable {F : FTy → Type} [FloatOps F]

/-- The two programs have one table of bodies. -/
theorem bodies_eq : @Cert.Kernel4.defs₀ F _ Cert.Kernel4.Gen.facts = @Cert.Kernel4Ideal.defs₀ F _ Cert.Kernel4Ideal.Gen.facts := by
  unfold Cert.Kernel4.defs₀ Cert.Kernel4Ideal.defs₀
  refine congrArg Defs.onTc (funext fun l => funext fun x => ?_)
  match l, x with
  | 0, (t, s) => rfl
  | ⟨_ + 1, h⟩, _ => exact absurd h (Nat.not_lt.2 (Nat.le_add_left _ _))

/-- The call as written runs to the end, leaves its arguments alone, and every counter reads zero. -/
theorem frame_written (m : (ℓ : Loc Cert.Kernel4.nD Cert.Kernel4.τ Cert.Kernel4.sig) → Buf (Elt F) ℓ) (ρ : Dev Cert.Kernel4.nD → PrngReg) :
    θ_run (Cert.Kernel4.defs (F := F)) (onTc (τ := Cert.Kernel4.τ) (Cert.Kernel4.main (F := F))) ⟨m, fun _ => 0, ρ⟩ fun r =>
      (∀ c : Dev Cert.Kernel4.nD,
        r.2.mem ((c.tc : Thread Cert.Kernel4.nD Cert.Kernel4.τ).loc Cert.Kernel4.main_arg0) = m ((c.tc : Thread Cert.Kernel4.nD Cert.Kernel4.τ).loc Cert.Kernel4.main_arg0)
        ∧ r.2.mem ((c.tc : Thread Cert.Kernel4.nD Cert.Kernel4.τ).loc Cert.Kernel4.main_arg1) = m ((c.tc : Thread Cert.Kernel4.nD Cert.Kernel4.τ).loc Cert.Kernel4.main_arg1)
        ∧ r.2.mem ((c.tc : Thread Cert.Kernel4.nD Cert.Kernel4.τ).loc Cert.Kernel4.main_arg2) = m ((c.tc : Thread Cert.Kernel4.nD Cert.Kernel4.τ).loc Cert.Kernel4.main_arg2)
        ∧ r.2.mem ((c.tc : Thread Cert.Kernel4.nD Cert.Kernel4.τ).loc Cert.Kernel4.main_arg3) = m ((c.tc : Thread Cert.Kernel4.nD Cert.Kernel4.τ).loc Cert.Kernel4.main_arg3)
        ∧ r.2.mem ((c.tc : Thread Cert.Kernel4.nD Cert.Kernel4.τ).loc Cert.Kernel4.main_arg4) = m ((c.tc : Thread Cert.Kernel4.nD Cert.Kernel4.τ).loc Cert.Kernel4.main_arg4)
        ∧ r.2.mem ((c.tc : Thread Cert.Kernel4.nD Cert.Kernel4.τ).loc Cert.Kernel4.main_arg5) = m ((c.tc : Thread Cert.Kernel4.nD Cert.Kernel4.τ).loc Cert.Kernel4.main_arg5)
        ∧ r.2.mem ((c.tc : Thread Cert.Kernel4.nD Cert.Kernel4.τ).loc Cert.Kernel4.main_arg6) = m ((c.tc : Thread Cert.Kernel4.nD Cert.Kernel4.τ).loc Cert.Kernel4.main_arg6)
        ∧ r.2.mem ((c.tc : Thread Cert.Kernel4.nD Cert.Kernel4.τ).loc Cert.Kernel4.main_arg7) = m ((c.tc : Thread Cert.Kernel4.nD Cert.Kernel4.τ).loc Cert.Kernel4.main_arg7)
        ∧ r.2.mem ((c.tc : Thread Cert.Kernel4.nD Cert.Kernel4.τ).loc Cert.Kernel4.main_arg8) = m ((c.tc : Thread Cert.Kernel4.nD Cert.Kernel4.τ).loc Cert.Kernel4.main_arg8)
        ∧ r.2.mem ((c.tc : Thread Cert.Kernel4.nD Cert.Kernel4.τ).loc Cert.Kernel4.main_arg9) = m ((c.tc : Thread Cert.Kernel4.nD Cert.Kernel4.τ).loc Cert.Kernel4.main_arg9)
        ∧ r.2.mem ((c.tc : Thread Cert.Kernel4.nD Cert.Kernel4.τ).loc Cert.Kernel4.main_arg10) = m ((c.tc : Thread Cert.Kernel4.nD Cert.Kernel4.τ).loc Cert.Kernel4.main_arg10)
        ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0 := by
  unfold Cert.Kernel4.defs
  rw [bodies_eq]
  exact Cert.Kernel4Ideal.Gen.frame (F := F) m ρ

end Cert.Proof.Merge
-- ==== Proof.Merge.Step.lean ====
/-
  What one point of the merge's body leaves, for any float values: the merge of its blocks followed by the attention of four
  heads to the memory's block.
-/
module

public import proofs.«01_k».proof.Proof.Gen.Kernel4Ideal.Value

@[expose] public section

noncomputable section

namespace Cert.Proof.Merge

open Idealize.ShloMosaic Idealize.ShloMosaic.TcCoe
open Cert.Kernel4Ideal Cert.Kernel4Ideal.Gen

variable {F : FTy → Type} [FloatOps F]

/-- The offset that every whole block is read and written at. -/
theorem hz : (![0, 0] : Fin 2 → Nat) = fun _ => 0 := funext fun a => by fin_cases a <;> rfl

/-- A head's columns of the memory's keys or values. -/
def memCols (x : Vec F S1x256x512 .bf16) (o : ℕ) (ho : ∀ a, (![0, 0, o] : Fin 3 → ℕ) a + S1x256x128.size a ≤ S1x256x512.size a) : Vec F S1x256x128 .bf16 :=
  View.ld x (Rect.unit (s := S1x256x512) ![0, 0, o] S1x256x128.size ho)

/-- A head's columns of the query. -/
def queryCols (q : FVec F S256x512 .bf16) (o : ℕ) (ho : S256x512.Slices ![0, o] S256x128) : FVec F S256x128 .bf16 := extractStridedSlice S256x128 ![0, o] q ho

/-- A head's scores: the products of its query's rows with its keys, scaled. -/
def headScores (q : FVec F S256x128 .bf16) (k : Vec F S1x256x128 .bf16) : FVec F S256x256 .f32 :=
  mulf (matmul dot_S256x128_S256x128_S256x256_1_1_0_0_n_n none q (shapeCast S256x128 k shapeCasts_S1x256x128_S256x128) (constant S256x256 .f32 0x00000000#32))
    (broadcast S256x256 (Scalar.ofBits .f32 0x3DB504F3#32))

/-- What a head reads: its values under the softmax of its scores, row by row. -/
def headRead (s : FVec F S256x256 .f32) (v : Vec F S1x256x128 .bf16) : FVec F S256x128 .f32 :=
  matmul dot_S256x256_S256x128_S256x128_1_0_0_1_n_n none (truncf .bf16 (k0_pay10 s) bitsLt_bf16_f32) (shapeCast S256x128 v shapeCasts_S1x256x128_S256x128)
    (constant S256x128 .f32 0x00000000#32)

/-- The four heads side by side. -/
def heads (q : FVec F S256x512 .bf16) (k v : Vec F S1x256x512 .bf16) : FVec F S256x512 .f32 :=
  concatenate S256x512 1
    [⟨S256x128, headRead (headScores (queryCols q 0 slices_S256x512_o0_0_S256x128) (memCols k 0 inb_S1x256x512_S1x256x128_0_0_0)) (memCols v 0 inb_S1x256x512_S1x256x128_0_0_0)⟩,
     ⟨S256x128, headRead (headScores (queryCols q 128 slices_S256x512_o0_128_S256x128) (memCols k 128 inb_S1x256x512_S1x256x128_0_0_128)) (memCols v 128 inb_S1x256x512_S1x256x128_0_0_128)⟩,
     ⟨S256x128, headRead (headScores (queryCols q 256 slices_S256x512_o0_256_S256x128) (memCols k 256 inb_S1x256x512_S1x256x128_0_0_256)) (memCols v 256 inb_S1x256x512_S1x256x128_0_0_256)⟩,
     ⟨S256x128, headRead (headScores (queryCols q 384 slices_S256x512_o0_384_S256x128) (memCols k 384 inb_S1x256x512_S1x256x128_0_0_384)) (memCols v 384 inb_S1x256x512_S1x256x128_0_0_384)⟩]
    concatenates_S256x128_S256x128_S256x128_S256x128_S256x512_d1

/-- The merged rows with what the heads read from the memory added through the output weight. -/
def recallBlock (x : FVec F S256x2048 .f32) (q : FVec F S256x512 .bf16) (k v : Vec F S1x256x512 .bf16) (wm : Vec F S512x2048 .bf16) : FVec F S256x2048 .f32 :=
  addf x (matmul dot_S256x512_S512x2048_S256x2048_1_0_0_1_n_n none (truncf .bf16 (heads q k v) bitsLt_bf16_f32) wm (constant S256x2048 .f32 0x00000000#32))

variable (c : Dev nD) (i : grid0.Coords)
  (a1 : Memref sig .tc .vmem S256x1024 .bf16) (h1 : a1.IsWhole) (a2 : Memref sig .tc .vmem S256x1024 .bf16) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .f32) (h5 : a5.IsWhole) (a6 : Memref sig .tc .vmem S1024x2048 .bf16) (h6 : a6.IsWhole)
  (a7 : Memref sig .tc .vmem S1024x2048 .bf16) (h7 : a7.IsWhole) (a8 : Memref sig .tc .vmem S2048x2048 .bf16) (h8 : a8.IsWhole)
  (a9 : Memref sig .tc .vmem S1x2048 .f32) (h9 : a9.IsWhole) (a10 : Memref sig .tc .vmem S2048x512 .bf16) (h10 : a10.IsWhole)
  (a11 : Memref sig .tc .vmem S1x256x512 .bf16) (h11 : a11.IsWhole) (a12 : Memref sig .tc .vmem S1x256x512 .bf16) (h12 : a12.IsWhole)
  (a13 : Memref sig .tc .vmem S512x2048 .bf16) (h13 : a13.IsWhole) (a14 : Memref sig .tc .vmem S256x2048 .f32) (h14 : a14.IsWhole)
  (og os : Vec F S256x1024 .bf16) (gg gs x : Vec F S256x2048 .f32) (wg ws : Vec F S1024x2048 .bf16) (wo : Vec F S2048x2048 .bf16)
  (gq : Vec F S1x2048 .f32) (wq : Vec F S2048x512 .bf16) (k v : Vec F S1x256x512 .bf16) (wm : Vec F S512x2048 .bf16)

/-- A point leaves the attention to memory of its merged rows. -/
theorem out_A :
    out0_A_13 c i a1 h1 a2 h2 a3 h3 a4 h4 a5 h5 a6 h6 a7 h7 a8 h8 a9 h9 a10 h10 a11 h11 a12 h12 a13 h13 a14 h14 og os gg gs x wg ws wo gq wq k v wm
      = recallBlock (k0_pay2 og wg os ws gg gs x wo) (k0_pay4 (k0_pay3 og wg os ws gg gs x wo gq) wq) k v wm := by
  unfold out0_A_13
  rw [View.read_writes_eq_canon _ _ _ (fun y => cover0_A_13 _ _ _ _ _ _ _ _ _ _ _ _ _ _ _ _ _ _ _ _ _ _ _ _ _ _ _ _ _ _ _ _ _ _ _ _ _ _ _ _ _ _ _ y)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread,
    h9.read_unread, h10.read_unread, h11.read_unread, h12.read_unread, h13.read_unread, View.ld_unit_zero (S := S256x1024) hz, View.ld_unit_zero (S := S256x2048) hz,
    View.ld_unit_zero (S := S1024x2048) hz, View.ld_unit_zero (S := S2048x2048) hz, View.ld_unit_zero (S := S1x2048) hz, View.ld_unit_zero (S := S2048x512) hz,
    View.ld_unit_zero (S := S512x2048) hz]
  unfold recallBlock heads k0_pay1
  dsimp only
  rw [shapeCast_self]
  rfl

end Cert.Proof.Merge
-- ==== Proof.Merge.Spec.lean ====
/-
  The merge of the two mixers and the attention to memory as plain functions of one row, at the exact values: what both the
  kernel's run and the reference's are shown to compute.
-/
module

public import proofs.«01_k».proof.Proof.Value.Kernel

@[expose] public section

noncomputable section

namespace Cert.Proof.Merge

open Idealize.ShloMosaic
open Cert.Proof.Value (rowNorm)

/-- The residual stream after the merge: the two mixers' projections, each under its gate, through the output weight. -/
def mixed (og os : Fin 1024 → EReal) (gg gs x : Fin 2048 → EReal) (Wg Ws : Fin 1024 → Fin 2048 → EReal) (Wo : Fin 2048 → Fin 2048 → EReal)
    (d : Fin 2048) : EReal :=
  x d + ∑ n, (Ideal.logistic (gg n) * ∑ k, og k * Wg k n + Ideal.logistic (gs n) * ∑ k, os k * Ws k n) * Wo n d

/-- The query of a row, all heads side by side. -/
def query (X Gq : Fin 2048 → EReal) (Wq : Fin 2048 → Fin 512 → EReal) (j : Fin 512) : EReal := ∑ k, rowNorm X Gq k * Wq k j

/-- Column `e` of head `h`. -/
def col (h : Fin 4) (e : Fin 128) : Fin 512 := ⟨128 * h.val + e.val, by omega⟩

/-- A head's scores against the memory's tokens. -/
def score (q : Fin 512 → EReal) (K : Fin 256 → Fin 512 → EReal) (h : Fin 4) (t : Fin 256) : EReal :=
  (∑ e, q (col h e) * K t (col h e)) * Ideal.ofBits .f32 0x3DB504F3#32

/-- The largest of the scores. -/
def top (s : Fin 256 → EReal) : EReal := Finset.univ.fold max (Ideal.ofBits .f32 0xFF800000#32) s

/-- The softmax of the scores. -/
def softmax (s : Fin 256 → EReal) (t : Fin 256) : EReal :=
  Ideal.div (Ideal.exp (s t - top s)) (∑ t', Ideal.exp (s t' - top s))

/-- What head `h` reads from the memory. -/
def attend (q : Fin 512 → EReal) (K V : Fin 256 → Fin 512 → EReal) (h : Fin 4) (e : Fin 128) : EReal :=
  ∑ t, softmax (score q K h) t * V t (col h e)

/-- The head of a column, and the column within its head. -/
def headOf (j : Fin 512) : Fin 4 := ⟨j.val / 128, by omega⟩
@[inherit_doc headOf]
def laneOf (j : Fin 512) : Fin 128 := ⟨j.val % 128, by omega⟩

/-- The residual stream after the attention to memory. -/
def recall (X Gq : Fin 2048 → EReal) (Wq : Fin 2048 → Fin 512 → EReal) (K V : Fin 256 → Fin 512 → EReal) (Wm : Fin 512 → Fin 2048 → EReal)
    (d : Fin 2048) : EReal :=
  X d + ∑ j, attend (query X Gq Wq) K V (headOf j) (laneOf j) * Wm j d

/-- The sequence that a row belongs to. -/
def seqOf (R : Fin 32768) : Fin 16 := ⟨R.val / 2048, by omega⟩

/-- The gate columns of the projection, from column `4096` for the one mixer and from column `6144` for the other. -/
def gdnCol (n : Fin 2048) : Fin 9984 := ⟨4096 + n.val, by omega⟩
@[inherit_doc gdnCol]
def swaCol (n : Fin 2048) : Fin 9984 := ⟨6144 + n.val, by omega⟩

section Layer

variable (Og Os : Fin 32768 → Fin 1024 → EReal) (P : Fin 32768 → Fin 9984 → EReal) (X : Fin 32768 → Fin 2048 → EReal) (Wg Ws : Fin 1024 → Fin 2048 → EReal)
  (Wo : Fin 2048 → Fin 2048 → EReal) (Gq : Fin 2048 → EReal) (Wq : Fin 2048 → Fin 512 → EReal) (K V : Fin 16 → Fin 256 → Fin 512 → EReal) (Wm : Fin 512 → Fin 2048 → EReal)

/-- The rows after the merge. -/
def merged (R : Fin 32768) : Fin 2048 → EReal :=
  mixed (Og R) (Os R) (fun n => P R (gdnCol n)) (fun n => P R (swaCol n)) (X R) Wg Ws Wo

/-- The rows after the merge and the attention of each to its sequence's memory. -/
def layer (R : Fin 32768) : Fin 2048 → EReal :=
  recall (merged Og Os P X Wg Ws Wo R) Gq Wq (K (seqOf R)) (V (seqOf R)) Wm

end Layer

end Cert.Proof.Merge
-- ==== Proof.Merge.Payloads.lean ====
/-
  What the merge's body computes on its blocks, entry by entry, at the exact values.
-/
module

public import proofs.«01_k».proof.Proof.Merge.Step
public import proofs.«01_k».proof.Proof.Merge.Spec
public import Idealize.ShloMosaic.Lib.MatmulPlain

@[expose] public section

noncomputable section

namespace Cert.Proof.Merge

open Idealize.ShloMosaic Idealize.ShloMosaic.ValueIdx Idealize.ShloMosaic.TcCoe
open Cert.Kernel4Ideal Cert.Kernel4Ideal.Gen
open Cert.Proof.Value (rowNorm normRows_apply product_apply)

/-- A product with the rows of the right factor from a zero accumulator, entry by entry. -/
theorem rowProduct_apply {M K N : ℕ} (a : (⟨2, ![M, K]⟩ : Shape).Idx → EReal) (b : (⟨2, ![N, K]⟩ : Shape).Idx → EReal) (r : Fin M) (n : Fin N) :
    matmul (F := Ideal) (φ₁ := .bf16) (φ₂ := .bf16) (DotDims.transposedRhs M K N) none a b (constant ⟨2, ![M, N]⟩ .f32 0x00000000#32) (ix2 r n)
      = ∑ k : Fin K, a (ix2 r k) * b (ix2 n k) := by
  refine (Ideal.matmul_transposedRhs_apply (φ₁ := .bf16) (φ₂ := .bf16) none a b _ r n).trans ?_
  rw [show (constant (F := Ideal) ⟨2, ![M, N]⟩ .f32 0x00000000#32 (ix2 r n) : EReal) = 0 from Ideal.ofBits_zero_f32, zero_add]

/-- The merged rows. -/
theorem mixed_apply (og os : S256x1024.Idx → EReal) (gg gs x : S256x2048.Idx → EReal) (wg ws : S1024x2048.Idx → EReal) (wo : S2048x2048.Idx → EReal)
    (r : Fin 256) (d : Fin 2048) :
    k0_pay2 (F := Ideal) og wg os ws gg gs x wo (ix2 r d)
      = mixed (fun k => og (ix2 r k)) (fun k => os (ix2 r k)) (fun n => gg (ix2 r n)) (fun n => gs (ix2 r n)) (fun n => x (ix2 r n))
          (fun k n => wg (ix2 k n)) (fun k n => ws (ix2 k n)) (fun n d => wo (ix2 n d)) d := by
  unfold k0_pay2 mixed
  dsimp only
  rw [shapeCast_self, shapeCast_self, shapeCast_self]
  refine congrArg (x (ix2 r d) + ·) ((product_apply _ wo r d).trans (Finset.sum_congr rfl fun n _ => congrArg (· * _) ?_))
  exact congrArg₂ (· + ·) (congrArg (Ideal.logistic _ * ·) (product_apply og wg r n)) (congrArg (Ideal.logistic _ * ·) (product_apply os ws r n))

/-- The normalised merged rows. -/
theorem norm_apply (og os : S256x1024.Idx → EReal) (gg gs x : S256x2048.Idx → EReal) (wg ws : S1024x2048.Idx → EReal) (wo : S2048x2048.Idx → EReal)
    (g : S1x2048.Idx → EReal) (r : Fin 256) (k : Fin 2048) :
    k0_pay3 (F := Ideal) og wg os ws gg gs x wo g (ix2 r k)
      = rowNorm (fun j => k0_pay2 (F := Ideal) og wg os ws gg gs x wo (ix2 r j)) (fun j => g (ix2 0 j)) k := by
  unfold k0_pay3
  generalize k0_pay2 (F := Ideal) og wg os ws gg gs x wo = X
  dsimp only
  rw [shapeCast_self]
  exact normRows_apply X g _ _ _ _ r k

/-- The queries. -/
theorem query_apply (h : S256x2048.Idx → EReal) (wq : S2048x512.Idx → EReal) (r : Fin 256) (j : Fin 512) :
    k0_pay4 (F := Ideal) h wq (ix2 r j) = ∑ k : Fin 2048, h (ix2 r k) * wq (ix2 k j) := by
  unfold k0_pay4
  rw [shapeCast_self]
  exact product_apply h wq r j

/-- A column spread over the lanes of its rows. -/
theorem column_apply (v : S256.Idx → EReal) (r t : Fin 256) :
    broadcastTo S256x256 (shapeCast S256x1 v shapeCasts_S256_S256x1) broadcasts_S256x1_S256x256 (ix2 r t) = v (ix1 r) := by
  refine (broadcastTo_apply _ _ _ (ix2 r 0) (fun a => by fin_cases a <;> rfl)).trans ?_
  exact shapeCast_apply _ _ _ (ix1 r) (by rw [Shape.rowMajor_val_two, Shape.rowMajor_val_one]; show r.val = r.val * 1 + 0; omega)

/-- The largest score of a row. -/
theorem top_apply (s : S256x256.Idx → EReal) (r : Fin 256) :
    multiReduction (F := Ideal) (φ := .f32) .maximumf [1] S256 s 0xFF800000#32 reduces_S256x256_S256 (.inl rfl) rfl (ix1 r) = top fun t => s (ix2 r t) := by
  refine (congrFun (multiReduction_maximumf_eq_reduceFold (F := Ideal) (φ := .f32) s 0xFF800000#32 reduces_S256x256_S256 (.inl rfl) rfl) (ix1 r)).trans ?_
  refine (reduceFold_eq_fold reduces_S256x256_S256 (max : EReal → EReal → EReal) _ s (ix1 r)).trans ?_
  refine (reduces_S256x256_S256.fold_filter_drop_single max _ s (ix1 r)).trans ?_
  unfold top
  refine congrArg (Finset.univ.fold max _) (funext fun t => congrArg s ?_)
  funext a; fin_cases a <;> rfl

/-- The softmax of a row of scores. -/
theorem softmax_apply (s : S256x256.Idx → EReal) (r t : Fin 256) : k0_pay10 (F := Ideal) s (ix2 r t) = softmax (fun t => s (ix2 r t)) t := by
  have he : ∀ t' : Fin 256, Idealize.ShloMosaic.exp (F := Ideal) (φ := .f32) (subf s (broadcastTo S256x256 (shapeCast S256x1 (multiReduction (F := Ideal) (φ := .f32) .maximumf [1] S256 s 0xFF800000#32
      reduces_S256x256_S256 (.inl rfl) rfl) shapeCasts_S256_S256x1) broadcasts_S256x1_S256x256)) (ix2 r t') = Ideal.exp (s (ix2 r t') - top fun t => s (ix2 r t)) := fun t' =>
    congrArg Ideal.exp (congrArg (s (ix2 r t') - ·) ((column_apply _ r t').trans (top_apply s r)))
  unfold k0_pay10 softmax
  dsimp only
  refine congrArg₂ Ideal.div (he t) ?_
  refine (column_apply _ r t).trans ((Ideal.multiReduction_add_single _ _ _ _ _ _).trans (Finset.sum_congr rfl fun t' _ => ?_))
  refine Eq.trans (congrArg _ ?_) (he t')
  funext a; fin_cases a <;> rfl

/-- A head's columns of the memory, with the leading axis of one dropped. -/
theorem memCols_apply (x : S1x256x512.Idx → EReal) (h : Fin 4) (o : ℕ) (ho : o = 128 * h.val) (inb : ∀ a, (![0, 0, o] : Fin 3 → ℕ) a + S1x256x128.size a ≤ S1x256x512.size a)
    (t : Fin 256) (e : Fin 128) :
    shapeCast S256x128 (memCols (F := Ideal) x o inb) shapeCasts_S1x256x128_S256x128 (ix2 t e) = x (ix3 0 t (col h e)) := by
  refine (shapeCast_apply _ _ _ (ix3 0 t e) (Cert.Proof.Value.place_unit _ _ t e).symm).trans ?_
  unfold memCols
  refine congrArg x (funext fun a => Fin.ext ?_)
  fin_cases a
  · rfl
  · show 0 + 1 * t.val = t.val; omega
  · show o + 1 * e.val = 128 * h.val + e.val; omega

/-- A head's scores. -/
theorem headScores_apply (q : S256x512.Idx → EReal) (k : S1x256x512.Idx → EReal) (h : Fin 4) (o : ℕ) (ho : o = 128 * h.val)
    (hq : S256x512.Slices ![0, o] S256x128) (inb : ∀ a, (![0, 0, o] : Fin 3 → ℕ) a + S1x256x128.size a ≤ S1x256x512.size a) (r t : Fin 256) :
    headScores (F := Ideal) (queryCols q o hq) (memCols k o inb) (ix2 r t) = score (fun j => q (ix2 r j)) (fun t j => k (ix3 0 t j)) h t := by
  unfold headScores score
  refine congrArg (· * _) ((rowProduct_apply _ _ r t).trans (Finset.sum_congr rfl fun e _ => congrArg₂ (· * ·) ?_ (memCols_apply k h o ho inb t e)))
  refine extractStridedSlice_apply _ _ _ _ _ fun a => ?_
  fin_cases a
  · show r.val = 0 + r.val; omega
  · show 128 * h.val + e.val = o + e.val; omega

/-- What a head reads. -/
theorem headRead_apply (q : S256x512.Idx → EReal) (k v : S1x256x512.Idx → EReal) (h : Fin 4) (o : ℕ) (ho : o = 128 * h.val)
    (hq : S256x512.Slices ![0, o] S256x128) (inb : ∀ a, (![0, 0, o] : Fin 3 → ℕ) a + S1x256x128.size a ≤ S1x256x512.size a) (r : Fin 256) (e : Fin 128) :
    headRead (F := Ideal) (headScores (queryCols q o hq) (memCols k o inb)) (memCols v o inb) (ix2 r e)
      = attend (fun j => q (ix2 r j)) (fun t j => k (ix3 0 t j)) (fun t j => v (ix3 0 t j)) h e := by
  unfold headRead attend
  refine (product_apply _ _ r e).trans (Finset.sum_congr rfl fun t _ => congrArg₂ (· * ·) ?_ (memCols_apply v h o ho inb t e))
  exact (softmax_apply _ r t).trans (congrArg (softmax · t) (funext fun t' => headScores_apply q k h o ho hq inb r t'))

/-- The four heads side by side: each column is its head's. -/
theorem heads_apply (q : S256x512.Idx → EReal) (k v : S1x256x512.Idx → EReal) (r : Fin 256) (j : Fin 512) :
    heads (F := Ideal) q k v (ix2 r j)
      = attend (fun j => q (ix2 r j)) (fun t j => k (ix3 0 t j)) (fun t j => v (ix3 0 t j)) (headOf j) (laneOf j) := by
  obtain ⟨h, e, hj⟩ : ∃ (h : Fin 4) (e : Fin 128), j = col h e := ⟨headOf j, laneOf j, Fin.ext (by show j.val = 128 * (j.val / 128) + j.val % 128; omega)⟩
  have hh : headOf j = h := by subst hj; exact Fin.ext (by show (128 * h.val + e.val) / 128 = h.val; omega)
  have hl : laneOf j = e := by subst hj; exact Fin.ext (by show (128 * h.val + e.val) % 128 = e.val; omega)
  rw [hh, hl, hj]
  unfold heads
  have hi : ∀ b : Fin S256x128.rank, b.cast (rfl : S256x128.rank = S256x512.rank) ≠ 1 → ((ix2 r e : S256x128.Idx) b).val = ((ix2 r (col h e) : S256x512.Idx) (b.cast rfl)).val :=
    fun b hb => by fin_cases b; · rfl
                   · exact absurd rfl hb
  match h with
  | ⟨0, _⟩ =>
    refine Eq.trans (concatenate_apply_piece (t := S256x512) 1 _ _ (ix2 r (col _ e)) 0 ?_ S256x128 _ (by rfl) rfl 0 (by rfl) (ix2 r e) hi ?_) (headRead_apply q k v 0 0 rfl slices_S256x512_o0_0_S256x128 inb_S1x256x512_S1x256x128_0_0_0 r e)
    · exact (by decide : 0 < 4)
    · show 0 + e.val = 128 * 0 + e.val; omega
  | ⟨1, _⟩ =>
    refine Eq.trans (concatenate_apply_piece (t := S256x512) 1 _ _ (ix2 r (col _ e)) 1 ?_ S256x128 _ (by rfl) rfl 128 (by rfl) (ix2 r e) hi ?_) (headRead_apply q k v 1 128 rfl slices_S256x512_o0_128_S256x128 inb_S1x256x512_S1x256x128_0_0_128 r e)
    · exact (by decide : 1 < 4)
    · show 128 + e.val = 128 * 1 + e.val; omega
  | ⟨2, _⟩ =>
    refine Eq.trans (concatenate_apply_piece (t := S256x512) 1 _ _ (ix2 r (col _ e)) 2 ?_ S256x128 _ (by rfl) rfl 256 (by rfl) (ix2 r e) hi ?_) (headRead_apply q k v 2 256 rfl slices_S256x512_o0_256_S256x128 inb_S1x256x512_S1x256x128_0_0_256 r e)
    · exact (by decide : 2 < 4)
    · show 256 + e.val = 128 * 2 + e.val; omega
  | ⟨3, _⟩ =>
    refine Eq.trans (concatenate_apply_piece (t := S256x512) 1 _ _ (ix2 r (col _ e)) 3 ?_ S256x128 _ (by rfl) rfl 384 (by rfl) (ix2 r e) hi ?_) (headRead_apply q k v 3 384 rfl slices_S256x512_o0_384_S256x128 inb_S1x256x512_S1x256x128_0_0_384 r e)
    · exact (by decide : 3 < 4)
    · show 384 + e.val = 128 * 3 + e.val; omega

/-- The rows after the attention to memory. -/
theorem recallBlock_apply (x : S256x2048.Idx → EReal) (q : S256x512.Idx → EReal) (k v : S1x256x512.Idx → EReal) (wm : S512x2048.Idx → EReal) (r : Fin 256) (d : Fin 2048) :
    recallBlock (F := Ideal) x q k v wm (ix2 r d)
      = x (ix2 r d) + ∑ j : Fin 512, attend (fun j => q (ix2 r j)) (fun t j => k (ix3 0 t j)) (fun t j => v (ix3 0 t j)) (headOf j) (laneOf j) * wm (ix2 j d) := by
  unfold recallBlock
  exact congrArg (x (ix2 r d) + ·) ((product_apply _ wm r d).trans (Finset.sum_congr rfl fun j _ => congrArg (· * _) (heads_apply q k v r j)))

end Cert.Proof.Merge
-- ==== Proof.Merge.Result.lean ====
/-
  The blocks the merge stages at each grid point, as entries of the argument arrays, at the exact values; and the array it
  leaves, the layer of its arguments.
-/
module

public import proofs.«01_k».proof.Proof.Merge.Payloads

@[expose] public section

noncomputable section

namespace Cert.Proof.Merge

open Idealize.ShloMosaic Idealize.ShloMosaic.ValueIdx Idealize.ShloMosaic.TcCoe Idealize.SL.Sem
open Cert.Kernel4Ideal Cert.Kernel4Ideal.Gen

variable (m : (ℓ : Loc nD τ sig) → Buf (Elt Ideal) ℓ) (c : Dev nD)

/-- The one mixer's rows. -/
def argOg : Fin 32768 → Fin 1024 → EReal := fun r k => (m ((c : Thread nD τ).loc main_arg0) : S32768x1024.Idx → EReal) (ix2 r k)
/-- The other mixer's rows. -/
def argOs : Fin 32768 → Fin 1024 → EReal := fun r k => (m ((c : Thread nD τ).loc main_arg1) : S32768x1024.Idx → EReal) (ix2 r k)
/-- The projection, whose columns hold the gates. -/
def argP : Fin 32768 → Fin 9984 → EReal := fun r n => (m ((c : Thread nD τ).loc main_arg2) : S32768x9984.Idx → EReal) (ix2 r n)
/-- The residual stream. -/
def argX : Fin 32768 → Fin 2048 → EReal := fun r d => (m ((c : Thread nD τ).loc main_arg3) : S32768x2048.Idx → EReal) (ix2 r d)
/-- The one mixer's projection. -/
def argWg : Fin 1024 → Fin 2048 → EReal := fun k n => (m ((c : Thread nD τ).loc main_arg4) : S1024x2048.Idx → EReal) (ix2 k n)
/-- The other mixer's projection. -/
def argWs : Fin 1024 → Fin 2048 → EReal := fun k n => (m ((c : Thread nD τ).loc main_arg5) : S1024x2048.Idx → EReal) (ix2 k n)
/-- The merge's output weight. -/
def argWo : Fin 2048 → Fin 2048 → EReal := fun k n => (m ((c : Thread nD τ).loc main_arg6) : S2048x2048.Idx → EReal) (ix2 k n)
/-- The query normalisation's gain. -/
def argGq : Fin 2048 → EReal := fun d => (m ((c : Thread nD τ).loc main_arg7) : S2048.Idx → EReal) (ix1 d)
/-- The query weight. -/
def argWq : Fin 2048 → Fin 512 → EReal := fun k n => (m ((c : Thread nD τ).loc main_arg8) : S2048x512.Idx → EReal) (ix2 k n)
/-- The memory's keys. -/
def argK : Fin 16 → Fin 256 → Fin 512 → EReal := fun b t j => (m ((c : Thread nD τ).loc main_arg9) : S16x256x512.Idx → EReal) (ix3 b t j)
/-- The memory's values. -/
def argV : Fin 16 → Fin 256 → Fin 512 → EReal := fun b t j => (m ((c : Thread nD τ).loc main_arg10) : S16x256x512.Idx → EReal) (ix3 b t j)
/-- The memory's output weight. -/
def argWm : Fin 512 → Fin 2048 → EReal := fun k n => (m ((c : Thread nD τ).loc main_arg11) : S512x2048.Idx → EReal) (ix2 k n)

/-- Where the row blocks of a point lie in their arrays. -/
theorem rows_index : ∀ t : Fin grid0.N,
    (win0_0.index t 0 = t.val ∧ win0_0.index t 1 = 0) ∧ (win0_1.index t 0 = t.val ∧ win0_1.index t 1 = 0) ∧ (win0_2.index t 0 = t.val ∧ win0_2.index t 1 = 2)
    ∧ (win0_3.index t 0 = t.val ∧ win0_3.index t 1 = 3) ∧ (win0_4.index t 0 = t.val ∧ win0_4.index t 1 = 0) ∧ (win0_13.index t 0 = t.val ∧ win0_13.index t 1 = 0) := by
  decide +kernel

/-- The weights are staged whole at every point. -/
theorem whole_index : ∀ t : Fin grid0.N,
    (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_12.index t 0 = 0 ∧ win0_12.index t 1 = 0) := by
  decide +kernel

/-- Where the memory's blocks of a point lie: at its sequence. -/
theorem mem_index : ∀ t : Fin grid0.N,
    (win0_10.index t 0 = t.val / 8 ∧ win0_10.index t 1 = 0 ∧ win0_10.index t 2 = 0) ∧ (win0_11.index t 0 = t.val / 8 ∧ win0_11.index t 1 = 0 ∧ win0_11.index t 2 = 0) := by
  decide +kernel

/-- The block of the one mixer's rows. -/
theorem ogBlock (t : Fin cfg0.N) (r : Fin 256) (d : Fin 1024) (R : Fin 32768) (hR : R.val = 256 * t.val + r.val) :
    (iblk m c 0 t : S256x1024.Idx → EReal) (ix2 r d) = argOg m c R d := by
  unfold iblk argOg
  rw [View.read_apply]
  show V m c main_arg0 _ = _
  rw [V_main_arg0]
  congr 1
  funext a
  apply Fin.ext
  obtain ⟨⟨h0, h1⟩, -⟩ := rows_index t
  match a with
  | ⟨0, _⟩ => show win0_0.index t 0 * 256 + 1 * r.val = R.val; rw [h0]; omega
  | ⟨1, _⟩ => show win0_0.index t 1 * 1024 + 1 * d.val = d.val; rw [h1]; omega

/-- The block of the other mixer's rows. -/
theorem osBlock (t : Fin cfg0.N) (r : Fin 256) (d : Fin 1024) (R : Fin 32768) (hR : R.val = 256 * t.val + r.val) :
    (iblk m c 1 t : S256x1024.Idx → EReal) (ix2 r d) = argOs m c R d := by
  unfold iblk argOs
  rw [View.read_apply]
  show V m c main_arg1 _ = _
  rw [V_main_arg1]
  congr 1
  funext a
  apply Fin.ext
  obtain ⟨-, ⟨h0, h1⟩, -⟩ := rows_index t
  match a with
  | ⟨0, _⟩ => show win0_1.index t 0 * 256 + 1 * r.val = R.val; rw [h0]; omega
  | ⟨1, _⟩ => show win0_1.index t 1 * 1024 + 1 * d.val = d.val; rw [h1]; omega

/-- The block of the residual stream. -/
theorem xBlock (t : Fin cfg0.N) (r : Fin 256) (d : Fin 2048) (R : Fin 32768) (hR : R.val = 256 * t.val + r.val) :
    (iblk m c 4 t : S256x2048.Idx → EReal) (ix2 r d) = argX m c R d := by
  unfold iblk argX
  rw [View.read_apply]
  show V m c main_arg3 _ = _
  rw [V_main_arg3]
  congr 1
  funext a
  apply Fin.ext
  obtain ⟨-, -, -, -, ⟨h0, h1⟩, -⟩ := rows_index t
  match a with
  | ⟨0, _⟩ => show win0_4.index t 0 * 256 + 1 * r.val = R.val; rw [h0]; omega
  | ⟨1, _⟩ => show win0_4.index t 1 * 2048 + 1 * d.val = d.val; rw [h1]; omega

/-- The block of the one mixer's gates. -/
theorem ggBlock (t : Fin cfg0.N) (r : Fin 256) (n : Fin 2048) (R : Fin 32768) (hR : R.val = 256 * t.val + r.val) :
    (X0_2 m c t : S256x2048.Idx → EReal) (ix2 r n) = argP m c R (gdnCol n) := by
  unfold X0_2 Pipeline.Window.fill
  refine (dif_pos (moved0_2 t (ix2 r n))).trans ?_
  unfold iblk argP
  rw [View.read_apply]
  show V m c main_arg2 _ = _
  rw [V_main_arg2]
  congr 1
  funext a
  apply Fin.ext
  obtain ⟨-, -, ⟨h0, h1⟩, -⟩ := rows_index t
  match a with
  | ⟨0, _⟩ => show win0_2.index t 0 * 256 + 1 * r.val = R.val; rw [h0]; omega
  | ⟨1, _⟩ => show win0_2.index t 1 * 2048 + 1 * n.val = 4096 + n.val; rw [h1]; omega

/-- The block of the other mixer's gates. -/
theorem gsBlock (t : Fin cfg0.N) (r : Fin 256) (n : Fin 2048) (R : Fin 32768) (hR : R.val = 256 * t.val + r.val) :
    (X0_3 m c t : S256x2048.Idx → EReal) (ix2 r n) = argP m c R (swaCol n) := by
  unfold X0_3 Pipeline.Window.fill
  refine (dif_pos (moved0_3 t (ix2 r n))).trans ?_
  unfold iblk argP
  rw [View.read_apply]
  show V m c main_arg2 _ = _
  rw [V_main_arg2]
  congr 1
  funext a
  apply Fin.ext
  obtain ⟨-, -, -, ⟨h0, h1⟩, -⟩ := rows_index t
  match a with
  | ⟨0, _⟩ => show win0_3.index t 0 * 256 + 1 * r.val = R.val; rw [h0]; omega
  | ⟨1, _⟩ => show win0_3.index t 1 * 2048 + 1 * n.val = 6144 + n.val; rw [h1]; omega

/-- The one mixer's projection, cast and staged whole. -/
theorem wgBlock (t : Fin cfg0.N) (k : Fin 1024) (n : Fin 2048) : (iblk m c 5 t : S1024x2048.Idx → EReal) (ix2 k n) = argWg m c k n := by
  unfold iblk argWg
  rw [View.read_apply]
  show V m c main_v0 _ = _
  entry_read
  refine congrArg (m ((c : Thread nD τ).loc main_arg4) : S1024x2048.Idx → EReal) (funext fun a => Fin.ext ?_)
  obtain ⟨⟨h0, h1⟩, -⟩ := whole_index t
  match a with
  | ⟨0, _⟩ => show win0_5.index t 0 * 1024 + 1 * k.val = k.val; rw [h0]; omega
  | ⟨1, _⟩ => show win0_5.index t 1 * 2048 + 1 * n.val = n.val; rw [h1]; omega

/-- The other mixer's projection, cast and staged whole. -/
theorem wsBlock (t : Fin cfg0.N) (k : Fin 1024) (n : Fin 2048) : (iblk m c 6 t : S1024x2048.Idx → EReal) (ix2 k n) = argWs m c k n := by
  unfold iblk argWs
  rw [View.read_apply]
  show V m c main_v1 _ = _
  entry_read
  refine congrArg (m ((c : Thread nD τ).loc main_arg5) : S1024x2048.Idx → EReal) (funext fun a => Fin.ext ?_)
  obtain ⟨-, ⟨h0, h1⟩, -⟩ := whole_index t
  match a with
  | ⟨0, _⟩ => show win0_6.index t 0 * 1024 + 1 * k.val = k.val; rw [h0]; omega
  | ⟨1, _⟩ => show win0_6.index t 1 * 2048 + 1 * n.val = n.val; rw [h1]; omega

/-- The merge's output weight, cast and staged whole. -/
theorem woBlock (t : Fin cfg0.N) (k : Fin 2048) (n : Fin 2048) : (iblk m c 7 t : S2048x2048.Idx → EReal) (ix2 k n) = argWo m c k n := by
  unfold iblk argWo
  rw [View.read_apply]
  show V m c main_v2 _ = _
  entry_read
  refine congrArg (m ((c : Thread nD τ).loc main_arg6) : S2048x2048.Idx → EReal) (funext fun a => Fin.ext ?_)
  obtain ⟨-, -, ⟨h0, h1⟩, -⟩ := whole_index t
  match a with
  | ⟨0, _⟩ => show win0_7.index t 0 * 2048 + 1 * k.val = k.val; rw [h0]; omega
  | ⟨1, _⟩ => show win0_7.index t 1 * 2048 + 1 * n.val = n.val; rw [h1]; omega

/-- The query weight, cast and staged whole. -/
theorem wqBlock (t : Fin cfg0.N) (k : Fin 2048) (n : Fin 512) : (iblk m c 9 t : S2048x512.Idx → EReal) (ix2 k n) = argWq m c k n := by
  unfold iblk argWq
  rw [View.read_apply]
  show V m c main_v4 _ = _
  entry_read
  refine congrArg (m ((c : Thread nD τ).loc main_arg8) : S2048x512.Idx → EReal) (funext fun a => Fin.ext ?_)
  obtain ⟨-, -, -, -, ⟨h0, h1⟩, -⟩ := whole_index t
  match a with
  | ⟨0, _⟩ => show win0_9.index t 0 * 2048 + 1 * k.val = k.val; rw [h0]; omega
  | ⟨1, _⟩ => show win0_9.index t 1 * 512 + 1 * n.val = n.val; rw [h1]; omega

/-- The memory's output weight, cast and staged whole. -/
theorem wmBlock (t : Fin cfg0.N) (k : Fin 512) (n : Fin 2048) : (iblk m c 12 t : S512x2048.Idx → EReal) (ix2 k n) = argWm m c k n := by
  unfold iblk argWm
  rw [View.read_apply]
  show V m c main_v5 _ = _
  entry_read
  refine congrArg (m ((c : Thread nD τ).loc main_arg11) : S512x2048.Idx → EReal) (funext fun a => Fin.ext ?_)
  obtain ⟨-, -, -, -, -, h0, h1⟩ := whole_index t
  match a with
  | ⟨0, _⟩ => show win0_12.index t 0 * 512 + 1 * k.val = k.val; rw [h0]; omega
  | ⟨1, _⟩ => show win0_12.index t 1 * 2048 + 1 * n.val = n.val; rw [h1]; omega

/-- The place of an entry of a one-row array in row-major order. -/
theorem rowMajor_row (y : S1x2048.Idx) : (S1x2048.rowMajor y).val = (y 0).val * 2048 + (y 1).val := by
  rw [Shape.rowMajor_val_two]; rfl

/-- The query normalisation's gain, staged whole at every point. -/
theorem gqBlock (t : Fin cfg0.N) (d : Fin 2048) : (iblk m c 8 t : S1x2048.Idx → EReal) (ix2 0 d) = argGq m c d := by
  unfold iblk argGq
  rw [View.read_apply]
  show V m c main_v3 _ = _
  entry_read
  obtain ⟨-, -, -, ⟨h0, h1⟩, -⟩ := whole_index t
  refine shapeCast_apply _ _ _ (ix1 d) ?_
  rw [Shape.rowMajor_val_one]
  refine Eq.trans ?_ (rowMajor_row _).symm
  show d.val = (win0_8.index t 0 * 1 + 1 * 0) * 2048 + (win0_8.index t 1 * 2048 + 1 * d.val)
  rw [h0, h1]; omega

/-- The block of the memory's keys: the sequence of the point's rows. -/
theorem kBlock (t : Fin cfg0.N) (s : Fin 256) (j : Fin 512) (b : Fin 16) (hb : b.val = t.val / 8) :
    (iblk m c 10 t : S1x256x512.Idx → EReal) (ix3 0 s j) = argK m c b s j := by
  unfold iblk argK
  rw [View.read_apply]
  show V m c main_arg9 _ = _
  rw [V_main_arg9]
  congr 1
  funext a
  apply Fin.ext
  obtain ⟨⟨h0, h1, h2⟩, -⟩ := mem_index t
  match a with
  | ⟨0, _⟩ => show win0_10.index t 0 * 1 + 1 * 0 = b.val; rw [h0]; omega
  | ⟨1, _⟩ => show win0_10.index t 1 * 256 + 1 * s.val = s.val; rw [h1]; omega
  | ⟨2, _⟩ => show win0_10.index t 2 * 512 + 1 * j.val = j.val; rw [h2]; omega

/-- The block of the memory's values: the sequence of the point's rows. -/
theorem vBlock (t : Fin cfg0.N) (s : Fin 256) (j : Fin 512) (b : Fin 16) (hb : b.val = t.val / 8) :
    (iblk m c 11 t : S1x256x512.Idx → EReal) (ix3 0 s j) = argV m c b s j := by
  unfold iblk argV
  rw [View.read_apply]
  show V m c main_arg10 _ = _
  rw [V_main_arg10]
  congr 1
  funext a
  apply Fin.ext
  obtain ⟨-, h0, h1, h2⟩ := mem_index t
  match a with
  | ⟨0, _⟩ => show win0_11.index t 0 * 1 + 1 * 0 = b.val; rw [h0]; omega
  | ⟨1, _⟩ => show win0_11.index t 1 * 256 + 1 * s.val = s.val; rw [h1]; omega
  | ⟨2, _⟩ => show win0_11.index t 2 * 512 + 1 * j.val = j.val; rw [h2]; omega

/-- What a point leaves: the rows of the layer. -/
theorem point_apply (t : Fin cfg0.N) (r : Fin 256) (d : Fin 2048) (R : Fin 32768) (hR : R.val = 256 * t.val + r.val) :
    recallBlock (F := Ideal) (k0_pay2 (iblk m c 0 t) (iblk m c 5 t) (iblk m c 1 t) (iblk m c 6 t) (X0_2 m c t) (X0_3 m c t) (iblk m c 4 t) (iblk m c 7 t))
      (k0_pay4 (k0_pay3 (iblk m c 0 t) (iblk m c 5 t) (iblk m c 1 t) (iblk m c 6 t) (X0_2 m c t) (X0_3 m c t) (iblk m c 4 t) (iblk m c 7 t) (iblk m c 8 t)) (iblk m c 9 t))
      (iblk m c 10 t) (iblk m c 11 t) (iblk m c 12 t) (ix2 r d)
      = layer (argOg m c) (argOs m c) (argP m c) (argX m c) (argWg m c) (argWs m c) (argWo m c) (argGq m c) (argWq m c) (argK m c) (argV m c) (argWm m c) R d := by
  have hb : (seqOf R).val = t.val / 8 := by show R.val / 2048 = t.val / 8; omega
  have hx : ∀ d : Fin 2048, k0_pay2 (F := Ideal) (iblk m c 0 t) (iblk m c 5 t) (iblk m c 1 t) (iblk m c 6 t) (X0_2 m c t) (X0_3 m c t) (iblk m c 4 t) (iblk m c 7 t) (ix2 r d)
      = merged (argOg m c) (argOs m c) (argP m c) (argX m c) (argWg m c) (argWs m c) (argWo m c) R d := fun d => by
    refine (mixed_apply (iblk m c 0 t) (iblk m c 1 t) (X0_2 m c t) (X0_3 m c t) (iblk m c 4 t) (iblk m c 5 t) (iblk m c 6 t) (iblk m c 7 t) r d).trans ?_
    unfold merged
    simp only [ogBlock m c t r _ R hR, osBlock m c t r _ R hR, ggBlock m c t r _ R hR, gsBlock m c t r _ R hR, xBlock m c t r _ R hR, wgBlock, wsBlock, woBlock]
  have hq : ∀ j : Fin 512, k0_pay4 (F := Ideal) (k0_pay3 (iblk m c 0 t) (iblk m c 5 t) (iblk m c 1 t) (iblk m c 6 t) (X0_2 m c t) (X0_3 m c t) (iblk m c 4 t) (iblk m c 7 t) (iblk m c 8 t)) (iblk m c 9 t) (ix2 r j)
      = query (merged (argOg m c) (argOs m c) (argP m c) (argX m c) (argWg m c) (argWs m c) (argWo m c) R) (argGq m c) (argWq m c) j := fun j => by
    refine (query_apply _ (iblk m c 9 t) r j).trans ?_
    unfold query
    refine Finset.sum_congr rfl fun k _ => congrArg₂ (· * ·) ((norm_apply (iblk m c 0 t) (iblk m c 1 t) (X0_2 m c t) (X0_3 m c t) (iblk m c 4 t) (iblk m c 5 t) (iblk m c 6 t) (iblk m c 7 t) (iblk m c 8 t) r k).trans ?_) (wqBlock m c t k j)
    exact congrArg₂ (Cert.Proof.Value.rowNorm · · k) (funext hx) (funext fun d => gqBlock m c t d)
  refine (recallBlock_apply _ _ (iblk m c 10 t) (iblk m c 11 t) (iblk m c 12 t) r d).trans ?_
  unfold layer recall
  refine congrArg₂ (· + ·) (hx d) (Finset.sum_congr rfl fun j _ => congrArg₂ (· * ·) ?_ (wmBlock m c t j d))
  rw [show (fun j => _) = _ from funext hq,
    show (fun (s : Fin 256) (j : Fin 512) => (iblk m c 10 t : S1x256x512.Idx → EReal) (ix3 0 s j)) = argK m c (seqOf R) from funext fun s => funext fun j => kBlock m c t s j _ hb,
    show (fun (s : Fin 256) (j : Fin 512) => (iblk m c 11 t : S1x256x512.Idx → EReal) (ix3 0 s j)) = argV m c (seqOf R) from funext fun s => funext fun j => vBlock m c t s j _ hb]

/-- The array the call leaves is the layer of its arguments. -/
theorem result_apply (y : S32768x2048.Idx) :
    ((dats m 0 c).arrAt 13 cfg0.N : S32768x2048.Idx → EReal) y
      = layer (argOg m c) (argOs m c) (argP m c) (argX m c) (argWg m c) (argWs m c) (argWo m c) (argGq m c) (argWq m c) (argK m c) (argV m c) (argWm m c) (y 0) (y 1) := by
  have hy : (y 0).val < 32768 := (y 0).isLt
  have ht : (y 0).val / 256 < cfg0.N := by show _ < 128; omega
  have hb := congrFun (Cert.Kernel4Ideal.Value.blocks13 m c ⟨_, ht⟩ (flush0_13 _)) (ix2 (⟨(y 0).val % 256, Nat.mod_lt _ (by omega)⟩ : Fin 256) (y 1) : S256x2048.Idx)
  rw [Cert.Kernel4Ideal.Value.flushed13_A, out_A, View.read_apply] at hb
  refine Eq.trans (congrArg ((dats m 0 c).arrAt 13 cfg0.N : S32768x2048.Idx → EReal) (funext fun a => Fin.ext ?_)) (hb.trans (point_apply m c _ _ (y 1) (y 0) ?_))
  · obtain ⟨-, -, -, -, -, h0, h1⟩ := rows_index ⟨(y 0).val / 256, ht⟩
    have h0' : win0_13.index ⟨(y 0).val / 256, ht⟩ 0 = (y 0).val / 256 := h0
    match a with
    | ⟨0, _⟩ => show (y 0).val = win0_13.index ⟨(y 0).val / 256, ht⟩ 0 * 256 + 1 * ((y 0).val % 256); rw [h0']; omega
    | ⟨1, _⟩ => show (y 1).val = win0_13.index ⟨(y 0).val / 256, ht⟩ 1 * 2048 + 1 * (y 1).val; rw [h1]; omega
  · show (y 0).val = 256 * ((y 0).val / 256) + (y 0).val % 256; omega

end Cert.Proof.Merge
-- ==== Proof.Merge.Reference.lean ====
/-
  The merge reference's result read at an index, at the exact values: the layer of its arguments.
-/
module

public import proofs.«01_k».proof.Proof.Merge.Spec
public import proofs.«01_k».proof.Proof.Ffn.Reference
public import proofs.«01_k».proof.Proof.Gen.Reference4Ideal.Run
public import Idealize.ShloMosaic.Lib.IdealHost

@[expose] public section

noncomputable section

namespace Cert.Proof.Merge

open Idealize.ShloMosaic Idealize.ShloMosaic.ValueIdx Idealize.ShloMosaic.TcCoe
open Cert.Reference4Ideal Cert.Reference4Ideal.Facts₀ Cert.Reference4Ideal.Facts
open Cert.Proof.Value (rowNorm refNorm)
open Cert.Proof.Ffn (gainRow)

section Merged

variable (Og Os : FVec Ideal S32768x1024 .bf16) (P : FVec Ideal S32768x9984 .f32) (X : FVec Ideal S32768x2048 .f32) (Wg Ws : FVec Ideal S1024x2048 .f32) (Wo : FVec Ideal S2048x2048 .f32)

/-- The quotient that the reference spells for a gate. -/
def refGate (g : FVec Ideal S32768x2048 .f32) : FVec Ideal S32768x2048 .f32 :=
  Host.divf (broadcastInDim S32768x2048 ![] bcast_S_S32768x2048 (constant S_ .f32 0x3F800000#32))
    (addf (broadcastInDim S32768x2048 ![] bcast_S_S32768x2048 (constant S_ .f32 0x3F800000#32)) (Host.exp (Host.negf g)))

/-- A mixer's rows through its projection. -/
def refMixer (O : FVec Ideal S32768x1024 .bf16) (W : FVec Ideal S1024x2048 .f32) : FVec Ideal S32768x2048 .f32 :=
  Host.dotGeneral dot_S32768x1024_S1024x2048_S32768x2048_1_0_0_1_n_n none (extf .f32 O bitsLt_bf16_f32) W

/-- The two mixers, each under its gate. -/
def refMix : FVec Ideal S32768x2048 .f32 :=
  addf (mulf (refGate (extractStridedSlice S32768x2048 ![0, 4096] P slices_S32768x9984_S32768x2048_0_4096)) (refMixer Og Wg))
    (mulf (refGate (extractStridedSlice S32768x2048 ![0, 6144] P slices_S32768x9984_S32768x2048_0_6144)) (refMixer Os Ws))

/-- The reference's residual stream after the merge. -/
def refMerged : FVec Ideal S32768x2048 .f32 :=
  addf X (Host.dotGeneral dot_S32768x2048_S2048x2048_S32768x2048_1_0_0_1_n_n none (refMix Og Os P Wg Ws) Wo)

/-- The quotient is the logistic function. -/
theorem refGate_apply (g : FVec Ideal S32768x2048 .f32) (i : S32768x2048.Idx) : refGate g i = Ideal.logistic (g i) := by
  have h1 : broadcastInDim S32768x2048 ![] bcast_S_S32768x2048 (constant (F := Ideal) S_ .f32 0x3F800000#32) i = (1 : EReal) :=
    Ideal.ofBits_one_f32
  unfold refGate
  show Ideal.div (broadcastInDim S32768x2048 ![] bcast_S_S32768x2048 (constant (F := Ideal) S_ .f32 0x3F800000#32) i)
    (broadcastInDim S32768x2048 ![] bcast_S_S32768x2048 (constant (F := Ideal) S_ .f32 0x3F800000#32) i + Ideal.exp (-(g i))) = _
  rw [h1]
  rfl

/-- An entry of a mixer's projection. -/
theorem refMixer_apply (O : FVec Ideal S32768x1024 .bf16) (W : FVec Ideal S1024x2048 .f32) (r : Fin 32768) (n : Fin 2048) :
    refMixer O W (ix2 r n) = ∑ k : Fin 1024, (O (ix2 r k) : EReal) * W (ix2 k n) := by
  refine (Ideal.dotGeneral_apply _ _ _ _ _ _).trans ?_
  refine (Equiv.sum_comp (contrEquiv1 dot_S32768x1024_S1024x2048_S32768x2048_1_0_0_1_n_n 1024 rfl rfl).symm _).symm.trans ?_
  refine Finset.sum_congr rfl fun k _ => congrArg₂ (· * ·) (congrArg (O : S32768x1024.Idx → EReal) ?_) (congrArg W ?_)
  · funext a; fin_cases a <;> rfl
  · funext a; fin_cases a <;> rfl

/-- An entry of the two gated mixers. -/
theorem refMix_apply (r : Fin 32768) (n : Fin 2048) :
    refMix Og Os P Wg Ws (ix2 r n)
      = Ideal.logistic (P (ix2 r (gdnCol n))) * (∑ k : Fin 1024, (Og (ix2 r k) : EReal) * Wg (ix2 k n))
        + Ideal.logistic (P (ix2 r (swaCol n))) * ∑ k : Fin 1024, (Os (ix2 r k) : EReal) * Ws (ix2 k n) := by
  unfold refMix
  refine congrArg₂ (· + ·) (congrArg₂ (· * ·) ((refGate_apply _ _).trans (congrArg Ideal.logistic ?_)) (refMixer_apply Og Wg r n))
    (congrArg₂ (· * ·) ((refGate_apply _ _).trans (congrArg Ideal.logistic ?_)) (refMixer_apply Os Ws r n))
  · exact extractStridedSlice_apply _ _ _ _ (ix2 r (gdnCol n)) (fun a => by
      match a with
      | ⟨0, _⟩ => show r.val = 0 + r.val; omega
      | ⟨1, _⟩ => rfl)
  · exact extractStridedSlice_apply _ _ _ _ (ix2 r (swaCol n)) (fun a => by
      match a with
      | ⟨0, _⟩ => show r.val = 0 + r.val; omega
      | ⟨1, _⟩ => rfl)

/-- An entry of the reference's residual stream after the merge. -/
theorem refMerged_apply (r : Fin 32768) (d : Fin 2048) :
    refMerged Og Os P X Wg Ws Wo (ix2 r d)
      = merged (fun r k => Og (ix2 r k)) (fun r k => Os (ix2 r k)) (fun r n => P (ix2 r n)) (fun r d => X (ix2 r d)) (fun k n => Wg (ix2 k n))
          (fun k n => Ws (ix2 k n)) (fun n d => Wo (ix2 n d)) r d := by
  unfold refMerged merged mixed
  refine congrArg (_ + ·) ?_
  refine (Ideal.dotGeneral_apply _ _ _ _ _ _).trans ?_
  refine (Equiv.sum_comp (contrEquiv1 dot_S32768x2048_S2048x2048_S32768x2048_1_0_0_1_n_n 2048 rfl rfl).symm _).symm.trans ?_
  refine Finset.sum_congr rfl fun n _ => congrArg₂ (· * ·) ?_ (congrArg Wo ?_)
  · refine Eq.trans (congrArg (refMix Og Os P Wg Ws) (a₂ := ix2 r n) ?_) (refMix_apply Og Os P Wg Ws r n)
    funext a; fin_cases a <;> rfl
  · funext a; fin_cases a <;> rfl

end Merged

section Recall

variable (X : FVec Ideal S32768x2048 .f32) (Gq : FVec Ideal S2048 .f32) (Wq : FVec Ideal S2048x512 .f32) (K V : FVec Ideal S16x256x512 .bf16) (Wm : FVec Ideal S512x2048 .f32)

/-- Row `s` of sequence `b`. -/
def rowOf (b : Fin 16) (s : Fin 2048) : Fin 32768 := ⟨2048 * b.val + s.val, by omega⟩

/-- The queries, all heads side by side. -/
def refQuery : FVec Ideal S32768x512 .f32 :=
  Host.dotGeneral dot_S32768x2048_S2048x512_S32768x512_1_0_0_1_n_n none (refNorm X (gainRow Gq)) Wq

/-- The memory's keys or values, head by head. -/
def refMem (M : FVec Ideal S16x256x512 .bf16) : FVec Ideal S16x256x4x128 .f32 :=
  shapeCast _ (extf .f32 M bitsLt_bf16_f32) shapeCasts_S16x256x512_S16x256x4x128

/-- The scores of every head. -/
def refScores (Q : FVec Ideal S32768x512 .f32) : FVec Ideal S16x4x2048x256 .f32 :=
  mulf (Host.dotGeneral dot_S16x2048x4x128_S16x256x4x128_S16x4x2048x256_3_3_1_1_02_02 none (shapeCast _ Q shapeCasts_S32768x512_S16x2048x4x128) (refMem K))
    (broadcastInDim S16x4x2048x256 ![] bcast_S_S16x4x2048x256 (constant S_ .f32 0x3DB504F3#32))

/-- A value per row of scores, along the row. -/
def along (v : FVec Ideal S16x4x2048 .f32) : FVec Ideal S16x4x2048x256 .f32 :=
  broadcastInDim S16x4x2048x256 ![0, 1, 2, 3] bcast_S16x4x2048x1_S16x4x2048x256_0_1_2_3 (broadcastInDim S16x4x2048x1 ![0, 1, 2] bcast_S16x4x2048_S16x4x2048x1_0_1_2 v)

/-- The largest of each row of scores. -/
def refTop (s : FVec Ideal S16x4x2048x256 .f32) : FVec Ideal S16x4x2048 .f32 :=
  maximumf (broadcastInDim S16x4x2048 ![] bcast_S_S16x4x2048 (constant S_ .f32 0xFF800000#32))
    (Host.reduce FloatOps.maximumf s (constant S_ .f32 0xFF800000#32) reducesTo_S16x4x2048x256_S16x4x2048_d3 h_S_)

/-- The exponentials of the scores less the largest. -/
def refExp (s : FVec Ideal S16x4x2048x256 .f32) : FVec Ideal S16x4x2048x256 .f32 := Host.exp (subf s (along (refTop s)))

/-- The softmax of every row of scores. -/
def refSoftmax (s : FVec Ideal S16x4x2048x256 .f32) : FVec Ideal S16x4x2048x256 .f32 :=
  Host.divf (refExp s) (along (Host.reduceAdd (refExp s) (constant S_ .f32 0x00000000#32) reducesTo_S16x4x2048x256_S16x4x2048_d3 h_S_))

/-- What every head reads from the memory, a row's heads side by side. -/
def refRead (p : FVec Ideal S16x4x2048x256 .f32) : FVec Ideal S32768x512 .f32 :=
  shapeCast _ (transpose S16x2048x4x128 [0, 3, 1, 2] (Host.dotGeneral dot_S16x256x4x128_S16x4x2048x256_S16x4x128x2048_1_3_3_2_02_01 none (refMem V) p)
    transposes_S16x4x128x2048_S16x2048x4x128_0_3_1_2) shapeCasts_S16x2048x4x128_S32768x512

/-- The reference's residual stream after the attention to memory. -/
def refRecall : FVec Ideal S32768x2048 .f32 :=
  addf X (Host.dotGeneral dot_S32768x512_S512x2048_S32768x2048_1_0_0_1_n_n none (refRead V (refSoftmax (refScores K (refQuery X Gq Wq)))) Wm)

/-- An entry of the queries. -/
theorem refQuery_apply (r : Fin 32768) (j : Fin 512) :
    refQuery X Gq Wq (ix2 r j) = query (fun d => X (ix2 r d)) (fun d => Gq (ix1 d)) (fun k j => Wq (ix2 k j)) j := by
  unfold query
  refine (Ideal.dotGeneral_apply _ _ _ _ _ _).trans ?_
  refine (Equiv.sum_comp (contrEquiv1 dot_S32768x2048_S2048x512_S32768x512_1_0_0_1_n_n 2048 rfl rfl).symm _).symm.trans ?_
  refine Finset.sum_congr rfl fun k _ => congrArg₂ (· * ·) ?_ (congrArg Wq ?_)
  · refine Eq.trans (congrArg (refNorm X (gainRow Gq)) (a₂ := ix2 r k) ?_) (Ffn.norm_apply X Gq r k)
    funext a; fin_cases a <;> rfl
  · funext a; fin_cases a <;> rfl

/-- The place of an entry of the queries split into sequences and heads, in row-major order. -/
theorem rowMajor_split (b : Fin 16) (s : Fin 2048) (h : Fin 4) (e : Fin 128) :
    (S32768x512.rowMajor (ix2 (rowOf b s) (col h e))).val = (S16x2048x4x128.rowMajor (ix4 b s h e)).val := by
  rw [Shape.rowMajor_val_two, Shape.rowMajor_val_four]
  show (2048 * b.val + s.val) * 512 + (128 * h.val + e.val) = ((b.val * 2048 + s.val) * 4 + h.val) * 128 + e.val
  omega

/-- An entry of the memory's keys or values of a head. -/
theorem refMem_apply (M : FVec Ideal S16x256x512 .bf16) (b : Fin 16) (t : Fin 256) (h : Fin 4) (e : Fin 128) :
    refMem M (ix4 b t h e) = (M (ix3 b t (col h e)) : EReal) := by
  refine shapeCast_apply (s := S16x256x512) _ _ _ (ix3 b t (col h e)) ?_
  rw [Shape.rowMajor_val_three, Shape.rowMajor_val_four]
  show (b.val * 256 + t.val) * 512 + (128 * h.val + e.val) = ((b.val * 256 + t.val) * 4 + h.val) * 128 + e.val
  omega

/-- A head's score of a row against a token of its sequence's memory. -/
theorem refScores_apply (Q : FVec Ideal S32768x512 .f32) (b : Fin 16) (h : Fin 4) (s : Fin 2048) (t : Fin 256) :
    refScores K Q (ix4 b h s t) = score (fun j => Q (ix2 (rowOf b s) j)) (fun t j => K (ix3 b t j)) h t := by
  unfold refScores score
  refine congrArg (· * _) ?_
  refine (Ideal.dotGeneral_apply _ _ _ _ _ _).trans ?_
  refine (Equiv.sum_comp (contrEquiv1 dot_S16x2048x4x128_S16x256x4x128_S16x4x2048x256_3_3_1_1_02_02 128 rfl rfl).symm _).symm.trans ?_
  refine Finset.sum_congr rfl fun e _ => congrArg₂ (· * ·) ?_ ?_
  · refine Eq.trans (congrArg (shapeCast _ Q shapeCasts_S32768x512_S16x2048x4x128) (a₂ := ix4 b s h e) ?_)
      (shapeCast_apply (s := S32768x512) Q _ _ (ix2 (rowOf b s) (col h e)) (rowMajor_split b s h e))
    funext a; fin_cases a <;> rfl
  · refine Eq.trans (congrArg (refMem K) (a₂ := ix4 b t h e) ?_) (refMem_apply K b t h e)
    funext a; fin_cases a <;> rfl

/-- A value along its row. -/
theorem along_apply (v : FVec Ideal S16x4x2048 .f32) (b : Fin 16) (h : Fin 4) (s : Fin 2048) (t : Fin 256) : along v (ix4 b h s t) = v (ix3 b h s) := by
  refine (broadcastInDim_apply _ _ _ _ (ix4 b h s (0 : Fin 1)) (fun a => by fin_cases a <;> rfl)).trans ?_
  exact broadcastInDim_apply _ _ _ _ (ix3 b h s) (fun a => by fin_cases a <;> rfl)

/-- The largest of a row of scores: the second comparison with the least value changes nothing. -/
theorem refTop_apply (x : FVec Ideal S16x4x2048x256 .f32) (b : Fin 16) (h : Fin 4) (s : Fin 2048) :
    refTop x (ix3 b h s) = top fun t => x (ix4 b h s t) := by
  have hr : S16x4x2048x256.Reduces [3] S16x4x2048 := by decide
  haveI : Std.Commutative (FloatOps.maximumf (F := Ideal) (φ := .f32)) := ⟨fun a b => max_comm (a : EReal) b⟩
  haveI : Std.Associative (FloatOps.maximumf (F := Ideal) (φ := .f32)) := ⟨fun a b c => max_assoc (a : EReal) b c⟩
  have hf : Host.reduce (FloatOps.maximumf (F := Ideal) (φ := .f32)) x (constant (F := Ideal) S_ .f32 0xFF800000#32) reducesTo_S16x4x2048x256_S16x4x2048_d3 h_S_ (ix3 b h s)
      = top fun t => x (ix4 b h s t) := by
    rw [Host.reduce_eq_fold_single (FloatOps.maximumf (F := Ideal) (φ := .f32)) x _ reducesTo_S16x4x2048x256_S16x4x2048_d3 hr h_S_ (ix3 b h s)]
    have hx : (x ∘ hr.lift (ix3 b h s) : Fin 256 → EReal) = fun t : Fin 256 => x (ix4 b h s t) := by
      funext t
      refine congrArg x ?_
      funext a; fin_cases a <;> rfl
    exact congrArg (Finset.univ.fold (max : EReal → EReal → EReal) (Ideal.ofBits .f32 0xFF800000#32)) hx
  unfold refTop
  have hm : ∀ A B : FVec Ideal S16x4x2048 .f32, maximumf A B (ix3 b h s) = max (A (ix3 b h s) : EReal) (B (ix3 b h s)) := fun _ _ => rfl
  rw [hm, hf]
  exact max_eq_right ((Finset.le_fold_max _).2 (.inl le_rfl))

/-- An exponential of a score less the largest. -/
theorem refExp_apply (x : FVec Ideal S16x4x2048x256 .f32) (b : Fin 16) (h : Fin 4) (s : Fin 2048) (t : Fin 256) :
    refExp x (ix4 b h s t) = Ideal.exp (x (ix4 b h s t) - top fun t' => x (ix4 b h s t')) :=
  congrArg (fun v : EReal => Ideal.exp (x (ix4 b h s t) - v)) ((along_apply _ b h s t).trans (refTop_apply x b h s))

/-- The softmax of a row of scores. -/
theorem refSoftmax_apply (x : FVec Ideal S16x4x2048x256 .f32) (b : Fin 16) (h : Fin 4) (s : Fin 2048) (t : Fin 256) :
    refSoftmax x (ix4 b h s t) = softmax (fun t' => x (ix4 b h s t')) t := by
  unfold refSoftmax softmax
  refine congrArg₂ Ideal.div (refExp_apply x b h s t) ((along_apply _ b h s t).trans ?_)
  have hr : S16x4x2048x256.Reduces [3] S16x4x2048 := by decide
  refine (Ideal.hostReduceAdd_single reducesTo_S16x4x2048x256_S16x4x2048_d3 hr _ _ _).trans ?_
  rw [show (constant (F := Ideal) S_ .f32 0x00000000#32 _ : EReal) = 0 from Ideal.ofBits_zero_f32, zero_add]
  refine Finset.sum_congr rfl fun j _ => ?_
  have hl : hr.lift (ix3 b h s) j = ix4 b h s j := by funext a; fin_cases a <;> rfl
  rw [hl]
  exact refExp_apply x b h s j

/-- What a head reads from the memory. -/
theorem refRead_apply (p : FVec Ideal S16x4x2048x256 .f32) (b : Fin 16) (s : Fin 2048) (h : Fin 4) (e : Fin 128) :
    refRead V p (ix2 (rowOf b s) (col h e)) = ∑ t : Fin 256, p (ix4 b h s t) * (V (ix3 b t (col h e)) : EReal) := by
  unfold refRead
  refine (shapeCast_apply (s := S16x2048x4x128) _ _ _ (ix4 b s h e) (rowMajor_split b s h e).symm).trans ?_
  refine (transpose_apply _ _ _ _ (ix4 b h e s) (fun a => by fin_cases a <;> rfl)).trans ?_
  refine (Ideal.dotGeneral_apply _ _ _ _ _ _).trans ?_
  refine (Equiv.sum_comp (contrEquiv1 dot_S16x256x4x128_S16x4x2048x256_S16x4x128x2048_1_3_3_2_02_01 256 rfl rfl).symm _).symm.trans ?_
  refine Finset.sum_congr rfl fun t _ => (mul_comm _ _).trans (congrArg₂ (· * ·) (congrArg p ?_) ?_)
  · funext a; fin_cases a <;> rfl
  · refine Eq.trans (congrArg (refMem V) (a₂ := ix4 b t h e) ?_) (refMem_apply V b t h e)
    funext a; fin_cases a <;> rfl

/-- An entry of the reference's residual stream after the attention to memory. -/
theorem refRecall_apply (r : Fin 32768) (d : Fin 2048) :
    refRecall X Gq Wq K V Wm (ix2 r d)
      = recall (fun d => X (ix2 r d)) (fun d => Gq (ix1 d)) (fun k j => Wq (ix2 k j)) (fun t j => K (ix3 (seqOf r) t j)) (fun t j => V (ix3 (seqOf r) t j))
          (fun j d => Wm (ix2 j d)) d := by
  have hrow : r = rowOf (seqOf r) ⟨r.val % 2048, Nat.mod_lt _ (by omega)⟩ := Fin.ext (Nat.div_add_mod r.val 2048).symm
  unfold refRecall recall
  refine congrArg (_ + ·) ?_
  refine (Ideal.dotGeneral_apply _ _ _ _ _ _).trans ?_
  refine (Equiv.sum_comp (contrEquiv1 dot_S32768x512_S512x2048_S32768x2048_1_0_0_1_n_n 512 rfl rfl).symm _).symm.trans ?_
  refine Finset.sum_congr rfl fun j _ => congrArg₂ (· * ·) ?_ (congrArg Wm ?_)
  · have hcol : j = col (headOf j) (laneOf j) := Fin.ext (Nat.div_add_mod j.val 128).symm
    refine Eq.trans (congrArg (refRead V _) (a₂ := ix2 (rowOf (seqOf r) ⟨r.val % 2048, Nat.mod_lt _ (by omega)⟩) (col (headOf j) (laneOf j))) ?_) ?_
    · rw [← hrow, ← hcol]
      funext a; fin_cases a <;> rfl
    · refine (refRead_apply V _ _ _ _ _).trans ?_
      unfold attend
      refine Finset.sum_congr rfl fun t _ => congrArg (· * _) ?_
      refine (refSoftmax_apply _ _ _ _ t).trans (congrArg (softmax · t) (funext fun t' => ?_))
      refine (refScores_apply K _ _ _ _ t').trans (congrArg (fun q => score q _ _ t') (funext fun j' => ?_))
      rw [← hrow]
      exact refQuery_apply X Gq Wq r j'
  · funext a; fin_cases a <;> rfl

end Recall

/-- The result that the reference's run ends with, as the term above. -/
theorem result_eq (m : (ℓ : Loc nD τ sig) → Buf (Elt Ideal) ℓ) (c : Dev nD) :
    Cert.Reference4Ideal.Value.res_main_v60 m c
      = refRecall (refMerged (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) := rfl

/-- Every entry of the reference's result is the layer's. -/
theorem reference_apply (Og Os : FVec Ideal S32768x1024 .bf16) (P : FVec Ideal S32768x9984 .f32) (X : FVec Ideal S32768x2048 .f32) (Wg Ws : FVec Ideal S1024x2048 .f32)
    (Wo : FVec Ideal S2048x2048 .f32) (Gq : FVec Ideal S2048 .f32) (Wq : FVec Ideal S2048x512 .f32) (K V : FVec Ideal S16x256x512 .bf16) (Wm : FVec Ideal S512x2048 .f32)
    (y : S32768x2048.Idx) :
    refRecall (refMerged Og Os P X Wg Ws Wo) Gq Wq K V Wm y
      = layer (fun r k => Og (ix2 r k)) (fun r k => Os (ix2 r k)) (fun r n => P (ix2 r n)) (fun r d => X (ix2 r d)) (fun k n => Wg (ix2 k n))
          (fun k n => Ws (ix2 k n)) (fun n d => Wo (ix2 n d)) (fun d => Gq (ix1 d)) (fun k j => Wq (ix2 k j)) (fun b t j => K (ix3 b t j)) (fun b t j => V (ix3 b t j))
          (fun j d => Wm (ix2 j d)) (y 0) (y 1) := by
  have hy : y = ix2 (y 0) (y 1) := by funext a; fin_cases a <;> rfl
  rw [hy]
  refine (refRecall_apply (refMerged Og Os P X Wg Ws Wo) Gq Wq K V Wm (y 0) (y 1)).trans ?_
  exact congrArg (fun x => recall x _ _ _ _ _ (y 1)) (funext fun d => refMerged_apply Og Os P X Wg Ws Wo (y 0) d)

end Cert.Proof.Merge
-- ==== Proof.Mem.Body.lean ====
/-
  The body of the memory call at one point, for any float values: what it leaves in each output block, and its run.
-/
module

public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

noncomputable section

namespace Cert.Proof.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen

variable {F : FTy → Type} [FloatOps F]

local notation "𝕄" => MT nD τ sig Unit (Elt F) ℕ (UR sig nD τ) ℕ

/-- The rows of a head: every fourth row of the block, from the head's own on. -/
abbrev headRows0 : Rect S4096x128 := ⟨⟨![0, 0], S1024x128.size, ![4, 1], inb_S4096x128_S1024x128_0_0_s_4_1⟩, spos_4_1⟩
/-- The rows of the second head. -/
abbrev headRows1 : Rect S4096x128 := ⟨⟨![1, 0], S1024x128.size, ![4, 1], inb_S4096x128_S1024x128_1_0_s_4_1⟩, spos_4_1⟩
/-- The rows of the third head. -/
abbrev headRows2 : Rect S4096x128 := ⟨⟨![2, 0], S1024x128.size, ![4, 1], inb_S4096x128_S1024x128_2_0_s_4_1⟩, spos_4_1⟩
/-- The rows of the fourth head. -/
abbrev headRows3 : Rect S4096x128 := ⟨⟨![3, 0], S1024x128.size, ![4, 1], inb_S4096x128_S1024x128_3_0_s_4_1⟩, spos_4_1⟩

/-- The index at a row of a head. -/
theorem mem_head {k : ℕ} {hk} {hs} {y : S4096x128.Idx} (h : (y 0).val % 4 = k) :
    y ∈ (⟨⟨![k, 0], S1024x128.size, ![4, 1], hk⟩, hs⟩ : Rect S4096x128).set := by
  refine (LoadRect.mem_set _).2 fun a => ?_
  have h0 : (y 0).val < 4096 := (y 0).isLt
  match a with
  | ⟨0, _⟩ => exact ⟨(y 0).val / 4, by show _ < 1024; omega, by show (y 0).val = k + 4 * ((y 0).val / 4); omega⟩
  | ⟨1, _⟩ => exact ⟨(y 1).val, (y 1).isLt, by show (y 1).val = 0 + 1 * (y 1).val; omega⟩

/-- The four heads' rows are the whole block. -/
theorem cover_heads (p0 p1 p2 p3 : Vec F S1024x128 .f32) (y : S4096x128.Idx) :
    ∃ p ∈ ([⟨headRows3, p3⟩, ⟨headRows2, p2⟩, ⟨headRows1, p1⟩, ⟨headRows0, p0⟩] : List (View.Piece (Elt F) S4096x128 .f32)), y ∈ p.1.set := by
  rcases (by omega : (y 0).val % 4 = 0 ∨ (y 0).val % 4 = 1 ∨ (y 0).val % 4 = 2 ∨ (y 0).val % 4 = 3) with h | h | h | h
  · exact ⟨⟨headRows0, p0⟩, by simp, mem_head h⟩
  · exact ⟨⟨headRows1, p1⟩, by simp, mem_head h⟩
  · exact ⟨⟨headRows2, p2⟩, by simp, mem_head h⟩
  · exact ⟨⟨headRows3, p3⟩, by simp, mem_head h⟩

/-- A block of 512 columns laid out head by head: the four stretches of 128 columns of a row below one another. -/
def byHead (p : FVec F S1024x512 .f32) : Vec F S4096x128 .f32 :=
  View.canon [⟨headRows3, extractStridedSlice S1024x128 ![0, 384] p slices_S1024x512_o0_384_S1024x128⟩,
    ⟨headRows2, extractStridedSlice S1024x128 ![0, 256] p slices_S1024x512_o0_256_S1024x128⟩,
    ⟨headRows1, extractStridedSlice S1024x128 ![0, 128] p slices_S1024x512_o0_128_S1024x128⟩,
    ⟨headRows0, extractStridedSlice S1024x128 ![0, 0] p slices_S1024x512_o0_0_S1024x128⟩]

/-- The offset that every whole block is read and written at. -/
theorem hz : (![0, 0] : Fin 2 → Nat) = fun _ => 0 := funext fun a => by fin_cases a <;> rfl

/-- The one whole block covers itself. -/
theorem cover_rows (p : Vec F S1024x512 .bf16) (y : S1024x512.Idx) :
    ∃ q ∈ ([⟨Rect.unit (s := S1024x512) ![0, 0] S1024x512.size inb_S1024x512_S1024x512_0_0, p⟩] : List (View.Piece (Elt F) S1024x512 .bf16)), y ∈ q.1.set :=
  View.cover_of_tiled [⟨Rect.unit (s := S1024x512) ![0, 0] S1024x512.size inb_S1024x512_S1024x512_0_0, p⟩] S1024x512.size (by rfl) y

/-- What a point computes from its blocks: the normalised rows against a weight. -/
def rowsOf (x : Vec F S1024x2048 .f32) (g : Vec F S1x2048 .f32) (w : Vec F S2048x512 .bf16) : FVec F S1024x512 .f32 := k0_pay7 x g w

/-- The keys and the values are computed in one way. -/
theorem rowsOf_eq (x : Vec F S1024x2048 .f32) (g : Vec F S1x2048 .f32) (w : Vec F S2048x512 .bf16) : k0_pay8 x g w = rowsOf x g w := rfl

/-- The rows cast for the later calls. -/
def castOf (p : FVec F S1024x512 .f32) : Vec F S1024x512 .bf16 := truncf .bf16 p bitsLt_bf16_f32

set_option maxHeartbeats 1000000 in
/-- The body at a point, its inputs read and its outputs at anything, leaves the keys and the values head by head and cast. -/
theorem body_run (c : Dev nD) (E : Set ℕ) (i : grid0.Coords) (arg1 : Memref sig .tc .vmem S1024x2048 .f32) (harg1 : arg1.IsWhole) (arg2 : Memref sig .tc .vmem S1x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1024x512 .bf16) (harg7 : arg7.IsWhole) (arg8 : Memref sig .tc .vmem S1024x512 .bf16) (harg8 : arg8.IsWhole)
    (x0 : Vec F S1024x2048 .f32) (x1 : Vec F S1x2048 .f32) (x2 : Vec F S2048x512 .bf16) (x3 : Vec F S2048x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (byHead (rowsOf x0 x1 x2)) ∗ owns (c : Thread nD τ) arg6 fullShare (byHead (rowsOf x0 x1 x3)) ∗ owns (c : Thread nD τ) arg7 fullShare (castOf (rowsOf x0 x1 x2)) ∗ owns (c : Thread nD τ) arg8 fullShare (castOf (rowsOf x0 x1 x3))) -∗ K ⟨⟩))
      ⊢ wp frame (wpE (defs₀ (F := F)) Variants.none c none) E (cc0_mem_kv i arg1 harg1 arg2 harg2 arg3 harg3 arg4 harg4 arg5 harg5 arg6 harg6 arg7 harg7 arg8 harg8) K := by
  simp only [cc0_mem_kv_eq_skeleton]; unfold cc0_mem_kv_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_heads _ _ _ _)).trans ?_
    sl_unfold_words
    simp only [View.readAt_eq_ld, View.ld_unit_zero (S := S1024x2048) hz, View.ld_unit_zero (S := S1x2048) hz, View.ld_unit_zero (S := S2048x512) hz]
    rfl
  isplitl [H5]
  · iexists _; isplitr
    swap; · iexact H5
    ipureintro
    refine (View.read_writes_eq_canon _ _ _ (cover_heads _ _ _ _)).trans ?_
    sl_unfold_words
    simp only [View.readAt_eq_ld, View.ld_unit_zero (S := S1024x2048) hz, View.ld_unit_zero (S := S1x2048) hz, View.ld_unit_zero (S := S2048x512) hz]
    rfl
  isplitl [H6]
  · iexists _; isplitr
    swap; · iexact H6
    ipureintro
    refine (View.read_writes_eq_canon _ _ _ (cover_rows _)).trans ((View.canon_unit_zero hz _ _).trans ?_)
    sl_unfold_words
    simp only [View.readAt_eq_ld, View.ld_unit_zero (S := S1024x2048) hz, View.ld_unit_zero (S := S1x2048) hz, View.ld_unit_zero (S := S2048x512) hz]
    rfl
  iexists _; isplitr
  swap; · iexact H7
  ipureintro
  refine (View.read_writes_eq_canon _ _ _ (cover_rows _)).trans ((View.canon_unit_zero hz _ _).trans ?_)
  sl_unfold_words
  simp only [View.readAt_eq_ld, View.ld_unit_zero (S := S1024x2048) hz, View.ld_unit_zero (S := S1x2048) hz, View.ld_unit_zero (S := S2048x512) hz]
  rfl

end Cert.Proof.Mem

end
-- ==== Proof.Mem.Run.lean ====
/-
  The memory call's run, for any float values: what the pipeline stages and leaves, the frame, and the output arrays block
  by block.
-/
module

public import proofs.«01_k».proof.Proof.Mem.Body

@[expose] public section

noncomputable section

namespace Cert.Proof.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's keys: its normalised rows against the key weight. -/
def keysAt (c : Dev nD) (t : Fin cfg0.N) : FVec F S1024x512 .f32 := rowsOf (iblk m c 0 t) (iblk m c 1 t) (iblk m c 2 t)
/-- A point's values: its normalised rows against the value weight. -/
def valuesAt (c : Dev nD) (t : Fin cfg0.N) : FVec F S1024x512 .f32 := rowsOf (iblk m c 0 t) (iblk m c 1 t) (iblk m c 3 t)

/-- What the pipeline is told of the call: every input block stays, and the outputs hold the keys and the values, laid out
    head by head and cast. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => byHead (keysAt m c t)
    | ⟨5, _⟩ => byHead (valuesAt m c t)
    | ⟨6, _⟩ => castOf (keysAt m c t)
    | ⟨7, _⟩ => castOf (valuesAt m c t)
  Φ _ := Pipeline.ΦA spec0 c
  q _ := fullShare
  owed _ := 0

/-- The arrays are those the region finds. -/
theorem dats_A (c : Dev nD) (w : Fin cfg0.W) : (dats m 0 c).A w = V m c (Pipeline.arrRef spec0 w) := by dsimp only [dats]

/-- The inputs stay. -/
theorem after_in (c : Dev nD) (t : Fin cfg0.N) :
    (dats m 0 c).after 0 t = iblk m c 0 t ∧ (dats m 0 c).after 1 t = iblk m c 1 t ∧ (dats m 0 c).after 2 t = iblk m c 2 t ∧ (dats m 0 c).after 3 t = iblk m c 3 t := by
  dsimp only [dats]; exact ⟨rfl, rfl, rfl, rfl⟩

/-- The outputs hold the point's keys and values. -/
theorem after_out (c : Dev nD) (t : Fin cfg0.N) :
    (dats m 0 c).after 4 t = byHead (keysAt m c t) ∧ (dats m 0 c).after 5 t = byHead (valuesAt m c t)
      ∧ (dats m 0 c).after 6 t = castOf (keysAt m c t) ∧ (dats m 0 c).after 7 t = castOf (valuesAt m c t) := by
  dsimp only [dats]; exact ⟨rfl, rfl, rfl, rfl⟩

/-- Every input's buffer holds its block when the body starts. -/
theorem before_in (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t) :=
  ⟨fun d => before0_0_of m (dats m 0 c) (dats_A m c 0) (fun t => (after_in m c t).1) t d,
    fun d => before0_1_of m (dats m 0 c) (dats_A m c 1) (fun t => (after_in m c t).2.1) t d,
    fun d => before0_2_of m (dats m 0 c) (dats_A m c 2) (fun t => (after_in m c t).2.2.1) t d,
    fun d => before0_3_of m (dats m 0 c) (dats_A m c 3) (fun t => (after_in m c t).2.2.2) t d⟩

/-- What the body starts a point with. -/
def startOf (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it ends the point with. -/
def endOf (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t))

/-- The body takes every point from its start to its end. -/
theorem point_run (c : Dev nD) (t : Fin cfg0.N) :
    startOf m c t ⊢ wp frame (wpE (defs₀ (F := F)) Variants.none c none) Set.univ (bodyAt0 t) (fun _ => endOf m c t) := by
  obtain ⟨b0, b1, b2, b3⟩ := before_in m c t
  obtain ⟨a0, a1, a2, a3⟩ := after_in m c t
  obtain ⟨a4, a5, a6, a7⟩ := after_out m c t
  unfold startOf endOf bodyAt0
  simp only [b0, b1, b2, b3]
  rw [show (dats m 0 c).Φ t.succ = (dats m 0 c).Φ t.castSucc from rfl,
    show (dats m 0 c).owesAt () t.succ = (dats m 0 c).owesAt () t.castSucc from rfl, a0, a1, a2, a3, a4, a5, a6, a7]
  unfold keysAt valuesAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro Hout
  isplitl [HΦ]; · iexact HΦ
  isplitl [Ho]; · iexact Ho
  iexact Hout

/-- The body's obligation to the pipeline, at every point. -/
theorem obligation (c : Dev nD) : BodyObligation (dats (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  exact triple_restated (point_run m c t) rfl .rfl fun _ => .rfl

set_option backward.isDefEq.respectTransparency.types false in
set_option maxHeartbeats 800000 in
/-- The run: every output array as the pipeline leaves it, the rest as it was, every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The run without the counters. -/
theorem run_post : θ_run defs (onTc (τ := τ) (main (F := F))) (s₀ m ρ) (Pipeline.FramePost cfgs (dats m) 0 (V m)) :=
  (θ_run defs _ _).mono (fun _ h => h.1) (run_quiet m ρ)

/-- The call runs to the end, leaves its arguments alone, and every counter reads zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) (run_post m ρ)) ((θ_run defs _ _).mono (fun _ h => h.2) (run_quiet m ρ))

/-- The run with each output array named, the arguments unchanged. -/
theorem run_arrays : θ_run defs (onTc (τ := τ) (main (F := F))) ⟨m, fun _ => 0, ρ⟩ fun r => ∀ c : Dev nD,
      r.2.mem ((c : Thread nD τ).loc main_v4_0) = (dats m 0 c).arrAt 4 cfg0.N
      ∧ r.2.mem ((c : Thread nD τ).loc main_v4_1) = (dats m 0 c).arrAt 5 cfg0.N
      ∧ r.2.mem ((c : Thread nD τ).loc main_v4_2) = (dats m 0 c).arrAt 6 cfg0.N
      ∧ r.2.mem ((c : Thread nD τ).loc main_v4_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 4, (h.1 c).1 5, (h.1 c).1 6, (h.1 c).1 7, h.2 c⟩)
    (θ_run_and (run_post m ρ) (frame_of m ρ (dats m) (dats_A m) (run_post m ρ)))

/-- Each output's blocks of two points are different blocks. -/
theorem index_inj : ∀ t t' : Fin grid0.N, (win0_4.index t = win0_4.index t' → t = t') ∧ (win0_5.index t = win0_5.index t' → t = t')
    ∧ (win0_6.index t = win0_6.index t' → t = t') ∧ (win0_7.index t = win0_7.index t' → t = t') := by
  decide +kernel

/-- The keys' array, read at a point's block: the point's keys head by head. -/
theorem keys_block (c : Dev nD) (t : Fin cfg0.N) : ((cfg0.win 4).blk t).view.read (Elt F) ((dats m 0 c).arrAt 4 cfg0.N) = byHead (keysAt m c t) :=
  ((dats m 0 c).read_blk_arrAt_eq_flushed 4 (fun t t' _ _ hne => (cfg0.win 4).disjoint_blk fun h => hne ((index_inj t t').1 h)) cfg0.N t t.isLt (flush0_4 t)).trans
    (congrArg ((cfg0.win 4).cut (grid0.coords t)) (after_out m c t).1)

/-- The values' array, read at a point's block: the point's values head by head. -/
theorem values_block (c : Dev nD) (t : Fin cfg0.N) : ((cfg0.win 5).blk t).view.read (Elt F) ((dats m 0 c).arrAt 5 cfg0.N) = byHead (valuesAt m c t) :=
  ((dats m 0 c).read_blk_arrAt_eq_flushed 5 (fun t t' _ _ hne => (cfg0.win 5).disjoint_blk fun h => hne ((index_inj t t').2.1 h)) cfg0.N t t.isLt (flush0_5 t)).trans
    (congrArg ((cfg0.win 5).cut (grid0.coords t)) (after_out m c t).2.1)

/-- The cast keys' array, read at a point's block. -/
theorem castKeys_block (c : Dev nD) (t : Fin cfg0.N) : ((cfg0.win 6).blk t).view.read (Elt F) ((dats m 0 c).arrAt 6 cfg0.N) = castOf (keysAt m c t) :=
  ((dats m 0 c).read_blk_arrAt_eq_flushed 6 (fun t t' _ _ hne => (cfg0.win 6).disjoint_blk fun h => hne ((index_inj t t').2.2.1 h)) cfg0.N t t.isLt (flush0_6 t)).trans
    (congrArg ((cfg0.win 6).cut (grid0.coords t)) (after_out m c t).2.2.1)

/-- The cast values' array, read at a point's block. -/
theorem castValues_block (c : Dev nD) (t : Fin cfg0.N) : ((cfg0.win 7).blk t).view.read (Elt F) ((dats m 0 c).arrAt 7 cfg0.N) = castOf (valuesAt m c t) :=
  ((dats m 0 c).read_blk_arrAt_eq_flushed 7 (fun t t' _ _ hne => (cfg0.win 7).disjoint_blk fun h => hne ((index_inj t t').2.2.2 h)) cfg0.N t t.isLt (flush0_7 t)).trans
    (congrArg ((cfg0.win 7).cut (grid0.coords t)) (after_out m c t).2.2.2)

end Cert.Proof.Mem

end
-- ==== Proof.Mem.Same.lean ====
/-
  The memory call as written and at the exact values has one text: its frame, which holds for any float values,
  serves both.
-/
module

public import proofs.«01_k».proof.Proof.Gen.Kernel6
public import proofs.«01_k».proof.Proof.Mem.Run

@[expose] public section

noncomputable section

namespace Cert.Proof.Mem

open Idealize.ShloMosaic Idealize.SL.Sem

variable {F : FTy → Type} [FloatOps F]

/-- The two programs have one table of bodies. -/
theorem bodies_eq : @Cert.Kernel6.defs₀ F _ Cert.Kernel6.Gen.facts = @Cert.Kernel6Ideal.defs₀ F _ Cert.Kernel6Ideal.Gen.facts := by
  unfold Cert.Kernel6.defs₀ Cert.Kernel6Ideal.defs₀
  refine congrArg Defs.onTc (funext fun l => funext fun x => ?_)
  match l, x with
  | 0, (t, s) => rfl
  | ⟨_ + 1, h⟩, _ => exact absurd h (Nat.not_lt.2 (Nat.le_add_left _ _))

/-- The call as written runs to the end, leaves its arguments alone, and every counter reads zero. -/
theorem frame_written (m : (ℓ : Loc Cert.Kernel6.nD Cert.Kernel6.τ Cert.Kernel6.sig) → Buf (Elt F) ℓ) (ρ : Dev Cert.Kernel6.nD → PrngReg) :
    θ_run (Cert.Kernel6.defs (F := F)) (onTc (τ := Cert.Kernel6.τ) (Cert.Kernel6.main (F := F))) ⟨m, fun _ => 0, ρ⟩ fun r =>
      (∀ c : Dev Cert.Kernel6.nD,
        r.2.mem ((c.tc : Thread Cert.Kernel6.nD Cert.Kernel6.τ).loc Cert.Kernel6.main_arg0) = m ((c.tc : Thread Cert.Kernel6.nD Cert.Kernel6.τ).loc Cert.Kernel6.main_arg0)
        ∧ r.2.mem ((c.tc : Thread Cert.Kernel6.nD Cert.Kernel6.τ).loc Cert.Kernel6.main_arg1) = m ((c.tc : Thread Cert.Kernel6.nD Cert.Kernel6.τ).loc Cert.Kernel6.main_arg1)
        ∧ r.2.mem ((c.tc : Thread Cert.Kernel6.nD Cert.Kernel6.τ).loc Cert.Kernel6.main_arg2) = m ((c.tc : Thread Cert.Kernel6.nD Cert.Kernel6.τ).loc Cert.Kernel6.main_arg2)
        ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0 := by
  unfold Cert.Kernel6.defs
  rw [bodies_eq]
  exact frame_any (F := F) m ρ

end Cert.Proof.Mem
-- ==== Proof.Mem.Spec.lean ====
/-
  What the memory call computes, in plain words of its arguments: every token's normalised row against a weight.
-/
module

public import proofs.«01_k».proof.Proof.Value.Kernel

@[expose] public section

noncomputable section

namespace Cert.Proof.Mem

open Idealize.ShloMosaic Idealize.ShloMosaic.ValueIdx
open Cert.Proof.Value (rowNorm)

/-- The row of the `R`th token, sixteen memories of 256 tokens one after another. -/
def token (X : (⟨3, ![16, 256, 2048]⟩ : Shape).Idx → EReal) (R : Fin 4096) (d : Fin 2048) : EReal :=
  X (ix3 (⟨R.val / 256, by omega⟩ : Fin 16) (⟨R.val % 256, by omega⟩ : Fin 256) d)

/-- A token's keys or values: its normalised row against the weight. -/
def entry (X : (⟨3, ![16, 256, 2048]⟩ : Shape).Idx → EReal) (G : (⟨1, ![2048]⟩ : Shape).Idx → EReal) (W : (⟨2, ![2048, 512]⟩ : Shape).Idx → EReal)
    (R : Fin 4096) (n : Fin 512) : EReal :=
  ∑ k : Fin 2048, rowNorm (token X R) (fun j => G (ix1 j)) k * W (ix2 k n)

/-- The token of a row of the layout head by head. -/
def tokenOf (r : Fin 16384) : Fin 4096 := ⟨r.val / 4, by omega⟩

/-- The column of a row and an entry of the layout head by head. -/
def colOf (r : Fin 16384) (e : Fin 128) : Fin 512 := ⟨128 * (r.val % 4) + e.val, by omega⟩

end Cert.Proof.Mem

end
-- ==== Proof.Mem.Result.lean ====
/-
  The arrays that the memory call leaves, read at an index, at the exact values.
-/
module

public import proofs.«01_k».proof.Proof.Mem.Run
public import proofs.«01_k».proof.Proof.Mem.Spec
public import Idealize.ShloMosaic.Lib.Pipeline.ValueKit.Tiles

@[expose] public section

noncomputable section

namespace Cert.Proof.Mem

open Idealize.ShloMosaic Idealize.ShloMosaic.ValueIdx Idealize.ShloMosaic.TcCoe Idealize.SL.Sem
open Cert.Kernel6Ideal Cert.Kernel6Ideal.Gen
open Cert.Proof.Value (rowNorm normRows_apply product_apply)

/-- A point's products, entry by entry. -/
theorem rowsOf_apply (x : S1024x2048.Idx → EReal) (g : S1x2048.Idx → EReal) (w : S2048x512.Idx → EReal) (r : Fin 1024) (n : Fin 512) :
    rowsOf (F := Ideal) x g w (ix2 r n) = ∑ k : Fin 2048, rowNorm (fun j => x (ix2 r j)) (fun j => g (ix2 0 j)) k * w (ix2 k n) := by
  unfold rowsOf k0_pay7
  rw [shapeCast_self]
  refine (product_apply _ w r n).trans (Finset.sum_congr rfl fun k _ => congrArg (· * w (ix2 k n)) ?_)
  unfold k0_pay6
  dsimp only
  rw [shapeCast_self, shapeCast_self]
  exact normRows_apply x g _ _ _ _ r k

/-- Where a head's rows meet an index, its piece holds the row's entry. -/
theorem headPiece (p : S1024x512.Idx → EReal) (k o : ℕ) (hk) (hs) (hsl : S1024x512.Slices ![0, o] S1024x128) (ho : o = 128 * k) (hk4 : k < 4)
    (y : S4096x128.Idx) (r : Fin 1024) (n : Fin 512) (hr : r.val = (y 0).val / 4) (hn : n.val = 128 * ((y 0).val % 4) + (y 1).val) :
    View.RectAt (Val := Elt Ideal) (e := .f32) y (⟨⟨![k, 0], S1024x128.size, ![4, 1], hk⟩, hs⟩ : Rect S4096x128)
      (extractStridedSlice S1024x128 ![0, o] p hsl) (p (ix2 r n)) := by
  intro x hx
  have h0 : (y 0).val = k + 4 * (x 0).val := congrArg (fun z : S4096x128.Idx => (z 0).val) hx.symm
  have h1 : (y 1).val = 0 + 1 * (x 1).val := congrArg (fun z : S4096x128.Idx => (z 1).val) hx.symm
  refine extractStridedSlice_apply _ p hsl x (ix2 r n) fun a => ?_
  match a with
  | ⟨0, _⟩ => show r.val = 0 + (x 0).val; omega
  | ⟨1, _⟩ => show n.val = o + (x 1).val; omega

/-- A block laid out head by head, read at an index: the entry of its token at its head's column. -/
theorem byHead_apply (p : S1024x512.Idx → EReal) (y : S4096x128.Idx) (r : Fin 1024) (n : Fin 512)
    (hr : r.val = (y 0).val / 4) (hn : n.val = 128 * ((y 0).val % 4) + (y 1).val) :
    byHead (F := Ideal) p y = p (ix2 r n) := by
  refine View.canon_eq_of_allAt _ y _ (cover_heads (F := Ideal) _ _ _ _ y) ?_
  exact View.allAt_cons _ _ _ (headPiece p 3 384 _ _ _ rfl (by omega) y r n hr hn)
    (View.allAt_cons _ _ _ (headPiece p 2 256 _ _ _ rfl (by omega) y r n hr hn)
      (View.allAt_cons _ _ _ (headPiece p 1 128 _ _ _ rfl (by omega) y r n hr hn)
        (View.allAt_cons _ _ _ (headPiece p 0 0 _ _ _ rfl (by omega) y r n hr hn) (View.allAt_nil _ _))))

variable (m : (ℓ : Loc nD τ sig) → Buf (Elt Ideal) ℓ) (c : Dev nD)

/-- The memory's tokens. -/
def argX : S16x256x2048.Idx → EReal := m ((c : Thread nD τ).loc main_arg0)
/-- The normalisation's gain. -/
def argG : S2048.Idx → EReal := m ((c : Thread nD τ).loc main_arg1)
/-- The key weight. -/
def argK : S2048x512.Idx → EReal := m ((c : Thread nD τ).loc main_arg2)
/-- The value weight. -/
def argV : S2048x512.Idx → EReal := m ((c : Thread nD τ).loc main_arg3)

/-- Where the blocks of a point lie in their arrays. -/
theorem block_index : ∀ t : Fin grid0.N,
    (win0_0.index t 0 = t.val ∧ win0_0.index t 1 = 0) ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) := by
  decide +kernel

/-- The place of a token's entry in row-major order. -/
theorem place_three (y : S16x256x2048.Idx) : (S16x256x2048.rowMajor y).val = ((y 0).val * 256 + (y 1).val) * 2048 + (y 2).val := by
  rw [Shape.rowMajor_val_three]; rfl

/-- The place of a row's entry in row-major order. -/
theorem place_two (y : S4096x2048.Idx) : (S4096x2048.rowMajor y).val = (y 0).val * 2048 + (y 1).val := by
  rw [Shape.rowMajor_val_two]; rfl

/-- The place of the gain's entry in row-major order. -/
theorem place_gain (y : S1x2048.Idx) : (S1x2048.rowMajor y).val = (y 0).val * 2048 + (y 1).val := by
  rw [Shape.rowMajor_val_two]; rfl

/-- The block of tokens. -/
theorem tokens_block (t : Fin cfg0.N) (r : Fin 1024) (d : Fin 2048) (R : Fin 4096) (hR : R.val = 1024 * t.val + r.val) :
    (iblk m c 0 t : S1024x2048.Idx → EReal) (ix2 r d) = token (argX m c) R d := by
  unfold iblk token argX
  rw [View.read_apply]
  show V m c main_v0 _ = _
  entry_read
  obtain ⟨⟨h0, h1⟩, -⟩ := block_index t
  refine shapeCast_apply _ _ _ (ix3 (⟨R.val / 256, by omega⟩ : Fin 16) (⟨R.val % 256, by omega⟩ : Fin 256) d) ?_
  refine (place_three _).trans (Eq.trans ?_ (place_two _).symm)
  show (R.val / 256 * 256 + R.val % 256) * 2048 + d.val = (win0_0.index t 0 * 1024 + 1 * r.val) * 2048 + (win0_0.index t 1 * 2048 + 1 * d.val)
  rw [h0, h1]; omega

/-- The gain, staged whole at every point. -/
theorem gain_block (t : Fin cfg0.N) (d : Fin 2048) : (iblk m c 1 t : S1x2048.Idx → EReal) (ix2 0 d) = argG m c (ix1 d) := by
  unfold iblk argG
  rw [View.read_apply]
  show V m c main_v1 _ = _
  entry_read
  obtain ⟨-, ⟨h0, h1⟩, -⟩ := block_index t
  refine shapeCast_apply _ _ _ (ix1 d) ?_
  rw [Shape.rowMajor_val_one]
  refine Eq.trans ?_ (place_gain _).symm
  show d.val = (win0_1.index t 0 * 1 + 1 * 0) * 2048 + (win0_1.index t 1 * 2048 + 1 * d.val)
  rw [h0, h1]; omega

/-- The key weight, cast and staged whole at every point. -/
theorem keyWeight_block (t : Fin cfg0.N) (k : Fin 2048) (n : Fin 512) : (iblk m c 2 t : S2048x512.Idx → EReal) (ix2 k n) = argK m c (ix2 k n) := by
  unfold iblk argK
  rw [View.read_apply]
  show V m c main_v2 _ = _
  entry_read
  refine congrArg (m ((c : Thread nD τ).loc main_arg2) : S2048x512.Idx → EReal) (funext fun a => Fin.ext ?_)
  obtain ⟨-, -, ⟨h0, h1⟩, -⟩ := block_index t
  match a with
  | ⟨0, _⟩ => show win0_2.index t 0 * 2048 + 1 * k.val = k.val; rw [h0]; omega
  | ⟨1, _⟩ => show win0_2.index t 1 * 512 + 1 * n.val = n.val; rw [h1]; omega

/-- The value weight, cast and staged whole at every point. -/
theorem valueWeight_block (t : Fin cfg0.N) (k : Fin 2048) (n : Fin 512) : (iblk m c 3 t : S2048x512.Idx → EReal) (ix2 k n) = argV m c (ix2 k n) := by
  unfold iblk argV
  rw [View.read_apply]
  show V m c main_v3 _ = _
  entry_read
  refine congrArg (m ((c : Thread nD τ).loc main_arg3) : S2048x512.Idx → EReal) (funext fun a => Fin.ext ?_)
  obtain ⟨-, -, -, ⟨h0, h1⟩, -⟩ := block_index t
  match a with
  | ⟨0, _⟩ => show win0_3.index t 0 * 2048 + 1 * k.val = k.val; rw [h0]; omega
  | ⟨1, _⟩ => show win0_3.index t 1 * 512 + 1 * n.val = n.val; rw [h1]; omega

/-- A point's keys are those of its tokens. -/
theorem keysAt_apply (t : Fin cfg0.N) (r : Fin 1024) (n : Fin 512) (R : Fin 4096) (hR : R.val = 1024 * t.val + r.val) :
    keysAt m c t (ix2 r n) = entry (argX m c) (argG m c) (argK m c) R n := by
  refine (rowsOf_apply _ _ _ r n).trans (Finset.sum_congr rfl fun k _ => congrArg₂ (· * ·) ?_ (keyWeight_block m c t k n))
  exact congrArg₂ (rowNorm · · k) (funext fun d => tokens_block m c t r d R hR) (funext fun d => gain_block m c t d)

/-- A point's values are those of its tokens. -/
theorem valuesAt_apply (t : Fin cfg0.N) (r : Fin 1024) (n : Fin 512) (R : Fin 4096) (hR : R.val = 1024 * t.val + r.val) :
    valuesAt m c t (ix2 r n) = entry (argX m c) (argG m c) (argV m c) R n := by
  refine (rowsOf_apply _ _ _ r n).trans (Finset.sum_congr rfl fun k _ => congrArg₂ (· * ·) ?_ (valueWeight_block m c t k n))
  exact congrArg₂ (rowNorm · · k) (funext fun d => tokens_block m c t r d R hR) (funext fun d => gain_block m c t d)

/-- An array whose every block is a point's rows laid out head by head holds the rows' entries head by head. -/
theorem heads_apply (A : S16384x128.Idx → EReal) (P : Fin cfg0.N → S1024x512.Idx → EReal) (f : Fin 4096 → Fin 512 → EReal)
    (hA : ∀ (t : Fin cfg0.N) (x : S4096x128.Idx) (y : S16384x128.Idx), (y 0).val = 4096 * t.val + (x 0).val → (y 1).val = (x 1).val → A y = byHead (F := Ideal) (P t) x)
    (hP : ∀ (t : Fin cfg0.N) (r : Fin 1024) (n : Fin 512) (R : Fin 4096), R.val = 1024 * t.val + r.val → P t (ix2 r n) = f R n) (y : S16384x128.Idx) :
    A y = f (tokenOf (y 0)) (colOf (y 0) (y 1)) := by
  have hy : (y 0).val < 16384 := (y 0).isLt
  have ht : (y 0).val / 4096 < cfg0.N := by show _ < 4; omega
  have h1 : (y 1).val < 128 := (y 1).isLt
  refine (hA ⟨_, ht⟩ (ix2 (⟨(y 0).val % 4096, Nat.mod_lt _ (by omega)⟩ : Fin 4096) (y 1) : S4096x128.Idx) y ?_ rfl).trans ?_
  · show (y 0).val = 4096 * ((y 0).val / 4096) + (y 0).val % 4096; omega
  refine (byHead_apply _ _ (⟨(y 0).val % 4096 / 4, by omega⟩ : Fin 1024) (colOf (y 0) (y 1)) rfl ?_).trans (hP _ _ _ _ ?_)
  · show 128 * ((y 0).val % 4) + (y 1).val = 128 * ((y 0).val % 4096 % 4) + (y 1).val; omega
  · show (y 0).val / 4 = 1024 * ((y 0).val / 4096) + (y 0).val % 4096 / 4; omega

/-- An array whose every block is a point's rows holds the rows' entries. -/
theorem rows_apply (A : S4096x512.Idx → EReal) (P : Fin cfg0.N → S1024x512.Idx → EReal) (f : Fin 4096 → Fin 512 → EReal)
    (hA : ∀ (t : Fin cfg0.N) (x : S1024x512.Idx) (y : S4096x512.Idx), (y 0).val = 1024 * t.val + (x 0).val → (y 1).val = (x 1).val → A y = P t x)
    (hP : ∀ (t : Fin cfg0.N) (r : Fin 1024) (n : Fin 512) (R : Fin 4096), R.val = 1024 * t.val + r.val → P t (ix2 r n) = f R n) (y : S4096x512.Idx) :
    A y = f (y 0) (y 1) := by
  have hy : (y 0).val < 4096 := (y 0).isLt
  have ht : (y 0).val / 1024 < cfg0.N := by show _ < 4; omega
  have hs : (y 0).val = 1024 * ((y 0).val / 1024) + (y 0).val % 1024 := by omega
  exact (hA ⟨_, ht⟩ (ix2 (⟨(y 0).val % 1024, Nat.mod_lt _ (by omega)⟩ : Fin 1024) (y 1) : S1024x512.Idx) y hs rfl).trans (hP _ _ _ _ hs)

/-- The keys that the call leaves, head by head. -/
theorem keys_apply (y : S16384x128.Idx) :
    ((dats m 0 c).arrAt 4 cfg0.N : S16384x128.Idx → EReal) y = entry (argX m c) (argG m c) (argK m c) (tokenOf (y 0)) (colOf (y 0) (y 1)) := by
  refine heads_apply _ (keysAt m c) (entry (argX m c) (argG m c) (argK m c)) (fun t x y h0 h1 => ?_) (keysAt_apply m c) y
  have hb := congrFun (keys_block m c t) x
  rw [View.read_apply] at hb
  refine Eq.trans (congrArg ((dats m 0 c).arrAt 4 cfg0.N : S16384x128.Idx → EReal) (funext fun a => Fin.ext ?_)) hb
  obtain ⟨-, -, -, -, ⟨i0, i1⟩, -⟩ := block_index t
  match a with
  | ⟨0, _⟩ => show (y 0).val = win0_4.index t 0 * 4096 + 1 * (x 0).val; rw [i0]; omega
  | ⟨1, _⟩ => show (y 1).val = win0_4.index t 1 * 128 + 1 * (x 1).val; rw [i1]; omega

/-- The values that the call leaves, head by head. -/
theorem values_apply (y : S16384x128.Idx) :
    ((dats m 0 c).arrAt 5 cfg0.N : S16384x128.Idx → EReal) y = entry (argX m c) (argG m c) (argV m c) (tokenOf (y 0)) (colOf (y 0) (y 1)) := by
  refine heads_apply _ (valuesAt m c) (entry (argX m c) (argG m c) (argV m c)) (fun t x y h0 h1 => ?_) (valuesAt_apply m c) y
  have hb := congrFun (values_block m c t) x
  rw [View.read_apply] at hb
  refine Eq.trans (congrArg ((dats m 0 c).arrAt 5 cfg0.N : S16384x128.Idx → EReal) (funext fun a => Fin.ext ?_)) hb
  obtain ⟨-, -, -, -, -, ⟨i0, i1⟩, -⟩ := block_index t
  match a with
  | ⟨0, _⟩ => show (y 0).val = win0_5.index t 0 * 4096 + 1 * (x 0).val; rw [i0]; omega
  | ⟨1, _⟩ => show (y 1).val = win0_5.index t 1 * 128 + 1 * (x 1).val; rw [i1]; omega

/-- The cast keys that the call leaves. -/
theorem castKeys_apply (y : S4096x512.Idx) :
    ((dats m 0 c).arrAt 6 cfg0.N : S4096x512.Idx → EReal) y = entry (argX m c) (argG m c) (argK m c) (y 0) (y 1) := by
  refine rows_apply _ (keysAt m c) (entry (argX m c) (argG m c) (argK m c)) (fun t x y h0 h1 => ?_) (keysAt_apply m c) y
  have hb := congrFun (castKeys_block m c t) x
  rw [View.read_apply] at hb
  refine Eq.trans (congrArg ((dats m 0 c).arrAt 6 cfg0.N : S4096x512.Idx → EReal) (funext fun a => Fin.ext ?_)) hb
  obtain ⟨-, -, -, -, -, -, ⟨i0, i1⟩, -⟩ := block_index t
  match a with
  | ⟨0, _⟩ => show (y 0).val = win0_6.index t 0 * 1024 + 1 * (x 0).val; rw [i0]; omega
  | ⟨1, _⟩ => show (y 1).val = win0_6.index t 1 * 512 + 1 * (x 1).val; rw [i1]; omega

/-- The cast values that the call leaves. -/
theorem castValues_apply (y : S4096x512.Idx) :
    ((dats m 0 c).arrAt 7 cfg0.N : S4096x512.Idx → EReal) y = entry (argX m c) (argG m c) (argV m c) (y 0) (y 1) := by
  refine rows_apply _ (valuesAt m c) (entry (argX m c) (argG m c) (argV m c)) (fun t x y h0 h1 => ?_) (valuesAt_apply m c) y
  have hb := congrFun (castValues_block m c t) x
  rw [View.read_apply] at hb
  refine Eq.trans (congrArg ((dats m 0 c).arrAt 7 cfg0.N : S4096x512.Idx → EReal) (funext fun a => Fin.ext ?_)) hb
  obtain ⟨-, -, -, -, -, -, -, i0, i1⟩ := block_index t
  match a with
  | ⟨0, _⟩ => show (y 0).val = win0_7.index t 0 * 1024 + 1 * (x 0).val; rw [i0]; omega
  | ⟨1, _⟩ => show (y 1).val = win0_7.index t 1 * 512 + 1 * (x 1).val; rw [i1]; omega

end Cert.Proof.Mem

end
-- ==== Proof.Mem.Reference.lean ====
/-
  The memory reference's results read at an index, at the exact values.
-/
module

public import proofs.«01_k».proof.Proof.Mem.Spec
public import proofs.«01_k».proof.Proof.Ffn.Reference
public import proofs.«01_k».proof.Proof.Gen.Reference6Ideal.Run

@[expose] public section

noncomputable section

namespace Cert.Proof.Mem

open Idealize.ShloMosaic Idealize.ShloMosaic.ValueIdx Idealize.ShloMosaic.TcCoe
open Idealize.ShloMosaic.StackMember (dotGeneral_plain_apply)
open Cert.Reference6Ideal Cert.Reference6Ideal.Facts₀ Cert.Reference6Ideal.Facts
open Cert.Proof.Value (rowNorm RowFacts hostNorm)
open Cert.Proof.Ffn (gainRow hostNorm_gain)

/-- The shapes of the memory's 4096 rows. -/
theorem rowFacts : RowFacts 4096 :=
  ⟨reducesTo_S4096x2048_S4096_d1, by decide, bcast_S4096_S4096x1_0, bcast_S_S4096x1, bcast_S4096x1_S4096x2048_0_1, bcast_S1x2048_S4096x2048_0_1⟩

variable (X : FVec Ideal S16x256x2048 .f32) (G : FVec Ideal S2048 .f32) (W : FVec Ideal S2048x512 .f32)

/-- The reference's keys or values, a row for every token. -/
def refRows : FVec Ideal S4096x512 .f32 :=
  Host.dotGeneral dot_S4096x2048_S2048x512_S4096x512_1_0_0_1_n_n none (hostNorm rowFacts (shapeCast _ X shapeCasts_S16x256x2048_S4096x2048) (gainRow G)) W

/-- The reference's keys or values, a row for every token's head. -/
def refHeads : FVec Ideal S16384x128 .f32 := shapeCast _ (refRows X G W) shapeCasts_S4096x512_S16384x128

/-- An entry of the reference's rows. -/
theorem refRows_apply (r : Fin 4096) (n : Fin 512) : refRows X G W (ix2 r n) = entry X G W r n := by
  refine (dotGeneral_plain_apply none _ _ r n).trans (Finset.sum_congr rfl fun k _ => congrArg (· * W (ix2 k n)) ?_)
  refine (hostNorm_gain rowFacts _ G r k).trans (congrArg (rowNorm · _ k) (funext fun d => ?_))
  refine shapeCast_apply _ _ _ _ ?_
  rw [Shape.rowMajor_val_three, Shape.rowMajor_val_two]
  show (r.val / 256 * 256 + r.val % 256) * 2048 + d.val = r.val * 2048 + d.val
  omega

/-- An entry of the reference's rows head by head. -/
theorem refHeads_apply (y : S16384x128.Idx) : refHeads X G W y = entry X G W (tokenOf (y 0)) (colOf (y 0) (y 1)) := by
  refine (shapeCast_apply _ _ _ (ix2 (tokenOf (y 0)) (colOf (y 0) (y 1)) : S4096x512.Idx) ?_).trans (refRows_apply X G W _ _)
  rw [Shape.rowMajor_val_two, Shape.rowMajor_val_two]
  show (y 0).val / 4 * 512 + (128 * ((y 0).val % 4) + (y 1).val) = (y 0).val * 128 + (y 1).val
  omega

/-- An entry of the reference's cast rows. -/
theorem refCast_apply (y : S4096x512.Idx) : truncf .bf16 (refRows X G W) bitsLt_bf16_f32 y = entry X G W (y 0) (y 1) := by
  refine Eq.trans ?_ (refRows_apply X G W (y 0) (y 1))
  exact congrArg (refRows X G W) (funext fun a => by fin_cases a <;> rfl)

open Idealize.SL.Sem in
/-- The reference's run, each result as the term above, the arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = refHeads (m ((c.tc : Thread nD τ).loc main_arg0)) (m ((c.tc : Thread nD τ).loc main_arg1)) (m ((c.tc : Thread nD τ).loc main_arg2))
      ∧ r.2.mem ((c.tc : Thread nD τ).loc main_v17) = refHeads (m ((c.tc : Thread nD τ).loc main_arg0)) (m ((c.tc : Thread nD τ).loc main_arg1)) (m ((c.tc : Thread nD τ).loc main_arg3))
      ∧ r.2.mem ((c.tc : Thread nD τ).loc main_v18) = truncf .bf16 (refRows (m ((c.tc : Thread nD τ).loc main_arg0)) (m ((c.tc : Thread nD τ).loc main_arg1)) (m ((c.tc : Thread nD τ).loc main_arg2))) bitsLt_bf16_f32
      ∧ r.2.mem ((c.tc : Thread nD τ).loc main_v19) = truncf .bf16 (refRows (m ((c.tc : Thread nD τ).loc main_arg0)) (m ((c.tc : Thread nD τ).loc main_arg1)) (m ((c.tc : Thread nD τ).loc main_arg3))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference6Ideal.Value.run (F := Ideal) m ρ

end Cert.Proof.Mem

end
-- ==== Proof.Sample.Same.lean ====
/-
  The sample's projection as written and at the exact values has one text: its frame, which holds for any float values,
  serves both.
-/
module

public import proofs.«01_k».proof.Proof.Gen.Kernel7
public import proofs.«01_k».proof.Proof.Gen.Kernel7Ideal.Frame

@[expose] public section

noncomputable section

namespace Cert.Proof.Sample

open Idealize.ShloMosaic Idealize.SL.Sem

variable {F : FTy → Type} [FloatOps F]

/-- The two programs have one table of bodies. -/
theorem bodies_eq : @Cert.Kernel7.defs₀ F _ Cert.Kernel7.Gen.facts = @Cert.Kernel7Ideal.defs₀ F _ Cert.Kernel7Ideal.Gen.facts := by
  unfold Cert.Kernel7.defs₀ Cert.Kernel7Ideal.defs₀
  refine congrArg Defs.onTc (funext fun l => funext fun x => ?_)
  match l, x with
  | 0, (t, s) => rfl
  | ⟨_ + 1, h⟩, _ => exact absurd h (Nat.not_lt.2 (Nat.le_add_left _ _))

/-- The call as written runs to the end, leaves its arguments alone, and every counter reads zero. -/
theorem frame_written (m : (ℓ : Loc Cert.Kernel7.nD Cert.Kernel7.τ Cert.Kernel7.sig) → Buf (Elt F) ℓ) (ρ : Dev Cert.Kernel7.nD → PrngReg) :
    θ_run (Cert.Kernel7.defs (F := F)) (onTc (τ := Cert.Kernel7.τ) (Cert.Kernel7.main (F := F))) ⟨m, fun _ => 0, ρ⟩ fun r =>
      (∀ c : Dev Cert.Kernel7.nD,
        r.2.mem ((c.tc : Thread Cert.Kernel7.nD Cert.Kernel7.τ).loc Cert.Kernel7.main_arg0) = m ((c.tc : Thread Cert.Kernel7.nD Cert.Kernel7.τ).loc Cert.Kernel7.main_arg0)
        ∧ r.2.mem ((c.tc : Thread Cert.Kernel7.nD Cert.Kernel7.τ).loc Cert.Kernel7.main_arg1) = m ((c.tc : Thread Cert.Kernel7.nD Cert.Kernel7.τ).loc Cert.Kernel7.main_arg1)
        ∧ r.2.mem ((c.tc : Thread Cert.Kernel7.nD Cert.Kernel7.τ).loc Cert.Kernel7.main_arg2) = m ((c.tc : Thread Cert.Kernel7.nD Cert.Kernel7.τ).loc Cert.Kernel7.main_arg2)
        ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0 := by
  unfold Cert.Kernel7.defs
  rw [bodies_eq]
  exact Cert.Kernel7Ideal.Gen.frame (F := F) m ρ

end Cert.Proof.Sample
-- ==== Proof.Sample.Result.lean ====
/-
  The sample's projection. The first point normalises the 128 rows into the scratch, where they stay; every point
  multiplies them by its 768 rows of the weight. The array that the points leave, read at an index at the exact values,
  is the normalised row of the activations against the row of the weight. The lines after the call append the channels of
  the short convolution to the last two rows of its state.
-/
module

public import proofs.«01_k».proof.Proof.Ffn.Slabs
public import proofs.«01_k».proof.Proof.Value.Kernel
public import proofs.«01_k».proof.Proof.Gen.Kernel7Ideal.Frame
public import Idealize.ShloMosaic.Lib.Pipeline.ValueKit.Tiles

@[expose] public section

noncomputable section

namespace Cert.Proof.Sample

open Idealize.ShloMosaic Idealize.ShloMosaic.ValueIdx Idealize.ShloMosaic.TcCoe Idealize.SL.Sem
open Cert.Kernel7Ideal Cert.Kernel7Ideal.Gen
open Cert.Proof.Value (rowNorm proj normRows_apply)
open Cert.Proof.Ffn (hz)

section Points

variable {F : FTy → Type} [FloatOps F]
variable (c : Dev nD) (i : grid0.Coords)
  (a2 : Memref sig .tc .vmem S128x2048 .f32) (h2 : a2.IsWhole) (a3 : Memref sig .tc .vmem S1x2048 .f32) (h3 : a3.IsWhole)
  (a4 : Memref sig .tc .vmem S768x2048 .bf16) (h4 : a4.IsWhole) (a5 : Memref sig .tc .vmem S128x768 .f32) (h5 : a5.IsWhole)
  (a6 : Memref sig .tc .vmem S128x2048 .bf16) (h6 : a6.IsWhole)
  (x : Vec F S128x2048 .f32) (g : Vec F S1x2048 .f32) (w : Vec F S768x2048 .bf16) (h : Vec F S128x2048 .bf16)

/-- The first point leaves the normalised rows in the scratch. -/
theorem scratch_first (hc0 : cond0_0 i) : sout0_A_0 c i a2 h2 a3 h3 a4 h4 a5 h5 a6 h6 hc0 x g w = k0_pay1 x g := by
  unfold sout0_A_0
  rw [View.read_writes_eq_canon _ _ _ (fun y => scover0_A_0 _ _ _ _ _ _ _ _ _ _ _ _ _ _ _ _ y)]
  unfold kernelRun0_A
  dsimp only
  sl_unfold_words
  rw [View.canon_unit_zero hz]
  simp only [View.readAt_eq_ld, h2.read_unread, h3.read_unread, View.ld_unit_zero (S := S128x2048) hz, View.ld_unit_zero (S := S1x2048) hz]

/-- The first point leaves their products with its rows of the weight. -/
theorem out_first (hc0 : cond0_0 i) : out0_A_3 c i a2 h2 a3 h3 a4 h4 a5 h5 a6 h6 hc0 x g w = k0_pay2 (k0_pay1 x g) w := by
  unfold out0_A_3
  rw [View.read_writes_eq_canon _ _ _ (fun y => cover0_A_3 _ _ _ _ _ _ _ _ _ _ _ _ _ _ _ _ y)]
  unfold kernelRun0_A
  dsimp only
  sl_unfold_words
  rw [View.canon_unit_zero hz]
  simp only [View.readAt_eq_ld, h2.read_unread, h3.read_unread, h4.read_unread, View.ld_unit_zero (S := S128x2048) hz,
    View.ld_unit_zero (S := S1x2048) hz, View.ld_unit_zero (S := S768x2048) hz]
  exact congrArg (k0_pay2 · w) (View.readCov_unit_zero (S := S128x2048) _ hz _ _)

/-- A later point leaves the scratch's products with its rows of the weight. -/
theorem out_later (hc0 : ¬cond0_0 i) : out0_B_3 c i a2 h2 a3 h3 a4 h4 a5 h5 a6 h6 hc0 x g w h = k0_pay2 h w := by
  unfold out0_B_3
  rw [View.read_writes_eq_canon _ _ _ (fun y => cover0_B_3 _ _ _ _ _ _ _ _ _ _ _ _ _ _ _ _ _ y)]
  unfold kernelRun0_B
  dsimp only
  sl_unfold_words
  rw [View.canon_unit_zero hz]
  simp only [View.readAt_eq_ld, h4.read_unread, h6.read_unread, View.ld_unit_zero (S := S128x2048) hz, View.ld_unit_zero (S := S768x2048) hz]

end Points

section Run

variable {F : FTy → Type} [FloatOps F]
variable (m : (ℓ : Loc nD τ sig) → Buf (Elt F) ℓ) (ρ : Dev nD → PrngReg) (c : Dev nD)

/-- The activations, the gain, the weight and the state of the short convolution at the launch. -/
abbrev argX : S128x2048.Idx → Elt F .f32 := m ((c : Thread nD τ).loc main_arg0)
@[inherit_doc argX]
abbrev argG : S1x2048.Idx → Elt F .f32 := m ((c : Thread nD τ).loc main_arg1)
@[inherit_doc argX]
abbrev argW : S9984x2048.Idx → Elt F .bf16 := m ((c : Thread nD τ).loc main_arg2)
@[inherit_doc argX]
abbrev argS : S128x3x3072.Idx → Elt F .f32 := m ((c : Thread nD τ).loc main_arg3)

/-- Where the blocks of a point lie in their arrays. -/
theorem block_index : ∀ t : Fin grid0.N,
    (win0_0.index t 0 = 0 ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = t.val) := by
  decide +kernel

/-- Two points write different blocks. -/
theorem index_inj : ∀ t t' : Fin grid0.N, win0_3.index t = win0_3.index t' → t = t' := by decide +kernel

/-- The activations are staged whole at every point. -/
theorem rows_block (t : Fin cfg0.N) : (iblk m c 0 t : S128x2048.Idx → Elt F .f32) = argX m c := by
  funext y
  unfold iblk
  rw [View.read_apply]
  show V m c main_arg0 _ = _
  entry_read
  refine congrArg (argX m c) (funext fun a => Fin.ext ?_)
  obtain ⟨⟨h0, h1⟩, -⟩ := block_index t
  match a with
  | ⟨0, _⟩ => show win0_0.index t 0 * 128 + 1 * (y 0).val = (y 0).val; rw [h0]; omega
  | ⟨1, _⟩ => show win0_0.index t 1 * 2048 + 1 * (y 1).val = (y 1).val; rw [h1]; omega

/-- So is the gain. -/
theorem gain_block (t : Fin cfg0.N) : (iblk m c 1 t : S1x2048.Idx → Elt F .f32) = argG m c := by
  funext y
  unfold iblk
  rw [View.read_apply]
  show V m c main_arg1 _ = _
  entry_read
  refine congrArg (argG m c) (funext fun a => Fin.ext ?_)
  obtain ⟨-, ⟨h0, h1⟩, -⟩ := block_index t
  match a with
  | ⟨0, _⟩ => show win0_1.index t 0 * 1 + 1 * (y 0).val = (y 0).val; rw [h0]; omega
  | ⟨1, _⟩ => show win0_1.index t 1 * 2048 + 1 * (y 1).val = (y 1).val; rw [h1]; omega

/-- A point's rows of the weight. -/
theorem weight_block (t : Fin cfg0.N) (n : Fin 768) (k : Fin 2048) (N : Fin 9984) (hN : N.val = 768 * t.val + n.val) :
    (iblk m c 2 t : S768x2048.Idx → Elt F .bf16) (ix2 n k) = argW m c (ix2 N k) := by
  unfold iblk
  rw [View.read_apply]
  show V m c main_arg2 _ = _
  entry_read
  refine congrArg (argW m c) (funext fun a => Fin.ext ?_)
  obtain ⟨-, -, ⟨h0, h1⟩, -⟩ := block_index t
  match a with
  | ⟨0, _⟩ => show win0_2.index t 0 * 768 + 1 * n.val = N.val; rw [h0]; omega
  | ⟨1, _⟩ => show win0_2.index t 1 * 2048 + 1 * k.val = k.val; rw [h1]; omega

/-- The scratch holds the normalised rows after every point. -/
theorem scratch_eq : ∀ (n : ℕ) (hn : n < cfg0.N), (outsAt0 m c n hn).2 = k0_pay1 (argX m c) (argG m c)
  | 0, hn => by
    refine (congrArg Prod.snd (outsAt0_A m c ⟨0, hn⟩ (Nat.zero_mod _))).trans ?_
    dsimp only
    rw [scratch_first, rows_block, gain_block]
  | n + 1, hn => by
    have hN : n + 1 < 13 := lt_of_lt_of_eq hn N_0
    refine (congrArg Prod.snd (outsAt0_B m c ⟨n + 1, hn⟩ (by dsimp only; omega))).trans ?_
    dsimp only
    exact scratch_eq n (Nat.lt_of_succ_lt hn)

/-- Every point leaves the normalised rows' products with its rows of the weight. -/
theorem out_eq (t : Fin cfg0.N) : (outsAt0 m c t.val t.isLt).1 = k0_pay2 (k0_pay1 (argX m c) (argG m c)) (iblk m c 2 t) := by
  by_cases h0 : t.val % 13 = 0
  · rw [outsAt0_A m c t h0]
    dsimp only
    rw [out_first, rows_block, gain_block]
  · rw [outsAt0_B m c t h0]
    dsimp only
    rw [out_later, scratch_eq]

/-- The projection's array when the call ends. -/
abbrev result : S128x9984.Idx → Elt F .f32 := (dats m 0 c).arrAt 3 cfg0.N

/-- The projection's array, read at a point's block: the point's products. -/
theorem result_block (t : Fin cfg0.N) : ((cfg0.win 3).blk t).view.read (Elt F) ((dats m 0 c).arrAt 3 cfg0.N) = k0_pay2 (k0_pay1 (argX m c) (argG m c)) (iblk m c 2 t) :=
  ((dats m 0 c).read_blk_arrAt_eq_flushed 3 (fun t t' _ _ hne => (cfg0.win 3).disjoint_blk fun h => hne (index_inj t t' h)) cfg0.N t t.isLt (flush0_3 t)).trans
    (congrArg ((cfg0.win 3).cut (grid0.coords t)) ((after0_3 m c t).trans (out_eq m c t)))

/-- The new state of the short convolution: the last two rows of the old one, then the projection's first channels. -/
abbrev newState (S : S128x3x3072.Idx → Elt F .f32) (P : S128x9984.Idx → Elt F .f32) : S128x3x3072.Idx → Elt F .f32 :=
  concatenate S128x3x3072 1 [⟨S128x2x3072, extractStridedSlice S128x2x3072 ![0, 1, 0] S slices_S128x3x3072_S128x2x3072_0_1_0⟩,
    ⟨S128x1x3072, extractStridedSlice S128x1x3072 ![0, 0, 0] (shapeCast S128x1x9984 P shapeCasts_S128x9984_S128x1x9984) slices_S128x1x9984_S128x1x3072_0_0_0⟩]
    concatenates_S128x2x3072_S128x1x3072_S128x3x3072_d1

/-- What the lines after the call write last. -/
theorem lines_state (W : Valuation τ sig (Elt F)) :
    StableHlo.after hostOps1 W (Proc.devRef .tc main_v4)
      = newState (W (Proc.devRef .tc main_arg3)) (W (Proc.devRef .tc main_v0)) := by
  after_results <;> rfl

/-- The new state that the lines after the call leave. -/
theorem state_end : Pipeline.afterTail₀ cfgs (dats m) 0 (V0 m) [hostOps1] c main_v4 = newState (argS m c) (result m c) := by
  unfold Pipeline.afterTail₀
  refine (lines_state _).trans ?_
  have h3 := Pipeline.withArrays_of_ne spec0 c (V0 m c) (fun w => (dats m 0 c).arrAt w cfg0.N) main_arg3 (by decide)
  have h0 := Pipeline.withArrays_arr spec0 launch0.win.arr_inj c (V0 m c) (fun w => (dats m 0 c).arrAt w cfg0.N) 3
  exact congrArg₂ (newState (F := F)) h3 h0

/-- The run with its results named, the arguments unchanged. -/
theorem run_results : θ_run defs (onTc (τ := τ) (main (F := F))) ⟨m, fun _ => 0, ρ⟩ fun r => ∀ c : Dev nD,
      r.2.mem ((c : Thread nD τ).loc main_v0) = result m c
      ∧ r.2.mem ((c : Thread nD τ).loc main_v4) = newState (argS m c) (result m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 3, ((h.1 c).2 main_v4 (Pipeline.mem_restRefs_of main_v4 (by decide) (by decide))).trans (state_end m c), h.2 c⟩)
    (θ_run_and (run_main m ρ) (unchanged m ρ))

end Run

/-- The normalised rows, entry by entry. -/
theorem pay1_apply (x : S128x2048.Idx → EReal) (g : S1x2048.Idx → EReal) (r : Fin 128) (k : Fin 2048) :
    k0_pay1 (F := Ideal) x g (ix2 r k) = rowNorm (fun j => x (ix2 r j)) (fun j => g (ix2 0 j)) k := by
  unfold k0_pay1
  dsimp only
  rw [shapeCast_self]
  exact normRows_apply x g _ _ _ _ r k

/-- A block of the product, entry by entry. -/
theorem pay2_apply (h : S128x2048.Idx → EReal) (w : S768x2048.Idx → EReal) (r : Fin 128) (n : Fin 768) :
    k0_pay2 (F := Ideal) h w (ix2 r n) = ∑ k : Fin 2048, h (ix2 r k) * w (ix2 n k) := by
  unfold k0_pay2
  refine (Ideal.matmul_constant_zero_apply (φ₁ := .bf16) (φ₂ := .bf16) _ none _ _ _).trans ?_
  refine (Equiv.sum_comp (contrEquiv1 dot_S128x2048_S768x2048_S128x768_1_1_0_0_n_n 2048 rfl rfl).symm _).symm.trans ?_
  refine Finset.sum_congr rfl fun k _ => congrArg₂ (· * ·) (congrArg h ?_) (congrArg w ?_)
  · funext a; fin_cases a <;> rfl
  · funext a; fin_cases a <;> rfl

/-- Every entry of the projection's array is the projection's. -/
theorem result_apply (m : (ℓ : Loc nD τ sig) → Buf (Elt Ideal) ℓ) (c : Dev nD) (y : S128x9984.Idx) :
    result m c y = proj (argX m c) (argG m c) (argW m c) y := by
  have h1 : (y 1).val < 9984 := (y 1).isLt
  have ht : (y 1).val / 768 < cfg0.N := by show _ < 13; omega
  have hb := congrFun (result_block m c ⟨(y 1).val / 768, ht⟩) (ix2 (y 0) (⟨(y 1).val % 768, Nat.mod_lt _ (by decide)⟩ : Fin 768) : S128x768.Idx)
  rw [View.read_apply] at hb
  obtain ⟨-, -, -, i0, i1⟩ := block_index ⟨(y 1).val / 768, ht⟩
  refine (congrArg (result m c) (funext fun a => Fin.ext ?_)).trans (hb.trans ((pay2_apply _ _ _ _).trans (Finset.sum_congr rfl fun k _ => congrArg₂ (· * ·) (pay1_apply _ _ _ _) ?_)))
  · match a with
    | ⟨0, _⟩ => show (y 0).val = win0_3.index _ 0 * 128 + 1 * (y 0).val; rw [i0]; omega
    | ⟨1, _⟩ => show (y 1).val = win0_3.index _ 1 * 768 + 1 * ((y 1).val % 768); rw [i1]; show (y 1).val = (y 1).val / 768 * 768 + 1 * ((y 1).val % 768); omega
  · refine weight_block m c _ _ _ (y 1) ?_
    show (y 1).val = 768 * ((y 1).val / 768) + (y 1).val % 768
    omega

end Cert.Proof.Sample
-- ==== Proof.Sample.Reference.lean ====
/-
  The reference's projection of the sample, read at an index, at the exact values: the same normalised rows against the
  rows of the weight. Its new state of the short convolution is cut and appended in another order of steps.
-/
module

public import proofs.«01_k».proof.Proof.Ffn.Sample.Reference
public import proofs.«01_k».proof.Proof.Sample.Result
public import proofs.«01_k».proof.Proof.Gen.Reference7Ideal.Run

@[expose] public section

noncomputable section

namespace Cert.Proof.Sample

open Idealize.ShloMosaic Idealize.ShloMosaic.ValueIdx Idealize.ShloMosaic.TcCoe Idealize.SL.Sem
open Cert.Reference7Ideal Cert.Reference7Ideal.Facts₀ Cert.Reference7Ideal.Facts
open Cert.Proof.Value (proj hostNorm hostNorm_apply)
open Cert.Proof.Ffn.Sample (rowFacts)

/-- The reference's projection, as the term of its arguments. -/
def refProj (X : FVec Ideal S128x2048 .f32) (G : FVec Ideal S1x2048 .f32) (W : FVec Ideal S9984x2048 .bf16) : FVec Ideal S128x9984 .f32 :=
  Host.dotGeneral dot_S128x2048_S9984x2048_S128x9984_1_1_0_0_n_n none (hostNorm rowFacts X G) (extf .f32 W bitsLt_bf16_f32)

/-- Every entry of it is the projection's. -/
theorem refProj_apply (X : FVec Ideal S128x2048 .f32) (G : FVec Ideal S1x2048 .f32) (W : FVec Ideal S9984x2048 .bf16) (y : S128x9984.Idx) :
    refProj X G W y = proj X G W y := by
  refine (Ideal.dotGeneral_apply _ _ _ _ _ _).trans ?_
  refine (Equiv.sum_comp (contrEquiv1 dot_S128x2048_S9984x2048_S128x9984_1_1_0_0_n_n 2048 rfl rfl).symm _).symm.trans ?_
  unfold proj
  refine Finset.sum_congr rfl fun k _ => congrArg₂ (· * ·) ?_ (congrArg W ?_)
  · refine Eq.trans (congrArg (hostNorm rowFacts X G) ?_) (hostNorm_apply rowFacts X G (y 0) k)
    funext a; fin_cases a <;> rfl
  · funext a; fin_cases a <;> rfl

/-- The reference's new state of the short convolution, from the old one and the projection. -/
def refState (S : FVec Ideal S128x3x3072 .f32) (P : FVec Ideal S128x9984 .f32) : FVec Ideal S128x3x3072 .f32 :=
  concatenate S128x3x3072 1 [⟨S128x2x3072, extractStridedSlice S128x2x3072 ![0, 1, 0] S slices_S128x3x3072_S128x2x3072_0_1_0⟩,
    ⟨S128x1x3072, broadcastInDim S128x1x3072 ![0, 2] bcast_S128x3072_S128x1x3072_0_2 (extractStridedSlice S128x3072 ![0, 0] P slices_S128x9984_S128x3072_0_0)⟩]
    concatenates_S128x2x3072_S128x1x3072_S128x3x3072_d1

/-- Both append the same row of channels. -/
theorem channels_eq (P : FVec Ideal S128x9984 .f32) :
    broadcastInDim S128x1x3072 ![0, 2] bcast_S128x3072_S128x1x3072_0_2 (extractStridedSlice S128x3072 ![0, 0] P slices_S128x9984_S128x3072_0_0)
      = extractStridedSlice S128x1x3072 ![0, 0, 0] (shapeCast Cert.Kernel7Ideal.S128x1x9984 P Cert.Kernel7Ideal.Gen.shapeCasts_S128x9984_S128x1x9984)
          Cert.Kernel7Ideal.Gen.slices_S128x1x9984_S128x1x3072_0_0_0 := by
  funext y
  have h0 : (y 0).val < 128 := (y 0).isLt
  have h1 : (y 1).val < 1 := (y 1).isLt
  have h2 : (y 2).val < 3072 := (y 2).isLt
  have hn : (y 2).val < 9984 := by omega
  refine (broadcastInDim_apply _ _ _ _ (ix2 (y 0) (y 2)) (fun a => by fin_cases a <;> rfl)).trans ?_
  refine (extractStridedSlice_apply _ P _ _ (ix2 (y 0) (⟨(y 2).val, hn⟩ : Fin 9984)) fun a => ?_).trans ?_
  · match a with
    | ⟨0, _⟩ => show (y 0).val = 0 + (y 0).val; omega
    | ⟨1, _⟩ => show (y 2).val = 0 + (y 2).val; omega
  refine Eq.symm ((extractStridedSlice_apply _ _ _ y (ix3 (y 0) (0 : Fin 1) (⟨(y 2).val, hn⟩ : Fin 9984)) fun a => ?_).trans ?_)
  · match a with
    | ⟨0, _⟩ => show (y 0).val = 0 + (y 0).val; omega
    | ⟨1, _⟩ => show 0 = 0 + (y 1).val; omega
    | ⟨2, _⟩ => show (y 2).val = 0 + (y 2).val; omega
  · refine shapeCast_apply _ _ _ _ ((Shape.rowMajor_val_two _).trans (Eq.trans ?_ (Shape.rowMajor_val_three _).symm))
    show (y 0).val * 9984 + (y 2).val = ((y 0).val * 1 + 0) * 9984 + (y 2).val
    omega

/-- So the two new states are one. -/
theorem refState_eq (S : FVec Ideal S128x3x3072 .f32) (P : FVec Ideal S128x9984 .f32) : refState S P = newState (F := Ideal) S P := by
  unfold refState
  rw [channels_eq]

/-- The reference's run with its results named, the arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = refProj (m ((c.tc : Thread nD τ).loc main_arg0)) (m ((c.tc : Thread nD τ).loc main_arg1)) (m ((c.tc : Thread nD τ).loc main_arg2))
      ∧ r.2.mem ((c.tc : Thread nD τ).loc main_v17) = refState (m ((c.tc : Thread nD τ).loc main_arg3))
          (refProj (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference7Ideal.Value.run (F := Ideal) m ρ

end Cert.Proof.Sample
-- ==== Proof.Step.Same.lean ====
/-
  The sample's sliding-window step as written and at the exact values has one text: its frame, which holds for any float values,
  serves both.
-/
module

public import proofs.«01_k».proof.Proof.Gen.Kernel8
public import proofs.«01_k».proof.Proof.Gen.Kernel8Ideal.Frame

@[expose] public section

noncomputable section

namespace Cert.Proof.Step

open Idealize.ShloMosaic Idealize.SL.Sem

variable {F : FTy → Type} [FloatOps F]

/-- The two programs have one table of bodies. -/
theorem bodies_eq : @Cert.Kernel8.defs₀ F _ Cert.Kernel8.Gen.facts = @Cert.Kernel8Ideal.defs₀ F _ Cert.Kernel8Ideal.Gen.facts := by
  unfold Cert.Kernel8.defs₀ Cert.Kernel8Ideal.defs₀
  refine congrArg Defs.onTc (funext fun l => funext fun x => ?_)
  match l, x with
  | 0, (t, s) => rfl
  | ⟨_ + 1, h⟩, _ => exact absurd h (Nat.not_lt.2 (Nat.le_add_left _ _))

/-- The call as written runs to the end, leaves its arguments alone, and every counter reads zero. -/
theorem frame_written (m : (ℓ : Loc Cert.Kernel8.nD Cert.Kernel8.τ Cert.Kernel8.sig) → Buf (Elt F) ℓ) (ρ : Dev Cert.Kernel8.nD → PrngReg) :
    θ_run (Cert.Kernel8.defs (F := F)) (onTc (τ := Cert.Kernel8.τ) (Cert.Kernel8.main (F := F))) ⟨m, fun _ => 0, ρ⟩ fun r =>
      (∀ c : Dev Cert.Kernel8.nD,
        r.2.mem ((c.tc : Thread Cert.Kernel8.nD Cert.Kernel8.τ).loc Cert.Kernel8.main_arg0) = m ((c.tc : Thread Cert.Kernel8.nD Cert.Kernel8.τ).loc Cert.Kernel8.main_arg0)
        ∧ r.2.mem ((c.tc : Thread Cert.Kernel8.nD Cert.Kernel8.τ).loc Cert.Kernel8.main_arg1) = m ((c.tc : Thread Cert.Kernel8.nD Cert.Kernel8.τ).loc Cert.Kernel8.main_arg1)
        ∧ r.2.mem ((c.tc : Thread Cert.Kernel8.nD Cert.Kernel8.τ).loc Cert.Kernel8.main_arg2) = m ((c.tc : Thread Cert.Kernel8.nD Cert.Kernel8.τ).loc Cert.Kernel8.main_arg2)
        ∧ r.2.mem ((c.tc : Thread Cert.Kernel8.nD Cert.Kernel8.τ).loc Cert.Kernel8.main_arg3) = m ((c.tc : Thread Cert.Kernel8.nD Cert.Kernel8.τ).loc Cert.Kernel8.main_arg3)
        ∧ r.2.mem ((c.tc : Thread Cert.Kernel8.nD Cert.Kernel8.τ).loc Cert.Kernel8.main_arg4) = m ((c.tc : Thread Cert.Kernel8.nD Cert.Kernel8.τ).loc Cert.Kernel8.main_arg4)
        ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0 := by
  unfold Cert.Kernel8.defs
  rw [bodies_eq]
  exact Cert.Kernel8Ideal.Gen.frame (F := F) m ρ

end Cert.Proof.Step
-- ==== Proof.Step.Rows.lean ====
/-
  One sequence of the sample's sliding-window step, for any float values: the old cache moved up by a row with the new row
  below it, read at an index. The new key is rotated by the angles whose cosines and signed sines it is given.
-/
module

public import proofs.«01_k».proof.Proof.Value.Kernel
public import proofs.«01_k».proof.Proof.Gen.Kernel8Ideal.Skeleton
public import Idealize.ShloMosaic.Lib.KernelVsHost
public import Idealize.ShloMosaic.Lib.Pipeline.Value

@[expose] public section

noncomputable section

namespace Cert.Proof.Step

open Idealize.ShloMosaic Idealize.ShloMosaic.ValueIdx Idealize.ShloMosaic.TcCoe Idealize.SL.Sem
open Cert.Kernel8Ideal Cert.Kernel8Ideal.Gen

variable {F : FTy → Type} [FloatOps F]

/-- The number of every row of the cache. -/
def rowIds : IVec S128x256 32 := iota .tc S128x256 32 [0] iota_S128x256_d0_w32

/-- A sequence's new key, rotated. -/
def keyRow (cos sin : Vec F S1x256 .f32) (new : Vec F S1x1x512 .f32) : FVec F S1x256 .f32 :=
  k0_pay15 (k0_pay3 cos) (k0_pay4 sin) (k0_pay14 new) (iota .tc S1x256 32 [1] iota_S1x256_d1_w32) 64#32 (Scalar.cmpi .eq 64#32 0#32) 1#32

/-- A sequence's new keys. -/
def keysAfter (cos sin : Vec F S1x256 .f32) (new : Vec F S1x1x512 .f32) (old : Vec F S1x256x128 .f32) : FVec F S1x256x128 .f32 :=
  k0_pay58 (k0_pay34 rowIds (keyRow cos sin new) old)

/-- A sequence's new values. -/
def valuesAfter (new : Vec F S1x1x512 .f32) (old : Vec F S1x256x128 .f32) : FVec F S1x256x128 .f32 :=
  k0_pay59 (k0_pay46 rowIds (k0_pay6 new) old)

/-- A sequence's row of the block of the projection. -/
def newAt (x : Vec F S8x1x512 .f32) (j : Fin 8) : Vec F S1x1x512 .f32 := fun z => x (ix3 j 0 (z 2))

/-- A sequence's part of the block of an old cache. -/
def oldAt (x : Vec F S8x256x128 .f32) (j : Fin 8) : Vec F S1x256x128 .f32 := fun z => x (ix3 j (z 1) (z 2))

/-- Which rows are the new one. -/
theorem isLast : ∀ s : Fin 128, IntOp.cmpi .eq (BitVec.ofNat 32 s.val) 127#32 = if s.val = 127 then 1#1 else 0#1 := by decide +kernel

/-- A cache moved up by a row, the new row below it, read at an index. -/
theorem moved_apply (row : FVec F S1x256 .f32) (old : Vec F S1x256x128 .f32) (n : Fin 256) (s : Fin 128) :
    k0_pay58 (k0_pay34 rowIds row old) (ix3 (0 : Fin 1) n s)
      = if h : s.val < 127 then old (ix3 (0 : Fin 1) n (⟨s.val + 1, by omega⟩ : Fin 128)) else row (ix2 (0 : Fin 1) n) := by
  unfold k0_pay58
  dsimp only
  refine (shapeCast_ab_1ab_apply _ _ _ _ _).trans ?_
  refine (transpose_ix2_apply _ _ _ _).trans ?_
  unfold k0_pay34
  dsimp only
  rw [select_apply]
  have hc : cmpi .eq rowIds (broadcast S128x256 127#32) (ix2 s n) = if s.val = 127 then 1#1 else 0#1 := by
    refine Eq.trans ?_ (isLast s)
    show IntOp.cmpi .eq (rowIds (ix2 s n)) 127#32 = _
    unfold rowIds
    rw [iota_single_apply]
  rw [hc]
  by_cases h : s.val < 127
  · rw [if_neg (by omega), dif_pos h]
    refine (if_neg (by decide)).trans ?_
    refine (dynamicRotate_apply _ _ _ _ _ (ix2 (⟨s.val + 1, by omega⟩ : Fin 128) n) fun b => ?_).trans ?_
    · match b with
      | ⟨0, _⟩ => show s.val + 1 = (s.val + 128 - 127 % 128) % 128; omega
      | ⟨1, _⟩ => rfl
    · exact (transpose_ix2_apply _ _ _ _).trans (shapeCast_1ab_ab_apply _ _ _ _)
  · rw [if_pos (by omega), dif_neg h]
    refine (if_pos rfl).trans ?_
    refine (broadcastTo_1b_ab_apply _ _ _ _).trans ?_
    rw [shapeCast_self]

/-- A sequence's new values, read at an index. -/
theorem valuesAfter_apply (new : Vec F S1x1x512 .f32) (old : Vec F S1x256x128 .f32) (n : Fin 256) (s : Fin 128) :
    valuesAfter new old (ix3 (0 : Fin 1) n s)
      = if h : s.val < 127 then old (ix3 (0 : Fin 1) n (⟨s.val + 1, by omega⟩ : Fin 128)) else new (ix3 (0 : Fin 1) (0 : Fin 1) (⟨256 + n.val, by omega⟩ : Fin 512)) := by
  have e : valuesAfter new old = k0_pay58 (k0_pay34 rowIds (extractStridedSlice S1x256 ![0, 256] (k0_pay6 new) slices_S1x512_o0_256_S1x256) old) := by
    unfold valuesAfter k0_pay59 k0_pay58 k0_pay46 k0_pay34
    rfl
  rw [e, moved_apply]
  by_cases h : s.val < 127
  · rw [dif_pos h, dif_pos h]
  rw [dif_neg h, dif_neg h]
  refine (extractStridedSlice_apply _ _ _ _ (ix2 (0 : Fin 1) (⟨256 + n.val, by omega⟩ : Fin 512)) fun a => ?_).trans ?_
  · match a with
    | ⟨0, _⟩ => rfl
    | ⟨1, _⟩ => rfl
  · exact shapeCast_1ab_ab_apply _ _ _ _

/-- Which columns are in the first half of their head. -/
theorem firstHalf : ∀ n : Fin 256, k0_pay17 (ix2 (0 : Fin 1) n) = if n.val % 64 < 32 then 1#1 else 0#1 := by decide +kernel

/-- The column's partner in the other half of its head. -/
def partner (n : Fin 256) : Fin 256 := if h : n.val % 64 < 32 then ⟨n.val + 32, by omega⟩ else ⟨n.val - 32, by omega⟩

/-- A sequence's new key at a column. -/
theorem keyRow_apply (cos sin : Vec F S1x256 .f32) (new : Vec F S1x1x512 .f32) (n : Fin 256) :
    keyRow cos sin new (ix2 (0 : Fin 1) n)
      = FloatOps.addf (FloatOps.mulf (new (ix3 (0 : Fin 1) (0 : Fin 1) (⟨n.val, by omega⟩ : Fin 512))) (cos (ix2 (0 : Fin 1) n)))
          (FloatOps.mulf (new (ix3 (0 : Fin 1) (0 : Fin 1) (⟨(partner n).val, by omega⟩ : Fin 512))) (sin (ix2 (0 : Fin 1) n))) := by
  have hx (k : Fin 256) : k0_pay14 new (ix2 (0 : Fin 1) k) = new (ix3 (0 : Fin 1) (0 : Fin 1) (⟨k.val, by omega⟩ : Fin 512)) := by
    refine (extractStridedSlice_apply _ _ slices_S1x512_o0_0_S1x256 _ (ix2 (0 : Fin 1) (⟨k.val, by omega⟩ : Fin 512)) fun a => ?_).trans (shapeCast_1ab_ab_apply _ shapeCasts_S1x1x512_S1x512 _ _)
    match a with
    | ⟨0, _⟩ => rfl
    | ⟨1, _⟩ => exact (Nat.zero_add _).symm
  have hr : select k0_pay17 (dynamicRotate 1 224#32 none (k0_pay14 new) rotates_S1x256_d1) (dynamicRotate 1 32#32 none (k0_pay14 new) rotates_S1x256_d1) (ix2 (0 : Fin 1) n)
      = new (ix3 (0 : Fin 1) (0 : Fin 1) (⟨(partner n).val, by omega⟩ : Fin 512)) := by
    rw [select_apply, firstHalf, ← hx]
    have hn := n.isLt
    by_cases h : n.val % 64 < 32
    · rw [if_pos h]
      refine (if_pos rfl).trans (dynamicRotate_apply _ _ _ _ _ _ fun b => ?_)
      have hp : (partner n).val = n.val + 32 := by unfold partner; rw [dif_pos h]
      match b with
      | ⟨0, _⟩ => rfl
      | ⟨1, _⟩ => show (partner n).val = (n.val + 256 - 224 % 256) % 256; omega
    · rw [if_neg h]
      refine (if_neg (by decide)).trans (dynamicRotate_apply _ _ _ _ _ _ fun b => ?_)
      have hp : (partner n).val = n.val - 32 := by unfold partner; rw [dif_neg h]
      match b with
      | ⟨0, _⟩ => rfl
      | ⟨1, _⟩ => show (partner n).val = (n.val + 256 - 32 % 256) % 256; omega
  have hc : k0_pay3 cos = cos := shapeCast_self _ _
  have hs : k0_pay4 sin = sin := shapeCast_self _ _
  unfold keyRow
  rw [hc, hs]
  exact congrArg₂ FloatOps.addf (congrArg (FloatOps.mulf · (cos (ix2 (0 : Fin 1) n))) (hx n)) (congrArg (FloatOps.mulf · (sin (ix2 (0 : Fin 1) n))) hr)

/-- A sequence's new keys, read at an index. -/
theorem keysAfter_apply (cos sin : Vec F S1x256 .f32) (new : Vec F S1x1x512 .f32) (old : Vec F S1x256x128 .f32) (n : Fin 256) (s : Fin 128) :
    keysAfter cos sin new old (ix3 (0 : Fin 1) n s)
      = if h : s.val < 127 then old (ix3 (0 : Fin 1) n (⟨s.val + 1, by omega⟩ : Fin 128)) else keyRow cos sin new (ix2 (0 : Fin 1) n) :=
  moved_apply _ _ _ _

end Cert.Proof.Step
-- ==== Proof.Step.Body.lean ====
/-
  What the sample's sliding-window step leaves in the two new caches at one point, for any float values: for each of the
  point's eight sequences, the old cache moved up by a row and the new row below it.
-/
module

public import proofs.«01_k».proof.Proof.Gen.Kernel8Ideal.Frame
public import Idealize.ShloMosaic.Lib.Pipeline.ValueKit.Tiles
public import proofs.«01_k».proof.Proof.Ffn.Slabs
public import proofs.«01_k».proof.Proof.Step.Rows

@[expose] public section

noncomputable section

namespace Cert.Proof.Step

open Idealize.ShloMosaic Idealize.ShloMosaic.ValueIdx Idealize.ShloMosaic.TcCoe Idealize.SL.Sem
open Cert.Kernel8Ideal Cert.Kernel8Ideal.Gen
open Cert.Proof.Ffn (hz)

variable {F : FTy → Type} [FloatOps F]

omit [FloatOps F] in
/-- Where a sequence's store meets an index, it holds what the sequence leaves there. -/
theorem piece (x1 : Vec F S8x1x512 .f32) (x : Vec F S8x256x128 .f32) (f : Vec F S1x1x512 .f32 → Vec F S1x256x128 .f32 → FVec F S1x256x128 .f32) (y : S8x256x128.Idx) (k : ℕ)
    (hn : ∀ a, (![k, 0, 0] : Fin 3 → ℕ) a + (![1, 1, 512] : Fin 3 → ℕ) a ≤ S8x1x512.size a)
    (ho : ∀ a, (![k, 0, 0] : Fin 3 → ℕ) a + (![1, 256, 128] : Fin 3 → ℕ) a ≤ S8x256x128.size a) (hk : k < 8) :
    View.TileAt (Val := Elt F) (e := .f32) y ![k, 0, 0] ![1, 256, 128]
      (f (View.ld x1 (Rect.unit (s := S8x1x512) ![k, 0, 0] ![1, 1, 512] hn)) (View.ld x (Rect.unit (s := S8x256x128) ![k, 0, 0] ![1, 256, 128] ho)))
      (f (newAt x1 (y 0)) (oldAt x (y 0)) (ix3 0 (y 1) (y 2))) := by
  intro z hz
  have z0 : (z 0).val < 1 := (z 0).isLt
  have h0 : (y 0).val = k + (z 0).val := hz 0
  have h1 : (y 1).val = 0 + (z 1).val := hz 1
  have h2 : (y 2).val = 0 + (z 2).val := hz 2
  have e1 : View.ld x1 (Rect.unit (s := S8x1x512) ![k, 0, 0] ![1, 1, 512] hn) = newAt x1 (y 0) := by
    funext w
    have w0 : (w 0).val < 1 := (w 0).isLt
    have w1 : (w 1).val < 1 := (w 1).isLt
    refine View.ld_unit_apply_of _ _ _ _ _ _ fun a => ?_
    match a with
    | ⟨0, _⟩ => show (y 0).val = k + (w 0).val; omega
    | ⟨1, _⟩ => show 0 = 0 + (w 1).val; omega
    | ⟨2, _⟩ => show (w 2).val = 0 + (w 2).val; omega
  have e2 : View.ld x (Rect.unit (s := S8x256x128) ![k, 0, 0] ![1, 256, 128] ho) = oldAt x (y 0) := by
    funext w
    have w0 : (w 0).val < 1 := (w 0).isLt
    refine View.ld_unit_apply_of _ _ _ _ _ _ fun a => ?_
    match a with
    | ⟨0, _⟩ => show (y 0).val = k + (w 0).val; omega
    | ⟨1, _⟩ => show (w 1).val = 0 + (w 1).val; omega
    | ⟨2, _⟩ => show (w 2).val = 0 + (w 2).val; omega
  rw [e1, e2]
  refine congrArg (f (newAt x1 (y 0)) (oldAt x (y 0))) (funext fun a => Fin.ext ?_)
  match a with
  | ⟨0, _⟩ => show (z 0).val = 0; omega
  | ⟨1, _⟩ => show (z 1).val = (y 1).val; omega
  | ⟨2, _⟩ => show (z 2).val = (y 2).val; omega

section Point

variable (c : Dev nD) (i : grid0.Coords)
  (a1 : Memref sig .tc .vmem S8x16x256 .f32) (h1 : a1.IsWhole) (a2 : Memref sig .tc .vmem S8x1x512 .f32) (h2 : a2.IsWhole)
  (a3 : Memref sig .tc .vmem S8x256x128 .f32) (h3 : a3.IsWhole) (a4 : Memref sig .tc .vmem S8x256x128 .f32) (h4 : a4.IsWhole)
  (a5 : Memref sig .tc .vmem S1x256 .f32) (h5 : a5.IsWhole) (a6 : Memref sig .tc .vmem S1x256 .f32) (h6 : a6.IsWhole)
  (a7 : Memref sig .tc .vmem S16x1 .f32) (h7 : a7.IsWhole) (a8 : Memref sig .tc .vmem S8x16x256 .f32) (h8 : a8.IsWhole)
  (a9 : Memref sig .tc .vmem S8x256x128 .f32) (h9 : a9.IsWhole) (a10 : Memref sig .tc .vmem S8x256x128 .f32) (h10 : a10.IsWhole)
  (x0 : Vec F S8x16x256 .f32) (x1 : Vec F S8x1x512 .f32) (x2 : Vec F S8x256x128 .f32) (x3 : Vec F S8x256x128 .f32)
  (x4 : Vec F S1x256 .f32) (x5 : Vec F S1x256 .f32) (x6 : Vec F S16x1 .f32)

/-- The values that a point leaves, read at an index. -/
theorem values_out (y : S8x256x128.Idx) :
    out0_A_9 c i a1 h1 a2 h2 a3 h3 a4 h4 a5 h5 a6 h6 a7 h7 a8 h8 a9 h9 a10 h10 x0 x1 x2 x3 x4 x5 x6 y = valuesAfter (newAt x1 (y 0)) (oldAt x3 (y 0)) (ix3 0 (y 1) (y 2)) := by
  unfold out0_A_9
  rw [View.read_writes_eq_canon _ _ _ (fun y => cover0_A_9 _ _ _ _ _ _ _ _ _ _ _ _ _ _ _ _ _ _ _ _ _ _ _ _ _ _ _ _ _ y)]
  refine View.canon_eq_of_allAt _ y _ (cover0_A_9 _ _ _ _ _ _ _ _ _ _ _ _ _ _ _ _ _ _ _ _ _ _ _ _ _ _ _ _ _ y) ?_
  unfold kernelRun0_A
  dsimp only
  sl_unfold_words
  simp only [View.readAt_eq_ld, h2.read_unread, h4.read_unread]
  refine View.allAt_cons_unit _ _ _ _ _ (piece x1 x3 (valuesAfter) y 7 _ _ (by decide)) ?_
  refine View.allAt_cons_unit _ _ _ _ _ (piece x1 x3 (valuesAfter) y 6 _ _ (by decide)) ?_
  refine View.allAt_cons_unit _ _ _ _ _ (piece x1 x3 (valuesAfter) y 5 _ _ (by decide)) ?_
  refine View.allAt_cons_unit _ _ _ _ _ (piece x1 x3 (valuesAfter) y 4 _ _ (by decide)) ?_
  refine View.allAt_cons_unit _ _ _ _ _ (piece x1 x3 (valuesAfter) y 3 _ _ (by decide)) ?_
  refine View.allAt_cons_unit _ _ _ _ _ (piece x1 x3 (valuesAfter) y 2 _ _ (by decide)) ?_
  refine View.allAt_cons_unit _ _ _ _ _ (piece x1 x3 (valuesAfter) y 1 _ _ (by decide)) ?_
  refine View.allAt_cons_unit _ _ _ _ _ (piece x1 x3 (valuesAfter) y 0 _ _ (by decide)) ?_
  exact View.allAt_nil _ _

/-- The keys that a point leaves, read at an index. -/
theorem keys_out (y : S8x256x128.Idx) :
    out0_A_8 c i a1 h1 a2 h2 a3 h3 a4 h4 a5 h5 a6 h6 a7 h7 a8 h8 a9 h9 a10 h10 x0 x1 x2 x3 x4 x5 x6 y = keysAfter x4 x5 (newAt x1 (y 0)) (oldAt x2 (y 0)) (ix3 0 (y 1) (y 2)) := by
  unfold out0_A_8
  rw [View.read_writes_eq_canon _ _ _ (fun y => cover0_A_8 _ _ _ _ _ _ _ _ _ _ _ _ _ _ _ _ _ _ _ _ _ _ _ _ _ _ _ _ _ y)]
  refine View.canon_eq_of_allAt _ y _ (cover0_A_8 _ _ _ _ _ _ _ _ _ _ _ _ _ _ _ _ _ _ _ _ _ _ _ _ _ _ _ _ _ y) ?_
  unfold kernelRun0_A
  dsimp only
  sl_unfold_words
  simp only [View.readAt_eq_ld, h2.read_unread, h3.read_unread, h5.read_unread, h6.read_unread, View.ld_unit_zero (S := S1x256) hz]
  refine View.allAt_cons_unit _ _ _ _ _ (piece x1 x2 (keysAfter x4 x5) y 7 _ _ (by decide)) ?_
  refine View.allAt_cons_unit _ _ _ _ _ (piece x1 x2 (keysAfter x4 x5) y 6 _ _ (by decide)) ?_
  refine View.allAt_cons_unit _ _ _ _ _ (piece x1 x2 (keysAfter x4 x5) y 5 _ _ (by decide)) ?_
  refine View.allAt_cons_unit _ _ _ _ _ (piece x1 x2 (keysAfter x4 x5) y 4 _ _ (by decide)) ?_
  refine View.allAt_cons_unit _ _ _ _ _ (piece x1 x2 (keysAfter x4 x5) y 3 _ _ (by decide)) ?_
  refine View.allAt_cons_unit _ _ _ _ _ (piece x1 x2 (keysAfter x4 x5) y 2 _ _ (by decide)) ?_
  refine View.allAt_cons_unit _ _ _ _ _ (piece x1 x2 (keysAfter x4 x5) y 1 _ _ (by decide)) ?_
  refine View.allAt_cons_unit _ _ _ _ _ (piece x1 x2 (keysAfter x4 x5) y 0 _ _ (by decide)) ?_
  exact View.allAt_nil _ _

end Point

end Cert.Proof.Step
-- ==== Proof.Step.Result.lean ====
/-
  The sample's sliding-window step, at the exact values: the two caches that it returns, read at an index. Every row but
  the last is the row below it of the old cache; the last one is the sample's new value, or its new key rotated.
-/
module

public import proofs.«01_k».proof.Proof.Step.Body

@[expose] public section

noncomputable section

namespace Cert.Proof.Step

open Idealize.ShloMosaic Idealize.ShloMosaic.ValueIdx Idealize.ShloMosaic.TcCoe Idealize.SL.Sem
open Cert.Kernel8Ideal Cert.Kernel8Ideal.Gen

/-- A cache that has dropped its oldest row and gained a new one. -/
def window (old : S128x128x4x64.Idx → EReal) (row : Fin 128 → Fin 4 → Fin 64 → EReal) : S128x128x4x64.Idx → EReal := fun y =>
  if h : (y 1).val < 127 then old (ix4 (y 0) (⟨(y 1).val + 1, by omega⟩ : Fin 128) (y 2) (y 3)) else row (y 0) (y 2) (y 3)

/-- The new values, from the projection. -/
def valueOf (P : S128x9984.Idx → EReal) (b : Fin 128) (h : Fin 4) (d : Fin 64) : EReal :=
  P (ix2 b (⟨9472 + 64 * h.val + d.val, by omega⟩ : Fin 9984))

/-- A channel of the new keys before the rotation. -/
def channel (P : S128x9984.Idx → EReal) (b : Fin 128) (h : Fin 4) (d : Fin 64) : EReal :=
  P (ix2 b (⟨9216 + 64 * h.val + d.val, by omega⟩ : Fin 9984))

/-- The new keys: the two halves of a head rotated by the angles. -/
def keyOf (P : S128x9984.Idx → EReal) (C S : S1x32.Idx → EReal) (b : Fin 128) (h : Fin 4) (d : Fin 64) : EReal :=
  if hd : d.val < 32 then
    channel P b h d * C (ix2 (0 : Fin 1) (⟨d.val, hd⟩ : Fin 32)) - channel P b h ⟨d.val + 32, by omega⟩ * S (ix2 (0 : Fin 1) (⟨d.val, hd⟩ : Fin 32))
  else channel P b h d * C (ix2 (0 : Fin 1) (⟨d.val - 32, by omega⟩ : Fin 32)) + channel P b h ⟨d.val - 32, by omega⟩ * S (ix2 (0 : Fin 1) (⟨d.val - 32, by omega⟩ : Fin 32))

variable (m : (ℓ : Loc nD τ sig) → Buf (Elt Ideal) ℓ) (ρ : Dev nD → PrngReg) (c : Dev nD)

/-- The projection, the two old caches, the cosines and the sines at the launch. -/
abbrev argP : S128x9984.Idx → EReal := m ((c : Thread nD τ).loc main_arg0)
@[inherit_doc argP]
abbrev argK : S128x128x4x64.Idx → EReal := m ((c : Thread nD τ).loc main_arg1)
@[inherit_doc argP]
abbrev argV : S128x128x4x64.Idx → EReal := m ((c : Thread nD τ).loc main_arg2)
@[inherit_doc argP]
abbrev argC : S1x32.Idx → EReal := m ((c : Thread nD τ).loc main_arg3)
@[inherit_doc argP]
abbrev argS : S1x32.Idx → EReal := m ((c : Thread nD τ).loc main_arg4)

/-- Where the blocks of a point lie in their arrays. -/
theorem block_index : ∀ t : Fin grid0.N,
    (win0_1.index t 0 = t.val ∧ win0_1.index t 1 = 0 ∧ win0_1.index t 2 = 18) ∧ (win0_2.index t 0 = t.val ∧ win0_2.index t 1 = 0 ∧ win0_2.index t 2 = 0)
    ∧ (win0_3.index t 0 = t.val ∧ win0_3.index t 1 = 0 ∧ win0_3.index t 2 = 0) ∧ (win0_4.index t 0 = 0 ∧ win0_4.index t 1 = 0)
    ∧ (win0_5.index t 0 = 0 ∧ win0_5.index t 1 = 0) ∧ (win0_8.index t 0 = t.val ∧ win0_8.index t 1 = 0 ∧ win0_8.index t 2 = 0)
    ∧ (win0_9.index t 0 = t.val ∧ win0_9.index t 1 = 0 ∧ win0_9.index t 2 = 0) := by
  decide +kernel

/-- Two points write different blocks of the keys. -/
theorem keys_inj : ∀ t t' : Fin grid0.N, win0_8.index t = win0_8.index t' → t = t' := by decide +kernel

/-- Two points write different blocks of the values. -/
theorem values_inj : ∀ t t' : Fin grid0.N, win0_9.index t = win0_9.index t' → t = t' := by decide +kernel

/-- The place of an entry of a cache in row-major order. -/
theorem place_cache (y : S128x128x4x64.Idx) : (S128x128x4x64.rowMajor y).val = (((y 0).val * 128 + (y 1).val) * 4 + (y 2).val) * 64 + (y 3).val := by
  rw [Shape.rowMajor_val_four]; rfl

/-- The place of an entry of a cache with its heads side by side. -/
theorem place_flat (y : S128x128x256.Idx) : (S128x128x256.rowMajor y).val = ((y 0).val * 128 + (y 1).val) * 256 + (y 2).val := by
  rw [Shape.rowMajor_val_three]; rfl

/-- A sequence's row of the projection, staged. -/
theorem new_block (t : Fin cfg0.N) (j : Fin 8) (n : Fin 512) (b : Fin 128) (hb : b.val = 8 * t.val + j.val) :
    newAt (F := Ideal) (X0_1 m c t) j (ix3 (0 : Fin 1) (0 : Fin 1) n) = argP m c (ix2 b (⟨9216 + n.val, by omega⟩ : Fin 9984)) := by
  show X0_1 m c t (ix3 j (0 : Fin 1) n) = _
  unfold X0_1 Pipeline.Window.fill
  rw [dif_pos (moved0_1 t _)]
  unfold iblk
  rw [View.read_apply]
  show V m c main_v15 _ = _
  entry_read
  obtain ⟨⟨h0, h1, h2⟩, -⟩ := block_index t
  refine shapeCast_apply _ _ _ _ ?_
  refine (Shape.rowMajor_val_two _).trans (Eq.trans ?_ (Shape.rowMajor_val_three _).symm)
  show b.val * 9984 + (9216 + n.val) = ((win0_1.index t 0 * 8 + 1 * j.val) * 1 + (win0_1.index t 1 * 1 + 1 * 0)) * 9984 + (win0_1.index t 2 * 512 + 1 * n.val)
  rw [h0, h1, h2]; omega

/-- A sequence's part of the old keys, staged with the channels first. -/
theorem oldKeys_block (t : Fin cfg0.N) (j : Fin 8) (n : Fin 256) (s : Fin 128) (b : Fin 128) (h : Fin 4) (d : Fin 64) (hb : b.val = 8 * t.val + j.val)
    (hn : n.val = 64 * h.val + d.val) : oldAt (F := Ideal) (iblk m c 2 t) j (ix3 (0 : Fin 1) n s) = argK m c (ix4 b s h d) := by
  show (iblk m c 2 t : S8x256x128.Idx → EReal) (ix3 j n s) = _
  unfold iblk
  rw [View.read_apply]
  show V m c main_v24 _ = _
  entry_read
  obtain ⟨-, ⟨h0, h1, h2⟩, -⟩ := block_index t
  refine (transpose_apply _ _ _ _ (ix3 b s n) fun a => ?_).trans (shapeCast_apply _ _ _ _ ((place_cache _).trans (Eq.trans ?_ (place_flat _).symm)))
  · match a with
    | ⟨0, _⟩ => show b.val = win0_2.index t 0 * 8 + 1 * j.val; rw [h0]; omega
    | ⟨1, _⟩ => show n.val = win0_2.index t 1 * 256 + 1 * n.val; rw [h1]; omega
    | ⟨2, _⟩ => show s.val = win0_2.index t 2 * 128 + 1 * s.val; rw [h2]; omega
  · show ((b.val * 128 + s.val) * 4 + h.val) * 64 + d.val = (b.val * 128 + s.val) * 256 + n.val
    omega

/-- A sequence's part of the old values, staged in the same way. -/
theorem oldValues_block (t : Fin cfg0.N) (j : Fin 8) (n : Fin 256) (s : Fin 128) (b : Fin 128) (h : Fin 4) (d : Fin 64) (hb : b.val = 8 * t.val + j.val)
    (hn : n.val = 64 * h.val + d.val) : oldAt (F := Ideal) (iblk m c 3 t) j (ix3 (0 : Fin 1) n s) = argV m c (ix4 b s h d) := by
  show (iblk m c 3 t : S8x256x128.Idx → EReal) (ix3 j n s) = _
  unfold iblk
  rw [View.read_apply]
  show V m c main_v26 _ = _
  entry_read
  obtain ⟨-, -, ⟨h0, h1, h2⟩, -⟩ := block_index t
  refine (transpose_apply _ _ _ _ (ix3 b s n) fun a => ?_).trans (shapeCast_apply _ _ _ _ ((place_cache _).trans (Eq.trans ?_ (place_flat _).symm)))
  · match a with
    | ⟨0, _⟩ => show b.val = win0_3.index t 0 * 8 + 1 * j.val; rw [h0]; omega
    | ⟨1, _⟩ => show n.val = win0_3.index t 1 * 256 + 1 * n.val; rw [h1]; omega
    | ⟨2, _⟩ => show s.val = win0_3.index t 2 * 128 + 1 * s.val; rw [h2]; omega
  · show ((b.val * 128 + s.val) * 4 + h.val) * 64 + d.val = (b.val * 128 + s.val) * 256 + n.val
    omega

/-- A head's row laid out once for every head, read at a column. -/
theorem tiled_apply (x : S1x64.Idx → EReal) (n : Fin 256) (z : S1x256.Idx) (d : Fin 64) (h0 : (z 0).val = 0) (h1 : (z 1).val = n.val) (hd : d.val = n.val % 64) :
    shapeCast S1x256 (broadcastInDim S1x1x4x64 ![0, 1, 2, 3] bcast_S1x1x1x64_S1x1x4x64_0_1_2_3 (shapeCast S1x1x1x64 x shapeCasts_S1x64_S1x1x1x64)) shapeCasts_S1x1x4x64_S1x256 z
      = x (ix2 (0 : Fin 1) d) := by
  refine (shapeCast_apply _ _ z (ix4 (0 : Fin 1) (0 : Fin 1) (⟨n.val / 64, by omega⟩ : Fin 4) d) ?_).trans ?_
  · refine (Shape.rowMajor_val_four _).trans (Eq.trans ?_ (Shape.rowMajor_val_two _).symm)
    show ((0 * 1 + 0) * 4 + n.val / 64) * 64 + d.val = (z 0).val * 256 + (z 1).val
    omega
  refine (broadcastInDim_apply _ _ _ _ (ix4 (0 : Fin 1) (0 : Fin 1) (0 : Fin 1) d) fun a => by fin_cases a <;> rfl).trans ?_
  refine shapeCast_apply _ _ _ _ ((Shape.rowMajor_val_two _).trans (Eq.trans ?_ (Shape.rowMajor_val_four _).symm))
  show 0 * 64 + d.val = ((0 * 1 + 0) * 1 + 0) * 64 + d.val
  omega

/-- Two halves of a head side by side, read in the first. -/
theorem halves_left (x y : S1x32.Idx → EReal) (d : Fin 64) (k : Fin 32) (h : d.val = k.val) :
    concatenate S1x64 1 [⟨S1x32, x⟩, ⟨S1x32, y⟩] concatenates_S1x32_S1x32_S1x64_d1 (ix2 (0 : Fin 1) d) = x (ix2 (0 : Fin 1) k) :=
  concatenate_pair_apply_left 1 x y concatenates_S1x32_S1x32_S1x64_d1 (ix2 (0 : Fin 1) d) rfl (ix2 (0 : Fin 1) k) fun b => match b with
    | ⟨0, _⟩ => rfl
    | ⟨1, _⟩ => h.symm

/-- Two halves of a head side by side, read in the second. -/
theorem halves_right (x y : S1x32.Idx → EReal) (d : Fin 64) (k : Fin 32) (h : d.val = 32 + k.val) :
    concatenate S1x64 1 [⟨S1x32, x⟩, ⟨S1x32, y⟩] concatenates_S1x32_S1x32_S1x64_d1 (ix2 (0 : Fin 1) d) = y (ix2 (0 : Fin 1) k) :=
  concatenate_pair_apply_right 1 x y concatenates_S1x32_S1x32_S1x64_d1 (ix2 (0 : Fin 1) d) rfl rfl (ix2 (0 : Fin 1) k) (fun b hb => match b with
    | ⟨0, _⟩ => rfl
    | ⟨1, _⟩ => absurd rfl hb) (by show k.val + 32 = d.val; omega)

/-- The line before the call that lays out the cosines. -/
theorem cos_line : (V m c main_v3 : S1x256.Idx → EReal)
    = shapeCast S1x256 (broadcastInDim S1x1x4x64 ![0, 1, 2, 3] bcast_S1x1x1x64_S1x1x4x64_0_1_2_3 (shapeCast S1x1x1x64
        (concatenate S1x64 1 [⟨S1x32, argC m c⟩, ⟨S1x32, argC m c⟩] concatenates_S1x32_S1x32_S1x64_d1) shapeCasts_S1x64_S1x1x1x64)) shapeCasts_S1x1x4x64_S1x256 := by
  entry_read
  after_results <;> rfl

/-- The cosines, staged once for every head and both halves. -/
theorem cos_block (t : Fin cfg0.N) (n : Fin 256) : (iblk m c 4 t : S1x256.Idx → EReal) (ix2 (0 : Fin 1) n)
    = concatenate S1x64 1 [⟨S1x32, argC m c⟩, ⟨S1x32, argC m c⟩] concatenates_S1x32_S1x32_S1x64_d1 (ix2 (0 : Fin 1) (⟨n.val % 64, Nat.mod_lt _ (by decide)⟩ : Fin 64)) := by
  unfold iblk
  rw [View.read_apply]
  show V m c main_v3 _ = _
  rw [cos_line]
  obtain ⟨-, -, -, ⟨h0, h1⟩, -⟩ := block_index t
  refine tiled_apply _ n _ (⟨n.val % 64, Nat.mod_lt _ (by decide)⟩ : Fin 64) ?_ ?_ rfl
  · show win0_4.index t 0 * 1 + 1 * 0 = 0; rw [h0]
  · show win0_4.index t 1 * 256 + 1 * n.val = n.val; rw [h1]; omega

/-- The line before the call that lays out the sines. -/
theorem sin_line : (V m c main_v8 : S1x256.Idx → EReal)
    = shapeCast S1x256 (broadcastInDim S1x1x4x64 ![0, 1, 2, 3] bcast_S1x1x1x64_S1x1x4x64_0_1_2_3 (shapeCast S1x1x1x64
        (concatenate S1x64 1 [⟨S1x32, fun z => -argS m c z⟩, ⟨S1x32, argS m c⟩] concatenates_S1x32_S1x32_S1x64_d1) shapeCasts_S1x64_S1x1x1x64)) shapeCasts_S1x1x4x64_S1x256 := by
  entry_read
  after_results <;> rfl

/-- The sines, staged likewise, with a minus sign in the first half. -/
theorem sin_block (t : Fin cfg0.N) (n : Fin 256) : (iblk m c 5 t : S1x256.Idx → EReal) (ix2 (0 : Fin 1) n)
    = concatenate S1x64 1 [⟨S1x32, fun z => -argS m c z⟩, ⟨S1x32, argS m c⟩] concatenates_S1x32_S1x32_S1x64_d1 (ix2 (0 : Fin 1) (⟨n.val % 64, Nat.mod_lt _ (by decide)⟩ : Fin 64)) := by
  unfold iblk
  rw [View.read_apply]
  show V m c main_v8 _ = _
  rw [sin_line]
  obtain ⟨-, -, -, -, ⟨h0, h1⟩, -⟩ := block_index t
  refine tiled_apply _ n _ (⟨n.val % 64, Nat.mod_lt _ (by decide)⟩ : Fin 64) ?_ ?_ rfl
  · show win0_5.index t 0 * 1 + 1 * 0 = 0; rw [h0]
  · show win0_5.index t 1 * 256 + 1 * n.val = n.val; rw [h1]; omega

/-- A sequence's new key at a column is the rotated one. -/
theorem key_apply (t : Fin cfg0.N) (j : Fin 8) (n : Fin 256) (b : Fin 128) (h : Fin 4) (d : Fin 64) (hb : b.val = 8 * t.val + j.val) (hn : n.val = 64 * h.val + d.val) :
    keyRow (F := Ideal) (iblk m c 4 t) (iblk m c 5 t) (newAt (X0_1 m c t) j) (ix2 (0 : Fin 1) n) = keyOf (argP m c) (argC m c) (argS m c) b h d := by
  rw [keyRow_apply, new_block m c t j _ b hb, new_block m c t j _ b hb, cos_block, sin_block]
  have hx (k : Fin 512) (e : Fin 64) (hk : k.val = 64 * h.val + e.val) : argP m c (ix2 b (⟨9216 + k.val, by omega⟩ : Fin 9984)) = channel (argP m c) b h e :=
    congrArg (fun z => argP m c (ix2 b z)) (Fin.ext (by show 9216 + k.val = 9216 + 64 * h.val + e.val; omega))
  unfold keyOf
  by_cases hd : d.val < 32
  · have hp : (partner n).val = n.val + 32 := by unfold partner; rw [dif_pos (by omega)]
    rw [dif_pos hd, hx _ d hn, hx _ ⟨d.val + 32, by omega⟩ (by show (partner n).val = 64 * h.val + (d.val + 32); omega),
      halves_left _ _ _ ⟨d.val, hd⟩ (by show n.val % 64 = d.val; omega), halves_left _ _ _ ⟨d.val, hd⟩ (by show n.val % 64 = d.val; omega), sub_eq_add_neg, ← mul_neg]
    rfl
  · have hp : (partner n).val = n.val - 32 := by unfold partner; rw [dif_neg (by omega)]
    rw [dif_neg hd, hx _ d hn, hx _ ⟨d.val - 32, by omega⟩ (by show (partner n).val = 64 * h.val + (d.val - 32); omega),
      halves_right _ _ _ ⟨d.val - 32, by omega⟩ (by show n.val % 64 = 32 + (d.val - 32); omega),
      halves_right _ _ _ ⟨d.val - 32, by omega⟩ (by show n.val % 64 = 32 + (d.val - 32); omega)]
    rfl

/-- What a point leaves of the keys, read at an index of its block. -/
theorem keys_point (t : Fin cfg0.N) (y : S8x256x128.Idx) : (outsAt0 m c t).2.1 y
    = keysAfter (F := Ideal) (iblk m c 4 t) (iblk m c 5 t) (newAt (X0_1 m c t) (y 0)) (oldAt (iblk m c 2 t) (y 0)) (ix3 (0 : Fin 1) (y 1) (y 2)) := by
  unfold outsAt0
  dsimp only
  exact keys_out _ _ _ _ _ _ _ _ _ _ _ _ _ _ _ _ _ _ _ _ _ _ _ _ _ _ _ _ _ y

/-- The keys' array, read at a point's block. -/
theorem keys_block (t : Fin cfg0.N) : ((cfg0.win 8).blk t).view.read (Elt Ideal) ((dats m 0 c).arrAt 8 cfg0.N) = (outsAt0 m c t).2.1 :=
  ((dats m 0 c).read_blk_arrAt_eq_flushed 8 (fun t t' _ _ hne => (cfg0.win 8).disjoint_blk fun h => hne (keys_inj t t' h)) cfg0.N t t.isLt (flush0_8 t)).trans
    (congrArg ((cfg0.win 8).cut (grid0.coords t)) (after0_8 m c t))

/-- What a point leaves of the values, read at an index of its block. -/
theorem values_point (t : Fin cfg0.N) (y : S8x256x128.Idx) : (outsAt0 m c t).2.2 y
    = valuesAfter (F := Ideal) (newAt (X0_1 m c t) (y 0)) (oldAt (iblk m c 3 t) (y 0)) (ix3 (0 : Fin 1) (y 1) (y 2)) := by
  unfold outsAt0
  dsimp only
  exact values_out _ _ _ _ _ _ _ _ _ _ _ _ _ _ _ _ _ _ _ _ _ _ _ _ _ _ _ _ _ y

/-- The values' array, read at a point's block. -/
theorem values_block (t : Fin cfg0.N) : ((cfg0.win 9).blk t).view.read (Elt Ideal) ((dats m 0 c).arrAt 9 cfg0.N) = (outsAt0 m c t).2.2 :=
  ((dats m 0 c).read_blk_arrAt_eq_flushed 9 (fun t t' _ _ hne => (cfg0.win 9).disjoint_blk fun h => hne (values_inj t t' h)) cfg0.N t t.isLt (flush0_9 t)).trans
    (congrArg ((cfg0.win 9).cut (grid0.coords t)) (after0_9 m c t))

/-- The keys' array when the call ends, read at an index. -/
theorem keys_apply (b s : Fin 128) (n : Fin 256) (h : Fin 4) (d : Fin 64) (hn : n.val = 64 * h.val + d.val) :
    ((dats m 0 c).arrAt 8 cfg0.N : S128x256x128.Idx → EReal) (ix3 b n s)
      = window (argK m c) (keyOf (argP m c) (argC m c) (argS m c)) (ix4 b s h d) := by
  have ht : b.val / 8 < cfg0.N := by show _ < 16; omega
  have hb : b.val = 8 * (b.val / 8) + b.val % 8 := by omega
  have hr := congrFun (keys_block m c ⟨b.val / 8, ht⟩) (ix3 (⟨b.val % 8, Nat.mod_lt _ (by decide)⟩ : Fin 8) n s : S8x256x128.Idx)
  rw [View.read_apply] at hr
  obtain ⟨-, -, -, -, -, ⟨i0, i1, i2⟩, -⟩ := block_index ⟨b.val / 8, ht⟩
  refine (congrArg ((dats m 0 c).arrAt 8 cfg0.N : S128x256x128.Idx → EReal) (funext fun a => Fin.ext ?_)).trans (hr.trans ?_)
  · match a with
    | ⟨0, _⟩ => show b.val = win0_8.index _ 0 * 8 + 1 * (b.val % 8); rw [i0]; show b.val = b.val / 8 * 8 + 1 * (b.val % 8); omega
    | ⟨1, _⟩ => show n.val = win0_8.index _ 1 * 256 + 1 * n.val; rw [i1]; omega
    | ⟨2, _⟩ => show s.val = win0_8.index _ 2 * 128 + 1 * s.val; rw [i2]; omega
  refine (keys_point m c ⟨b.val / 8, ht⟩ _).trans ((keysAfter_apply _ _ _ _ n s).trans ?_)
  by_cases hs : s.val < 127
  · refine (dif_pos hs).trans (Eq.trans (oldKeys_block m c ⟨b.val / 8, ht⟩ _ n _ b h d hb hn) (Eq.symm (dif_pos hs)))
  · refine (dif_neg hs).trans (Eq.trans (key_apply m c ⟨b.val / 8, ht⟩ _ n b h d hb hn) (Eq.symm (dif_neg hs)))

/-- The values' array when the call ends, read at an index. -/
theorem values_apply (b s : Fin 128) (n : Fin 256) (h : Fin 4) (d : Fin 64) (hn : n.val = 64 * h.val + d.val) :
    ((dats m 0 c).arrAt 9 cfg0.N : S128x256x128.Idx → EReal) (ix3 b n s) = window (argV m c) (valueOf (argP m c)) (ix4 b s h d) := by
  have ht : b.val / 8 < cfg0.N := by show _ < 16; omega
  have hb : b.val = 8 * (b.val / 8) + b.val % 8 := by omega
  have hr := congrFun (values_block m c ⟨b.val / 8, ht⟩) (ix3 (⟨b.val % 8, Nat.mod_lt _ (by decide)⟩ : Fin 8) n s : S8x256x128.Idx)
  rw [View.read_apply] at hr
  obtain ⟨-, -, -, -, -, -, i0, i1, i2⟩ := block_index ⟨b.val / 8, ht⟩
  refine (congrArg ((dats m 0 c).arrAt 9 cfg0.N : S128x256x128.Idx → EReal) (funext fun a => Fin.ext ?_)).trans (hr.trans ?_)
  · match a with
    | ⟨0, _⟩ => show b.val = win0_9.index _ 0 * 8 + 1 * (b.val % 8); rw [i0]; show b.val = b.val / 8 * 8 + 1 * (b.val % 8); omega
    | ⟨1, _⟩ => show n.val = win0_9.index _ 1 * 256 + 1 * n.val; rw [i1]; omega
    | ⟨2, _⟩ => show s.val = win0_9.index _ 2 * 128 + 1 * s.val; rw [i2]; omega
  refine (values_point m c ⟨b.val / 8, ht⟩ _).trans ((valuesAfter_apply _ _ n s).trans ?_)
  by_cases hs : s.val < 127
  · refine (dif_pos hs).trans (Eq.trans (oldValues_block m c ⟨b.val / 8, ht⟩ _ n _ b h d hb hn) (Eq.symm (dif_pos hs)))
  · refine (dif_neg hs).trans (Eq.trans ((new_block m c ⟨b.val / 8, ht⟩ _ _ b hb).trans ?_) (Eq.symm (dif_neg hs)))
    exact congrArg (fun z => argP m c (ix2 b z)) (Fin.ext (by show 9216 + (256 + n.val) = 9472 + 64 * h.val + d.val; omega))

/-- How the lines after the call lay out a cache: rows before channels, the channels by head. -/
abbrev laidOut (A : S128x256x128.Idx → EReal) : S128x128x4x64.Idx → EReal :=
  shapeCast S128x128x4x64 (transpose S128x128x256 [0, 2, 1] A transposes_S128x256x128_S128x128x256_0_2_1) shapeCasts_S128x128x256_S128x128x4x64

/-- A cache laid out, read at an index. -/
theorem laidOut_eq (A : S128x256x128.Idx → EReal) (f : S128x128x4x64.Idx → EReal)
    (hA : ∀ (b s : Fin 128) (n : Fin 256) (h : Fin 4) (d : Fin 64), n.val = 64 * h.val + d.val → A (ix3 b n s) = f (ix4 b s h d)) : laidOut A = f := by
  funext y
  have h2 : (y 2).val < 4 := (y 2).isLt
  have h3 : (y 3).val < 64 := (y 3).isLt
  have hy : y = ix4 (y 0) (y 1) (y 2) (y 3) := funext fun a => by fin_cases a <;> rfl
  refine (shapeCast_apply _ _ y (ix3 (y 0) (y 1) (⟨64 * (y 2).val + (y 3).val, by omega⟩ : Fin 256)) ((place_flat _).trans (Eq.trans ?_ (place_cache y).symm))).trans ?_
  · show ((y 0).val * 128 + (y 1).val) * 256 + (64 * (y 2).val + (y 3).val) = (((y 0).val * 128 + (y 1).val) * 4 + (y 2).val) * 64 + (y 3).val
    omega
  · exact (transpose_ix3_021_apply _ _ _ _ _).trans ((hA _ _ _ (y 2) (y 3) rfl).trans (congrArg f hy.symm))

/-- What the lines after the call leave of the keys. -/
theorem lines_keys (W : Valuation τ sig (Elt Ideal)) : StableHlo.after hostOps1 W (Proc.devRef .tc main_v30) = laidOut (W (Proc.devRef .tc main_v28_1)) := by
  after_results <;> rfl

/-- What the lines after the call leave of the values. -/
theorem lines_values (W : Valuation τ sig (Elt Ideal)) : StableHlo.after hostOps1 W (Proc.devRef .tc main_v32) = laidOut (W (Proc.devRef .tc main_v28_2)) := by
  after_results <;> rfl

/-- The new keys that the call returns. -/
theorem keys_end : Pipeline.afterTail₀ cfgs (dats m) 0 (V0 m) [hostOps1] c main_v30 = window (argK m c) (keyOf (argP m c) (argC m c) (argS m c)) := by
  unfold Pipeline.afterTail₀
  refine (lines_keys _).trans ?_
  have h := Pipeline.withArrays_arr spec0 launch0.win.arr_inj c (V0 m c) (fun w => (dats m 0 c).arrAt w cfg0.N) 8
  exact (congrArg laidOut h).trans (laidOut_eq _ _ (keys_apply m c))

/-- The new values that the call returns. -/
theorem values_end : Pipeline.afterTail₀ cfgs (dats m) 0 (V0 m) [hostOps1] c main_v32 = window (argV m c) (valueOf (argP m c)) := by
  unfold Pipeline.afterTail₀
  refine (lines_values _).trans ?_
  have h := Pipeline.withArrays_arr spec0 launch0.win.arr_inj c (V0 m c) (fun w => (dats m 0 c).arrAt w cfg0.N) 9
  exact (congrArg laidOut h).trans (laidOut_eq _ _ (values_apply m c))

/-- The run with its results named, the arguments unchanged. -/
theorem run_results : θ_run defs (onTc (τ := τ) (main (F := Ideal))) ⟨m, fun _ => 0, ρ⟩ fun r => ∀ c : Dev nD,
      r.2.mem ((c : Thread nD τ).loc main_v30) = window (argK m c) (keyOf (argP m c) (argC m c) (argS m c))
      ∧ r.2.mem ((c : Thread nD τ).loc main_v32) = window (argV m c) (valueOf (argP m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).2 main_v30 (Pipeline.mem_restRefs_of main_v30 (by decide) (by decide))).trans (keys_end m c),
      ((h.1 c).2 main_v32 (Pipeline.mem_restRefs_of main_v32 (by decide) (by decide))).trans (values_end m c), h.2 c⟩)
    (θ_run_and (run_main m ρ) (unchanged m ρ))

end Cert.Proof.Step
-- ==== Proof.Step.Reference.lean ====
/-
  The reference's two caches after a step of the sample, read at an index, at the exact values: the old cache without its
  oldest row, then the new value, or the new key with its two halves rotated by the angles.
-/
module

public import proofs.«01_k».proof.Proof.Step.Result
public import proofs.«01_k».proof.Proof.Gen.Reference8Ideal.Run

@[expose] public section

noncomputable section

namespace Cert.Proof.Step

open Idealize.ShloMosaic Idealize.ShloMosaic.ValueIdx Idealize.ShloMosaic.TcCoe Idealize.SL.Sem
open Cert.Reference8Ideal Cert.Reference8Ideal.Facts₀ Cert.Reference8Ideal.Facts

/-- The old cache without its oldest row, and a new row after it. -/
abbrev refWindow (old : FVec Ideal S128x128x4x64 .f32) (new : FVec Ideal S128x1x4x64 .f32) : FVec Ideal S128x128x4x64 .f32 :=
  concatenate S128x128x4x64 1 [⟨S128x127x4x64, extractStridedSlice S128x127x4x64 ![0, 1, 0, 0] old slices_S128x128x4x64_S128x127x4x64_0_1_0_0⟩, ⟨S128x1x4x64, new⟩]
    concatenates_S128x127x4x64_S128x1x4x64_S128x128x4x64_d1

/-- The new values, cut from the projection. -/
abbrev refValue (P : FVec Ideal S128x9984 .f32) : FVec Ideal S128x1x4x64 .f32 :=
  shapeCast S128x1x4x64 (extractStridedSlice S128x256 ![0, 9472] P slices_S128x9984_S128x256_0_9472) shapeCasts_S128x256_S128x1x4x64

/-- The new keys before the rotation, cut from the projection. -/
abbrev refChannel (P : FVec Ideal S128x9984 .f32) : FVec Ideal S128x1x4x64 .f32 :=
  shapeCast S128x1x4x64 (extractStridedSlice S128x256 ![0, 9216] P slices_S128x9984_S128x256_0_9216) shapeCasts_S128x256_S128x1x4x64

/-- The first halves of the heads. -/
abbrev refLow (k : FVec Ideal S128x1x4x64 .f32) : FVec Ideal S128x1x4x32 .f32 :=
  extractStridedSlice S128x1x4x32 ![0, 0, 0, 0] k slices_S128x1x4x64_S128x1x4x32_0_0_0_0

/-- The second halves of the heads. -/
abbrev refHigh (k : FVec Ideal S128x1x4x64 .f32) : FVec Ideal S128x1x4x32 .f32 :=
  extractStridedSlice S128x1x4x32 ![0, 0, 0, 32] k slices_S128x1x4x64_S128x1x4x32_0_0_0_32

/-- The cosines or the sines, once for every sequence and head. -/
abbrev refAngle (C : FVec Ideal S1x32 .f32) : FVec Ideal S128x1x4x32 .f32 :=
  broadcastInDim S128x1x4x32 ![0, 1, 2, 3] bcast_S1x1x1x32_S128x1x4x32_0_1_2_3 (broadcastInDim S1x1x1x32 ![0, 3] bcast_S1x32_S1x1x1x32_0_3 C)

/-- The new keys, rotated. -/
abbrev refKey (P : FVec Ideal S128x9984 .f32) (C S : FVec Ideal S1x32 .f32) : FVec Ideal S128x1x4x64 .f32 :=
  concatenate S128x1x4x64 3 [⟨S128x1x4x32, subf (mulf (refLow (refChannel P)) (refAngle C)) (mulf (refHigh (refChannel P)) (refAngle S))⟩,
      ⟨S128x1x4x32, addf (mulf (refHigh (refChannel P)) (refAngle C)) (mulf (refLow (refChannel P)) (refAngle S))⟩]
    concatenates_S128x1x4x32_S128x1x4x32_S128x1x4x64_d3

/-- The place of an entry of the new rows in row-major order. -/
theorem place_row (b : Fin 128) (h : Fin 4) (d : Fin 64) :
    (S128x1x4x64.rowMajor (ix4 b (0 : Fin 1) h d)).val = (b.val * 4 + h.val) * 64 + d.val := by
  rw [Shape.rowMajor_val_four]
  show ((b.val * 1 + 0) * 4 + h.val) * 64 + d.val = _
  omega

/-- An entry of the new values. -/
theorem refValue_apply (P : FVec Ideal S128x9984 .f32) (b : Fin 128) (h : Fin 4) (d : Fin 64) : refValue P (ix4 b (0 : Fin 1) h d) = valueOf P b h d := by
  refine (shapeCast_apply _ _ _ (ix2 b (⟨64 * h.val + d.val, by omega⟩ : Fin 256)) ((Shape.rowMajor_val_two _).trans (Eq.trans ?_ (place_row b h d).symm))).trans ?_
  · show b.val * 256 + (64 * h.val + d.val) = _
    omega
  · refine extractStridedSlice_apply _ P slices_S128x9984_S128x256_0_9472 _ _ fun a => ?_
    match a with
    | ⟨0, _⟩ => show b.val = 0 + b.val; omega
    | ⟨1, _⟩ => show 9472 + 64 * h.val + d.val = 9472 + (64 * h.val + d.val); omega

/-- An entry of the new keys before the rotation. -/
theorem refChannel_apply (P : FVec Ideal S128x9984 .f32) (b : Fin 128) (h : Fin 4) (d : Fin 64) : refChannel P (ix4 b (0 : Fin 1) h d) = channel P b h d := by
  refine (shapeCast_apply _ _ _ (ix2 b (⟨64 * h.val + d.val, by omega⟩ : Fin 256)) ((Shape.rowMajor_val_two _).trans (Eq.trans ?_ (place_row b h d).symm))).trans ?_
  · show b.val * 256 + (64 * h.val + d.val) = _
    omega
  · refine extractStridedSlice_apply _ P slices_S128x9984_S128x256_0_9216 _ _ fun a => ?_
    match a with
    | ⟨0, _⟩ => show b.val = 0 + b.val; omega
    | ⟨1, _⟩ => show 9216 + 64 * h.val + d.val = 9216 + (64 * h.val + d.val); omega

/-- An entry of the first halves. -/
theorem refLow_apply (k : FVec Ideal S128x1x4x64 .f32) (b : Fin 128) (h : Fin 4) (e : Fin 32) (d : Fin 64) (hd : d.val = e.val) :
    refLow k (ix4 b (0 : Fin 1) h e) = k (ix4 b (0 : Fin 1) h d) :=
  extractStridedSlice_apply _ k slices_S128x1x4x64_S128x1x4x32_0_0_0_0 _ _ fun a => match a with
    | ⟨0, _⟩ => (Nat.zero_add b.val).symm
    | ⟨1, _⟩ => rfl
    | ⟨2, _⟩ => (Nat.zero_add h.val).symm
    | ⟨3, _⟩ => hd.trans (Nat.zero_add e.val).symm

/-- An entry of the second halves. -/
theorem refHigh_apply (k : FVec Ideal S128x1x4x64 .f32) (b : Fin 128) (h : Fin 4) (e : Fin 32) (d : Fin 64) (hd : d.val = 32 + e.val) :
    refHigh k (ix4 b (0 : Fin 1) h e) = k (ix4 b (0 : Fin 1) h d) :=
  extractStridedSlice_apply _ k slices_S128x1x4x64_S128x1x4x32_0_0_0_32 _ _ fun a => match a with
    | ⟨0, _⟩ => (Nat.zero_add b.val).symm
    | ⟨1, _⟩ => rfl
    | ⟨2, _⟩ => (Nat.zero_add h.val).symm
    | ⟨3, _⟩ => hd

/-- An entry of the angles. -/
theorem refAngle_apply (C : FVec Ideal S1x32 .f32) (b : Fin 128) (h : Fin 4) (e : Fin 32) : refAngle C (ix4 b (0 : Fin 1) h e) = C (ix2 (0 : Fin 1) e) :=
  (broadcastInDim_apply _ bcast_S1x1x1x32_S128x1x4x32_0_1_2_3 _ _ (ix4 (0 : Fin 1) (0 : Fin 1) (0 : Fin 1) e) fun a => by fin_cases a <;> rfl).trans
    (broadcastInDim_apply _ bcast_S1x32_S1x1x1x32_0_3 C _ (ix2 (0 : Fin 1) e) fun a => by fin_cases a <;> rfl)

/-- An entry of the new keys. -/
theorem refKey_apply (P : FVec Ideal S128x9984 .f32) (C S : FVec Ideal S1x32 .f32) (b : Fin 128) (h : Fin 4) (d : Fin 64) :
    refKey P C S (ix4 b (0 : Fin 1) h d) = keyOf P C S b h d := by
  unfold keyOf
  by_cases hd : d.val < 32
  · rw [dif_pos hd]
    refine (concatenate_pair_apply_left 3 _ _ concatenates_S128x1x4x32_S128x1x4x32_S128x1x4x64_d3 _ rfl (ix4 b (0 : Fin 1) h (⟨d.val, hd⟩ : Fin 32)) fun a => by fin_cases a <;> rfl).trans ?_
    refine congrArg₂ (· - ·) (congrArg₂ (· * ·) ?_ (refAngle_apply C _ _ _)) (congrArg₂ (· * ·) ?_ (refAngle_apply S _ _ _))
    · exact (refLow_apply _ b h _ d rfl).trans (refChannel_apply P b h d)
    · exact (refHigh_apply _ b h _ ⟨d.val + 32, by omega⟩ (Nat.add_comm _ _)).trans (refChannel_apply P b h _)
  · rw [dif_neg hd]
    refine (concatenate_pair_apply_right 3 _ _ concatenates_S128x1x4x32_S128x1x4x32_S128x1x4x64_d3 _ rfl rfl (ix4 b (0 : Fin 1) h (⟨d.val - 32, by omega⟩ : Fin 32))
      (fun a ha => match a with
        | ⟨0, _⟩ => rfl
        | ⟨1, _⟩ => rfl
        | ⟨2, _⟩ => rfl
        | ⟨3, _⟩ => absurd rfl ha) (by show d.val - 32 + 32 = d.val; omega)).trans ?_
    refine congrArg₂ (· + ·) (congrArg₂ (· * ·) ?_ (refAngle_apply C _ _ _)) (congrArg₂ (· * ·) ?_ (refAngle_apply S _ _ _))
    · exact (refHigh_apply _ b h _ d (by show d.val = 32 + (d.val - 32); omega)).trans (refChannel_apply P b h d)
    · exact (refLow_apply _ b h _ ⟨d.val - 32, by omega⟩ rfl).trans (refChannel_apply P b h _)

/-- A cache with its new row is the one that the step leaves. -/
theorem refWindow_eq (old : FVec Ideal S128x128x4x64 .f32) (new : FVec Ideal S128x1x4x64 .f32) (row : Fin 128 → Fin 4 → Fin 64 → EReal)
    (hrow : ∀ b h d, new (ix4 b (0 : Fin 1) h d) = row b h d) : refWindow old new = window old row := by
  funext y
  unfold window
  have h1 : (y 1).val < 128 := (y 1).isLt
  by_cases h : (y 1).val < 127
  · rw [dif_pos h]
    refine (concatenate_pair_apply_left 1 _ _ concatenates_S128x127x4x64_S128x1x4x64_S128x128x4x64_d1 y rfl
      (ix4 (y 0) (⟨(y 1).val, h⟩ : Fin 127) (y 2) (y 3)) fun a => by fin_cases a <;> rfl).trans ?_
    exact extractStridedSlice_apply _ old slices_S128x128x4x64_S128x127x4x64_0_1_0_0 _ _ fun a => match a with
      | ⟨0, _⟩ => (Nat.zero_add (y 0).val).symm
      | ⟨1, _⟩ => Nat.add_comm (y 1).val 1
      | ⟨2, _⟩ => (Nat.zero_add (y 2).val).symm
      | ⟨3, _⟩ => (Nat.zero_add (y 3).val).symm
  · rw [dif_neg h]
    refine (concatenate_pair_apply_right 1 _ _ concatenates_S128x127x4x64_S128x1x4x64_S128x128x4x64_d1 y rfl rfl (ix4 (y 0) (0 : Fin 1) (y 2) (y 3))
      (fun a ha => match a with
        | ⟨0, _⟩ => rfl
        | ⟨1, _⟩ => absurd rfl ha
        | ⟨2, _⟩ => rfl
        | ⟨3, _⟩ => rfl) (by show 0 + 127 = (y 1).val; omega)).trans (hrow _ _ _)

end Cert.Proof.Step
-- ==== Proof.lean ====
/-
  The certificate of eight calls of the kernel: the projection of the mixer, pipelined by a software pipeline in one
  launch, the last feed-forward with the final normalisation, the first feed-forward, the merge of the mixers with the
  attention to memory, the sample's last feed-forward, the memory's keys and values, the sample's projection with
  the new state of its short convolution, and the sample's sliding-window step with its two caches. For each the three frames, the
  preservation of the ideal pass, and the equality of the kernel's results with the reference's at the exact values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference2Ideal.Run
public import proofs.«01_k».proof.Proof.Gen.Kernel2
public import proofs.«01_k».proof.Proof.Gen.Kernel3
public import proofs.«01_k».proof.Proof.Gen.Kernel3Ideal.Value
public import proofs.«01_k».proof.Proof.Gen.Reference3Ideal.Run
public import proofs.«01_k».proof.Proof.Gen.Kernel2Ideal.Value
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel6Ideal.Frame
public import proofs.«01_k».proof.Proof.Gen.Reference6Ideal.Run
public import proofs.«01_k».proof.Proof.K.Launch
public import proofs.«01_k».proof.Proof.KI.Launch
public import proofs.«01_k».proof.Proof.Value.Kernel
public import proofs.«01_k».proof.Proof.Value.Reference
public import proofs.«01_k».proof.Proof.Ffn.Same
public import proofs.«01_k».proof.Proof.Ffn.Last
public import proofs.«01_k».proof.Proof.Ffn.Reference
public import proofs.«01_k».proof.Proof.Ffn.First.Same
public import proofs.«01_k».proof.Proof.Ffn.First.Fold
public import proofs.«01_k».proof.Proof.Ffn.First.Reference
public import proofs.«01_k».proof.Proof.Ffn.Sample.Same
public import proofs.«01_k».proof.Proof.Ffn.Sample.Result
public import proofs.«01_k».proof.Proof.Ffn.Sample.Reference
public import proofs.«01_k».proof.Proof.Merge.Same
public import proofs.«01_k».proof.Proof.Merge.Result
public import proofs.«01_k».proof.Proof.Merge.Reference
public import proofs.«01_k».proof.Proof.Mem.Same
public import proofs.«01_k».proof.Proof.Mem.Result
public import proofs.«01_k».proof.Proof.Mem.Reference
public import proofs.«01_k».proof.Proof.Sample.Same
public import proofs.«01_k».proof.Proof.Sample.Result
public import proofs.«01_k».proof.Proof.Sample.Reference
public import proofs.«01_k».proof.Proof.Step.Same
public import proofs.«01_k».proof.Proof.Step.Result
public import proofs.«01_k».proof.Proof.Step.Reference

@[expose] public section

noncomputable section

namespace Cert.Proof

open Idealize.ShloMosaic Idealize.SL.Sem

/-- The kernel as written runs to the end, leaves its arguments alone, and every counter reads zero. -/
theorem frame_kernel : Cert.quiescent_Kernel := fun m ρ _ =>
  (θ_run Cert.Kernel.defs _ _).mono (fun _ h => ⟨fun c => (h.1 c).2, h.2⟩) (K.run_main (F := Bits) m ρ)

/-- So does the kernel at the exact values. -/
theorem frame_kernelIdeal : Cert.quiescent_KernelIdeal := fun m ρ _ =>
  (θ_run Cert.KernelIdeal.defs _ _).mono (fun _ h => ⟨fun c => (h.1 c).2, h.2⟩) (KI.run_main (F := Ideal) m ρ)

/-- So does the reference, which has no semaphore. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run (F := Ideal) m ρ)

/-- Kernel and reference end with the same projection, and so with the same two caches cut out of it. -/
theorem algebraic : Cert.algebraic_KernelIdeal_ReferenceIdeal := fun m ρ m' ρ' _ hm =>
  ⟨KI.result m, fun c => KI.convState (KI.result m c), fun c => KI.valueCache (KI.result m c),
    (θ_run Cert.KernelIdeal.defs _ _).mono (fun _ h c => ⟨(h.1 c).1.1, (h.1 c).1.2.1, (h.1 c).1.2.2, (h.1 c).2⟩) (KI.run_main (F := Ideal) m ρ),
    (θ_run Cert.ReferenceIdeal.defs _ _).mono (fun _ h c => by
        obtain ⟨h0, h1, h2, hargs⟩ := h c
        have he := funext fun y => (Value.reference_apply (m ((c.tc : Thread _ _).loc Cert.KernelIdeal.main_arg0))
          (m ((c.tc : Thread _ _).loc Cert.KernelIdeal.main_arg1)) (m ((c.tc : Thread _ _).loc Cert.KernelIdeal.main_arg2)) y).trans (Value.result_apply c m y).symm
        rw [(hm c).1, (hm c).2.1, (hm c).2.2] at h0 h1 h2
        exact ⟨h0.trans he, h1.trans (congrArg (KI.convState (F := Ideal)) he), h2.trans (congrArg (KI.valueCache (F := Ideal)) he), hargs⟩)
      (Cert.ReferenceIdeal.Value.run (F := Ideal) m' ρ')⟩

/-- The feed-forward call at the exact values runs to the end, leaves its arguments alone, and every counter reads zero. -/
theorem frame_kernel2Ideal : Cert.quiescent_Kernel2Ideal := fun m ρ _ => Cert.Kernel2Ideal.Gen.frame (F := Ideal) m ρ

/-- So does the feed-forward call as written: its text is the same, and the run holds for any float values. -/
theorem frame_kernel2 : Cert.quiescent_Kernel2 := fun m ρ _ => Ffn.frame_written (F := Bits) m ρ

/-- So does the feed-forward reference, which has no semaphore. -/
theorem frame_reference2Ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- The feed-forward call and its reference end with the same activations. -/
theorem algebraic2 : Cert.algebraic_Kernel2Ideal_Reference2Ideal := fun m ρ m' ρ' _ hm =>
  ⟨Cert.Kernel2Ideal.Value.G6 m, Cert.Kernel2Ideal.Value.run (F := Ideal) m ρ,
    (θ_run Cert.Reference2Ideal.defs _ _).mono (fun _ h c => ⟨(h c).1.trans (funext fun y => by
        obtain ⟨h0, h1, h2, h3, h4, h5⟩ := hm c
        rw [Ffn.result_eq, h0, h1, h2, h3, h4, h5]
        exact (Ffn.reference_apply Ffn.layerFacts _ _ _ _ _ _ y).trans (Ffn.result_apply m c y).symm), (h c).2⟩)
      (Cert.Reference2Ideal.Value.run (F := Ideal) m' ρ')⟩

/-- The first feed-forward call at the exact values runs to the end, leaves its arguments alone, and every counter reads zero. -/
theorem frame_kernel3Ideal : Cert.quiescent_Kernel3Ideal := fun m ρ _ => Cert.Kernel3Ideal.Gen.frame (F := Ideal) m ρ

/-- So does the first feed-forward call as written: its text is the same, and the run holds for any float values. -/
theorem frame_kernel3 : Cert.quiescent_Kernel3 := fun m ρ _ => Ffn.First.frame_written (F := Bits) m ρ

/-- So does its reference, which has no semaphore. -/
theorem frame_reference3Ideal : Cert.quiescent_Reference3Ideal := fun m ρ _ =>
  (θ_run Cert.Reference3Ideal.defs _ _).mono (fun r h => ⟨fun c => (h c).2, sem_eq_zero_of_no_sems (by decide) r.2⟩) (Ffn.First.run m ρ)

/-- The first feed-forward call and its reference end with the same activations. -/
theorem algebraic3 : Cert.algebraic_Kernel3Ideal_Reference3Ideal := fun m ρ m' ρ' _ hm =>
  ⟨Cert.Kernel3Ideal.Value.G6 m, Cert.Kernel3Ideal.Value.run (F := Ideal) m ρ,
    (θ_run Cert.Reference3Ideal.defs _ _).mono (fun _ h c => ⟨(h c).1.trans (funext fun y => by
        obtain ⟨h0, h1, h2, h3, h4, -⟩ := hm c
        rw [h0, h1, h2, h3, h4]
        exact (Ffn.First.reference_apply _ _ _ _ _ y).trans (Ffn.First.result_apply m c y).symm), (h c).2⟩)
      (Ffn.First.run m' ρ')⟩

/-- The merge at the exact values runs to the end, leaves its arguments alone, and every counter reads zero. -/
theorem frame_kernel4Ideal : Cert.quiescent_Kernel4Ideal := fun m ρ _ => Cert.Kernel4Ideal.Gen.frame (F := Ideal) m ρ

/-- So does the merge as written: its text is the same, and the run holds for any float values. -/
theorem frame_kernel4 : Cert.quiescent_Kernel4 := fun m ρ _ => Merge.frame_written (F := Bits) m ρ

/-- So does its reference, which has no semaphore. -/
theorem frame_reference4Ideal : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The merge and its reference end with the same activations. -/
theorem algebraic4 : Cert.algebraic_Kernel4Ideal_Reference4Ideal := fun m ρ m' ρ' _ hm =>
  ⟨fun c => (Cert.Kernel4Ideal.Gen.dats m 0 c).arrAt 13 Cert.Kernel4Ideal.cfg0.N, Cert.Kernel4Ideal.Value.run_blocks (F := Ideal) m ρ,
    (θ_run Cert.Reference4Ideal.defs _ _).mono (fun _ h c => ⟨(h c).1.trans (funext fun y => by
        obtain ⟨h0, h1, h2, h3, h4, h5, h6, h7, h8, h9, h10, h11⟩ := hm c
        rw [Merge.result_eq, h0, h1, h2, h3, h4, h5, h6, h7, h8, h9, h10, h11]
        exact (Merge.reference_apply _ _ _ _ _ _ _ _ _ _ _ _ y).trans (Merge.result_apply m c y).symm), (h c).2⟩)
      (Cert.Reference4Ideal.Value.run (F := Ideal) m' ρ')⟩

/-- The sample's last feed-forward at the exact values runs to the end, leaves its arguments alone, and every counter reads zero. -/
theorem frame_kernel5Ideal : Cert.quiescent_Kernel5Ideal := fun m ρ _ => Cert.Kernel5Ideal.Gen.frame (F := Ideal) m ρ

/-- So does it as written: its text is the same, and the run holds for any float values. -/
theorem frame_kernel5 : Cert.quiescent_Kernel5 := fun m ρ _ => Ffn.Sample.frame_written (F := Bits) m ρ

/-- So does its reference, which has no semaphore. -/
theorem frame_reference5Ideal : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- The sample's last feed-forward and its reference end with the same activations. -/
theorem algebraic5 : Cert.algebraic_Kernel5Ideal_Reference5Ideal := fun m ρ m' ρ' _ hm =>
  ⟨Cert.Kernel5Ideal.Value.G6 m, Cert.Kernel5Ideal.Value.run (F := Ideal) m ρ,
    (θ_run Cert.Reference5Ideal.defs _ _).mono (fun _ h c => ⟨(h c).1.trans (funext fun y => by
        obtain ⟨h0, h1, h2, h3, h4, h5⟩ := hm c
        rw [Ffn.Sample.result_eq, h0, h1, h2, h3, h4, h5]
        exact (Ffn.reference_apply Ffn.Sample.layerFacts _ _ _ _ _ _ y).trans (Ffn.Sample.result_apply m c y).symm), (h c).2⟩)
      (Cert.Reference5Ideal.Value.run (F := Ideal) m' ρ')⟩

/-- The memory call at the exact values runs to the end, leaves its arguments alone, and every counter reads zero. -/
theorem frame_kernel6Ideal : Cert.quiescent_Kernel6Ideal := fun m ρ _ => Mem.frame_any (F := Ideal) m ρ

/-- So does it as written: its text is the same, and the run holds for any float values. -/
theorem frame_kernel6 : Cert.quiescent_Kernel6 := fun m ρ _ => Mem.frame_written (F := Bits) m ρ

/-- So does its reference, which has no semaphore. -/
theorem frame_reference6Ideal : Cert.quiescent_Reference6Ideal := fun m ρ _ =>
  (θ_run Cert.Reference6Ideal.defs _ _).mono (fun r h => ⟨fun c => (h c).2.2.2.2, sem_eq_zero_of_no_sems (by decide) r.2⟩) (Mem.reference_run m ρ)

/-- The memory call and its reference end with the same keys and values, head by head and cast. -/
theorem algebraic6 : Cert.algebraic_Kernel6Ideal_Reference6Ideal := fun m ρ m' ρ' _ hm =>
  ⟨fun c => (Mem.dats m 0 c).arrAt 4 Cert.Kernel6Ideal.cfg0.N, fun c => (Mem.dats m 0 c).arrAt 5 Cert.Kernel6Ideal.cfg0.N,
    fun c => (Mem.dats m 0 c).arrAt 6 Cert.Kernel6Ideal.cfg0.N, fun c => (Mem.dats m 0 c).arrAt 7 Cert.Kernel6Ideal.cfg0.N,
    Mem.run_arrays (F := Ideal) m ρ,
    (θ_run Cert.Reference6Ideal.defs _ _).mono (fun _ h c => by
        obtain ⟨h0, h1, h2, h3⟩ := hm c
        obtain ⟨hk, hv, hkc, hvc, hargs⟩ := h c
        rw [h0, h1, h2] at hk hkc
        rw [h0, h1, h3] at hv hvc
        exact ⟨hk.trans (funext fun y => (Mem.refHeads_apply _ _ _ y).trans (Mem.keys_apply m c y).symm),
          hv.trans (funext fun y => (Mem.refHeads_apply _ _ _ y).trans (Mem.values_apply m c y).symm),
          hkc.trans (funext fun y => (Mem.refCast_apply _ _ _ y).trans (Mem.castKeys_apply m c y).symm),
          hvc.trans (funext fun y => (Mem.refCast_apply _ _ _ y).trans (Mem.castValues_apply m c y).symm), hargs⟩)
      (Mem.reference_run m' ρ')⟩

/-- The sample's projection at the exact values runs to the end, leaves its arguments alone, and every counter reads zero. -/
theorem frame_kernel7Ideal : Cert.quiescent_Kernel7Ideal := fun m ρ _ => Cert.Kernel7Ideal.Gen.frame (F := Ideal) m ρ

/-- So does it as written: its text is the same, and the run holds for any float values. -/
theorem frame_kernel7 : Cert.quiescent_Kernel7 := fun m ρ _ => Sample.frame_written (F := Bits) m ρ

/-- So does its reference, which has no semaphore. -/
theorem frame_reference7Ideal : Cert.quiescent_Reference7Ideal := fun m ρ _ =>
  (θ_run Cert.Reference7Ideal.defs _ _).mono (fun r h => ⟨fun c => (h c).2.2, sem_eq_zero_of_no_sems (by decide) r.2⟩) (Sample.reference_run m ρ)

/-- The sample's projection and its reference end with the same projection, and so with the same new state. -/
theorem algebraic7 : Cert.algebraic_Kernel7Ideal_Reference7Ideal := fun m ρ m' ρ' _ hm =>
  ⟨Sample.result m, fun c => Sample.newState (Sample.argS m c) (Sample.result m c), Sample.run_results (F := Ideal) m ρ,
    (θ_run Cert.Reference7Ideal.defs _ _).mono (fun _ h c => by
        obtain ⟨h0, h1, h2, h3⟩ := hm c
        obtain ⟨hp, hs, hargs⟩ := h c
        have he := funext fun y => (Sample.refProj_apply (Sample.argX m c) (Sample.argG m c) (Sample.argW m c) y).trans (Sample.result_apply m c y).symm
        rw [h0, h1, h2] at hp hs
        rw [h3] at hs
        exact ⟨hp.trans he, hs.trans ((Sample.refState_eq _ _).trans (congrArg (Sample.newState (F := Ideal) (Sample.argS m c)) he)), hargs⟩)
      (Sample.reference_run m' ρ')⟩

/-- The sample's sliding-window step at the exact values runs to the end, leaves its arguments alone, and every counter reads zero. -/
theorem frame_kernel8Ideal : Cert.quiescent_Kernel8Ideal := fun m ρ _ => Cert.Kernel8Ideal.Gen.frame (F := Ideal) m ρ

/-- So does it as written: its text is the same, and the run holds for any float values. -/
theorem frame_kernel8 : Cert.quiescent_Kernel8 := fun m ρ _ => Step.frame_written (F := Bits) m ρ

/-- So does its reference, which has no semaphore. -/
theorem frame_reference8Ideal : Cert.quiescent_Reference8Ideal := fun m ρ _ =>
  (θ_run Cert.Reference8Ideal.defs _ _).mono (fun r h => ⟨fun c => (h c).2.2, sem_eq_zero_of_no_sems (by decide) r.2⟩) (Cert.Reference8Ideal.Value.run m ρ)

/-- The sample's sliding-window step and its reference end with the same two caches. -/
theorem algebraic8 : Cert.algebraic_Kernel8Ideal_Reference8Ideal := fun m ρ m' ρ' _ hm =>
  ⟨fun c => Step.window (Step.argK m c) (Step.keyOf (Step.argP m c) (Step.argC m c) (Step.argS m c)),
    fun c => Step.window (Step.argV m c) (Step.valueOf (Step.argP m c)), Step.run_results m ρ,
    (θ_run Cert.Reference8Ideal.defs _ _).mono (fun _ h c => by
        obtain ⟨h0, h1, h2, h3, h4, h5⟩ := hm c
        obtain ⟨hk, hv, hargs⟩ := h c
        rw [h0, h1, h3, h4] at hk
        rw [h0, h2] at hv
        exact ⟨hk.trans (Step.refWindow_eq _ _ _ (Step.refKey_apply _ _ _)), hv.trans (Step.refWindow_eq _ _ _ (Step.refValue_apply _)), hargs⟩)
      (Cert.Reference8Ideal.Value.run m' ρ')⟩

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    frame_kernel, frame_kernelIdeal, frame_referenceIdeal, frame_kernel2, frame_kernel2Ideal, frame_reference2Ideal,
    frame_kernel3, frame_kernel3Ideal, frame_reference3Ideal,
    frame_kernel4, frame_kernel4Ideal, frame_reference4Ideal,
    frame_kernel5, frame_kernel5Ideal, frame_reference5Ideal,
    frame_kernel6, frame_kernel6Ideal, frame_reference6Ideal,
    frame_kernel7, frame_kernel7Ideal, frame_reference7Ideal,
    frame_kernel8, frame_kernel8Ideal, frame_reference8Ideal,
    trivial, algebraic, trivial, algebraic2, trivial, algebraic3, trivial, algebraic4, trivial, algebraic5, trivial, algebraic6, trivial, algebraic7, trivial, algebraic8⟩

end Cert.Proof

end
